-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v75)) (v2 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v53) = v1 c
          ∧ r.2.mem ((c.tc : Thread Cert.Reference9Ideal.nD Cert.Reference9Ideal.τ).loc Cert.Reference9Ideal.main_v54) = v2 c
          ∧ r.2.mem ((c.tc : Thread Cert.Reference9Ideal.nD Cert.Reference9Ideal.τ).loc Cert.Reference9Ideal.main_v36) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v40) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v46) = v0 c
          ∧ r.2.mem ((c.tc : Thread Cert.Reference16Ideal.nD Cert.Reference16Ideal.τ).loc Cert.Reference16Ideal.main_v29) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v10) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_v20) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_v16) = v1 c
          ∧ r.2.mem ((c.tc : Thread Cert.Reference19Ideal.nD Cert.Reference19Ideal.τ).loc Cert.Reference19Ideal.main_v30) = v2 c
          ∧ r.2.mem ((c.tc : Thread Cert.Reference19Ideal.nD Cert.Reference19Ideal.τ).loc Cert.Reference19Ideal.main_v44) = v3 c
          ∧ r.2.mem ((c.tc : Thread Cert.Reference19Ideal.nD Cert.Reference19Ideal.τ).loc Cert.Reference19Ideal.main_v47) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)

variable [Facts]

def fn {F : FTy → Type} [FloatOps F] (main_arg0 : FVec F S4096x8x96 .f32) (main_arg1 : FVec F S4096x8x96 .f32) (main_arg2 : FVec F S4096x8x64 .f32) (main_arg3 : FVec F S4096x8x64 .f32) : IVec S4096x8x96 1 × IVec S4096x8x96 1 × IVec S4096x8x64 1 × IVec S4096x8x64 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8x64 .f32 := Host.absf main_arg3
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  (main_v2, main_v5, main_v8, main_v11)
-- ==== Pre_finite2.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := (extf .f32 · bitsLt_bf16_f32) main_arg3
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  (main_v3, main_v7, main_v11)
-- ==== Kernel.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8 : Shape := ⟨2, ![4096, 8]⟩
abbrev S4096x8x1 : Shape := ⟨3, ![4096, 8, 1]⟩
abbrev S4096x8x30 : Shape := ⟨3, ![4096, 8, 30]⟩
abbrev S4096x8x128 : Shape := ⟨3, ![4096, 8, 128]⟩
abbrev S4096x1024 : Shape := ⟨2, ![4096, 1024]⟩
abbrev S4096x8x62 : Shape := ⟨3, ![4096, 8, 62]⟩
abbrev S4096x512 : Shape := ⟨2, ![4096, 512]⟩
abbrev S512x512 : Shape := ⟨2, ![512, 512]⟩
abbrev S512x128 : Shape := ⟨2, ![512, 128]⟩

abbrev nBuf : Space → Nat
  | .hbm => 100
  | .vmem => 14
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096, .f32⟩
  | .hbm, ⟨31, _⟩ => ⟨S8x4096x4096, .f32⟩
  | .hbm, ⟨32, _⟩ => ⟨S8x4096x4096, .f32⟩
  | .hbm, ⟨33, _⟩ => ⟨S8x64x4096, .f32⟩
  | .hbm, ⟨34, _⟩ => ⟨S4096x8x64, .f32⟩
  | .hbm, ⟨35, _⟩ => ⟨S4096x8x64, .f32⟩
  | .hbm, ⟨36, _⟩ => ⟨S_, .f32⟩
  | .hbm, ⟨37, _⟩ => ⟨S4096x8, .f32⟩
  | .hbm, ⟨38, _⟩ => ⟨S_, .f32⟩
  | .hbm, ⟨39, _⟩ => ⟨S4096x8, .f32⟩
  | .hbm, ⟨40, _⟩ => ⟨S_, .f32⟩
  | .hbm, ⟨41, _⟩ => ⟨S4096x8x96, .f32⟩
  | .hbm, ⟨42, _⟩ => ⟨S4096x8x96, .f32⟩
  | .hbm, ⟨43, _⟩ => ⟨S4096x8, .f32⟩
  | .hbm, ⟨44, _⟩ => ⟨S4096x8, .f32⟩
  | .hbm, ⟨45, _⟩ => ⟨S4096x8, .bf16⟩
  | .hbm, ⟨46, _⟩ => ⟨S4096x8, .f32⟩
  | .hbm, ⟨47, _⟩ => ⟨S4096x8, .f32⟩
  | .hbm, ⟨48, _⟩ => ⟨S4096x8, .bf16⟩
  | .hbm, ⟨49, _⟩ => ⟨S4096x8x96, .bf16⟩
  | .hbm, ⟨50, _⟩ => ⟨S4096x8x1, .bf16⟩
  | .hbm, ⟨51, _⟩ => ⟨S4096x8x1, .bf16⟩
  | .hbm, ⟨52, _⟩ => ⟨S_, .bf16⟩
  | .hbm, ⟨53, _⟩ => ⟨S4096x8x30, .bf16⟩
  | .hbm, ⟨54, _⟩ => ⟨S4096x8x128, .bf16⟩
  | .hbm, ⟨55, _⟩ => ⟨S4096x1024, .bf16⟩
  | .hbm, ⟨56, _⟩ => ⟨S4096x8x96, .bf16⟩
  | .hbm, ⟨57, _⟩ => ⟨S4096x8, .bf16⟩
  | .hbm, ⟨58, _⟩ => ⟨S4096x8x1, .bf16⟩
  | .hbm, ⟨59, _⟩ => ⟨S4096x8, .bf16⟩
  | .hbm, ⟨60, _⟩ => ⟨S4096x8x1, .bf16⟩
  | .hbm, ⟨61, _⟩ => ⟨S_, .bf16⟩
  | .hbm, ⟨62, _⟩ => ⟨S4096x8x30, .bf16⟩
  | .hbm, ⟨63, _⟩ => ⟨S4096x8x128, .bf16⟩
  | .hbm, ⟨64, _⟩ => ⟨S4096x1024, .bf16⟩
  | .hbm, ⟨65, _⟩ => ⟨S4096x8x64, .bf16⟩
  | .hbm, ⟨66, _⟩ => ⟨S4096x8, .bf16⟩
  | .hbm, ⟨67, _⟩ => ⟨S4096x8x1, .bf16⟩
  | .hbm, ⟨68, _⟩ => ⟨S4096x8, .bf16⟩
  | .hbm, ⟨69, _⟩ => ⟨S4096x8x1, .bf16⟩
  | .hbm, ⟨70, _⟩ => ⟨S_, .bf16⟩
  | .hbm, ⟨71, _⟩ => ⟨S4096x8x62, .bf16⟩
  | .hbm, ⟨72, _⟩ => ⟨S4096x8x128, .bf16⟩
  | .hbm, ⟨73, _⟩ => ⟨S4096x1024, .bf16⟩
  | .hbm, ⟨74, _⟩ => ⟨S4096x8, .f32⟩
  | .hbm, ⟨75, _⟩ => ⟨S4096x8, .bf16⟩
  | .hbm, ⟨76, _⟩ => ⟨S4096x8, .f32⟩
  | .hbm, ⟨77, _⟩ => ⟨S4096x8, .f32⟩
  | .hbm, ⟨78, _⟩ => ⟨S4096x8, .bf16⟩
  | .hbm, ⟨79, _⟩ => ⟨S4096x8x64, .bf16⟩
  | .hbm, ⟨80, _⟩ => ⟨S4096x8x1, .bf16⟩
  | .hbm, ⟨81, _⟩ => ⟨S4096x8x1, .bf16⟩
  | .hbm, ⟨82, _⟩ => ⟨S_, .bf16⟩
  | .hbm, ⟨83, _⟩ => ⟨S4096x8x62, .bf16⟩
  | .hbm, ⟨84, _⟩ => ⟨S4096x8x128, .bf16⟩
  | .hbm, ⟨85, _⟩ => ⟨S4096x1024, .bf16⟩
  | .hbm, ⟨86, _⟩ => ⟨S4096x1024, .f32⟩
  | .hbm, ⟨87, _⟩ => ⟨S4096x1024, .bf16⟩
  | .hbm, ⟨88, _⟩ => ⟨S4096x1024, .bf16⟩
  | .hbm, ⟨89, _⟩ => ⟨S4096x8x128, .f32⟩
  | .hbm, ⟨90, _⟩ => ⟨S4096x8x96, .f32⟩
  | .hbm, ⟨91, _⟩ => ⟨S_, .f32⟩
  | .hbm, ⟨92, _⟩ => ⟨S4096x8x96, .f32⟩
  | .hbm, ⟨93, _⟩ => ⟨S4096x8x96, .f32⟩
  | .hbm, ⟨94, _⟩ => ⟨S4096x8x128, .bf16⟩
  | .hbm, ⟨95, _⟩ => ⟨S4096x8x96, .bf16⟩
  | .hbm, ⟨96, _⟩ => ⟨S4096x8x96, .f32⟩
  | .hbm, ⟨97, _⟩ => ⟨S4096x8x128, .bf16⟩
  | .hbm, ⟨98, _⟩ => ⟨S4096x8x64, .bf16⟩
  | .hbm, ⟨99, _⟩ => ⟨S4096x8x64, .f32⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .f32⟩
  | .local _ .vmem, ⟨9, _⟩ => ⟨S4096x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68_0 : Ref sig .tc := ⟨.hbm, 86, rfl⟩
abbrev main_v68_1 : Ref sig .tc := ⟨.hbm, 87, rfl⟩
abbrev main_v68_2 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32_8 : BitVec 32 := 512#32
  let v16 : BitVec 32 := Scalar.muli arg1 c512_i32_8
  v16
def k0_off1 (i : grid0.Coords) : Fin 2 → Nat :=
  let arg1 : BitVec 32 := BitVec.ofNat 32 (i 1).val
  let c512_i32_8 : BitVec 32 := 512#32
  let v16 : BitVec 32 := Scalar.muli arg1 c512_i32_8
  let v17 : BitVec 32 := v16
  let v22 : Index := Scalar.indexCast v17
  let c0_12 : Index := 0#32
  ![v22.toNat, 0]
def k0_off2 (i : grid0.Coords) : Fin 2 → Nat :=
  let arg1 : BitVec 32 := BitVec.ofNat 32 (i 1).val
  let c512_i32_8 : BitVec 32 := 512#32
  let v16 : BitVec 32 := Scalar.muli arg1 c512_i32_8
  let v17 : BitVec 32 := v16
  let v55 : Index := Scalar.indexCast v17
  let c128_26 : Index := 128#32
  ![v55.toNat, 128]
def k0_off3 (i : grid0.Coords) : Fin 2 → Nat :=
  let arg1 : BitVec 32 := BitVec.ofNat 32 (i 1).val
  let c512_i32_8 : BitVec 32 := 512#32
  let v16 : BitVec 32 := Scalar.muli arg1 c512_i32_8
  let v17 : BitVec 32 := v16
  let v88 : Index := Scalar.indexCast v17
  let c256_40 : Index := 256#32
  ![v88.toNat, 256]
def k0_off4 (i : grid0.Coords) : Fin 2 → Nat :=
  let arg1 : BitVec 32 := BitVec.ofNat 32 (i 1).val
  let c512_i32_8 : BitVec 32 := 512#32
  let v16 : BitVec 32 := Scalar.muli arg1 c512_i32_8
  let v17 : BitVec 32 := v16
  let v121 : Index := Scalar.indexCast v17
  let c384_54 : Index := 384#32
  ![v121.toNat, 384]
@[reducible] def k0_t1_loop (i : grid0.Coords) : Scf.Loop 32 :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_66 : BitVec 32 := 1#32
  ⟨v150, v155, c1_i32_66⟩
def k0_mult2 (i : grid0.Coords) (k0_t1 : Fin (k0_t1_loop i).trips) : BitVec 32 :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  v174
def k0_off5 (i : grid0.Coords) (k0_t1 : Fin (k0_t1_loop i).trips) : Fin 2 → Nat :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  let v175 : BitVec 32 := v174
  let v180 : Index := Scalar.indexCast v175
  let c0_89 : Index := 0#32
  ![v180.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  let v175 : BitVec 32 := v174
  let v207 : Index := Scalar.indexCast v175
  let c128_102 : Index := 128#32
  ![v207.toNat, 128]
def k0_off7 (i : grid0.Coords) (k0_t1 : Fin (k0_t1_loop i).trips) : Fin 2 → Nat :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  let v175 : BitVec 32 := v174
  let v234 : Index := Scalar.indexCast v175
  let c256_115 : Index := 256#32
  ![v234.toNat, 256]
def k0_off8 (i : grid0.Coords) (k0_t1 : Fin (k0_t1_loop i).trips) : Fin 2 → Nat :=
  let arg1 : BitVec 32 := BitVec.ofNat 32 (i 1).val
  let c1_i32 : BitVec 32 := 1#32
  let v150 : BitVec 32 := Scalar.addi arg1 c1_i32
  let c1_i32_66 : BitVec 32 := 1#32
  let arg9 : BitVec 32 := Scf.iv v150 c1_i32_66 k0_t1
  let c512_i32_84 : BitVec 32 := 512#32
  let v174 : BitVec 32 := Scalar.muli arg9 c512_i32_84
  let v175 : BitVec 32 := v174
  let v261 : Index := Scalar.indexCast v175
  let c384_128 : Index := 384#32
  ![v261.toNat, 384]
@[reducible] def k0_t2_loop (i : grid0.Coords) : Scf.Loop 32 :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let v152 : BitVec 32 := Scalar.addi v150 v151
  let c1_i32_67 : BitVec 32 := 1#32
  ⟨v155, v152, c1_i32_67⟩
def k0_mult3 (i : grid0.Coords) (k0_t2 : Fin (k0_t2_loop i).trips) : BitVec 32 :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  v174
def k0_off9 (i : grid0.Coords) (k0_t2 : Fin (k0_t2_loop i).trips) : Fin 2 → Nat :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  let v175 : BitVec 32 := v174
  let v180 : Index := Scalar.indexCast v175
  let c0_89 : Index := 0#32
  ![v180.toNat, 0]
def k0_off10 (i : grid0.Coords) (k0_t2 : Fin (k0_t2_loop i).trips) : Fin 2 → Nat :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  let v175 : BitVec 32 := v174
  let v207 : Index := Scalar.indexCast v175
  let c128_102 : Index := 128#32
  ![v207.toNat, 128]
def k0_off11 (i : grid0.Coords) (k0_t2 : Fin (k0_t2_loop i).trips) : Fin 2 → Nat :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  let v175 : BitVec 32 := v174
  let v234 : Index := Scalar.indexCast v175
  let c256_115 : Index := 256#32
  ![v234.toNat, 256]
def k0_off12 (i : grid0.Coords) (k0_t2 : Fin (k0_t2_loop i).trips) : Fin 2 → Nat :=
  let arg1 : BitVec 32 := BitVec.ofNat 32 (i 1).val
  let c1_i32 : BitVec 32 := 1#32
  let v150 : BitVec 32 := Scalar.addi arg1 c1_i32
  let c8_i32 : BitVec 32 := 8#32
  let v151 : BitVec 32 := Scalar.subi c8_i32 v150
  let c1_i32_65 : BitVec 32 := 1#32
  let v153 : BitVec 32 := Scalar.divsi v151 c1_i32_65
  let v154 : BitVec 32 := Scalar.muli v153 c1_i32_65
  let v155 : BitVec 32 := Scalar.addi v150 v154
  let c1_i32_67 : BitVec 32 := 1#32
  let arg9 : BitVec 32 := Scf.iv v155 c1_i32_67 k0_t2
  let c512_i32_84 : BitVec 32 := 512#32
  let v174 : BitVec 32 := Scalar.muli arg9 c512_i32_84
  let v175 : BitVec 32 := v174
  let v261 : Index := Scalar.indexCast v175
  let c384_128 : Index := 384#32
  ![v261.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩

abbrev nBuf : Space → Nat
  | .hbm => 89
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x64x4096, .f32⟩
  | .hbm, ⟨60, _⟩ => ⟨S4096x8x64, .f32⟩
  | .hbm, ⟨61, _⟩ => ⟨S8x64x4096, .f32⟩
  | .hbm, ⟨62, _⟩ => ⟨S8x4096x4096, .f32⟩
  | .hbm, ⟨63, _⟩ => ⟨S8x64x4096, .f32⟩
  | .hbm, ⟨64, _⟩ => ⟨S4096x8x64, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S8x4096x96, .f32⟩
  | .hbm, ⟨86, _⟩ => ⟨S4096x8x96, .f32⟩
  | .hbm, ⟨87, _⟩ => ⟨S8x4096x96, .f32⟩
  | .hbm, ⟨88, _⟩ => ⟨S4096x8x96, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .hbm, ⟨3, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_24 : BitVec 32 := 0#32
  let v41 : BitVec 1 := Scalar.cmpi .ne v40 c0_i32_24
  v41

def k0_cond2 (i : grid0.Coords) : BitVec 1 :=
  let arg0 : BitVec 32 := BitVec.ofNat 32 (i 0).val
  let c0_i32_25 : BitVec 32 := 0#32
  let v42 : BitVec 1 := Scalar.cmpi .sgt arg0 c0_i32_25
  let v43 : BitVec 32 := Scalar.extui v42
  let c0_i32_26 : BitVec 32 := 0#32
  let v44 : BitVec 1 := Scalar.cmpi .ne v43 c0_i32_26
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S2816x1024, .f32⟩
  | .hbm, ⟨27, _⟩ => ⟨S1024x2816, .f32⟩
  | .hbm, ⟨28, _⟩ => ⟨S4096x2816, .f32⟩
  | .hbm, ⟨29, _⟩ => ⟨S2816x1024, .f32⟩
  | .hbm, ⟨30, _⟩ => ⟨S1024x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S1024x2816, .f32⟩
  | .hbm, ⟨8, _⟩ => ⟨S4096x2816, .f32⟩
  | .hbm, ⟨9, _⟩ => ⟨S4096x2816, .f32⟩
  | .hbm, ⟨10, _⟩ => ⟨S4096x2816, .bf16⟩
  | .hbm, ⟨11, _⟩ => ⟨S4096x2816, .bf16⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel6.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S4096x640 : Shape := ⟨2, ![4096, 640]⟩
abbrev S4096x128 : Shape := ⟨2, ![4096, 128]⟩
abbrev S2728x1024 : Shape := ⟨2, ![2728, 1024]⟩
abbrev S640x1024 : Shape := ⟨2, ![640, 1024]⟩
abbrev S128x1024 : Shape := ⟨2, ![128, 1024]⟩
abbrev S4096x1024 : Shape := ⟨2, ![4096, 1024]⟩
abbrev S1x1024 : Shape := ⟨2, ![1, 1024]⟩
abbrev S512x2048 : Shape := ⟨2, ![512, 2048]⟩
abbrev S512x640 : Shape := ⟨2, ![512, 640]⟩
abbrev S512x128 : Shape := ⟨2, ![512, 128]⟩
abbrev S512x1024 : Shape := ⟨2, ![512, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x640, .bf16⟩
  | .hbm, ⟨2, _⟩ => ⟨S4096x128, .bf16⟩
  | .hbm, ⟨3, _⟩ => ⟨S2728x1024, .bf16⟩
  | .hbm, ⟨4, _⟩ => ⟨S640x1024, .bf16⟩
  | .hbm, ⟨5, _⟩ => ⟨S128x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x640, .bf16⟩
  | .local _ .vmem, ⟨3, _⟩ => ⟨S512x640, .bf16⟩
  | .local _ .vmem, ⟨4, _⟩ => ⟨S512x128, .bf16⟩
  | .local _ .vmem, ⟨5, _⟩ => ⟨S512x128, .bf16⟩
  | .local _ .vmem, ⟨6, _⟩ => ⟨S2728x1024, .bf16⟩
  | .local _ .vmem, ⟨7, _⟩ => ⟨S640x1024, .bf16⟩
  | .local _ .vmem, ⟨8, _⟩ => ⟨S128x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_27 : BitVec 32 := 0#32
  let v43 : BitVec 1 := Scalar.cmpi .ne v42 c0_i32_27
  v43

def k0_cond2 (i : grid0.Coords) : BitVec 1 :=
  let arg0 : BitVec 32 := BitVec.ofNat 32 (i 0).val
  let c0_i32_28 : BitVec 32 := 0#32
  let v44 : BitVec 1 := Scalar.cmpi .sgt arg0 c0_i32_28
  let v45 : BitVec 32 := Scalar.extui v44
  let c0_i32_29 : BitVec 32 := 0#32
  let v46 : BitVec 1 := Scalar.cmpi .ne v45 c0_i32_29
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2728x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S4096x2048 : Shape := ⟨2, ![4096, 2048]⟩
abbrev S4096x640 : Shape := ⟨2, ![4096, 640]⟩
abbrev S4096x128 : Shape := ⟨2, ![4096, 128]⟩
abbrev S2728x1024 : Shape := ⟨2, ![2728, 1024]⟩
abbrev S640x1024 : Shape := ⟨2, ![640, 1024]⟩
abbrev S128x1024 : Shape := ⟨2, ![128, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S1024x2048 : Shape := ⟨2, ![1024, 2048]⟩
abbrev S1024x640 : Shape := ⟨2, ![1024, 640]⟩
abbrev S1024x128 : Shape := ⟨2, ![1024, 128]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x640, .bf16⟩
  | .hbm, ⟨2, _⟩ => ⟨S4096x128, .bf16⟩
  | .hbm, ⟨3, _⟩ => ⟨S2728x1024, .bf16⟩
  | .hbm, ⟨4, _⟩ => ⟨S640x1024, .bf16⟩
  | .hbm, ⟨5, _⟩ => ⟨S128x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S2048x1024, .bf16⟩
  | .hbm, ⟨29, _⟩ => ⟨S2048x1024, .f32⟩
  | .hbm, ⟨30, _⟩ => ⟨S1024x2048, .f32⟩
  | .hbm, ⟨31, _⟩ => ⟨S4096x2048, .f32⟩
  | .hbm, ⟨32, _⟩ => ⟨S640x1024, .f32⟩
  | .hbm, ⟨33, _⟩ => ⟨S1024x640, .f32⟩
  | .hbm, ⟨34, _⟩ => ⟨S4096x640, .f32⟩
  | .hbm, ⟨35, _⟩ => ⟨S128x1024, .f32⟩
  | .hbm, ⟨36, _⟩ => ⟨S1024x128, .f32⟩
  | .hbm, ⟨37, _⟩ => ⟨S4096x128, .f32⟩
  | .hbm, ⟨38, _⟩ => ⟨S4096x2048, .f32⟩
  | .hbm, ⟨39, _⟩ => ⟨S4096x640, .f32⟩
  | .hbm, ⟨40, _⟩ => ⟨S4096x128, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel8.lean ====
abbrev S4096x640 : Shape := ⟨2, ![4096, 640]⟩
abbrev S4096x1024 : Shape := ⟨2, ![4096, 1024]⟩
abbrev S640x1024 : Shape := ⟨2, ![640, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x640, .bf16⟩
  | .hbm, ⟨1, _⟩ => ⟨S4096x1024, .bf16⟩
  | .hbm, ⟨2, _⟩ => ⟨S640x1024, .f32⟩
  | .local _ .vmem, ⟨0, _⟩ => ⟨S4096x640, .bf16⟩
  | .local _ .vmem, ⟨1, _⟩ => ⟨S4096x1024, .bf16⟩
  | .local _ .vmem, ⟨2, _⟩ => ⟨S640x1024, .f32⟩
  | _, _ => ⟨S4096x640, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x640 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S640x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference8Ideal.lean ====
abbrev S4096x640 : Shape := ⟨2, ![4096, 640]⟩
abbrev S4096x1024 : Shape := ⟨2, ![4096, 1024]⟩
abbrev S_ : Shape := ⟨0, ![]⟩
abbrev S1024x640 : Shape := ⟨2, ![1024, 640]⟩
abbrev S640x1024 : Shape := ⟨2, ![640, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x640, .bf16⟩
  | .hbm, ⟨1, _⟩ => ⟨S4096x1024, .bf16⟩
  | .hbm, ⟨2, _⟩ => ⟨S_, .f32⟩
  | .hbm, ⟨3, _⟩ => ⟨S1024x640, .f32⟩
  | .hbm, ⟨4, _⟩ => ⟨S4096x1024, .f32⟩
  | .hbm, ⟨5, _⟩ => ⟨S4096x640, .f32⟩
  | .hbm, ⟨6, _⟩ => ⟨S4096x640, .f32⟩
  | .hbm, ⟨7, _⟩ => ⟨S640x1024, .f32⟩
  | .hbm, ⟨8, _⟩ => ⟨S1024x640, .f32⟩
  | .hbm, ⟨9, _⟩ => ⟨S640x1024, .f32⟩
  | _, _ => ⟨S4096x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_29 : BitVec 32 := 0#32
  let v58 : BitVec 1 := Scalar.cmpi .eq arg0 c0_i32_29
  let v59 : BitVec 32 := Scalar.extui v58
  let c0_i32_30 : BitVec 32 := 0#32
  let v60 : BitVec 1 := Scalar.cmpi .ne v59 c0_i32_30
  v60

def k0_cond4 (i : grid0.Coords) : BitVec 1 :=
  let arg0 : BitVec 32 := BitVec.ofNat 32 (i 0).val
  let c0_i32_31 : BitVec 32 := 0#32
  let v61 : BitVec 1 := Scalar.cmpi .sgt arg0 c0_i32_31
  let v62 : BitVec 32 := Scalar.extui v61
  let c0_i32_32 : BitVec 32 := 0#32
  let v63 : BitVec 1 := Scalar.cmpi .ne v62 c0_i32_32
  v63

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_26 : BitVec 32 := 0#32
  let v52 : BitVec 1 := Scalar.cmpi .ne v51 c0_i32_26
  v52

def k0_cond2 (i : grid0.Coords) : BitVec 1 :=
  let arg0 : BitVec 32 := BitVec.ofNat 32 (i 0).val
  let c0_i32_27 : BitVec 32 := 0#32
  let v53 : BitVec 1 := Scalar.cmpi .sgt arg0 c0_i32_27
  let v54 : BitVec 32 := Scalar.extui v53
  let c0_i32_28 : BitVec 32 := 0#32
  let v55 : BitVec 1 := Scalar.cmpi .ne v54 c0_i32_28
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel10.lean ====
abbrev S4096x1024 : Shape := ⟨2, ![4096, 1024]⟩
abbrev S4096x384 : Shape := ⟨2, ![4096, 384]⟩
abbrev S1024x384 : Shape := ⟨2, ![1024, 384]⟩
abbrev S4096x512 : Shape := ⟨2, ![4096, 512]⟩
abbrev S512x384 : Shape := ⟨2, ![512, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S1024x384, .f32⟩
  | .local _ .vmem, ⟨0, _⟩ => ⟨S4096x512, .bf16⟩
  | .local _ .vmem, ⟨1, _⟩ => ⟨S4096x512, .bf16⟩
  | .local _ .vmem, ⟨2, _⟩ => ⟨S4096x384, .bf16⟩
  | .local _ .vmem, ⟨3, _⟩ => ⟨S512x384, .f32⟩
  | .local _ .vmem, ⟨4, _⟩ => ⟨S512x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S4096x384 : Shape := ⟨2, ![4096, 384]⟩
abbrev S_ : Shape := ⟨0, ![]⟩
abbrev S384x1024 : Shape := ⟨2, ![384, 1024]⟩
abbrev S1024x384 : Shape := ⟨2, ![1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S_, .f32⟩
  | .hbm, ⟨3, _⟩ => ⟨S384x1024, .f32⟩
  | .hbm, ⟨4, _⟩ => ⟨S4096x384, .f32⟩
  | .hbm, ⟨5, _⟩ => ⟨S4096x1024, .f32⟩
  | .hbm, ⟨6, _⟩ => ⟨S4096x1024, .f32⟩
  | .hbm, ⟨7, _⟩ => ⟨S1024x384, .f32⟩
  | .hbm, ⟨8, _⟩ => ⟨S384x1024, .f32⟩
  | .hbm, ⟨9, _⟩ => ⟨S1024x384, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S4096x256 : Shape := ⟨2, ![4096, 256]⟩
abbrev S1024x256 : Shape := ⟨2, ![1024, 256]⟩
abbrev S4096x512 : Shape := ⟨2, ![4096, 512]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .f32⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S512x256, .f32⟩
  | .local _ .vmem, ⟨4, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S4096x256 : Shape := ⟨2, ![4096, 256]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S1024x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S4096x512, .bf16⟩
  | .local _ .vmem, ⟨1, _⟩ => ⟨S4096x1024, .bf16⟩
  | .local _ .vmem, ⟨2, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference12Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x128 : Shape := ⟨2, ![4096, 128]⟩
abbrev S4096x1024 : Shape := ⟨2, ![4096, 1024]⟩
abbrev S128x1024 : Shape := ⟨2, ![128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S128x1024, .f32⟩
  | .local _ .vmem, ⟨0, _⟩ => ⟨S4096x128, .bf16⟩
  | .local _ .vmem, ⟨1, _⟩ => ⟨S4096x1024, .bf16⟩
  | .local _ .vmem, ⟨2, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference14Ideal.lean ====
abbrev S4096x128 : Shape := ⟨2, ![4096, 128]⟩
abbrev S4096x1024 : Shape := ⟨2, ![4096, 1024]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S128x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S1024x384 : Shape := ⟨2, ![1024, 384]⟩
abbrev S4096x384 : Shape := ⟨2, ![4096, 384]⟩
abbrev S1x384 : Shape := ⟨2, ![1, 384]⟩
abbrev S512x1024 : Shape := ⟨2, ![512, 1024]⟩
abbrev S512x384 : Shape := ⟨2, ![512, 384]⟩
abbrev S512 : Shape := ⟨1, ![512]⟩
abbrev S512x1 : Shape := ⟨2, ![512, 1]⟩
abbrev S384 : Shape := ⟨1, ![384]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x384, .bf16⟩
  | .hbm, ⟨2, _⟩ => ⟨S4096x384, .bf16⟩
  | .hbm, ⟨3, _⟩ => ⟨S1x384, .f32⟩
  | .hbm, ⟨4, _⟩ => ⟨S4096x384, .bf16⟩
  | .hbm, ⟨5, _⟩ => ⟨S1x384, .f32⟩
  | .local _ .vmem, ⟨0, _⟩ => ⟨S512x1024, .bf16⟩
  | .local _ .vmem, ⟨1, _⟩ => ⟨S512x1024, .bf16⟩
  | .local _ .vmem, ⟨2, _⟩ => ⟨S1024x384, .bf16⟩
  | .local _ .vmem, ⟨3, _⟩ => ⟨S512x384, .bf16⟩
  | .local _ .vmem, ⟨4, _⟩ => ⟨S512x384, .bf16⟩
  | .local _ .vmem, ⟨5, _⟩ => ⟨S1x384, .f32⟩
  | .local _ .vmem, ⟨6, _⟩ => ⟨S512x384, .bf16⟩
  | .local _ .vmem, ⟨7, _⟩ => ⟨S512x384, .bf16⟩
  | .local _ .vmem, ⟨8, _⟩ => ⟨S1x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_15 : BitVec 32 := 0#32
  let v35 : BitVec 1 := Scalar.cmpi .ne v34 c0_i32_15
  v35

def k0_cond2 (i : grid0.Coords) : BitVec 1 :=
  let arg0 : BitVec 32 := BitVec.ofNat 32 (i 0).val
  let c0_i32_16 : BitVec 32 := 0#32
  let v36 : BitVec 1 := Scalar.cmpi .sgt arg0 c0_i32_16
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S4096x1024 : Shape := ⟨2, ![4096, 1024]⟩
abbrev S1024x384 : Shape := ⟨2, ![1024, 384]⟩
abbrev S4096x384 : Shape := ⟨2, ![4096, 384]⟩
abbrev S1x384 : Shape := ⟨2, ![1, 384]⟩
abbrev S_ : Shape := ⟨0, ![]⟩
abbrev S4096 : Shape := ⟨1, ![4096]⟩
abbrev S4096x1 : Shape := ⟨2, ![4096, 1]⟩
abbrev S384x1024 : Shape := ⟨2, ![384, 1024]⟩
abbrev S384 : Shape := ⟨1, ![384]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x384, .bf16⟩
  | .hbm, ⟨2, _⟩ => ⟨S4096x384, .bf16⟩
  | .hbm, ⟨3, _⟩ => ⟨S1x384, .f32⟩
  | .hbm, ⟨4, _⟩ => ⟨S4096x384, .f32⟩
  | .hbm, ⟨5, _⟩ => ⟨S4096x384, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x384, .f32⟩
  | .hbm, ⟨21, _⟩ => ⟨S4096x384, .f32⟩
  | .hbm, ⟨22, _⟩ => ⟨S4096x384, .f32⟩
  | .hbm, ⟨23, _⟩ => ⟨S4096x384, .f32⟩
  | .hbm, ⟨24, _⟩ => ⟨S1024x384, .f32⟩
  | .hbm, ⟨25, _⟩ => ⟨S384x1024, .f32⟩
  | .hbm, ⟨26, _⟩ => ⟨S4096x1024, .f32⟩
  | .hbm, ⟨27, _⟩ => ⟨S4096x1024, .f32⟩
  | .hbm, ⟨28, _⟩ => ⟨S4096x384, .f32⟩
  | .hbm, ⟨29, _⟩ => ⟨S4096x384, .f32⟩
  | .hbm, ⟨30, _⟩ => ⟨S_, .f32⟩
  | .hbm, ⟨31, _⟩ => ⟨S384, .f32⟩
  | .hbm, ⟨32, _⟩ => ⟨S1x384, .f32⟩
  | .hbm, ⟨33, _⟩ => ⟨S4096x384, .f32⟩
  | .hbm, ⟨34, _⟩ => ⟨S4096x384, .f32⟩
  | .hbm, ⟨35, _⟩ => ⟨S4096x384, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x384, .f32⟩
  | .hbm, ⟨40, _⟩ => ⟨S4096x384, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x384, .f32⟩
  | .hbm, ⟨48, _⟩ => ⟨S4096x384, .f32⟩
  | .hbm, ⟨49, _⟩ => ⟨S4096x384, .f32⟩
  | .hbm, ⟨50, _⟩ => ⟨S4096x384, .f32⟩
  | .hbm, ⟨51, _⟩ => ⟨S4096x384, .f32⟩
  | .hbm, ⟨52, _⟩ => ⟨S4096x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel16.lean ====
abbrev S4096x1024 : Shape := ⟨2, ![4096, 1024]⟩
abbrev S1024x256 : Shape := ⟨2, ![1024, 256]⟩
abbrev S4096x256 : Shape := ⟨2, ![4096, 256]⟩
abbrev S1x256 : Shape := ⟨2, ![1, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x256, .bf16⟩
  | .hbm, ⟨3, _⟩ => ⟨S1024x256, .bf16⟩
  | .hbm, ⟨4, _⟩ => ⟨S4096x256, .bf16⟩
  | .hbm, ⟨5, _⟩ => ⟨S1x256, .f32⟩
  | .hbm, ⟨6, _⟩ => ⟨S4096x256, .bf16⟩
  | .hbm, ⟨7, _⟩ => ⟨S1x256, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x256, .bf16⟩
  | .local _ .vmem, ⟨5, _⟩ => ⟨S1024x256, .bf16⟩
  | .local _ .vmem, ⟨6, _⟩ => ⟨S512x256, .bf16⟩
  | .local _ .vmem, ⟨7, _⟩ => ⟨S512x256, .bf16⟩
  | .local _ .vmem, ⟨8, _⟩ => ⟨S1x256, .f32⟩
  | .local _ .vmem, ⟨9, _⟩ => ⟨S512x256, .bf16⟩
  | .local _ .vmem, ⟨10, _⟩ => ⟨S512x256, .bf16⟩
  | .local _ .vmem, ⟨11, _⟩ => ⟨S1x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_20 : BitVec 32 := 0#32
  let v39 : BitVec 1 := Scalar.cmpi .ne v38 c0_i32_20
  v39

def k0_cond2 (i : grid0.Coords) : BitVec 1 :=
  let arg0 : BitVec 32 := BitVec.ofNat 32 (i 0).val
  let c0_i32_21 : BitVec 32 := 0#32
  let v40 : BitVec 1 := Scalar.cmpi .sgt arg0 c0_i32_21
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S4096x1024 : Shape := ⟨2, ![4096, 1024]⟩
abbrev S1024x256 : Shape := ⟨2, ![1024, 256]⟩
abbrev S4096x256 : Shape := ⟨2, ![4096, 256]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S256 : Shape := ⟨1, ![256]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x256, .bf16⟩
  | .hbm, ⟨3, _⟩ => ⟨S1024x256, .bf16⟩
  | .hbm, ⟨4, _⟩ => ⟨S4096x256, .bf16⟩
  | .hbm, ⟨5, _⟩ => ⟨S1x256, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S1024x256, .f32⟩
  | .hbm, ⟨27, _⟩ => ⟨S256x1024, .f32⟩
  | .hbm, ⟨28, _⟩ => ⟨S4096x1024, .f32⟩
  | .hbm, ⟨29, _⟩ => ⟨S1024x256, .f32⟩
  | .hbm, ⟨30, _⟩ => ⟨S256x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S_, .f32⟩
  | .hbm, ⟨39, _⟩ => ⟨S256, .f32⟩
  | .hbm, ⟨40, _⟩ => ⟨S1x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x256, .f32⟩
  | .hbm, ⟨48, _⟩ => ⟨S4096x256, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x256, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel17.lean ====
abbrev S4096x1024 : Shape := ⟨2, ![4096, 1024]⟩
abbrev S2728x1024 : Shape := ⟨2, ![2728, 1024]⟩
abbrev S4096x2048 : Shape := ⟨2, ![4096, 2048]⟩
abbrev S1024x1024 : Shape := ⟨2, ![1024, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2728x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x1024 : Shape := ⟨2, ![4096, 1024]⟩
abbrev S2728x1024 : Shape := ⟨2, ![2728, 1024]⟩
abbrev S2048x1024 : Shape := ⟨2, ![2048, 1024]⟩
abbrev S1024x2048 : Shape := ⟨2, ![1024, 2048]⟩
abbrev S4096x2048 : Shape := ⟨2, ![4096, 2048]⟩
abbrev S4096x512 : Shape := ⟨2, ![4096, 512]⟩
abbrev S_ : Shape := ⟨0, ![]⟩
abbrev S4096x1536 : Shape := ⟨2, ![4096, 1536]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2728x1024, .bf16⟩
  | .hbm, ⟨2, _⟩ => ⟨S4096x1024, .f32⟩
  | .hbm, ⟨3, _⟩ => ⟨S2048x1024, .bf16⟩
  | .hbm, ⟨4, _⟩ => ⟨S2048x1024, .f32⟩
  | .hbm, ⟨5, _⟩ => ⟨S1024x2048, .f32⟩
  | .hbm, ⟨6, _⟩ => ⟨S4096x2048, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S4096x1536, .f32⟩
  | .hbm, ⟨12, _⟩ => ⟨S4096x2048, .f32⟩
  | .hbm, ⟨13, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel18.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .hbm, ⟨3, _⟩ => ⟨S1024x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .hbm, ⟨3, _⟩ => ⟨S1024x1024, .bf16⟩
  | .hbm, ⟨4, _⟩ => ⟨S4096x1024, .f32⟩
  | .hbm, ⟨5, _⟩ => ⟨S1x1024, .f32⟩
  | .hbm, ⟨6, _⟩ => ⟨S4096x512, .f32⟩
  | .hbm, ⟨7, _⟩ => ⟨S512x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel19.lean ====
abbrev S4096x1024 : Shape := ⟨2, ![4096, 1024]⟩
abbrev S1x1024 : Shape := ⟨2, ![1, 1024]⟩
abbrev S640x1024 : Shape := ⟨2, ![640, 1024]⟩
abbrev S128x1024 : Shape := ⟨2, ![128, 1024]⟩
abbrev S1x384 : Shape := ⟨2, ![1, 384]⟩
abbrev S1x256 : Shape := ⟨2, ![1, 256]⟩
abbrev S4096x640 : Shape := ⟨2, ![4096, 640]⟩
abbrev S4096x384 : Shape := ⟨2, ![4096, 384]⟩
abbrev S4096x256 : Shape := ⟨2, ![4096, 256]⟩
abbrev S4096x128 : Shape := ⟨2, ![4096, 128]⟩
abbrev S512x1024 : Shape := ⟨2, ![512, 1024]⟩
abbrev S512x640 : Shape := ⟨2, ![512, 640]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S640x1024, .bf16⟩
  | .hbm, ⟨3, _⟩ => ⟨S128x1024, .bf16⟩
  | .hbm, ⟨4, _⟩ => ⟨S1x384, .f32⟩
  | .hbm, ⟨5, _⟩ => ⟨S1x256, .f32⟩
  | .hbm, ⟨6, _⟩ => ⟨S4096x1024, .bf16⟩
  | .hbm, ⟨7, _⟩ => ⟨S4096x640, .bf16⟩
  | .hbm, ⟨8, _⟩ => ⟨S4096x384, .bf16⟩
  | .hbm, ⟨9, _⟩ => ⟨S4096x256, .bf16⟩
  | .hbm, ⟨10, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S640x1024, .bf16⟩
  | .local _ .vmem, ⟨4, _⟩ => ⟨S128x1024, .bf16⟩
  | .local _ .vmem, ⟨5, _⟩ => ⟨S1x384, .f32⟩
  | .local _ .vmem, ⟨6, _⟩ => ⟨S1x256, .f32⟩
  | .local _ .vmem, ⟨7, _⟩ => ⟨S512x1024, .bf16⟩
  | .local _ .vmem, ⟨8, _⟩ => ⟨S512x1024, .bf16⟩
  | .local _ .vmem, ⟨9, _⟩ => ⟨S512x640, .bf16⟩
  | .local _ .vmem, ⟨10, _⟩ => ⟨S512x640, .bf16⟩
  | .local _ .vmem, ⟨11, _⟩ => ⟨S512x384, .bf16⟩
  | .local _ .vmem, ⟨12, _⟩ => ⟨S512x384, .bf16⟩
  | .local _ .vmem, ⟨13, _⟩ => ⟨S512x256, .bf16⟩
  | .local _ .vmem, ⟨14, _⟩ => ⟨S512x256, .bf16⟩
  | .local _ .vmem, ⟨15, _⟩ => ⟨S512x128, .f32⟩
  | .local _ .vmem, ⟨16, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference19Ideal.lean ====
abbrev S4096x1024 : Shape := ⟨2, ![4096, 1024]⟩
abbrev S1x1024 : Shape := ⟨2, ![1, 1024]⟩
abbrev S640x1024 : Shape := ⟨2, ![640, 1024]⟩
abbrev S128x1024 : Shape := ⟨2, ![128, 1024]⟩
abbrev S1x384 : Shape := ⟨2, ![1, 384]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S1024x640 : Shape := ⟨2, ![1024, 640]⟩
abbrev S4096x640 : Shape := ⟨2, ![4096, 640]⟩
abbrev S4096x384 : Shape := ⟨2, ![4096, 384]⟩
abbrev S4096x256 : Shape := ⟨2, ![4096, 256]⟩
abbrev S1024x128 : Shape := ⟨2, ![1024, 128]⟩
abbrev S4096x128 : Shape := ⟨2, ![4096, 128]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S640x1024, .bf16⟩
  | .hbm, ⟨3, _⟩ => ⟨S128x1024, .bf16⟩
  | .hbm, ⟨4, _⟩ => ⟨S1x384, .f32⟩
  | .hbm, ⟨5, _⟩ => ⟨S1x256, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S640x1024, .f32⟩
  | .hbm, ⟨22, _⟩ => ⟨S1024x640, .f32⟩
  | .hbm, ⟨23, _⟩ => ⟨S4096x640, .f32⟩
  | .hbm, ⟨24, _⟩ => ⟨S4096x1024, .bf16⟩
  | .hbm, ⟨25, _⟩ => ⟨S4096x640, .bf16⟩
  | .hbm, ⟨26, _⟩ => ⟨S4096x384, .f32⟩
  | .hbm, ⟨27, _⟩ => ⟨S4096x384, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x384, .f32⟩
  | .hbm, ⟨39, _⟩ => ⟨S4096x384, .f32⟩
  | .hbm, ⟨40, _⟩ => ⟨S4096x384, .f32⟩
  | .hbm, ⟨41, _⟩ => ⟨S4096x384, .f32⟩
  | .hbm, ⟨42, _⟩ => ⟨S4096x384, .bf16⟩
  | .hbm, ⟨43, _⟩ => ⟨S4096x256, .f32⟩
  | .hbm, ⟨44, _⟩ => ⟨S4096x256, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x256, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .bf16⟩
  | .hbm, ⟨60, _⟩ => ⟨S128x1024, .f32⟩
  | .hbm, ⟨61, _⟩ => ⟨S1024x128, .f32⟩
  | .hbm, ⟨62, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.FrameK.lean ====
module

public import proofs.«01_k».proof.Proof.Gen.Kernel.Frame
public import proofs.«01_k».proof.Proof.Gen.Kernel.Loops
public import proofs.«01_k».proof.Proof.Gen.Kernel.Skeleton
public import Idealize.ShloMosaic.Lib.Exec
public import Idealize.ShloMosaic.Lib.Tactic
public import Idealize.ShloMosaic.Lib.Claim

/-! The printed kernel's frame, over any float values: the body runs from any contents of its outputs to some contents of them,
so the call ends and leaves its arguments alone. What the outputs hold is not said here. -/

@[expose] public section

set_option maxRecDepth 16384

noncomputable section

namespace Cert.Kernel.Frames

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch: is it the first key block? -/

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)

set_option maxHeartbeats 1000000 in
/-- The body at the first key block, which clears the query gradient. -/
theorem kernelRun0_A (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .f32) (harg6 : arg6.IsWhole) (arg7 : Memref sig .tc .vmem S512x512 .bf16) (harg7 : arg7.IsWhole) (arg8 : Memref sig .tc .vmem S512x512 .bf16) (harg8 : arg8.IsWhole) (hc0 : cond0_0 i)
    (x0 : Vec F S4096x512 .bf16) (x1 : Vec F S512x512 .bf16) (x2 : Vec F S512x512 .bf16) (x3 : Vec F S4096x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_attn_bwd i arg2 harg2 arg3 harg3 arg4 harg4 arg5 harg5 arg6 harg6 arg7 harg7 arg8 harg8) K := by
    intro E K
    simp only [cc0_attn_bwd_eq_skeleton]; unfold cc0_attn_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

set_option maxHeartbeats 1000000 in
/-- The body at a later key block. -/
theorem kernelRun0_B (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .f32) (harg6 : arg6.IsWhole) (arg7 : Memref sig .tc .vmem S512x512 .bf16) (harg7 : arg7.IsWhole) (arg8 : Memref sig .tc .vmem S512x512 .bf16) (harg8 : arg8.IsWhole) (hc0 : ¬cond0_0 i)
    (x0 : Vec F S4096x512 .bf16) (x1 : Vec F S512x512 .bf16) (x2 : Vec F S512x512 .bf16) (x3 : Vec F S4096x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_attn_bwd i arg2 harg2 arg3 harg3 arg4 harg4 arg5 harg5 arg6 harg6 arg7 harg7 arg8 harg8) K := by
    intro E K
    simp only [cc0_attn_bwd_eq_skeleton]; unfold cc0_attn_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

/-- The arrays that the host lines after the call write. -/
def T0 : Finset (Ref sig .tc) := {main_cst_10, main_v69, main_v70, main_v71, main_v72, main_v73, main_v74, main_v75, main_v76, main_v77, main_v78}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

/-- The arguments after a run in which the staged arrays and the rest keep their contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c)⟩) h

/-! ## The pipeline's proof data -/

/-- The three output windows: nothing is said of what they hold. -/
def forgets0 : Fin 7 → Bool := fun w => w.val == 4 || w.val == 5 || w.val == 6

/-- The arrays as the call finds them; each input window holds its block after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays are those that the call finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: one of the two cases runs it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The call's body at a point is the body on its staging buffers. -/
theorem defs₀_row (t : Fin cfg0.N) :
    defs₀ (F := F) .tc cfg0.body (cfg0.bodyArgs t (cfg0.slots t)) = bodyAt0 t := by
  unfold defs₀; rw [Defs.onTc_tc]

/-- The body's duty at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: it ends, with every counter at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The run alone. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Frames

end
-- ==== Proof.HostK.lean ====
module

public import proofs.«01_k».proof.Proof.Gen.KernelIdeal.Frame
public import Idealize.ShloMosaic.Lib.StableHlo.ReadAt
public import Idealize.ShloMosaic.Lib.Pointwise

@[expose] public section

set_option maxRecDepth 16384

noncomputable section

/-! What the host's lines before the kernel compute: the softmax's statistics, and the four wide arrays the
kernel reads, as functions of the arguments. -/

namespace Cert.KernelIdeal.Host

open Idealize.ShloMosaic Idealize.ShloMosaic.TcCoe Idealize.ShloMosaic.Tactic
open Cert.KernelIdeal Cert.KernelIdeal.Gen

/-- The scores, masked: `q · k` times the scale where the key is not after the query, and `-∞` elsewhere. -/
def masked (q k : FVec Ideal S4096x8x96 .f32) : FVec Ideal S8x4096x4096 .f32 :=
  select (broadcastInDim S8x4096x4096 ![1, 2] bcast_S4096x4096_S8x4096x4096_1_2
      (cmpi .sle
        (broadcastInDim S4096x4096 ![0, 1] bcast_S1x4096_S4096x4096_0_1
          (broadcastInDim S1x4096 ![1] bcast_S4096_S1x4096_1 (iotaInDim S4096 32 0)))
        (broadcastInDim S4096x4096 ![0, 1] bcast_S4096x1_S4096x4096_0_1
          (broadcastInDim S4096x1 ![0] bcast_S4096_S4096x1_0 (iotaInDim S4096 32 0)))))
    (mulf (Host.dotGeneral dot_S4096x8x96_S4096x8x96_S8x4096x4096_2_2_0_0_1_1 none q k)
      (broadcastInDim S8x4096x4096 ![] bcast_S_S8x4096x4096 (constant (F := Ideal) S_ .f32 0x3DD105EC#32)))
    (broadcastInDim S8x4096x4096 ![] bcast_S_S8x4096x4096 (id (constant (F := Ideal) S_ .f32 0xFF800000#32)))

/-- Each row's largest score. -/
def rowMax (q k : FVec Ideal S4096x8x96 .f32) : FVec Ideal S8x4096 .f32 :=
  Host.reduce FloatOps.maximumf (masked q k) (constant (F := Ideal) S_ .f32 0xFF800000#32)
    reducesTo_S8x4096x4096_S8x4096_d2 h_S_

/-- The exponentials of the scores less their row's largest. -/
def exps (q k : FVec Ideal S4096x8x96 .f32) : FVec Ideal S8x4096x4096 .f32 :=
  Idealize.ShloMosaic.Host.exp (subf (masked q k)
    (broadcastInDim S8x4096x4096 ![0, 1, 2] bcast_S8x4096x1_S8x4096x4096_0_1_2
      (broadcastInDim S8x4096x1 ![0, 1] bcast_S8x4096_S8x4096x1_0_1 (rowMax q k))))

/-- Each row's sum of exponentials. -/
def rowSum (q k : FVec Ideal S4096x8x96 .f32) : FVec Ideal S8x4096 .f32 :=
  Idealize.ShloMosaic.Host.reduceAdd (exps q k) (constant (F := Ideal) S_ .f32 0x00000000#32)
    reducesTo_S8x4096x4096_S8x4096_d2 h_S_

/-- The logarithm of each row's sum. -/
def lse (q k : FVec Ideal S4096x8x96 .f32) : FVec Ideal S8x4096 .f32 :=
  shapeCast S8x4096
    (addf (broadcastInDim S8x4096x1 ![0, 1] bcast_S8x4096_S8x4096x1_0_1 (rowMax q k))
      (Idealize.ShloMosaic.Host.log
        (broadcastInDim S8x4096x1 ![0, 1] bcast_S8x4096_S8x4096x1_0_1 (rowSum q k))))
    shapeCasts_S8x4096x1_S8x4096

/-- The attention's weights. -/
def probs (q k : FVec Ideal S4096x8x96 .f32) : FVec Ideal S8x4096x4096 .f32 :=
  Idealize.ShloMosaic.Host.divf (exps q k)
    (broadcastInDim S8x4096x4096 ![0, 1, 2] bcast_S8x4096x1_S8x4096x4096_0_1_2
      (broadcastInDim S8x4096x1 ![0, 1] bcast_S8x4096_S8x4096x1_0_1 (rowSum q k)))

/-- Each row's product of the output's gradient with the output. -/
def delta (q k : FVec Ideal S4096x8x96 .f32) (v d : FVec Ideal S4096x8x64 .f32) : FVec Ideal S4096x8 .f32 :=
  Idealize.ShloMosaic.Host.reduceAdd
    (mulf d (transpose S4096x8x64 [2, 0, 1]
      (Host.dotGeneral dot_S4096x8x64_S8x4096x4096_S8x64x4096_0_2_2_1_1_0 none v (probs q k))
      transposes_S8x64x4096_S4096x8x64_2_0_1))
    (constant (F := Ideal) S_ .f32 0x00000000#32) reducesTo_S4096x8x64_S4096x8_d2 h_S_

/-- The statistic's negative. -/
def nlse (q k : FVec Ideal S4096x8x96 .f32) : FVec Ideal S4096x8 .f32 :=
  Idealize.ShloMosaic.Host.negf (transpose S4096x8 [1, 0] (lse q k) transposes_S8x4096_S4096x8_1_0)

/-- One column of a wide array. -/
def col (x : FVec Ideal S4096x8 .bf16) : FVec Ideal S4096x8x1 .bf16 :=
  broadcastInDim S4096x8x1 ![0, 1] bcast_S4096x8_S4096x8x1_0_1 x

/-- A row statistic's low part: what its rounding leaves of it. -/
def low (x : FVec Ideal S4096x8 .f32) : FVec Ideal S4096x8 .bf16 :=
  truncf .bf16 (subf x (extf .f32 (truncf .bf16 x bitsLt_bf16_f32) bitsLt_bf16_f32)) bitsLt_bf16_f32

/-- The column of ones. -/
def ones : FVec Ideal S4096x8 .f32 :=
  broadcastInDim S4096x8 ![] bcast_S_S4096x8 (constant (F := Ideal) S_ .f32 0x3F800000#32)

/-- A wide array of an argument of 96 lanes: the argument, two columns and zeros. -/
def wide96 (x : FVec Ideal S4096x8x96 .bf16) (a b : FVec Ideal S4096x8x1 .bf16) : FVec Ideal S4096x8x128 .bf16 :=
  concatenate S4096x8x128 2
    [⟨S4096x8x96, x⟩, ⟨S4096x8x1, a⟩, ⟨S4096x8x1, b⟩,
      ⟨S4096x8x30, broadcastInDim S4096x8x30 ![] bcast_S_S4096x8x30 (constant (F := Ideal) S_ .bf16 0x0000#16)⟩]
    concatenates_S4096x8x96_S4096x8x1_S4096x8x1_S4096x8x30_S4096x8x128_d2

/-- The same of an argument of 64 lanes. -/
def wide64 (x : FVec Ideal S4096x8x64 .bf16) (a b : FVec Ideal S4096x8x1 .bf16) : FVec Ideal S4096x8x128 .bf16 :=
  concatenate S4096x8x128 2
    [⟨S4096x8x64, x⟩, ⟨S4096x8x1, a⟩, ⟨S4096x8x1, b⟩,
      ⟨S4096x8x62, broadcastInDim S4096x8x62 ![] bcast_S_S4096x8x62 (constant (F := Ideal) S_ .bf16 0x0000#16)⟩]
    concatenates_S4096x8x64_S4096x8x1_S4096x8x1_S4096x8x62_S4096x8x128_d2

/-- The scaled queries with the statistic's negative. -/
def wideQ (q k : FVec Ideal S4096x8x96 .f32) : FVec Ideal S4096x8x128 .bf16 :=
  wide96 (truncf .bf16 (mulf q (broadcastInDim S4096x8x96 ![] bcast_S_S4096x8x96
      (constant (F := Ideal) S_ .f32 0x3DD105EC#32))) bitsLt_bf16_f32)
    (col (truncf .bf16 (nlse q k) bitsLt_bf16_f32)) (col (low (nlse q k)))

/-- The keys with two columns of ones. -/
def wideK (k : FVec Ideal S4096x8x96 .f32) : FVec Ideal S4096x8x128 .bf16 :=
  wide96 (truncf .bf16 k bitsLt_bf16_f32) (col (truncf .bf16 ones bitsLt_bf16_f32))
    (col (truncf .bf16 ones bitsLt_bf16_f32))

/-- The values with two columns of ones. -/
def wideV (v : FVec Ideal S4096x8x64 .f32) : FVec Ideal S4096x8x128 .bf16 :=
  wide64 (truncf .bf16 v bitsLt_bf16_f32) (col (truncf .bf16 ones bitsLt_bf16_f32))
    (col (truncf .bf16 ones bitsLt_bf16_f32))

/-- The output's gradient with the row products' negative. -/
def wideD (q k : FVec Ideal S4096x8x96 .f32) (v d : FVec Ideal S4096x8x64 .f32) : FVec Ideal S4096x8x128 .bf16 :=
  wide64 (truncf .bf16 d bitsLt_bf16_f32)
    (col (truncf .bf16 (Idealize.ShloMosaic.Host.negf (delta q k v d)) bitsLt_bf16_f32))
    (col (low (Idealize.ShloMosaic.Host.negf (delta q k v d))))

theorem wide96_eq {x x' : FVec Ideal S4096x8x96 .bf16} {a a' b b' : FVec Ideal S4096x8x1 .bf16}
    {z : FVec Ideal S4096x8x30 .bf16} (hx : x = x') (ha : a = a') (hb : b = b')
    (hz : z = broadcastInDim S4096x8x30 ![] bcast_S_S4096x8x30 (constant (F := Ideal) S_ .bf16 0x0000#16)) :
    concatenate S4096x8x128 2 [⟨S4096x8x96, x⟩, ⟨S4096x8x1, a⟩, ⟨S4096x8x1, b⟩, ⟨S4096x8x30, z⟩]
      concatenates_S4096x8x96_S4096x8x1_S4096x8x1_S4096x8x30_S4096x8x128_d2 = wide96 x' a' b' := by
  subst hx ha hb hz; rfl

theorem wide64_eq {x x' : FVec Ideal S4096x8x64 .bf16} {a a' b b' : FVec Ideal S4096x8x1 .bf16}
    {z : FVec Ideal S4096x8x62 .bf16} (hx : x = x') (ha : a = a') (hb : b = b')
    (hz : z = broadcastInDim S4096x8x62 ![] bcast_S_S4096x8x62 (constant (F := Ideal) S_ .bf16 0x0000#16)) :
    concatenate S4096x8x128 2 [⟨S4096x8x64, x⟩, ⟨S4096x8x1, a⟩, ⟨S4096x8x1, b⟩, ⟨S4096x8x62, z⟩]
      concatenates_S4096x8x64_S4096x8x1_S4096x8x1_S4096x8x62_S4096x8x128_d2 = wide64 x' a' b' := by
  subst hx ha hb hz; rfl

variable (m : (ℓ : Loc nD τ sig) → Buf (Elt Ideal) ℓ) (c : Dev nD)

/-- The queries a device starts with. -/
abbrev Q0 : FVec Ideal S4096x8x96 .f32 := m ((c.tc : Thread nD τ).loc main_arg0)
/-- The keys. -/
abbrev K0 : FVec Ideal S4096x8x96 .f32 := m ((c.tc : Thread nD τ).loc main_arg1)
/-- The values. -/
abbrev V1 : FVec Ideal S4096x8x64 .f32 := m ((c.tc : Thread nD τ).loc main_arg2)
/-- The output's gradient. -/
abbrev D0 : FVec Ideal S4096x8x64 .f32 := m ((c.tc : Thread nD τ).loc main_arg3)

set_option maxHeartbeats 4000000 in
theorem V_q : V m c main_v40 = shapeCast S4096x1024 (wideQ (Q0 m c) (K0 m c)) shapeCasts_S4096x8x128_S4096x1024 := by
  unfold V V0
  after_reads_simp
  exact congrArg (fun y => shapeCast S4096x1024 y shapeCasts_S4096x8x128_S4096x1024)
    (wide96_eq (by change StableHlo.upto _ _ _ (Proc.tc.devRef main_v35) = _; after_reads_simp)
      (by change StableHlo.upto _ _ _ (Proc.tc.devRef main_v36) = _; after_reads_simp; unfold col nlse lse rowSum exps rowMax masked; rfl)
      (by change StableHlo.upto _ _ _ (Proc.tc.devRef main_v37) = _; after_reads_simp; unfold col nlse lse rowSum exps rowMax masked low; rfl)
      (by change StableHlo.upto _ _ _ (Proc.tc.devRef main_v38) = _; after_reads_simp))

set_option maxHeartbeats 4000000 in
theorem V_k : V m c main_v48 = shapeCast S4096x1024 (wideK (K0 m c)) shapeCasts_S4096x8x128_S4096x1024 := by
  unfold V V0
  after_reads_simp
  exact congrArg (fun y => shapeCast S4096x1024 y shapeCasts_S4096x8x128_S4096x1024)
    (wide96_eq (by change StableHlo.upto _ _ _ (Proc.tc.devRef main_v41) = _; after_reads_simp)
      (by change StableHlo.upto _ _ _ (Proc.tc.devRef main_v43) = _; after_reads_simp; rfl)
      (by change StableHlo.upto _ _ _ (Proc.tc.devRef main_v45) = _; after_reads_simp; rfl)
      (by change StableHlo.upto _ _ _ (Proc.tc.devRef main_v46) = _; after_reads_simp))

set_option maxHeartbeats 4000000 in
theorem V_v : V m c main_v56 = shapeCast S4096x1024 (wideV (V1 m c)) shapeCasts_S4096x8x128_S4096x1024 := by
  unfold V V0
  after_reads_simp
  exact congrArg (fun y => shapeCast S4096x1024 y shapeCasts_S4096x8x128_S4096x1024)
    (wide64_eq (by change StableHlo.upto _ _ _ (Proc.tc.devRef main_v49) = _; after_reads_simp)
      (by change StableHlo.upto _ _ _ (Proc.tc.devRef main_v51) = _; after_reads_simp; rfl)
      (by change StableHlo.upto _ _ _ (Proc.tc.devRef main_v53) = _; after_reads_simp; rfl)
      (by change StableHlo.upto _ _ _ (Proc.tc.devRef main_v54) = _; after_reads_simp))

set_option maxHeartbeats 4000000 in
theorem V_d : V m c main_v67 = shapeCast S4096x1024 (wideD (Q0 m c) (K0 m c) (V1 m c) (D0 m c))
    shapeCasts_S4096x8x128_S4096x1024 := by
  unfold V V0
  after_reads_simp
  exact congrArg (fun y => shapeCast S4096x1024 y shapeCasts_S4096x8x128_S4096x1024)
    (wide64_eq (by change StableHlo.upto _ _ _ (Proc.tc.devRef main_v62) = _; after_reads_simp)
      (by change StableHlo.upto _ _ _ (Proc.tc.devRef main_v63) = _; after_reads_simp; unfold col delta probs rowSum exps rowMax masked; rfl)
      (by change StableHlo.upto _ _ _ (Proc.tc.devRef main_v64) = _; after_reads_simp; unfold col delta probs rowSum exps rowMax masked low; rfl)
      (by change StableHlo.upto _ _ _ (Proc.tc.devRef main_v65) = _; after_reads_simp))

end Cert.KernelIdeal.Host
-- ==== Proof.Attn.lean ====
module

public import Idealize.ShloMosaic.Lib.Pointwise
public import Idealize.ShloMosaic.Lib.WordCmp

/-! The attention and its gradient over the real numbers: masked scores, their softmax, and the three gradients as sums.
Arrays are functions of a row, a head and a lane number. -/

@[expose] public section

noncomputable section

namespace Cert.Attn

open Idealize.ShloMosaic Idealize.ShloMosaic.Tactic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_fin (n : ℕ) (f : ℕ → ℝ) : ∑ i : Fin n, (f i : EReal) = ((∑ i ∈ Finset.range n, f i : ℝ) : EReal) := by
  rw [Finset.sum_range, coe_sum]

/-- A product of two rows of real numbers. -/
theorem dot_fin (n : ℕ) (f g : ℕ → ℝ) :
    ∑ i : Fin n, (f i : EReal) * (g i : EReal) = ((∑ i ∈ Finset.range n, f i * g i : ℝ) : EReal) := by
  simp only [← EReal.coe_mul]
  exact coe_fin n fun i => f i * g i

/-- A sum over blocks of equal size is the sum over all. -/
theorem sum_blocks (b n : ℕ) (f : ℕ → ℝ) :
    ∑ j ∈ Finset.range n, ∑ i ∈ Finset.range b, f (b * j + i) = ∑ i ∈ Finset.range (b * n), f i := by
  induction n with
  | zero => simp
  | succ n ih => rw [Finset.sum_range_succ, ih, Nat.mul_succ, Finset.sum_range_add]

/-- A sum over 128 lanes of which the first `n` hold one thing, the next two one each and the others nothing. -/
theorem sum_lanes (n z : ℕ) (f : ℕ → ℝ) (hz : ∀ l, n + 2 ≤ l → f l = 0) (hn : n + 2 + z = 128) :
    ∑ l ∈ Finset.range 128, f l = ∑ l ∈ Finset.range n, f l + f n + f (n + 1) := by
  rw [← hn, Finset.sum_range_add, Finset.sum_eq_zero (s := Finset.range z) fun i _ => hz _ (by omega), add_zero,
    Finset.sum_range_succ, Finset.sum_range_succ]

/-- A product of a number of the reals with one of the extended reals' quotients. -/
theorem div_eq (x y : ℝ) (hy : y ≠ 0) : Ideal.div (x : EReal) (y : EReal) = ((x / y : ℝ) : EReal) := by
  rw [Ideal.div_coe hy, ← EReal.coe_mul, mul_one_div]

/-- The scale of the scores: the number the constant denotes. -/
def scale : ℝ := (Ideal.ofBits .f32 0x3DD105EC#32).toReal

theorem scale_eq : Ideal.ofBits .f32 0x3DD105EC#32 = ((scale : ℝ) : EReal) := by
  obtain ⟨x, hx⟩ : ∃ x : ℝ, Ideal.ofBits .f32 0x3DD105EC#32 = (x : EReal) := by
    simp only [Ideal.ofBits, Ideal.ieee]
    rw [if_neg (by decide), if_neg (by decide)]
    exact ⟨_, rfl⟩
  unfold scale
  rw [hx, EReal.toReal_coe]

theorem ninf_eq : Ideal.ofBits .f32 0xFF800000#32 = ⊥ := by simp [Ideal.ofBits, Ideal.ieee]

/-- The mask: a key not after the query. -/
theorem select_mask (r s : Fin 4096) (x y : EReal) :
    Scalar.select (IntOp.cmpi .sle (BitVec.ofNat 32 s.val) (BitVec.ofNat 32 r.val)) x y = if s.val ≤ r.val then x else y := by
  have hs := s.isLt
  have hr := r.isLt
  word_cmp

variable (q k v d : ℕ → ℕ → ℕ → ℝ) (c : ℝ) (h r s l : ℕ)

/-- The score of key `s` for query `r`. -/
def S : ℝ := (∑ l ∈ Finset.range 96, q r h l * k s h l) * c

/-- The masked score. -/
def msk : EReal := if s ≤ r then (S q k c h r s : EReal) else ⊥

/-- The row's largest masked score. -/
def mx : EReal := Finset.univ.fold max ⊥ (fun s : Fin 4096 => msk q k c h r s)

/-- The same as a real number. -/
def M : ℝ := (mx q k c h r).toReal

theorem mx_eq : mx q k c h r = (M q k c h r : EReal) := by
  refine (EReal.coe_toReal (LT.lt.ne ?_) (LT.lt.ne' ?_)).symm
  · refine Finset.fold_max_lt _ |>.mpr ⟨bot_lt_top, fun x _ => ?_⟩
    unfold msk
    split
    · exact EReal.coe_lt_top _
    · exact bot_lt_top
  · refine Finset.lt_fold_max _ |>.mpr (Or.inr ⟨0, Finset.mem_univ _, ?_⟩)
    unfold msk
    rw [if_pos (show ((0 : Fin 4096) : ℕ) ≤ r from Nat.zero_le _)]
    exact EReal.bot_lt_coe _

/-- The exponential of a masked score less the row's largest. -/
def E : ℝ := if s ≤ r then Real.exp (S q k c h r s - M q k c h r) else 0

theorem exp_eq : Ideal.exp (msk q k c h r s - (M q k c h r : EReal)) = (E q k c h r s : EReal) := by
  unfold msk E
  split
  · rw [← EReal.coe_sub, Ideal.exp_coe]
  · rw [EReal.bot_sub, Ideal.exp_bot, EReal.coe_zero]

/-- The row's sum of exponentials. -/
def Z : ℝ := ∑ s ∈ Finset.range 4096, E q k c h r s

theorem Z_pos : 0 < Z q k c h r := by
  refine Finset.sum_pos' (fun s _ => ?_) ⟨0, Finset.mem_range.mpr (by norm_num), ?_⟩
  · unfold E
    split
    · exact (Real.exp_pos _).le
    · exact le_rfl
  · unfold E
    rw [if_pos (Nat.zero_le _)]
    exact Real.exp_pos _

/-- The attention's weight. -/
def P : ℝ := E q k c h r s / Z q k c h r

theorem P_of_lt (hs : r < s) : P q k c h r s = 0 := by
  unfold P E
  rw [if_neg (by omega), zero_div]

theorem P_eq (hs : s ≤ r) :
    Real.exp (S q k c h r s + -(M q k c h r + Real.log (Z q k c h r))) = P q k c h r s := by
  unfold P E
  rw [if_pos hs, show S q k c h r s + -(M q k c h r + Real.log (Z q k c h r))
    = (S q k c h r s - M q k c h r) - Real.log (Z q k c h r) by ring, Real.exp_sub, Real.exp_log (Z_pos q k c h r)]

/-- The gradient of a weight: the product of the output's gradient with a value. -/
def dP : ℝ := ∑ l ∈ Finset.range 64, d r h l * v s h l

/-- The row's product of the output's gradient with the output. -/
def Dl : ℝ := ∑ l ∈ Finset.range 64, d r h l * ∑ s ∈ Finset.range 4096, v s h l * P q k c h r s

theorem Dl_eq : Dl q k v d c h r = ∑ s ∈ Finset.range 4096, dP v d h r s * P q k c h r s := by
  unfold Dl dP
  simp only [Finset.mul_sum, Finset.sum_mul]
  rw [Finset.sum_comm]
  exact Finset.sum_congr rfl fun _ _ => Finset.sum_congr rfl fun _ _ => by ring

/-- The gradient of a score. -/
def dS : ℝ := P q k c h r s * (dP v d h r s - Dl q k v d c h r)

/-- The same as the softmax's own gradient writes it. -/
theorem dS_eq : (dP v d h r s / Z q k c h r
      + -∑ s ∈ Finset.range 4096, dP v d h r s * (1 / (Z q k c h r * Z q k c h r)) * E q k c h r s) * E q k c h r s
    = dS q k v d c h r s := by
  have hz := (Z_pos q k c h r).ne'
  have e : ∑ s ∈ Finset.range 4096, dP v d h r s * (1 / (Z q k c h r * Z q k c h r)) * E q k c h r s
      = Dl q k v d c h r / Z q k c h r := by
    rw [Dl_eq, Finset.sum_div]
    refine Finset.sum_congr rfl fun _ _ => ?_
    unfold P
    field_simp
  rw [e]
  unfold dS P
  field_simp
  ring

/-- The three gradients. -/
def dV : ℝ := ∑ r ∈ Finset.range 4096, d r h l * P q k c h r s
/-- The keys'. -/
def dK : ℝ := ∑ r ∈ Finset.range 4096, dS q k v d c h r s * c * q r h l
/-- The queries'. -/
def dQ : ℝ := ∑ s ∈ Finset.range 4096, dS q k v d c h r s * c * k s h l

end Cert.Attn
-- ==== Proof.Tile.lean ====
module

public import proofs.«01_k».proof.Proof.Gen.KernelIdeal.Skeleton
public import Idealize.ShloMosaic.Lib.Pointwise
public import Idealize.ShloMosaic.Lib.Tactic
public import Idealize.ShloMosaic.Lib.WordCmp

/-! The arithmetic of one tile of the attention gradient, over the extended reals.

A tile is one head (128 columns starting at `o`), the 512 keys of key block `kb` and 512 query rows starting at `R`.
The four operands are named by functions of a row and a column counted from the start of the block the kernel holds:
`K` and `V` (rows are the keys of the block), `Q` and `D` (rows are all 4096 query rows).  `pN` is the attention weight of
a key and a query row, zero above the diagonal; `dsN` is the weight times the product of `V` and `D`.  Each lemma reads one
value the kernel computes on a tile at one index. -/

@[expose] public section

set_option maxRecDepth 16384

noncomputable section

namespace Cert.KernelIdeal.Tile

open Idealize.ShloMosaic Idealize.ShloMosaic.TcCoe Idealize.ShloMosaic.Tactic
open Idealize.SL.Sem
open Cert.KernelIdeal Cert.KernelIdeal.Gen

/-- Row `a` of `A` times row `b` of `B`, over the 128 columns of the head at column `o`. -/
def dotN (A B : ℕ → ℕ → EReal) (o a b : ℕ) : EReal := ∑ l : Fin 128, A a (o + l.val) * B b (o + l.val)

/-- The weight of key `kp` of key block `kb` at query row `r`. -/
def pN (kb : ℕ) (K Q : ℕ → ℕ → EReal) (o kp r : ℕ) : EReal :=
  if 512 * kb + kp ≤ r then Ideal.exp (dotN K Q o kp r) else 0

/-- The gradient of the score of key `kp` of key block `kb` at query row `r`. -/
def dsN (kb : ℕ) (K Q V D : ℕ → ℕ → EReal) (o kp r : ℕ) : EReal := pN kb K Q o kp r * dotN V D o kp r

variable {kb o R : ℕ} {K Q V D : ℕ → ℕ → EReal}

theorem pN_of_le {kp r : ℕ} (h : 512 * kb + kp ≤ r) : pN kb K Q o kp r = Ideal.exp (dotN K Q o kp r) := if_pos h

theorem pN_of_lt {kp r : ℕ} (h : r < 512 * kb + kp) : pN kb K Q o kp r = 0 := if_neg (by omega)

theorem dsN_of_lt {kp r : ℕ} (h : r < 512 * kb + kp) : dsN kb K Q V D o kp r = 0 := by
  rw [dsN, pN_of_lt h, zero_mul]

/-- The query rows before the diagonal block take no part. -/
theorem sum_before (f : ℕ → EReal) (kp : ℕ) (P : ℕ → EReal) (hP : ∀ r, r < 512 * kb → P r = 0) :
    ∑ r ∈ Finset.range (512 * kb), P r * f r = 0 :=
  Finset.sum_eq_zero fun r hr => by rw [hP r (Finset.mem_range.mp hr), zero_mul]

/-- A sum over the rows before a tile and the sum over the tile are the sum over the rows up to the tile's end. -/
theorem sum_tile (f : ℕ → EReal) (R : ℕ) :
    ∑ r ∈ Finset.range R, f r + ∑ r : Fin 512, f (R + r.val) = ∑ r ∈ Finset.range (R + 512), f r := by
  rw [Finset.sum_range_add, ← Fin.sum_univ_eq_sum_range (fun r => f (R + r)) 512]

section tile

variable {k v q d : FVec Ideal S512x128 .bf16}
variable (hk : ∀ (a : Fin 512) (l : Fin 128), k (ix2 a l) = K a.val (o + l.val))
variable (hv : ∀ (a : Fin 512) (l : Fin 128), v (ix2 a l) = V a.val (o + l.val))
variable (hq : ∀ (a : Fin 512) (l : Fin 128), q (ix2 a l) = Q (R + a.val) (o + l.val))
variable (hd : ∀ (a : Fin 512) (l : Fin 128), d (ix2 a l) = D (R + a.val) (o + l.val))

include hk hq in
theorem loop_p0 (hR : 512 * kb + 512 ≤ R) (kp r : Fin 512) :
    k0_pay21 (F := Ideal) k q (ix2 kp r) = pN kb K Q o kp.val (R + r.val) := by
  pointwise [k0_pay21, k0_pay18, k0_pay19, k0_pay20]
  rw [pN_of_le (by omega)]
  simp only [hk, hq, zero_add, dotN]

include hk hv hq hd in
theorem loop_ds0 (hR : 512 * kb + 512 ≤ R) (kp r : Fin 512) :
    k0_pay22 (F := Ideal) k v q d (ix2 kp r) = dsN kb K Q V D o kp.val (R + r.val) := by
  have hp := loop_p0 hk hq hR kp r
  pointwise [k0_pay22, k0_pay18, k0_pay19, k0_pay20]
  pointwise [k0_pay18, k0_pay19, k0_pay20] at hp
  simp only [hp, hv, hd, zero_add, dsN, dotN]

include hk hq hd in
theorem loop_dv0 (hR : 512 * kb + 512 ≤ R) (a : FVec Ideal S512x128 .f32) (kp : Fin 512) (l : Fin 128) :
    k0_pay23 (F := Ideal) a k q d (ix2 kp l)
      = a (ix2 kp l) + ∑ r : Fin 512, pN kb K Q o kp.val (R + r.val) * D (R + r.val) (o + l.val) := by
  have hp := loop_p0 hk hq hR kp
  pointwise [k0_pay23, k0_pay18, k0_pay19, k0_pay20]
  pointwise [k0_pay18, k0_pay19, k0_pay20] at hp
  simp only [hp, hd, zero_add]

include hk hv hq hd in
theorem loop_dk0 (hR : 512 * kb + 512 ≤ R) (a : FVec Ideal S512x128 .f32) (kp : Fin 512) (l : Fin 128) :
    k0_pay24 (F := Ideal) a k v q d (ix2 kp l)
      = a (ix2 kp l) + ∑ r : Fin 512, dsN kb K Q V D o kp.val (R + r.val) * Q (R + r.val) (o + l.val) := by
  have hp := loop_ds0 hk hv hq hd hR kp
  pointwise [k0_pay24, k0_pay18, k0_pay19, k0_pay20]
  pointwise [k0_pay18, k0_pay19, k0_pay20] at hp
  simp only [hp, hq, zero_add]

include hk hv hq hd in
theorem loop_dq0 (hR : 512 * kb + 512 ≤ R) (a : FVec Ideal S512x128 .f32) (r : Fin 512) (l : Fin 128) :
    k0_pay25 (F := Ideal) k v q d a (ix2 r l)
      = a (ix2 r l) + ∑ kp : Fin 512, dsN kb K Q V D o kp.val (R + r.val) * K kp.val (o + l.val) := by
  have hp := fun kp => loop_ds0 hk hv hq hd hR kp r
  pointwise [k0_pay25, k0_pay18, k0_pay19, k0_pay20]
  pointwise [k0_pay18, k0_pay19, k0_pay20] at hp
  simp only [hp, hk, zero_add]

include hk hq in
theorem loop_p1 (hR : 512 * kb + 512 ≤ R) (kp r : Fin 512) :
    k0_pay30 (F := Ideal) (k0_pay26 (F := Ideal) k) (k0_pay28 (F := Ideal) q) (ix2 kp r) = pN kb K Q o kp.val (R + r.val) := by
  pointwise [k0_pay30, k0_pay26, k0_pay27, k0_pay28, k0_pay29]
  rw [pN_of_le (by omega)]
  simp only [hk, hq, zero_add, dotN]

include hk hv hq hd in
theorem loop_ds1 (hR : 512 * kb + 512 ≤ R) (kp r : Fin 512) :
    k0_pay31 (F := Ideal) (k0_pay26 (F := Ideal) k) (k0_pay27 (F := Ideal) v) (k0_pay28 (F := Ideal) q) d (ix2 kp r) = dsN kb K Q V D o kp.val (R + r.val) := by
  have hp := loop_p1 hk hq hR kp r
  pointwise [k0_pay31, k0_pay26, k0_pay27, k0_pay28, k0_pay29]
  pointwise [k0_pay26, k0_pay27, k0_pay28, k0_pay29] at hp
  simp only [hp, hv, hd, zero_add, dsN, dotN]

include hk hq hd in
theorem loop_dv1 (hR : 512 * kb + 512 ≤ R) (a : FVec Ideal S512x128 .f32) (kp : Fin 512) (l : Fin 128) :
    k0_pay32 (F := Ideal) a (k0_pay26 (F := Ideal) k) (k0_pay28 (F := Ideal) q) d (ix2 kp l)
      = a (ix2 kp l) + ∑ r : Fin 512, pN kb K Q o kp.val (R + r.val) * D (R + r.val) (o + l.val) := by
  have hp := loop_p1 hk hq hR kp
  pointwise [k0_pay32, k0_pay26, k0_pay27, k0_pay28, k0_pay29]
  pointwise [k0_pay26, k0_pay27, k0_pay28, k0_pay29] at hp
  simp only [hp, hd, zero_add]

include hk hv hq hd in
theorem loop_dk1 (hR : 512 * kb + 512 ≤ R) (a : FVec Ideal S512x128 .f32) (kp : Fin 512) (l : Fin 128) :
    k0_pay33 (F := Ideal) a (k0_pay26 (F := Ideal) k) (k0_pay27 (F := Ideal) v) (k0_pay28 (F := Ideal) q) d (ix2 kp l)
      = a (ix2 kp l) + ∑ r : Fin 512, dsN kb K Q V D o kp.val (R + r.val) * Q (R + r.val) (o + l.val) := by
  have hp := loop_ds1 hk hv hq hd hR kp
  pointwise [k0_pay33, k0_pay26, k0_pay27, k0_pay28, k0_pay29]
  pointwise [k0_pay26, k0_pay27, k0_pay28, k0_pay29] at hp
  simp only [hp, hq, zero_add]

include hk hv hq hd in
theorem loop_dq1 (hR : 512 * kb + 512 ≤ R) (a : FVec Ideal S512x128 .f32) (r : Fin 512) (l : Fin 128) :
    k0_pay34 (F := Ideal) (k0_pay26 (F := Ideal) k) (k0_pay27 (F := Ideal) v) (k0_pay28 (F := Ideal) q) d a (ix2 r l)
      = a (ix2 r l) + ∑ kp : Fin 512, dsN kb K Q V D o kp.val (R + r.val) * K kp.val (o + l.val) := by
  have hp := fun kp => loop_ds1 hk hv hq hd hR kp r
  pointwise [k0_pay34, k0_pay26, k0_pay27, k0_pay28, k0_pay29]
  pointwise [k0_pay26, k0_pay27, k0_pay28, k0_pay29] at hp
  simp only [hp, hk, zero_add]

include hk hq in
theorem loop_p2 (hR : 512 * kb + 512 ≤ R) (kp r : Fin 512) :
    k0_pay38 (F := Ideal) k q (ix2 kp r) = pN kb K Q o kp.val (R + r.val) := by
  pointwise [k0_pay38, k0_pay35, k0_pay36, k0_pay37, k0_pay42]
  rw [pN_of_le (by omega)]
  simp only [hk, hq, zero_add, dotN]

include hk hv hq hd in
theorem loop_ds2 (hR : 512 * kb + 512 ≤ R) (kp r : Fin 512) :
    k0_pay39 (F := Ideal) k v q d (ix2 kp r) = dsN kb K Q V D o kp.val (R + r.val) := by
  have hp := loop_p2 hk hq hR kp r
  pointwise [k0_pay39, k0_pay35, k0_pay36, k0_pay37, k0_pay42]
  pointwise [k0_pay35, k0_pay36, k0_pay37, k0_pay42] at hp
  simp only [hp, hv, hd, zero_add, dsN, dotN]

include hk hq hd in
theorem loop_dv2 (hR : 512 * kb + 512 ≤ R) (a : FVec Ideal S512x128 .f32) (kp : Fin 512) (l : Fin 128) :
    k0_pay40 (F := Ideal) a k q d (ix2 kp l)
      = a (ix2 kp l) + ∑ r : Fin 512, pN kb K Q o kp.val (R + r.val) * D (R + r.val) (o + l.val) := by
  have hp := loop_p2 hk hq hR kp
  pointwise [k0_pay40, k0_pay35, k0_pay36, k0_pay37, k0_pay42]
  pointwise [k0_pay35, k0_pay36, k0_pay37, k0_pay42] at hp
  simp only [hp, hd, zero_add]

include hk hv hq hd in
theorem loop_dk2 (hR : 512 * kb + 512 ≤ R) (a : FVec Ideal S512x128 .f32) (kp : Fin 512) (l : Fin 128) :
    k0_pay41 (F := Ideal) a k v q d (ix2 kp l)
      = a (ix2 kp l) + ∑ r : Fin 512, dsN kb K Q V D o kp.val (R + r.val) * Q (R + r.val) (o + l.val) := by
  have hp := loop_ds2 hk hv hq hd hR kp
  pointwise [k0_pay41, k0_pay35, k0_pay36, k0_pay37, k0_pay42]
  pointwise [k0_pay35, k0_pay36, k0_pay37, k0_pay42] at hp
  simp only [hp, hq, zero_add]

include hk hv hq hd in
theorem loop_dq2 (hR : 512 * kb + 512 ≤ R) (a : FVec Ideal S512x128 .f32) (r : Fin 512) (l : Fin 128) :
    k0_pay111 (F := Ideal) (k0_pay35 (F := Ideal) k) (k0_pay39 (F := Ideal) k v q d) (k0_pay42 (F := Ideal) a) (ix2 r l)
      = a (ix2 r l) + ∑ kp : Fin 512, dsN kb K Q V D o kp.val (R + r.val) * K kp.val (o + l.val) := by
  have hp := fun kp => loop_ds2 hk hv hq hd hR kp r
  pointwise [k0_pay111, k0_pay35, k0_pay36, k0_pay37, k0_pay42]
  pointwise [k0_pay35, k0_pay36, k0_pay37, k0_pay42] at hp
  simp only [hp, hk, zero_add]

include hk hq in
theorem loop_p3 (hR : 512 * kb + 512 ≤ R) (kp r : Fin 512) :
    k0_pay115 (F := Ideal) k q (ix2 kp r) = pN kb K Q o kp.val (R + r.val) := by
  pointwise [k0_pay115, k0_pay112, k0_pay113, k0_pay114]
  rw [pN_of_le (by omega)]
  simp only [hk, hq, zero_add, dotN]

include hk hv hq hd in
theorem loop_ds3 (hR : 512 * kb + 512 ≤ R) (kp r : Fin 512) :
    k0_pay116 (F := Ideal) k v q d (ix2 kp r) = dsN kb K Q V D o kp.val (R + r.val) := by
  have hp := loop_p3 hk hq hR kp r
  pointwise [k0_pay116, k0_pay112, k0_pay113, k0_pay114]
  pointwise [k0_pay112, k0_pay113, k0_pay114] at hp
  simp only [hp, hv, hd, zero_add, dsN, dotN]

include hk hq hd in
theorem loop_dv3 (hR : 512 * kb + 512 ≤ R) (a : FVec Ideal S512x128 .f32) (kp : Fin 512) (l : Fin 128) :
    k0_pay117 (F := Ideal) a k q d (ix2 kp l)
      = a (ix2 kp l) + ∑ r : Fin 512, pN kb K Q o kp.val (R + r.val) * D (R + r.val) (o + l.val) := by
  have hp := loop_p3 hk hq hR kp
  pointwise [k0_pay117, k0_pay112, k0_pay113, k0_pay114]
  pointwise [k0_pay112, k0_pay113, k0_pay114] at hp
  simp only [hp, hd, zero_add]

include hk hv hq hd in
theorem loop_dk3 (hR : 512 * kb + 512 ≤ R) (a : FVec Ideal S512x128 .f32) (kp : Fin 512) (l : Fin 128) :
    k0_pay118 (F := Ideal) a k v q d (ix2 kp l)
      = a (ix2 kp l) + ∑ r : Fin 512, dsN kb K Q V D o kp.val (R + r.val) * Q (R + r.val) (o + l.val) := by
  have hp := loop_ds3 hk hv hq hd hR kp
  pointwise [k0_pay118, k0_pay112, k0_pay113, k0_pay114]
  pointwise [k0_pay112, k0_pay113, k0_pay114] at hp
  simp only [hp, hq, zero_add]

include hk hv hq hd in
theorem loop_dq3 (hR : 512 * kb + 512 ≤ R) (a : FVec Ideal S512x128 .f32) (r : Fin 512) (l : Fin 128) :
    k0_pay119 (F := Ideal) k v q d a (ix2 r l)
      = a (ix2 r l) + ∑ kp : Fin 512, dsN kb K Q V D o kp.val (R + r.val) * K kp.val (o + l.val) := by
  have hp := fun kp => loop_ds3 hk hv hq hd hR kp r
  pointwise [k0_pay119, k0_pay112, k0_pay113, k0_pay114]
  pointwise [k0_pay112, k0_pay113, k0_pay114] at hp
  simp only [hp, hk, zero_add]

/-- The mask of the diagonal tile: the comparison of the two words is the comparison of the two positions. -/
theorem mask_eq {kb : ℕ} (hkb : kb < 8) (kp r : Fin 512) (x : EReal) :
    Scalar.select (IntOp.cmpi .sge (IntOp.addi (Scalar.muli (BitVec.ofNat 32 kb) 512#32) (BitVec.ofNat 32 r.val))
        (IntOp.addi (Scalar.muli (BitVec.ofNat 32 kb) 512#32) (BitVec.ofNat 32 kp.val))) x 0
      = if 512 * kb + kp.val ≤ 512 * kb + r.val then x else 0 := by
  have h1 := kp.isLt
  have h2 := r.isLt
  have e : Scalar.muli (BitVec.ofNat 32 kb) 512#32 = BitVec.ofNat 32 (kb * 512) := WordCmp.muli_ofNat kb 512
  rw [e, WordCmp.addi_ofNat, WordCmp.addi_ofNat]
  word_cmp
  rw [Nat.mul_comm kb 512]

include hk hq in
theorem diag_p0 {i : grid0.Coords} (hkb8 : kb < 8) (hkb : (i 1).val = kb) (hR : R = 512 * kb) (kp r : Fin 512) :
    k0_pay82 (F := Ideal) i k q (ix2 kp r) = pN kb K Q o kp.val (R + r.val) := by
  pointwise [k0_pay82, k0_pay78, k0_pay79, k0_pay80, k0_pay81, k0_pay69]
  rw [mask_eq (hkb ▸ hkb8)]
  simp only [hk, hq, pN, dotN, hkb, hR]

include hk hv hq hd in
theorem diag_ds0 {i : grid0.Coords} (hkb8 : kb < 8) (hkb : (i 1).val = kb) (hR : R = 512 * kb) (kp r : Fin 512) :
    k0_pay83 (F := Ideal) (k0_pay79 (F := Ideal) v) (k0_pay81 (F := Ideal) d) (k0_pay82 (F := Ideal) i k q) (ix2 kp r) = dsN kb K Q V D o kp.val (R + r.val) := by
  have hp := diag_p0 hk hq hkb8 hkb hR kp r
  pointwise [k0_pay83, k0_pay78, k0_pay79, k0_pay80, k0_pay81]
  pointwise [k0_pay78, k0_pay79, k0_pay80, k0_pay81] at hp
  simp only [hp, hv, hd, zero_add, dsN, dotN]

include hk hq hd in
theorem diag_dv0 {i : grid0.Coords} (hkb8 : kb < 8) (hkb : (i 1).val = kb) (hR : R = 512 * kb) (a : FVec Ideal S512x128 .f32) (kp : Fin 512) (l : Fin 128) :
    k0_pay84 (F := Ideal) a (k0_pay81 (F := Ideal) d) (k0_pay82 (F := Ideal) i k q) (ix2 kp l)
      = a (ix2 kp l) + ∑ r : Fin 512, pN kb K Q o kp.val (R + r.val) * D (R + r.val) (o + l.val) := by
  have hp := diag_p0 hk hq hkb8 hkb hR kp
  pointwise [k0_pay84, k0_pay78, k0_pay79, k0_pay80, k0_pay81]
  pointwise [k0_pay78, k0_pay79, k0_pay80, k0_pay81] at hp
  simp only [hp, hd, zero_add]

include hk hv hq hd in
theorem diag_dk0 {i : grid0.Coords} (hkb8 : kb < 8) (hkb : (i 1).val = kb) (hR : R = 512 * kb) (a : FVec Ideal S512x128 .f32) (kp : Fin 512) (l : Fin 128) :
    k0_pay85 (F := Ideal) a (k0_pay79 (F := Ideal) v) (k0_pay80 (F := Ideal) q) (k0_pay81 (F := Ideal) d) (k0_pay82 (F := Ideal) i k q) (ix2 kp l)
      = a (ix2 kp l) + ∑ r : Fin 512, dsN kb K Q V D o kp.val (R + r.val) * Q (R + r.val) (o + l.val) := by
  have hp := diag_ds0 hk hv hq hd hkb8 hkb hR kp
  pointwise [k0_pay85, k0_pay78, k0_pay79, k0_pay80, k0_pay81]
  pointwise [k0_pay78, k0_pay79, k0_pay80, k0_pay81] at hp
  simp only [hp, hq, zero_add]

include hk hv hq hd in
theorem diag_dq0 {i : grid0.Coords} (hkb8 : kb < 8) (hkb : (i 1).val = kb) (hR : R = 512 * kb) (a : FVec Ideal S512x128 .f32) (r : Fin 512) (l : Fin 128) :
    k0_pay86 (F := Ideal) (k0_pay78 (F := Ideal) k) (k0_pay79 (F := Ideal) v) (k0_pay81 (F := Ideal) d) (k0_pay82 (F := Ideal) i k q) a (ix2 r l)
      = a (ix2 r l) + ∑ kp : Fin 512, dsN kb K Q V D o kp.val (R + r.val) * K kp.val (o + l.val) := by
  have hp := fun kp => diag_ds0 hk hv hq hd hkb8 hkb hR kp r
  pointwise [k0_pay86, k0_pay78, k0_pay79, k0_pay80, k0_pay81]
  pointwise [k0_pay78, k0_pay79, k0_pay80, k0_pay81] at hp
  simp only [hp, hk, zero_add]

include hk hq in
theorem diag_p1 {i : grid0.Coords} {v7 : IVec S512x512 32} (hv7 : ∀ a b : Fin 512, v7 (ix2 a b) = BitVec.ofNat 32 b.val) (hkb8 : kb < 8) (hkb : (i 1).val = kb) (hR : R = 512 * kb) (kp r : Fin 512) :
    k0_pay90 (F := Ideal) (BitVec.ofNat 32 (i 1).val) (k0_pay69 i) v7 k q (ix2 kp r) = pN kb K Q o kp.val (R + r.val) := by
  pointwise [k0_pay90, k0_pay87, k0_pay88, k0_pay89, k0_pay69]
  rw [hv7, mask_eq (hkb ▸ hkb8)]
  simp only [hk, hq, pN, dotN, hkb, hR]

include hk hv hq hd in
theorem diag_ds1 {i : grid0.Coords} {v7 : IVec S512x512 32} (hv7 : ∀ a b : Fin 512, v7 (ix2 a b) = BitVec.ofNat 32 b.val) (hkb8 : kb < 8) (hkb : (i 1).val = kb) (hR : R = 512 * kb) (kp r : Fin 512) :
    k0_pay91 (F := Ideal) (BitVec.ofNat 32 (i 1).val) (k0_pay69 i) v7 k v q d (ix2 kp r) = dsN kb K Q V D o kp.val (R + r.val) := by
  have hp := diag_p1 hk hq hv7 hkb8 hkb hR kp r
  pointwise [k0_pay91, k0_pay87, k0_pay88, k0_pay89]
  pointwise [k0_pay87, k0_pay88, k0_pay89] at hp
  simp only [hp, hv, hd, zero_add, dsN, dotN]

include hk hq hd in
theorem diag_dv1 {i : grid0.Coords} {v7 : IVec S512x512 32} (hv7 : ∀ a b : Fin 512, v7 (ix2 a b) = BitVec.ofNat 32 b.val) (hkb8 : kb < 8) (hkb : (i 1).val = kb) (hR : R = 512 * kb) (a : FVec Ideal S512x128 .f32) (kp : Fin 512) (l : Fin 128) :
    k0_pay92 (F := Ideal) (BitVec.ofNat 32 (i 1).val) (k0_pay69 i) v7 a k q d (ix2 kp l)
      = a (ix2 kp l) + ∑ r : Fin 512, pN kb K Q o kp.val (R + r.val) * D (R + r.val) (o + l.val) := by
  have hp := diag_p1 hk hq hv7 hkb8 hkb hR kp
  pointwise [k0_pay92, k0_pay87, k0_pay88, k0_pay89]
  pointwise [k0_pay87, k0_pay88, k0_pay89] at hp
  simp only [hp, hd, zero_add]

include hk hv hq hd in
theorem diag_dk1 {i : grid0.Coords} {v7 : IVec S512x512 32} (hv7 : ∀ a b : Fin 512, v7 (ix2 a b) = BitVec.ofNat 32 b.val) (hkb8 : kb < 8) (hkb : (i 1).val = kb) (hR : R = 512 * kb) (a : FVec Ideal S512x128 .f32) (kp : Fin 512) (l : Fin 128) :
    k0_pay93 (F := Ideal) (BitVec.ofNat 32 (i 1).val) (k0_pay69 i) v7 a k v q d (ix2 kp l)
      = a (ix2 kp l) + ∑ r : Fin 512, dsN kb K Q V D o kp.val (R + r.val) * Q (R + r.val) (o + l.val) := by
  have hp := diag_ds1 hk hv hq hd hv7 hkb8 hkb hR kp
  pointwise [k0_pay93, k0_pay87, k0_pay88, k0_pay89]
  pointwise [k0_pay87, k0_pay88, k0_pay89] at hp
  simp only [hp, hq, zero_add]

include hk hv hq hd in
theorem diag_dq1 {i : grid0.Coords} {v7 : IVec S512x512 32} (hv7 : ∀ a b : Fin 512, v7 (ix2 a b) = BitVec.ofNat 32 b.val) (hkb8 : kb < 8) (hkb : (i 1).val = kb) (hR : R = 512 * kb) (a : FVec Ideal S512x128 .f32) (r : Fin 512) (l : Fin 128) :
    k0_pay94 (F := Ideal) (k0_pay87 (F := Ideal) k) (k0_pay91 (F := Ideal) (BitVec.ofNat 32 (i 1).val) (k0_pay69 i) v7 k v q d) a (ix2 r l)
      = a (ix2 r l) + ∑ kp : Fin 512, dsN kb K Q V D o kp.val (R + r.val) * K kp.val (o + l.val) := by
  have hp := fun kp => diag_ds1 hk hv hq hd hv7 hkb8 hkb hR kp r
  pointwise [k0_pay94, k0_pay87, k0_pay88, k0_pay89]
  pointwise [k0_pay87, k0_pay88, k0_pay89] at hp
  simp only [hp, hk, zero_add]

include hk hq in
theorem diag_p2 {i : grid0.Coords} {v7 : IVec S512x512 32} (hv7 : ∀ a b : Fin 512, v7 (ix2 a b) = BitVec.ofNat 32 b.val) (hkb8 : kb < 8) (hkb : (i 1).val = kb) (hR : R = 512 * kb) (kp r : Fin 512) :
    k0_pay98 (F := Ideal) (BitVec.ofNat 32 (i 1).val) (k0_pay69 i) v7 k q (ix2 kp r) = pN kb K Q o kp.val (R + r.val) := by
  pointwise [k0_pay98, k0_pay95, k0_pay96, k0_pay97, k0_pay69]
  rw [hv7, mask_eq (hkb ▸ hkb8)]
  simp only [hk, hq, pN, dotN, hkb, hR]

include hk hv hq hd in
theorem diag_ds2 {i : grid0.Coords} {v7 : IVec S512x512 32} (hv7 : ∀ a b : Fin 512, v7 (ix2 a b) = BitVec.ofNat 32 b.val) (hkb8 : kb < 8) (hkb : (i 1).val = kb) (hR : R = 512 * kb) (kp r : Fin 512) :
    k0_pay99 (F := Ideal) (BitVec.ofNat 32 (i 1).val) (k0_pay69 i) v7 k v q d (ix2 kp r) = dsN kb K Q V D o kp.val (R + r.val) := by
  have hp := diag_p2 hk hq hv7 hkb8 hkb hR kp r
  pointwise [k0_pay99, k0_pay95, k0_pay96, k0_pay97]
  pointwise [k0_pay95, k0_pay96, k0_pay97] at hp
  simp only [hp, hv, hd, zero_add, dsN, dotN]

include hk hq hd in
theorem diag_dv2 {i : grid0.Coords} {v7 : IVec S512x512 32} (hv7 : ∀ a b : Fin 512, v7 (ix2 a b) = BitVec.ofNat 32 b.val) (hkb8 : kb < 8) (hkb : (i 1).val = kb) (hR : R = 512 * kb) (a : FVec Ideal S512x128 .f32) (kp : Fin 512) (l : Fin 128) :
    k0_pay100 (F := Ideal) (BitVec.ofNat 32 (i 1).val) (k0_pay69 i) v7 a k q d (ix2 kp l)
      = a (ix2 kp l) + ∑ r : Fin 512, pN kb K Q o kp.val (R + r.val) * D (R + r.val) (o + l.val) := by
  have hp := diag_p2 hk hq hv7 hkb8 hkb hR kp
  pointwise [k0_pay100, k0_pay95, k0_pay96, k0_pay97]
  pointwise [k0_pay95, k0_pay96, k0_pay97] at hp
  simp only [hp, hd, zero_add]

include hk hv hq hd in
theorem diag_dk2 {i : grid0.Coords} {v7 : IVec S512x512 32} (hv7 : ∀ a b : Fin 512, v7 (ix2 a b) = BitVec.ofNat 32 b.val) (hkb8 : kb < 8) (hkb : (i 1).val = kb) (hR : R = 512 * kb) (a : FVec Ideal S512x128 .f32) (kp : Fin 512) (l : Fin 128) :
    k0_pay101 (F := Ideal) (BitVec.ofNat 32 (i 1).val) (k0_pay69 i) v7 a k v q d (ix2 kp l)
      = a (ix2 kp l) + ∑ r : Fin 512, dsN kb K Q V D o kp.val (R + r.val) * Q (R + r.val) (o + l.val) := by
  have hp := diag_ds2 hk hv hq hd hv7 hkb8 hkb hR kp
  pointwise [k0_pay101, k0_pay95, k0_pay96, k0_pay97]
  pointwise [k0_pay95, k0_pay96, k0_pay97] at hp
  simp only [hp, hq, zero_add]

include hk hv hq hd in
theorem diag_dq2 {i : grid0.Coords} {v7 : IVec S512x512 32} (hv7 : ∀ a b : Fin 512, v7 (ix2 a b) = BitVec.ofNat 32 b.val) (hkb8 : kb < 8) (hkb : (i 1).val = kb) (hR : R = 512 * kb) (a : FVec Ideal S512x128 .f32) (r : Fin 512) (l : Fin 128) :
    k0_pay102 (F := Ideal) (BitVec.ofNat 32 (i 1).val) (k0_pay69 i) v7 k v q d a (ix2 r l)
      = a (ix2 r l) + ∑ kp : Fin 512, dsN kb K Q V D o kp.val (R + r.val) * K kp.val (o + l.val) := by
  have hp := fun kp => diag_ds2 hk hv hq hd hv7 hkb8 hkb hR kp r
  pointwise [k0_pay102, k0_pay95, k0_pay96, k0_pay97]
  pointwise [k0_pay95, k0_pay96, k0_pay97] at hp
  simp only [hp, hk, zero_add]

include hk hq in
theorem diag_p3 {i : grid0.Coords} {v7 : IVec S512x512 32} (hv7 : ∀ a b : Fin 512, v7 (ix2 a b) = BitVec.ofNat 32 b.val) (hkb8 : kb < 8) (hkb : (i 1).val = kb) (hR : R = 512 * kb) (kp r : Fin 512) :
    k0_pay106 (F := Ideal) (BitVec.ofNat 32 (i 1).val) (k0_pay69 i) v7 k q (ix2 kp r) = pN kb K Q o kp.val (R + r.val) := by
  pointwise [k0_pay106, k0_pay103, k0_pay104, k0_pay105, k0_pay69]
  rw [hv7, mask_eq (hkb ▸ hkb8)]
  simp only [hk, hq, pN, dotN, hkb, hR]

include hk hv hq hd in
theorem diag_ds3 {i : grid0.Coords} {v7 : IVec S512x512 32} (hv7 : ∀ a b : Fin 512, v7 (ix2 a b) = BitVec.ofNat 32 b.val) (hkb8 : kb < 8) (hkb : (i 1).val = kb) (hR : R = 512 * kb) (kp r : Fin 512) :
    k0_pay107 (F := Ideal) (BitVec.ofNat 32 (i 1).val) (k0_pay69 i) v7 k v q d (ix2 kp r) = dsN kb K Q V D o kp.val (R + r.val) := by
  have hp := diag_p3 hk hq hv7 hkb8 hkb hR kp r
  pointwise [k0_pay107, k0_pay103, k0_pay104, k0_pay105]
  pointwise [k0_pay103, k0_pay104, k0_pay105] at hp
  simp only [hp, hv, hd, zero_add, dsN, dotN]

include hk hq hd in
theorem diag_dv3 {i : grid0.Coords} {v7 : IVec S512x512 32} (hv7 : ∀ a b : Fin 512, v7 (ix2 a b) = BitVec.ofNat 32 b.val) (hkb8 : kb < 8) (hkb : (i 1).val = kb) (hR : R = 512 * kb) (a : FVec Ideal S512x128 .f32) (kp : Fin 512) (l : Fin 128) :
    k0_pay108 (F := Ideal) (BitVec.ofNat 32 (i 1).val) (k0_pay69 i) v7 a k q d (ix2 kp l)
      = a (ix2 kp l) + ∑ r : Fin 512, pN kb K Q o kp.val (R + r.val) * D (R + r.val) (o + l.val) := by
  have hp := diag_p3 hk hq hv7 hkb8 hkb hR kp
  pointwise [k0_pay108, k0_pay103, k0_pay104, k0_pay105]
  pointwise [k0_pay103, k0_pay104, k0_pay105] at hp
  simp only [hp, hd, zero_add]

include hk hv hq hd in
theorem diag_dk3 {i : grid0.Coords} {v7 : IVec S512x512 32} (hv7 : ∀ a b : Fin 512, v7 (ix2 a b) = BitVec.ofNat 32 b.val) (hkb8 : kb < 8) (hkb : (i 1).val = kb) (hR : R = 512 * kb) (a : FVec Ideal S512x128 .f32) (kp : Fin 512) (l : Fin 128) :
    k0_pay109 (F := Ideal) (BitVec.ofNat 32 (i 1).val) (k0_pay69 i) v7 a k v q d (ix2 kp l)
      = a (ix2 kp l) + ∑ r : Fin 512, dsN kb K Q V D o kp.val (R + r.val) * Q (R + r.val) (o + l.val) := by
  have hp := diag_ds3 hk hv hq hd hv7 hkb8 hkb hR kp
  pointwise [k0_pay109, k0_pay103, k0_pay104, k0_pay105]
  pointwise [k0_pay103, k0_pay104, k0_pay105] at hp
  simp only [hp, hq, zero_add]

include hk hv hq hd in
theorem diag_dq3 {i : grid0.Coords} {v7 : IVec S512x512 32} (hv7 : ∀ a b : Fin 512, v7 (ix2 a b) = BitVec.ofNat 32 b.val) (hkb8 : kb < 8) (hkb : (i 1).val = kb) (hR : R = 512 * kb) (a : FVec Ideal S512x128 .f32) (r : Fin 512) (l : Fin 128) :
    k0_pay110 (F := Ideal) (BitVec.ofNat 32 (i 1).val) (k0_pay69 i) v7 k v q d a (ix2 r l)
      = a (ix2 r l) + ∑ kp : Fin 512, dsN kb K Q V D o kp.val (R + r.val) * K kp.val (o + l.val) := by
  have hp := fun kp => diag_ds3 hk hv hq hd hv7 hkb8 hkb hR kp r
  pointwise [k0_pay110, k0_pay103, k0_pay104, k0_pay105]
  pointwise [k0_pay103, k0_pay104, k0_pay105] at hp
  simp only [hp, hk, zero_add]

end tile

end Cert.KernelIdeal.Tile
end
-- ==== Proof.Loop.lean ====
module

public import proofs.«01_k».proof.Proof.Tile
public import proofs.«01_k».proof.Proof.Gen.KernelIdeal.Loops
public import Idealize.ShloMosaic.Lib.VecWindow
public import Idealize.ShloMosaic.Lib.WritesUnit

/-! The loop over the query rows below the diagonal tile, over the extended reals.

The carried values are the sums, over the query rows met so far, of what each key's gradients take from a row; the
stores add to each query row what it takes from the 512 keys of the block.  Both are stated for the four heads at once. -/

@[expose] public section

set_option maxRecDepth 16384

noncomputable section

namespace Cert.KernelIdeal.Loop

open Idealize.ShloMosaic Idealize.ShloMosaic.TcCoe Idealize.ShloMosaic.Tactic
open Idealize.SL.Sem
open Cert.KernelIdeal Cert.KernelIdeal.Gen Cert.KernelIdeal.Tile

/-! ## Where the loads and stores fall -/

theorem off1_eq : ∀ i : grid0.Coords, k0_off1 i = ![512 * (i 1).val, 128 * 0] := by decide +kernel
theorem off2_eq : ∀ i : grid0.Coords, k0_off2 i = ![512 * (i 1).val, 128 * 1] := by decide +kernel
theorem off3_eq : ∀ i : grid0.Coords, k0_off3 i = ![512 * (i 1).val, 128 * 2] := by decide +kernel
theorem off4_eq : ∀ i : grid0.Coords, k0_off4 i = ![512 * (i 1).val, 128 * 3] := by decide +kernel
theorem off5_eq : ∀ (i : grid0.Coords) (k : Fin (k0_t1_loop i).trips), k0_off5 i k = ![512 * ((i 1).val + 1 + k.val), 128 * 0] := by decide +kernel
theorem off6_eq : ∀ (i : grid0.Coords) (k : Fin (k0_t1_loop i).trips), k0_off6 i k = ![512 * ((i 1).val + 1 + k.val), 128 * 1] := by decide +kernel
theorem off7_eq : ∀ (i : grid0.Coords) (k : Fin (k0_t1_loop i).trips), k0_off7 i k = ![512 * ((i 1).val + 1 + k.val), 128 * 2] := by decide +kernel
theorem off8_eq : ∀ (i : grid0.Coords) (k : Fin (k0_t1_loop i).trips), k0_off8 i k = ![512 * ((i 1).val + 1 + k.val), 128 * 3] := by decide +kernel
theorem trips1_eq : ∀ i : grid0.Coords, (k0_t1_loop i).trips = 7 - (i 1).val := by decide +kernel
theorem trips2_eq : ∀ i : grid0.Coords, (k0_t2_loop i).trips = 0 := by decide +kernel

/-- A load of a tile reads the buffer at the tile's rows and columns. -/
theorem readAt_tile {sig : RefSig} {κ : Kind} {sp : Space} {e : EltTy} {Val : EltTy → Type} {n0 n1 : ℕ}
    (v : View sig κ sp (⟨2, ![n0, n1]⟩ : Shape) e) (f : v.ty.Contents Val) {off : Fin 2 → ℕ} {R o : ℕ}
    (inb : ∀ a, off a + S512x128.size a ≤ (⟨2, ![n0, n1]⟩ : Shape).size a) (hoff : off = ![R, o])
    {G : ℕ → ℕ → Val e} (hG : ∀ (a : Fin n0) (b : Fin n1), v.read Val f (ix2 a b) = G a.val b.val) (r : Fin 512) (l : Fin 128) :
    v.readAt Val (Rect.unit (s := ⟨2, ![n0, n1]⟩) off S512x128.size inb).toLoadRect f (ix2 r l) = G (R + r.val) (o + l.val) := by
  subst hoff
  have h0 : R + r.val < n0 := by have := inb 0; have := r.isLt; simp [S512x128] at *; omega
  have h1 : o + l.val < n1 := by have := inb 1; have := l.isLt; simp [S512x128] at *; omega
  rw [View.readAt_unit v f inb rfl inb, ← hG ⟨R + r.val, h0⟩ ⟨o + l.val, h1⟩]
  refine congrArg (v.read Val f) (funext fun a => Fin.ext ?_)
  match a with
  | 0 => show R + 1 * r.val = R + r.val; omega
  | 1 => show o + 1 * l.val = o + l.val; omega

/-- `G` with `Δ` added on the rows from `lo` up to `hi`. -/
def mid (G Δ : ℕ → ℕ → EReal) (lo hi : ℕ) (a b : ℕ) : EReal := if lo ≤ a ∧ a < hi then G a b + Δ a b else G a b

theorem mid_self (G Δ : ℕ → ℕ → EReal) (lo : ℕ) (a b : ℕ) : mid G Δ lo lo a b = G a b := if_neg (by omega)

section pieces

variable {sig : RefSig} {κ : Kind} {sp : Space} (v : View sig κ sp S4096x512 .f32) (f : v.ty.Contents (Elt Ideal))

/-- One stored tile: inside it the sum is read, outside it what was there. -/
theorem read_piece {off : Fin 2 → ℕ} {R o : ℕ} (inb : ∀ a, off a + S512x128.size a ≤ S4096x512.size a) (w : FVec Ideal S512x128 .f32)
    (L : List (View.Piece (Elt Ideal) S4096x512 .f32)) (hoff : off = ![R, o]) {G W : ℕ → ℕ → EReal}
    (hG : ∀ (a : Fin 4096) (b : Fin 512), v.read (Elt Ideal) (v.writes (Elt Ideal) f L) (ix2 a b) = G a.val b.val)
    (hw : ∀ (r : Fin 512) (l : Fin 128), w (ix2 r l) = W (R + r.val) (o + l.val)) (a : Fin 4096) (b : Fin 512) :
    v.read (Elt Ideal) (v.writes (Elt Ideal) f (⟨Rect.unit (s := S4096x512) off S512x128.size inb, w⟩ :: L)) (ix2 a b)
      = if (R ≤ a.val ∧ a.val < R + 512) ∧ (o ≤ b.val ∧ b.val < o + 128) then W a.val b.val else G a.val b.val := by
  by_cases h : (R ≤ a.val ∧ a.val < R + 512) ∧ (o ≤ b.val ∧ b.val < o + 128)
  · rw [if_pos h]
    obtain ⟨⟨h1, h2⟩, h3, h4⟩ := h
    have e := View.read_writes_cons_unit_of_mem v f inb w L (ix2 a b)
      (ix2 (⟨a.val - R, by omega⟩ : Fin 512) (⟨b.val - o, by omega⟩ : Fin 128)) hoff (fun x => by
        match x with
        | 0 => show a.val = R + (a.val - R); omega
        | 1 => show b.val = o + (b.val - o); omega)
    refine e.trans ((hw _ _).trans ?_)
    show W (R + (a.val - R)) (o + (b.val - o)) = _
    rw [show R + (a.val - R) = a.val by omega, show o + (b.val - o) = b.val by omega]
  · rw [if_neg h, ← hG]
    by_cases h1 : R ≤ a.val ∧ a.val < R + 512
    · exact View.read_writes_cons_unit_of_not_mem v f inb w L (ix2 a b) hoff 1 (by
        show b.val < o ∨ o + 128 ≤ b.val; omega)
    · exact View.read_writes_cons_unit_of_not_mem v f inb w L (ix2 a b) hoff 0 (by
        show a.val < R ∨ R + 512 ≤ a.val; omega)

/-- The four tiles of a row block, stored one after the other. -/
theorem read_four {off1 off2 off3 off4 : Fin 2 → ℕ} {R lo : ℕ}
    (inb1 : ∀ a, off1 a + S512x128.size a ≤ S4096x512.size a) (inb2 : ∀ a, off2 a + S512x128.size a ≤ S4096x512.size a)
    (inb3 : ∀ a, off3 a + S512x128.size a ≤ S4096x512.size a) (inb4 : ∀ a, off4 a + S512x128.size a ≤ S4096x512.size a)
    (w1 w2 w3 w4 : FVec Ideal S512x128 .f32) (L : List (View.Piece (Elt Ideal) S4096x512 .f32))
    (h1 : off1 = ![R, 128 * 0]) (h2 : off2 = ![R, 128 * 1]) (h3 : off3 = ![R, 128 * 2]) (h4 : off4 = ![R, 128 * 3])
    {G Δ : ℕ → ℕ → EReal} (hlo : lo ≤ R)
    (hG : ∀ (a : Fin 4096) (b : Fin 512), v.read (Elt Ideal) (v.writes (Elt Ideal) f L) (ix2 a b) = mid G Δ lo R a.val b.val)
    (hw1 : ∀ (r : Fin 512) (l : Fin 128), w1 (ix2 r l) = G (R + r.val) (128 * 0 + l.val) + Δ (R + r.val) (128 * 0 + l.val))
    (hw2 : ∀ (r : Fin 512) (l : Fin 128), w2 (ix2 r l) = G (R + r.val) (128 * 1 + l.val) + Δ (R + r.val) (128 * 1 + l.val))
    (hw3 : ∀ (r : Fin 512) (l : Fin 128), w3 (ix2 r l) = G (R + r.val) (128 * 2 + l.val) + Δ (R + r.val) (128 * 2 + l.val))
    (hw4 : ∀ (r : Fin 512) (l : Fin 128), w4 (ix2 r l) = G (R + r.val) (128 * 3 + l.val) + Δ (R + r.val) (128 * 3 + l.val))
    (a : Fin 4096) (b : Fin 512) :
    v.read (Elt Ideal) (v.writes (Elt Ideal) f
        (⟨Rect.unit (s := S4096x512) off4 S512x128.size inb4, w4⟩ :: ⟨Rect.unit (s := S4096x512) off3 S512x128.size inb3, w3⟩
          :: ⟨Rect.unit (s := S4096x512) off2 S512x128.size inb2, w2⟩ :: ⟨Rect.unit (s := S4096x512) off1 S512x128.size inb1, w1⟩ :: L)) (ix2 a b)
      = mid G Δ lo (R + 512) a.val b.val := by
  let put (o : ℕ) (X : ℕ → ℕ → EReal) : ℕ → ℕ → EReal := fun x y =>
    if (R ≤ x ∧ x < R + 512) ∧ (o ≤ y ∧ y < o + 128) then G x y + Δ x y else X x y
  have p1 := read_piece v f inb1 w1 L h1 (G := mid G Δ lo R) (W := fun x y => G x y + Δ x y) hG hw1
  have p2 := read_piece v f inb2 w2 _ h2 (G := put (128 * 0) (mid G Δ lo R)) (W := fun x y => G x y + Δ x y) p1 hw2
  have p3 := read_piece v f inb3 w3 _ h3 (G := put (128 * 1) (put (128 * 0) (mid G Δ lo R))) (W := fun x y => G x y + Δ x y) p2 hw3
  have p4 := read_piece v f inb4 w4 _ h4 (G := put (128 * 2) (put (128 * 1) (put (128 * 0) (mid G Δ lo R)))) (W := fun x y => G x y + Δ x y) p3 hw4
  refine (p4 a b).trans ?_
  have hb := b.isLt
  simp only [put]
  unfold mid
  by_cases hin : R ≤ a.val ∧ a.val < R + 512
  · rw [if_pos (show lo ≤ a.val ∧ a.val < R + 512 by omega)]
    simp only [hin, true_and]
    split_ifs <;> first | rfl | (exfalso; omega)
  · simp only [hin, false_and, if_false]
    by_cases hm : lo ≤ a.val ∧ a.val < R
    · rw [if_pos hm, if_pos (by omega)]
    · rw [if_neg hm, if_neg (by omega)]

end pieces

/-! ## The sums -/

/-- What the key gradient of key `kp` takes from the first `N` query rows, in the head at column `o`. -/
def dkO (kb : ℕ) (K Q V D : ℕ → ℕ → EReal) (N o kp l : ℕ) : EReal :=
  ∑ r ∈ Finset.range N, dsN kb K Q V D o kp r * Q r (o + l)

/-- What the value gradient of key `kp` takes from the first `N` query rows, in the head at column `o`. -/
def dvO (kb : ℕ) (K Q D : ℕ → ℕ → EReal) (N o kp l : ℕ) : EReal :=
  ∑ r ∈ Finset.range N, pN kb K Q o kp r * D r (o + l)

/-- What the query gradient of row `r` takes from the 512 keys of key block `kb`, at column `b`. -/
def dqO (kb : ℕ) (K Q V D : ℕ → ℕ → EReal) (r b : ℕ) : EReal :=
  ∑ kp : Fin 512, dsN kb K Q V D (128 * (b / 128)) kp.val r * K kp.val b

theorem dqO_head (kb : ℕ) (K Q V D : ℕ → ℕ → EReal) (r h : ℕ) (l : Fin 128) :
    dqO kb K Q V D r (128 * h + l.val) = ∑ kp : Fin 512, dsN kb K Q V D (128 * h) kp.val r * K kp.val (128 * h + l.val) := by
  have := l.isLt
  rw [dqO, show (128 * h + l.val) / 128 = h by omega]

theorem dqO_before (kb : ℕ) (K Q V D : ℕ → ℕ → EReal) {r : ℕ} (b : ℕ) (h : r < 512 * kb) : dqO kb K Q V D r b = 0 :=
  Finset.sum_eq_zero fun kp _ => by rw [dsN_of_lt (by omega), zero_mul]

theorem dkO_first (kb : ℕ) (K Q V D : ℕ → ℕ → EReal) (o : ℕ) (kp l : ℕ) : dkO kb K Q V D (512 * kb) o kp l = 0 :=
  Finset.sum_eq_zero fun r hr => by rw [dsN_of_lt (by have := Finset.mem_range.mp hr; omega), zero_mul]

theorem dvO_first (kb : ℕ) (K Q D : ℕ → ℕ → EReal) (o : ℕ) (kp l : ℕ) : dvO kb K Q D (512 * kb) o kp l = 0 :=
  Finset.sum_eq_zero fun r hr => by rw [pN_of_lt (by have := Finset.mem_range.mp hr; omega), zero_mul]

theorem dkO_step (kb : ℕ) (K Q V D : ℕ → ℕ → EReal) (R o : ℕ) (kp l : ℕ) :
    dkO kb K Q V D R o kp l + ∑ r : Fin 512, dsN kb K Q V D o kp (R + r.val) * Q (R + r.val) (o + l) = dkO kb K Q V D (R + 512) o kp l :=
  sum_tile (fun r => dsN kb K Q V D o kp r * Q r (o + l)) R

theorem dvO_step (kb : ℕ) (K Q D : ℕ → ℕ → EReal) (R o : ℕ) (kp l : ℕ) :
    dvO kb K Q D R o kp l + ∑ r : Fin 512, pN kb K Q o kp (R + r.val) * D (R + r.val) (o + l) = dvO kb K Q D (R + 512) o kp l :=
  sum_tile (fun r => pN kb K Q o kp r * D r (o + l)) R

/-- A tile of the key gradient over the first `N` query rows. -/
def DkIs (kb : ℕ) (K Q V D : ℕ → ℕ → EReal) (N o : ℕ) (x : FVec Ideal S512x128 .f32) : Prop :=
  ∀ (kp : Fin 512) (l : Fin 128), x (ix2 kp l) = dkO kb K Q V D N o kp.val l.val

/-- A tile of the value gradient over the first `N` query rows. -/
def DvIs (kb : ℕ) (K Q D : ℕ → ℕ → EReal) (N o : ℕ) (x : FVec Ideal S512x128 .f32) : Prop :=
  ∀ (kp : Fin 512) (l : Fin 128), x (ix2 kp l) = dvO kb K Q D N o kp.val l.val

/-- The eight carried tiles are the gradients over the first `N` query rows. -/
structure AccOK (kb : ℕ) (K Q V D : ℕ → ℕ → EReal) (N : ℕ) (a : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32) : Prop where
  k0 : DkIs kb K Q V D N (128 * 0) a.1
  v0 : DvIs kb K Q D N (128 * 0) a.2.1
  k1 : DkIs kb K Q V D N (128 * 1) a.2.2.1
  v1 : DvIs kb K Q D N (128 * 1) a.2.2.2.1
  k2 : DkIs kb K Q V D N (128 * 2) a.2.2.2.2.1
  v2 : DvIs kb K Q D N (128 * 2) a.2.2.2.2.2.1
  k3 : DkIs kb K Q V D N (128 * 3) a.2.2.2.2.2.2.1
  v3 : DvIs kb K Q D N (128 * 3) a.2.2.2.2.2.2.2

section trip

variable {kb : ℕ} {K Q V D G : ℕ → ℕ → EReal}

set_option maxHeartbeats 1000000 in
/-- One trip adds its 512 query rows to the carried sums. -/
theorem trip_acc (𝒱 : Variants) (c : Dev nD) (bd : Option 𝒱.V) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .f32) (harg6 : arg6.IsWhole) (arg7 : Memref sig .tc .vmem S512x512 .bf16) (harg7 : arg7.IsWhole) (arg8 : Memref sig .tc .vmem S512x512 .bf16) (harg8 : arg8.IsWhole) (arg1 : BitVec 32) (v6 : IVec S512x512 32) (v7 : IVec S512x512 32) (v14 : FVec Ideal S512x128 .f32) (v15 : FVec Ideal S512x128 .f32) (v17 : BitVec 32) (v41 : FVec Ideal S512x128 .f32) (v43 : FVec Ideal S512x128 .f32) (v74 : FVec Ideal S512x128 .f32) (v76 : FVec Ideal S512x128 .f32) (v107 : FVec Ideal S512x128 .f32) (v109 : FVec Ideal S512x128 .f32) (v150 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)
    (hkb : (i 1).val = kb)
    (hX2 : ∀ (a : Fin 4096) (b : Fin 512), arg2.view.read (Elt Ideal) X_arg2 (ix2 a b) = Q a.val b.val)
    (hX3 : ∀ (a : Fin 512) (b : Fin 512), arg3.view.read (Elt Ideal) X_arg3 (ix2 a b) = K a.val b.val)
    (hX4 : ∀ (a : Fin 512) (b : Fin 512), arg4.view.read (Elt Ideal) X_arg4 (ix2 a b) = V a.val b.val)
    (hX5 : ∀ (a : Fin 4096) (b : Fin 512), arg5.view.read (Elt Ideal) X_arg5 (ix2 a b) = D a.val b.val)
    (k : Fin (k0_t1_loop i).trips) (acc : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32) (f_arg6 : BufTy.Contents (Elt Ideal) arg6.view.ty)
    (hacc : AccOK kb K Q V D (512 * (kb + 1 + k.val)) acc) :
    AccOK kb K Q V D (512 * (kb + 1 + k.val) + 512) (tripR_k0_t1 (F := Ideal) 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 k acc f_arg6) := by
  subst hkb
  have hR : 512 * (i 1).val + 512 ≤ 512 * ((i 1).val + 1 + k.val) := by omega
  have hk0 := fun (a : Fin 512) (l : Fin 128) => (readAt_tile arg3.view X_arg3 (R := 0) (o := 128 * 0) inb_S512x512_S512x128_0_0 rfl hX3 a l).trans (congrArg (K · (128 * 0 + l.val)) (Nat.zero_add a.val))
  have hv0 := fun (a : Fin 512) (l : Fin 128) => (readAt_tile arg4.view X_arg4 (R := 0) (o := 128 * 0) inb_S512x512_S512x128_0_0 rfl hX4 a l).trans (congrArg (V · (128 * 0 + l.val)) (Nat.zero_add a.val))
  have hq0 := readAt_tile arg2.view X_arg2 (k0_off5_inb i k) (off5_eq i k) hX2
  have hd0 := readAt_tile arg5.view X_arg5 (k0_off5_inb i k) (off5_eq i k) hX5
  have hk1 := fun (a : Fin 512) (l : Fin 128) => (readAt_tile arg3.view X_arg3 (R := 0) (o := 128 * 1) inb_S512x512_S512x128_0_128 rfl hX3 a l).trans (congrArg (K · (128 * 1 + l.val)) (Nat.zero_add a.val))
  have hv1 := fun (a : Fin 512) (l : Fin 128) => (readAt_tile arg4.view X_arg4 (R := 0) (o := 128 * 1) inb_S512x512_S512x128_0_128 rfl hX4 a l).trans (congrArg (V · (128 * 1 + l.val)) (Nat.zero_add a.val))
  have hq1 := readAt_tile arg2.view X_arg2 (k0_off6_inb i k) (off6_eq i k) hX2
  have hd1 := readAt_tile arg5.view X_arg5 (k0_off6_inb i k) (off6_eq i k) hX5
  have hk2 := fun (a : Fin 512) (l : Fin 128) => (readAt_tile arg3.view X_arg3 (R := 0) (o := 128 * 2) inb_S512x512_S512x128_0_256 rfl hX3 a l).trans (congrArg (K · (128 * 2 + l.val)) (Nat.zero_add a.val))
  have hv2 := fun (a : Fin 512) (l : Fin 128) => (readAt_tile arg4.view X_arg4 (R := 0) (o := 128 * 2) inb_S512x512_S512x128_0_256 rfl hX4 a l).trans (congrArg (V · (128 * 2 + l.val)) (Nat.zero_add a.val))
  have hq2 := readAt_tile arg2.view X_arg2 (k0_off7_inb i k) (off7_eq i k) hX2
  have hd2 := readAt_tile arg5.view X_arg5 (k0_off7_inb i k) (off7_eq i k) hX5
  have hk3 := fun (a : Fin 512) (l : Fin 128) => (readAt_tile arg3.view X_arg3 (R := 0) (o := 128 * 3) inb_S512x512_S512x128_0_384 rfl hX3 a l).trans (congrArg (K · (128 * 3 + l.val)) (Nat.zero_add a.val))
  have hv3 := fun (a : Fin 512) (l : Fin 128) => (readAt_tile arg4.view X_arg4 (R := 0) (o := 128 * 3) inb_S512x512_S512x128_0_384 rfl hX4 a l).trans (congrArg (V · (128 * 3 + l.val)) (Nat.zero_add a.val))
  have hq3 := readAt_tile arg2.view X_arg2 (k0_off8_inb i k) (off8_eq i k) hX2
  have hd3 := readAt_tile arg5.view X_arg5 (k0_off8_inb i k) (off8_eq i k) hX5
  unfold tripR_k0_t1; unfold trip_k0_t1; dsimp only
  exact
    { k0 := fun kp l => (loop_dk0 hk0 hv0 hq0 hd0 hR _ kp l).trans ((congrArg (· + _) (hacc.k0 kp l)).trans (dkO_step ..))
      v0 := fun kp l => (loop_dv0 hk0 hq0 hd0 hR _ kp l).trans ((congrArg (· + _) (hacc.v0 kp l)).trans (dvO_step ..))
      k1 := fun kp l => (loop_dk1 hk1 hv1 hq1 hd1 hR _ kp l).trans ((congrArg (· + _) (hacc.k1 kp l)).trans (dkO_step ..))
      v1 := fun kp l => (loop_dv1 hk1 hq1 hd1 hR _ kp l).trans ((congrArg (· + _) (hacc.v1 kp l)).trans (dvO_step ..))
      k2 := fun kp l => (loop_dk2 hk2 hv2 hq2 hd2 hR _ kp l).trans ((congrArg (· + _) (hacc.k2 kp l)).trans (dkO_step ..))
      v2 := fun kp l => (loop_dv2 hk2 hq2 hd2 hR _ kp l).trans ((congrArg (· + _) (hacc.v2 kp l)).trans (dvO_step ..))
      k3 := fun kp l => (loop_dk3 hk3 hv3 hq3 hd3 hR _ kp l).trans ((congrArg (· + _) (hacc.k3 kp l)).trans (dkO_step ..))
      v3 := fun kp l => (loop_dv3 hk3 hq3 hd3 hR _ kp l).trans ((congrArg (· + _) (hacc.v3 kp l)).trans (dvO_step ..)) }

set_option maxHeartbeats 1000000 in
/-- One trip's stores add to its 512 query rows what they take from the block's keys. -/
theorem trip_dq (𝒱 : Variants) (c : Dev nD) (bd : Option 𝒱.V) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .f32) (harg6 : arg6.IsWhole) (arg7 : Memref sig .tc .vmem S512x512 .bf16) (harg7 : arg7.IsWhole) (arg8 : Memref sig .tc .vmem S512x512 .bf16) (harg8 : arg8.IsWhole) (arg1 : BitVec 32) (v6 : IVec S512x512 32) (v7 : IVec S512x512 32) (v14 : FVec Ideal S512x128 .f32) (v15 : FVec Ideal S512x128 .f32) (v17 : BitVec 32) (v41 : FVec Ideal S512x128 .f32) (v43 : FVec Ideal S512x128 .f32) (v74 : FVec Ideal S512x128 .f32) (v76 : FVec Ideal S512x128 .f32) (v107 : FVec Ideal S512x128 .f32) (v109 : FVec Ideal S512x128 .f32) (v150 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)
    (hkb : (i 1).val = kb)
    (hX2 : ∀ (a : Fin 4096) (b : Fin 512), arg2.view.read (Elt Ideal) X_arg2 (ix2 a b) = Q a.val b.val)
    (hX3 : ∀ (a : Fin 512) (b : Fin 512), arg3.view.read (Elt Ideal) X_arg3 (ix2 a b) = K a.val b.val)
    (hX4 : ∀ (a : Fin 512) (b : Fin 512), arg4.view.read (Elt Ideal) X_arg4 (ix2 a b) = V a.val b.val)
    (hX5 : ∀ (a : Fin 4096) (b : Fin 512), arg5.view.read (Elt Ideal) X_arg5 (ix2 a b) = D a.val b.val)
    (k : Fin (k0_t1_loop i).trips) (acc : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32) (G_arg6 : BufTy.Contents (Elt Ideal) arg6.view.ty)
    (L : List (View.Piece (Elt Ideal) S4096x512 .f32))
    (hG : ∀ (a : Fin 4096) (b : Fin 512), arg6.view.read (Elt Ideal) (arg6.view.writes (Elt Ideal) G_arg6 L) (ix2 a b)
      = mid G (dqO kb K Q V D) (512 * kb) (512 * (kb + 1 + k.val)) a.val b.val)
    (a : Fin 4096) (b : Fin 512) :
    arg6.view.read (Elt Ideal) (arg6.view.writes (Elt Ideal) G_arg6 (tripL_k0_t1 (F := Ideal) 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 k acc (arg6.view.writes (Elt Ideal) G_arg6 L) ++ L)) (ix2 a b)
      = mid G (dqO kb K Q V D) (512 * kb) (512 * (kb + 1 + k.val) + 512) a.val b.val := by
  subst hkb
  have hR : 512 * (i 1).val + 512 ≤ 512 * ((i 1).val + 1 + k.val) := by omega
  have hk0 := fun (a : Fin 512) (l : Fin 128) => (readAt_tile arg3.view X_arg3 (R := 0) (o := 128 * 0) inb_S512x512_S512x128_0_0 rfl hX3 a l).trans (congrArg (K · (128 * 0 + l.val)) (Nat.zero_add a.val))
  have hv0 := fun (a : Fin 512) (l : Fin 128) => (readAt_tile arg4.view X_arg4 (R := 0) (o := 128 * 0) inb_S512x512_S512x128_0_0 rfl hX4 a l).trans (congrArg (V · (128 * 0 + l.val)) (Nat.zero_add a.val))
  have hq0 := readAt_tile arg2.view X_arg2 (k0_off5_inb i k) (off5_eq i k) hX2
  have hd0 := readAt_tile arg5.view X_arg5 (k0_off5_inb i k) (off5_eq i k) hX5
  have hk1 := fun (a : Fin 512) (l : Fin 128) => (readAt_tile arg3.view X_arg3 (R := 0) (o := 128 * 1) inb_S512x512_S512x128_0_128 rfl hX3 a l).trans (congrArg (K · (128 * 1 + l.val)) (Nat.zero_add a.val))
  have hv1 := fun (a : Fin 512) (l : Fin 128) => (readAt_tile arg4.view X_arg4 (R := 0) (o := 128 * 1) inb_S512x512_S512x128_0_128 rfl hX4 a l).trans (congrArg (V · (128 * 1 + l.val)) (Nat.zero_add a.val))
  have hq1 := readAt_tile arg2.view X_arg2 (k0_off6_inb i k) (off6_eq i k) hX2
  have hd1 := readAt_tile arg5.view X_arg5 (k0_off6_inb i k) (off6_eq i k) hX5
  have hk2 := fun (a : Fin 512) (l : Fin 128) => (readAt_tile arg3.view X_arg3 (R := 0) (o := 128 * 2) inb_S512x512_S512x128_0_256 rfl hX3 a l).trans (congrArg (K · (128 * 2 + l.val)) (Nat.zero_add a.val))
  have hv2 := fun (a : Fin 512) (l : Fin 128) => (readAt_tile arg4.view X_arg4 (R := 0) (o := 128 * 2) inb_S512x512_S512x128_0_256 rfl hX4 a l).trans (congrArg (V · (128 * 2 + l.val)) (Nat.zero_add a.val))
  have hq2 := readAt_tile arg2.view X_arg2 (k0_off7_inb i k) (off7_eq i k) hX2
  have hd2 := readAt_tile arg5.view X_arg5 (k0_off7_inb i k) (off7_eq i k) hX5
  have hk3 := fun (a : Fin 512) (l : Fin 128) => (readAt_tile arg3.view X_arg3 (R := 0) (o := 128 * 3) inb_S512x512_S512x128_0_384 rfl hX3 a l).trans (congrArg (K · (128 * 3 + l.val)) (Nat.zero_add a.val))
  have hv3 := fun (a : Fin 512) (l : Fin 128) => (readAt_tile arg4.view X_arg4 (R := 0) (o := 128 * 3) inb_S512x512_S512x128_0_384 rfl hX4 a l).trans (congrArg (V · (128 * 3 + l.val)) (Nat.zero_add a.val))
  have hq3 := readAt_tile arg2.view X_arg2 (k0_off8_inb i k) (off8_eq i k) hX2
  have hd3 := readAt_tile arg5.view X_arg5 (k0_off8_inb i k) (off8_eq i k) hX5
  have hrow : ∀ (r : Fin 512) (x : ℕ), mid G (dqO (i 1).val K Q V D) (512 * (i 1).val) (512 * ((i 1).val + 1 + k.val)) (512 * ((i 1).val + 1 + k.val) + r.val) x
      = G (512 * ((i 1).val + 1 + k.val) + r.val) x := fun r x => if_neg (by omega)
  have hg0 := fun r l => (readAt_tile arg6.view (arg6.view.writes (Elt Ideal) G_arg6 L) (k0_off5_inb i k) (off5_eq i k) hG r l).trans (hrow r _)
  have hg1 := fun r l => (readAt_tile arg6.view (arg6.view.writes (Elt Ideal) G_arg6 L) (k0_off6_inb i k) (off6_eq i k) hG r l).trans (hrow r _)
  have hg2 := fun r l => (readAt_tile arg6.view (arg6.view.writes (Elt Ideal) G_arg6 L) (k0_off7_inb i k) (off7_eq i k) hG r l).trans (hrow r _)
  have hg3 := fun r l => (readAt_tile arg6.view (arg6.view.writes (Elt Ideal) G_arg6 L) (k0_off8_inb i k) (off8_eq i k) hG r l).trans (hrow r _)
  unfold tripL_k0_t1; unfold trip_k0_t1; dsimp only
  exact read_four arg6.view G_arg6 (k0_off5_inb i k) (k0_off6_inb i k) (k0_off7_inb i k) (k0_off8_inb i k) _ _ _ _ L (off5_eq i k) (off6_eq i k) (off7_eq i k) (off8_eq i k)
    (by omega) hG
    (fun r l => (loop_dq0 hk0 hv0 hq0 hd0 hR _ r l).trans (congrArg₂ (· + ·) (hg0 r l) (dqO_head ..).symm))
    (fun r l => (loop_dq1 hk1 hv1 hq1 hd1 hR _ r l).trans (congrArg₂ (· + ·) (hg1 r l) (dqO_head ..).symm))
    (fun r l => (loop_dq2 hk2 hv2 hq2 hd2 hR _ r l).trans (congrArg₂ (· + ·) (hg2 r l) (dqO_head ..).symm))
    (fun r l => (loop_dq3 hk3 hv3 hq3 hd3 hR _ r l).trans (congrArg₂ (· + ·) (hg3 r l) (dqO_head ..).symm)) a b

/-- The state after `n` trips: the carried sums are over the rows before trip `n`, and so are the stored rows. -/
theorem state_ok (𝒱 : Variants) (c : Dev nD) (bd : Option 𝒱.V) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .f32) (harg6 : arg6.IsWhole) (arg7 : Memref sig .tc .vmem S512x512 .bf16) (harg7 : arg7.IsWhole) (arg8 : Memref sig .tc .vmem S512x512 .bf16) (harg8 : arg8.IsWhole) (arg1 : BitVec 32) (v6 : IVec S512x512 32) (v7 : IVec S512x512 32) (v14 : FVec Ideal S512x128 .f32) (v15 : FVec Ideal S512x128 .f32) (v17 : BitVec 32) (v41 : FVec Ideal S512x128 .f32) (v43 : FVec Ideal S512x128 .f32) (v74 : FVec Ideal S512x128 .f32) (v76 : FVec Ideal S512x128 .f32) (v107 : FVec Ideal S512x128 .f32) (v109 : FVec Ideal S512x128 .f32) (v150 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)
    (hkb : (i 1).val = kb)
    (hX2 : ∀ (a : Fin 4096) (b : Fin 512), arg2.view.read (Elt Ideal) X_arg2 (ix2 a b) = Q a.val b.val)
    (hX3 : ∀ (a : Fin 512) (b : Fin 512), arg3.view.read (Elt Ideal) X_arg3 (ix2 a b) = K a.val b.val)
    (hX4 : ∀ (a : Fin 512) (b : Fin 512), arg4.view.read (Elt Ideal) X_arg4 (ix2 a b) = V a.val b.val)
    (hX5 : ∀ (a : Fin 4096) (b : Fin 512), arg5.view.read (Elt Ideal) X_arg5 (ix2 a b) = D a.val b.val)
    (G_arg6 : BufTy.Contents (Elt Ideal) arg6.view.ty) (init : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32)
    (hinit : AccOK kb K Q V D (512 * kb + 512) init)
    (hG : ∀ (a : Fin 4096) (b : Fin 512), arg6.view.read (Elt Ideal) G_arg6 (ix2 a b)
      = mid G (dqO kb K Q V D) (512 * kb) (512 * kb + 512) a.val b.val) :
    ∀ n : ℕ, n ≤ (k0_t1_loop i).trips →
      AccOK kb K Q V D (512 * (kb + 1 + n)) (st_k0_t1 (F := Ideal) 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 G_arg6 init n).1
      ∧ ∀ (a : Fin 4096) (b : Fin 512), arg6.view.read (Elt Ideal) (arg6.view.writes (Elt Ideal) G_arg6 (st_k0_t1 (F := Ideal) 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 G_arg6 init n).2) (ix2 a b)
        = mid G (dqO kb K Q V D) (512 * kb) (512 * (kb + 1 + n)) a.val b.val := by
  intro n
  induction n with
  | zero => exact fun _ => ⟨hinit, hG⟩
  | succ n ih =>
    intro hn
    have ih := ih (by omega)
    have e := st_k0_t1_succ (F := Ideal) 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 G_arg6 init ⟨n, hn⟩
    dsimp only at e
    rw [e]
    exact ⟨trip_acc 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 hkb hX2 hX3 hX4 hX5 ⟨n, hn⟩ _ _ ih.1,
      trip_dq 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 hkb hX2 hX3 hX4 hX5 ⟨n, hn⟩ _ G_arg6 _ ih.2⟩

end trip

end Cert.KernelIdeal.Loop
-- ==== Proof.Diag.lean ====
module

public import proofs.«01_k».proof.Proof.Loop

/-! The diagonal tile, and what the whole body leaves: the diagonal tile followed by the loop below it. -/

@[expose] public section

set_option maxRecDepth 16384

noncomputable section

namespace Cert.KernelIdeal.Loop

open Idealize.ShloMosaic Idealize.ShloMosaic.TcCoe Idealize.ShloMosaic.Tactic
open Idealize.SL.Sem
open Cert.KernelIdeal Cert.KernelIdeal.Gen Cert.KernelIdeal.Tile

variable {kb : ℕ} {K Q V D G : ℕ → ℕ → EReal}

theorem iota_lane (a b : Fin 512) : (iota Kind.tc S512x512 32 [1] iota_S512x512_d1_w32) (ix2 a b) = BitVec.ofNat 32 b.val := by pointwise

theorem zero70 (kp : Fin 512) (l : Fin 128) : k0_pay70 (F := Ideal) (ix2 kp l) = 0 := by pointwise [k0_pay70]
theorem zero71 (kp : Fin 512) (l : Fin 128) : k0_pay71 (F := Ideal) (ix2 kp l) = 0 := by pointwise [k0_pay71]
theorem zero72 (kp : Fin 512) (l : Fin 128) : k0_pay72 (F := Ideal) (ix2 kp l) = 0 := by pointwise [k0_pay72]
theorem zero73 (kp : Fin 512) (l : Fin 128) : k0_pay73 (F := Ideal) (ix2 kp l) = 0 := by pointwise [k0_pay73]
theorem zero74 (kp : Fin 512) (l : Fin 128) : k0_pay74 (F := Ideal) (ix2 kp l) = 0 := by pointwise [k0_pay74]
theorem zero75 (kp : Fin 512) (l : Fin 128) : k0_pay75 (F := Ideal) (ix2 kp l) = 0 := by pointwise [k0_pay75]
theorem zero76 (kp : Fin 512) (l : Fin 128) : k0_pay76 (F := Ideal) (ix2 kp l) = 0 := by pointwise [k0_pay76]
theorem zero77 (kp : Fin 512) (l : Fin 128) : k0_pay77 (F := Ideal) (ix2 kp l) = 0 := by pointwise [k0_pay77]
theorem cast10 (x : FVec Ideal S512x128 .f32) (kp : Fin 512) (l : Fin 128) : k0_pay10 (F := Ideal) x (ix2 kp l) = x (ix2 kp l) := by pointwise [k0_pay10]
theorem cast11 (x : FVec Ideal S512x128 .f32) (kp : Fin 512) (l : Fin 128) : k0_pay11 (F := Ideal) x (ix2 kp l) = x (ix2 kp l) := by pointwise [k0_pay11]
theorem cast12 (x : FVec Ideal S512x128 .f32) (kp : Fin 512) (l : Fin 128) : k0_pay12 (F := Ideal) x (ix2 kp l) = x (ix2 kp l) := by pointwise [k0_pay12]
theorem cast13 (x : FVec Ideal S512x128 .f32) (kp : Fin 512) (l : Fin 128) : k0_pay13 (F := Ideal) x (ix2 kp l) = x (ix2 kp l) := by pointwise [k0_pay13]
theorem cast14 (x : FVec Ideal S512x128 .f32) (kp : Fin 512) (l : Fin 128) : k0_pay14 (F := Ideal) x (ix2 kp l) = x (ix2 kp l) := by pointwise [k0_pay14]
theorem cast15 (x : FVec Ideal S512x128 .f32) (kp : Fin 512) (l : Fin 128) : k0_pay15 (F := Ideal) x (ix2 kp l) = x (ix2 kp l) := by pointwise [k0_pay15]
theorem cast16 (x : FVec Ideal S512x128 .f32) (kp : Fin 512) (l : Fin 128) : k0_pay16 (F := Ideal) x (ix2 kp l) = x (ix2 kp l) := by pointwise [k0_pay16]
theorem cast17 (x : FVec Ideal S512x128 .f32) (kp : Fin 512) (l : Fin 128) : k0_pay17 (F := Ideal) x (ix2 kp l) = x (ix2 kp l) := by pointwise [k0_pay17]
theorem zero68 (a : Fin 4096) (b : Fin 512) : k0_pay68 (F := Ideal) (ix2 a b) = 0 := by pointwise [k0_pay68]

set_option maxHeartbeats 1000000 in
/-- The carried values the loop starts from: the diagonal tile's share of the gradients. -/
theorem diag_acc (i : grid0.Coords) (arg2 : Memref sig .tc .vmem S4096x512 .bf16) (arg3 : Memref sig .tc .vmem S512x512 .bf16) (arg4 : Memref sig .tc .vmem S512x512 .bf16) (arg5 : Memref sig .tc .vmem S4096x512 .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)
    (hkb : (i 1).val = kb)
    (hX2 : ∀ (a : Fin 4096) (b : Fin 512), arg2.view.read (Elt Ideal) X_arg2 (ix2 a b) = Q a.val b.val)
    (hX3 : ∀ (a : Fin 512) (b : Fin 512), arg3.view.read (Elt Ideal) X_arg3 (ix2 a b) = K a.val b.val)
    (hX4 : ∀ (a : Fin 512) (b : Fin 512), arg4.view.read (Elt Ideal) X_arg4 (ix2 a b) = V a.val b.val)
    (hX5 : ∀ (a : Fin 4096) (b : Fin 512), arg5.view.read (Elt Ideal) X_arg5 (ix2 a b) = D a.val b.val) :
    AccOK kb K Q V D (512 * kb + 512) ((
      k0_pay85 (F := Ideal) (k0_pay70 (F := Ideal)) (k0_pay79 (F := Ideal) (View.readAt (Elt Ideal) arg4.view (Rect.unit (s := S512x512) ![0, 0] S512x128.size inb_S512x512_S512x128_0_0).toLoadRect X_arg4)) (k0_pay80 (F := Ideal) (View.readAt (Elt Ideal) arg2.view (Rect.unit (s := S4096x512) (k0_off1 i) S512x128.size (k0_off1_inb i)).toLoadRect X_arg2)) (k0_pay81 (F := Ideal) (View.readAt (Elt Ideal) arg5.view (Rect.unit (s := S4096x512) (k0_off1 i) S512x128.size (k0_off1_inb i)).toLoadRect X_arg5)) (k0_pay82 (F := Ideal) i (View.readAt (Elt Ideal) arg3.view (Rect.unit (s := S512x512) ![0, 0] S512x128.size inb_S512x512_S512x128_0_0).toLoadRect X_arg3) (View.readAt (Elt Ideal) arg2.view (Rect.unit (s := S4096x512) (k0_off1 i) S512x128.size (k0_off1_inb i)).toLoadRect X_arg2)),
      k0_pay84 (F := Ideal) (k0_pay71 (F := Ideal)) (k0_pay81 (F := Ideal) (View.readAt (Elt Ideal) arg5.view (Rect.unit (s := S4096x512) (k0_off1 i) S512x128.size (k0_off1_inb i)).toLoadRect X_arg5)) (k0_pay82 (F := Ideal) i (View.readAt (Elt Ideal) arg3.view (Rect.unit (s := S512x512) ![0, 0] S512x128.size inb_S512x512_S512x128_0_0).toLoadRect X_arg3) (View.readAt (Elt Ideal) arg2.view (Rect.unit (s := S4096x512) (k0_off1 i) S512x128.size (k0_off1_inb i)).toLoadRect X_arg2)),
      k0_pay93 (F := Ideal) (BitVec.ofNat 32 (i 1).val) (k0_pay69 i) (iota Kind.tc S512x512 32 [1] iota_S512x512_d1_w32) (k0_pay72 (F := Ideal)) (View.readAt (Elt Ideal) arg3.view (Rect.unit (s := S512x512) ![0, 128] S512x128.size inb_S512x512_S512x128_0_128).toLoadRect X_arg3) (View.readAt (Elt Ideal) arg4.view (Rect.unit (s := S512x512) ![0, 128] S512x128.size inb_S512x512_S512x128_0_128).toLoadRect X_arg4) (View.readAt (Elt Ideal) arg2.view (Rect.unit (s := S4096x512) (k0_off2 i) S512x128.size (k0_off2_inb i)).toLoadRect X_arg2) (View.readAt (Elt Ideal) arg5.view (Rect.unit (s := S4096x512) (k0_off2 i) S512x128.size (k0_off2_inb i)).toLoadRect X_arg5),
      k0_pay92 (F := Ideal) (BitVec.ofNat 32 (i 1).val) (k0_pay69 i) (iota Kind.tc S512x512 32 [1] iota_S512x512_d1_w32) (k0_pay73 (F := Ideal)) (View.readAt (Elt Ideal) arg3.view (Rect.unit (s := S512x512) ![0, 128] S512x128.size inb_S512x512_S512x128_0_128).toLoadRect X_arg3) (View.readAt (Elt Ideal) arg2.view (Rect.unit (s := S4096x512) (k0_off2 i) S512x128.size (k0_off2_inb i)).toLoadRect X_arg2) (View.readAt (Elt Ideal) arg5.view (Rect.unit (s := S4096x512) (k0_off2 i) S512x128.size (k0_off2_inb i)).toLoadRect X_arg5),
      k0_pay101 (F := Ideal) (BitVec.ofNat 32 (i 1).val) (k0_pay69 i) (iota Kind.tc S512x512 32 [1] iota_S512x512_d1_w32) (k0_pay74 (F := Ideal)) (View.readAt (Elt Ideal) arg3.view (Rect.unit (s := S512x512) ![0, 256] S512x128.size inb_S512x512_S512x128_0_256).toLoadRect X_arg3) (View.readAt (Elt Ideal) arg4.view (Rect.unit (s := S512x512) ![0, 256] S512x128.size inb_S512x512_S512x128_0_256).toLoadRect X_arg4) (View.readAt (Elt Ideal) arg2.view (Rect.unit (s := S4096x512) (k0_off3 i) S512x128.size (k0_off3_inb i)).toLoadRect X_arg2) (View.readAt (Elt Ideal) arg5.view (Rect.unit (s := S4096x512) (k0_off3 i) S512x128.size (k0_off3_inb i)).toLoadRect X_arg5),
      k0_pay100 (F := Ideal) (BitVec.ofNat 32 (i 1).val) (k0_pay69 i) (iota Kind.tc S512x512 32 [1] iota_S512x512_d1_w32) (k0_pay75 (F := Ideal)) (View.readAt (Elt Ideal) arg3.view (Rect.unit (s := S512x512) ![0, 256] S512x128.size inb_S512x512_S512x128_0_256).toLoadRect X_arg3) (View.readAt (Elt Ideal) arg2.view (Rect.unit (s := S4096x512) (k0_off3 i) S512x128.size (k0_off3_inb i)).toLoadRect X_arg2) (View.readAt (Elt Ideal) arg5.view (Rect.unit (s := S4096x512) (k0_off3 i) S512x128.size (k0_off3_inb i)).toLoadRect X_arg5),
      k0_pay109 (F := Ideal) (BitVec.ofNat 32 (i 1).val) (k0_pay69 i) (iota Kind.tc S512x512 32 [1] iota_S512x512_d1_w32) (k0_pay76 (F := Ideal)) (View.readAt (Elt Ideal) arg3.view (Rect.unit (s := S512x512) ![0, 384] S512x128.size inb_S512x512_S512x128_0_384).toLoadRect X_arg3) (View.readAt (Elt Ideal) arg4.view (Rect.unit (s := S512x512) ![0, 384] S512x128.size inb_S512x512_S512x128_0_384).toLoadRect X_arg4) (View.readAt (Elt Ideal) arg2.view (Rect.unit (s := S4096x512) (k0_off4 i) S512x128.size (k0_off4_inb i)).toLoadRect X_arg2) (View.readAt (Elt Ideal) arg5.view (Rect.unit (s := S4096x512) (k0_off4 i) S512x128.size (k0_off4_inb i)).toLoadRect X_arg5),
      k0_pay108 (F := Ideal) (BitVec.ofNat 32 (i 1).val) (k0_pay69 i) (iota Kind.tc S512x512 32 [1] iota_S512x512_d1_w32) (k0_pay77 (F := Ideal)) (View.readAt (Elt Ideal) arg3.view (Rect.unit (s := S512x512) ![0, 384] S512x128.size inb_S512x512_S512x128_0_384).toLoadRect X_arg3) (View.readAt (Elt Ideal) arg2.view (Rect.unit (s := S4096x512) (k0_off4 i) S512x128.size (k0_off4_inb i)).toLoadRect X_arg2) (View.readAt (Elt Ideal) arg5.view (Rect.unit (s := S4096x512) (k0_off4 i) S512x128.size (k0_off4_inb i)).toLoadRect X_arg5)) : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32) := by
  subst hkb
  have hkb8 : (i 1).val < 8 := (i 1).isLt
  have hv7 := iota_lane
  have hk0 := fun (a : Fin 512) (l : Fin 128) => (readAt_tile arg3.view X_arg3 (R := 0) (o := 128 * 0) inb_S512x512_S512x128_0_0 rfl hX3 a l).trans (congrArg (K · (128 * 0 + l.val)) (Nat.zero_add a.val))
  have hv0 := fun (a : Fin 512) (l : Fin 128) => (readAt_tile arg4.view X_arg4 (R := 0) (o := 128 * 0) inb_S512x512_S512x128_0_0 rfl hX4 a l).trans (congrArg (V · (128 * 0 + l.val)) (Nat.zero_add a.val))
  have hq0 := readAt_tile arg2.view X_arg2 (k0_off1_inb i) (off1_eq i) hX2
  have hd0 := readAt_tile arg5.view X_arg5 (k0_off1_inb i) (off1_eq i) hX5
  have hk1 := fun (a : Fin 512) (l : Fin 128) => (readAt_tile arg3.view X_arg3 (R := 0) (o := 128 * 1) inb_S512x512_S512x128_0_128 rfl hX3 a l).trans (congrArg (K · (128 * 1 + l.val)) (Nat.zero_add a.val))
  have hv1 := fun (a : Fin 512) (l : Fin 128) => (readAt_tile arg4.view X_arg4 (R := 0) (o := 128 * 1) inb_S512x512_S512x128_0_128 rfl hX4 a l).trans (congrArg (V · (128 * 1 + l.val)) (Nat.zero_add a.val))
  have hq1 := readAt_tile arg2.view X_arg2 (k0_off2_inb i) (off2_eq i) hX2
  have hd1 := readAt_tile arg5.view X_arg5 (k0_off2_inb i) (off2_eq i) hX5
  have hk2 := fun (a : Fin 512) (l : Fin 128) => (readAt_tile arg3.view X_arg3 (R := 0) (o := 128 * 2) inb_S512x512_S512x128_0_256 rfl hX3 a l).trans (congrArg (K · (128 * 2 + l.val)) (Nat.zero_add a.val))
  have hv2 := fun (a : Fin 512) (l : Fin 128) => (readAt_tile arg4.view X_arg4 (R := 0) (o := 128 * 2) inb_S512x512_S512x128_0_256 rfl hX4 a l).trans (congrArg (V · (128 * 2 + l.val)) (Nat.zero_add a.val))
  have hq2 := readAt_tile arg2.view X_arg2 (k0_off3_inb i) (off3_eq i) hX2
  have hd2 := readAt_tile arg5.view X_arg5 (k0_off3_inb i) (off3_eq i) hX5
  have hk3 := fun (a : Fin 512) (l : Fin 128) => (readAt_tile arg3.view X_arg3 (R := 0) (o := 128 * 3) inb_S512x512_S512x128_0_384 rfl hX3 a l).trans (congrArg (K · (128 * 3 + l.val)) (Nat.zero_add a.val))
  have hv3 := fun (a : Fin 512) (l : Fin 128) => (readAt_tile arg4.view X_arg4 (R := 0) (o := 128 * 3) inb_S512x512_S512x128_0_384 rfl hX4 a l).trans (congrArg (V · (128 * 3 + l.val)) (Nat.zero_add a.val))
  have hq3 := readAt_tile arg2.view X_arg2 (k0_off4_inb i) (off4_eq i) hX2
  have hd3 := readAt_tile arg5.view X_arg5 (k0_off4_inb i) (off4_eq i) hX5
  exact
    { k0 := fun kp l => (diag_dk0 hk0 hv0 hq0 hd0 hkb8 rfl rfl _ kp l).trans ((congrArg (· + _) ((zero70 kp l).trans (dkO_first ..).symm)).trans (dkO_step ..))
      v0 := fun kp l => (diag_dv0 hk0 hq0 hd0 hkb8 rfl rfl _ kp l).trans ((congrArg (· + _) ((zero71 kp l).trans (dvO_first ..).symm)).trans (dvO_step ..))
      k1 := fun kp l => (diag_dk1 hk1 hv1 hq1 hd1 hv7 hkb8 rfl rfl _ kp l).trans ((congrArg (· + _) ((zero72 kp l).trans (dkO_first ..).symm)).trans (dkO_step ..))
      v1 := fun kp l => (diag_dv1 hk1 hq1 hd1 hv7 hkb8 rfl rfl _ kp l).trans ((congrArg (· + _) ((zero73 kp l).trans (dvO_first ..).symm)).trans (dvO_step ..))
      k2 := fun kp l => (diag_dk2 hk2 hv2 hq2 hd2 hv7 hkb8 rfl rfl _ kp l).trans ((congrArg (· + _) ((zero74 kp l).trans (dkO_first ..).symm)).trans (dkO_step ..))
      v2 := fun kp l => (diag_dv2 hk2 hq2 hd2 hv7 hkb8 rfl rfl _ kp l).trans ((congrArg (· + _) ((zero75 kp l).trans (dvO_first ..).symm)).trans (dvO_step ..))
      k3 := fun kp l => (diag_dk3 hk3 hv3 hq3 hd3 hv7 hkb8 rfl rfl _ kp l).trans ((congrArg (· + _) ((zero76 kp l).trans (dkO_first ..).symm)).trans (dkO_step ..))
      v3 := fun kp l => (diag_dv3 hk3 hq3 hd3 hv7 hkb8 rfl rfl _ kp l).trans ((congrArg (· + _) ((zero77 kp l).trans (dvO_first ..).symm)).trans (dvO_step ..)) }

set_option maxHeartbeats 1000000 in
/-- The diagonal tile's stores add to its 512 query rows what they take from the block's keys. -/
theorem diag_dq (i : grid0.Coords) (arg2 : Memref sig .tc .vmem S4096x512 .bf16) (arg3 : Memref sig .tc .vmem S512x512 .bf16) (arg4 : Memref sig .tc .vmem S512x512 .bf16) (arg5 : Memref sig .tc .vmem S4096x512 .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (arg6 : Memref sig .tc .vmem S4096x512 .f32) (f_arg6 : BufTy.Contents (Elt Ideal) arg6.view.ty)
    (hkb : (i 1).val = kb)
    (hX2 : ∀ (a : Fin 4096) (b : Fin 512), arg2.view.read (Elt Ideal) X_arg2 (ix2 a b) = Q a.val b.val)
    (hX3 : ∀ (a : Fin 512) (b : Fin 512), arg3.view.read (Elt Ideal) X_arg3 (ix2 a b) = K a.val b.val)
    (hX4 : ∀ (a : Fin 512) (b : Fin 512), arg4.view.read (Elt Ideal) X_arg4 (ix2 a b) = V a.val b.val)
    (hX5 : ∀ (a : Fin 4096) (b : Fin 512), arg5.view.read (Elt Ideal) X_arg5 (ix2 a b) = D a.val b.val)
    (hX6 : ∀ (a : Fin 4096) (b : Fin 512), arg6.view.read (Elt Ideal) f_arg6 (ix2 a b) = G a.val b.val)
    (a : Fin 4096) (b : Fin 512) :
    arg6.view.read (Elt Ideal) (arg6.view.writes (Elt Ideal) f_arg6
      [⟨Rect.unit (s := S4096x512) (k0_off4 i) S512x128.size (k0_off4_inb i), k0_pay110 (F := Ideal) (BitVec.ofNat 32 (i 1).val) (k0_pay69 i) (iota Kind.tc S512x512 32 [1] iota_S512x512_d1_w32) (View.readAt (Elt Ideal) arg3.view (Rect.unit (s := S512x512) ![0, 384] S512x128.size inb_S512x512_S512x128_0_384).toLoadRect X_arg3) (View.readAt (Elt Ideal) arg4.view (Rect.unit (s := S512x512) ![0, 384] S512x128.size inb_S512x512_S512x128_0_384).toLoadRect X_arg4) (View.readAt (Elt Ideal) arg2.view (Rect.unit (s := S4096x512) (k0_off4 i) S512x128.size (k0_off4_inb i)).toLoadRect X_arg2) (View.readAt (Elt Ideal) arg5.view (Rect.unit (s := S4096x512) (k0_off4 i) S512x128.size (k0_off4_inb i)).toLoadRect X_arg5) (View.readAt (Elt Ideal) arg6.view (Rect.unit (s := S4096x512) (k0_off4 i) S512x128.size (k0_off4_inb i)).toLoadRect f_arg6)⟩,
       ⟨Rect.unit (s := S4096x512) (k0_off3 i) S512x128.size (k0_off3_inb i), k0_pay102 (F := Ideal) (BitVec.ofNat 32 (i 1).val) (k0_pay69 i) (iota Kind.tc S512x512 32 [1] iota_S512x512_d1_w32) (View.readAt (Elt Ideal) arg3.view (Rect.unit (s := S512x512) ![0, 256] S512x128.size inb_S512x512_S512x128_0_256).toLoadRect X_arg3) (View.readAt (Elt Ideal) arg4.view (Rect.unit (s := S512x512) ![0, 256] S512x128.size inb_S512x512_S512x128_0_256).toLoadRect X_arg4) (View.readAt (Elt Ideal) arg2.view (Rect.unit (s := S4096x512) (k0_off3 i) S512x128.size (k0_off3_inb i)).toLoadRect X_arg2) (View.readAt (Elt Ideal) arg5.view (Rect.unit (s := S4096x512) (k0_off3 i) S512x128.size (k0_off3_inb i)).toLoadRect X_arg5) (View.readAt (Elt Ideal) arg6.view (Rect.unit (s := S4096x512) (k0_off3 i) S512x128.size (k0_off3_inb i)).toLoadRect f_arg6)⟩,
       ⟨Rect.unit (s := S4096x512) (k0_off2 i) S512x128.size (k0_off2_inb i), k0_pay94 (F := Ideal) (k0_pay87 (F := Ideal) (View.readAt (Elt Ideal) arg3.view (Rect.unit (s := S512x512) ![0, 128] S512x128.size inb_S512x512_S512x128_0_128).toLoadRect X_arg3)) (k0_pay91 (F := Ideal) (BitVec.ofNat 32 (i 1).val) (k0_pay69 i) (iota Kind.tc S512x512 32 [1] iota_S512x512_d1_w32) (View.readAt (Elt Ideal) arg3.view (Rect.unit (s := S512x512) ![0, 128] S512x128.size inb_S512x512_S512x128_0_128).toLoadRect X_arg3) (View.readAt (Elt Ideal) arg4.view (Rect.unit (s := S512x512) ![0, 128] S512x128.size inb_S512x512_S512x128_0_128).toLoadRect X_arg4) (View.readAt (Elt Ideal) arg2.view (Rect.unit (s := S4096x512) (k0_off2 i) S512x128.size (k0_off2_inb i)).toLoadRect X_arg2) (View.readAt (Elt Ideal) arg5.view (Rect.unit (s := S4096x512) (k0_off2 i) S512x128.size (k0_off2_inb i)).toLoadRect X_arg5)) (View.readAt (Elt Ideal) arg6.view (Rect.unit (s := S4096x512) (k0_off2 i) S512x128.size (k0_off2_inb i)).toLoadRect f_arg6)⟩,
       ⟨Rect.unit (s := S4096x512) (k0_off1 i) S512x128.size (k0_off1_inb i), k0_pay86 (F := Ideal) (k0_pay78 (F := Ideal) (View.readAt (Elt Ideal) arg3.view (Rect.unit (s := S512x512) ![0, 0] S512x128.size inb_S512x512_S512x128_0_0).toLoadRect X_arg3)) (k0_pay79 (F := Ideal) (View.readAt (Elt Ideal) arg4.view (Rect.unit (s := S512x512) ![0, 0] S512x128.size inb_S512x512_S512x128_0_0).toLoadRect X_arg4)) (k0_pay81 (F := Ideal) (View.readAt (Elt Ideal) arg5.view (Rect.unit (s := S4096x512) (k0_off1 i) S512x128.size (k0_off1_inb i)).toLoadRect X_arg5)) (k0_pay82 (F := Ideal) i (View.readAt (Elt Ideal) arg3.view (Rect.unit (s := S512x512) ![0, 0] S512x128.size inb_S512x512_S512x128_0_0).toLoadRect X_arg3) (View.readAt (Elt Ideal) arg2.view (Rect.unit (s := S4096x512) (k0_off1 i) S512x128.size (k0_off1_inb i)).toLoadRect X_arg2)) (View.readAt (Elt Ideal) arg6.view (Rect.unit (s := S4096x512) (k0_off1 i) S512x128.size (k0_off1_inb i)).toLoadRect f_arg6)⟩]) (ix2 a b)
      = mid G (dqO kb K Q V D) (512 * kb) (512 * kb + 512) a.val b.val := by
  subst hkb
  have hkb8 : (i 1).val < 8 := (i 1).isLt
  have hv7 := iota_lane
  have hk0 := fun (a : Fin 512) (l : Fin 128) => (readAt_tile arg3.view X_arg3 (R := 0) (o := 128 * 0) inb_S512x512_S512x128_0_0 rfl hX3 a l).trans (congrArg (K · (128 * 0 + l.val)) (Nat.zero_add a.val))
  have hv0 := fun (a : Fin 512) (l : Fin 128) => (readAt_tile arg4.view X_arg4 (R := 0) (o := 128 * 0) inb_S512x512_S512x128_0_0 rfl hX4 a l).trans (congrArg (V · (128 * 0 + l.val)) (Nat.zero_add a.val))
  have hq0 := readAt_tile arg2.view X_arg2 (k0_off1_inb i) (off1_eq i) hX2
  have hd0 := readAt_tile arg5.view X_arg5 (k0_off1_inb i) (off1_eq i) hX5
  have hk1 := fun (a : Fin 512) (l : Fin 128) => (readAt_tile arg3.view X_arg3 (R := 0) (o := 128 * 1) inb_S512x512_S512x128_0_128 rfl hX3 a l).trans (congrArg (K · (128 * 1 + l.val)) (Nat.zero_add a.val))
  have hv1 := fun (a : Fin 512) (l : Fin 128) => (readAt_tile arg4.view X_arg4 (R := 0) (o := 128 * 1) inb_S512x512_S512x128_0_128 rfl hX4 a l).trans (congrArg (V · (128 * 1 + l.val)) (Nat.zero_add a.val))
  have hq1 := readAt_tile arg2.view X_arg2 (k0_off2_inb i) (off2_eq i) hX2
  have hd1 := readAt_tile arg5.view X_arg5 (k0_off2_inb i) (off2_eq i) hX5
  have hk2 := fun (a : Fin 512) (l : Fin 128) => (readAt_tile arg3.view X_arg3 (R := 0) (o := 128 * 2) inb_S512x512_S512x128_0_256 rfl hX3 a l).trans (congrArg (K · (128 * 2 + l.val)) (Nat.zero_add a.val))
  have hv2 := fun (a : Fin 512) (l : Fin 128) => (readAt_tile arg4.view X_arg4 (R := 0) (o := 128 * 2) inb_S512x512_S512x128_0_256 rfl hX4 a l).trans (congrArg (V · (128 * 2 + l.val)) (Nat.zero_add a.val))
  have hq2 := readAt_tile arg2.view X_arg2 (k0_off3_inb i) (off3_eq i) hX2
  have hd2 := readAt_tile arg5.view X_arg5 (k0_off3_inb i) (off3_eq i) hX5
  have hk3 := fun (a : Fin 512) (l : Fin 128) => (readAt_tile arg3.view X_arg3 (R := 0) (o := 128 * 3) inb_S512x512_S512x128_0_384 rfl hX3 a l).trans (congrArg (K · (128 * 3 + l.val)) (Nat.zero_add a.val))
  have hv3 := fun (a : Fin 512) (l : Fin 128) => (readAt_tile arg4.view X_arg4 (R := 0) (o := 128 * 3) inb_S512x512_S512x128_0_384 rfl hX4 a l).trans (congrArg (V · (128 * 3 + l.val)) (Nat.zero_add a.val))
  have hq3 := readAt_tile arg2.view X_arg2 (k0_off4_inb i) (off4_eq i) hX2
  have hd3 := readAt_tile arg5.view X_arg5 (k0_off4_inb i) (off4_eq i) hX5
  have hg0 := readAt_tile arg6.view f_arg6 (k0_off1_inb i) (off1_eq i) hX6
  have hg1 := readAt_tile arg6.view f_arg6 (k0_off2_inb i) (off2_eq i) hX6
  have hg2 := readAt_tile arg6.view f_arg6 (k0_off3_inb i) (off3_eq i) hX6
  have hg3 := readAt_tile arg6.view f_arg6 (k0_off4_inb i) (off4_eq i) hX6
  exact read_four arg6.view f_arg6 (k0_off1_inb i) (k0_off2_inb i) (k0_off3_inb i) (k0_off4_inb i) _ _ _ _ [] (off1_eq i) (off2_eq i) (off3_eq i) (off4_eq i)
    le_rfl (fun a b => (hX6 a b).trans (mid_self ..).symm)
    (fun r l => (diag_dq0 hk0 hv0 hq0 hd0 hkb8 rfl rfl _ r l).trans (congrArg₂ (· + ·) (hg0 r l) (dqO_head ..).symm))
    (fun r l => (diag_dq1 hk1 hv1 hq1 hd1 hv7 hkb8 rfl rfl _ r l).trans (congrArg₂ (· + ·) (hg1 r l) (dqO_head ..).symm))
    (fun r l => (diag_dq2 hk2 hv2 hq2 hd2 hv7 hkb8 rfl rfl _ r l).trans (congrArg₂ (· + ·) (hg2 r l) (dqO_head ..).symm))
    (fun r l => (diag_dq3 hk3 hv3 hq3 hd3 hv7 hkb8 rfl rfl _ r l).trans (congrArg₂ (· + ·) (hg3 r l) (dqO_head ..).symm)) a b

/-! ## After the loop -/

theorem loop_acc {𝒱 : Variants} {c : Dev nD} {bd : Option 𝒱.V} {i : grid0.Coords} {arg2 : Memref sig .tc .vmem S4096x512 .bf16} {harg2 : arg2.IsWhole} {arg3 : Memref sig .tc .vmem S512x512 .bf16} {harg3 : arg3.IsWhole} {arg4 : Memref sig .tc .vmem S512x512 .bf16} {harg4 : arg4.IsWhole} {arg5 : Memref sig .tc .vmem S4096x512 .bf16} {harg5 : arg5.IsWhole} {arg6 : Memref sig .tc .vmem S4096x512 .f32} {harg6 : arg6.IsWhole} {arg7 : Memref sig .tc .vmem S512x512 .bf16} {harg7 : arg7.IsWhole} {arg8 : Memref sig .tc .vmem S512x512 .bf16} {harg8 : arg8.IsWhole} {arg1 : BitVec 32} {v6 : IVec S512x512 32} {v7 : IVec S512x512 32} {v14 : FVec Ideal S512x128 .f32} {v15 : FVec Ideal S512x128 .f32} {v17 : BitVec 32} {v41 : FVec Ideal S512x128 .f32} {v43 : FVec Ideal S512x128 .f32} {v74 : FVec Ideal S512x128 .f32} {v76 : FVec Ideal S512x128 .f32} {v107 : FVec Ideal S512x128 .f32} {v109 : FVec Ideal S512x128 .f32} {v150 : BitVec 32} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty}
    (hkb : (i 1).val = kb)
    (hX2 : ∀ (a : Fin 4096) (b : Fin 512), arg2.view.read (Elt Ideal) X_arg2 (ix2 a b) = Q a.val b.val)
    (hX3 : ∀ (a : Fin 512) (b : Fin 512), arg3.view.read (Elt Ideal) X_arg3 (ix2 a b) = K a.val b.val)
    (hX4 : ∀ (a : Fin 512) (b : Fin 512), arg4.view.read (Elt Ideal) X_arg4 (ix2 a b) = V a.val b.val)
    (hX5 : ∀ (a : Fin 4096) (b : Fin 512), arg5.view.read (Elt Ideal) X_arg5 (ix2 a b) = D a.val b.val)
    {G_arg6 : BufTy.Contents (Elt Ideal) arg6.view.ty} {init : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32}
    (hinit : AccOK kb K Q V D (512 * kb + 512) init)
    (hG : ∀ (a : Fin 4096) (b : Fin 512), arg6.view.read (Elt Ideal) G_arg6 (ix2 a b)
      = mid G (dqO kb K Q V D) (512 * kb) (512 * kb + 512) a.val b.val) :
    AccOK kb K Q V D 4096 (st_k0_t1 (F := Ideal) 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 G_arg6 init (k0_t1_loop i).trips).1 := by
  have h := (state_ok 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 hkb hX2 hX3 hX4 hX5 G_arg6 init hinit hG (k0_t1_loop i).trips le_rfl).1
  have h8 : (i 1).val < 8 := (i 1).isLt
  rwa [show 512 * (kb + 1 + (k0_t1_loop i).trips) = 4096 by rw [trips1_eq]; omega] at h

theorem loop_dq {𝒱 : Variants} {c : Dev nD} {bd : Option 𝒱.V} {i : grid0.Coords} {arg2 : Memref sig .tc .vmem S4096x512 .bf16} {harg2 : arg2.IsWhole} {arg3 : Memref sig .tc .vmem S512x512 .bf16} {harg3 : arg3.IsWhole} {arg4 : Memref sig .tc .vmem S512x512 .bf16} {harg4 : arg4.IsWhole} {arg5 : Memref sig .tc .vmem S4096x512 .bf16} {harg5 : arg5.IsWhole} {arg6 : Memref sig .tc .vmem S4096x512 .f32} {harg6 : arg6.IsWhole} {arg7 : Memref sig .tc .vmem S512x512 .bf16} {harg7 : arg7.IsWhole} {arg8 : Memref sig .tc .vmem S512x512 .bf16} {harg8 : arg8.IsWhole} {arg1 : BitVec 32} {v6 : IVec S512x512 32} {v7 : IVec S512x512 32} {v14 : FVec Ideal S512x128 .f32} {v15 : FVec Ideal S512x128 .f32} {v17 : BitVec 32} {v41 : FVec Ideal S512x128 .f32} {v43 : FVec Ideal S512x128 .f32} {v74 : FVec Ideal S512x128 .f32} {v76 : FVec Ideal S512x128 .f32} {v107 : FVec Ideal S512x128 .f32} {v109 : FVec Ideal S512x128 .f32} {v150 : BitVec 32} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty}
    (hkb : (i 1).val = kb)
    (hX2 : ∀ (a : Fin 4096) (b : Fin 512), arg2.view.read (Elt Ideal) X_arg2 (ix2 a b) = Q a.val b.val)
    (hX3 : ∀ (a : Fin 512) (b : Fin 512), arg3.view.read (Elt Ideal) X_arg3 (ix2 a b) = K a.val b.val)
    (hX4 : ∀ (a : Fin 512) (b : Fin 512), arg4.view.read (Elt Ideal) X_arg4 (ix2 a b) = V a.val b.val)
    (hX5 : ∀ (a : Fin 4096) (b : Fin 512), arg5.view.read (Elt Ideal) X_arg5 (ix2 a b) = D a.val b.val)
    {G_arg6 : BufTy.Contents (Elt Ideal) arg6.view.ty} {init : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32}
    (hinit : AccOK kb K Q V D (512 * kb + 512) init)
    (hG : ∀ (a : Fin 4096) (b : Fin 512), arg6.view.read (Elt Ideal) G_arg6 (ix2 a b)
      = mid G (dqO kb K Q V D) (512 * kb) (512 * kb + 512) a.val b.val) (a : Fin 4096) (b : Fin 512) :
    arg6.view.read (Elt Ideal) (arg6.view.writes (Elt Ideal) G_arg6 (st_k0_t1 (F := Ideal) 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 G_arg6 init (k0_t1_loop i).trips).2) (ix2 a b)
      = G a.val b.val + dqO kb K Q V D a.val b.val := by
  have h := (state_ok 𝒱 c bd i arg2 harg2 arg3 harg3 arg4 harg4 arg5 harg5 arg6 harg6 arg7 harg7 arg8 harg8 arg1 v6 v7 v14 v15 v17 v41 v43 v74 v76 v107 v109 v150 X_arg2 X_arg3 X_arg4 X_arg5 hkb hX2 hX3 hX4 hX5 G_arg6 init hinit hG (k0_t1_loop i).trips le_rfl).2 a b
  have h8 : (i 1).val < 8 := (i 1).isLt
  rw [show 512 * (kb + 1 + (k0_t1_loop i).trips) = 4096 by rw [trips1_eq]; omega] at h
  refine h.trans ?_
  have := a.isLt
  unfold mid
  split_ifs with hm
  · rfl
  · rw [dqO_before kb K Q V D _ (by omega), add_zero]

/-- The last loop of the body makes no trip. -/
theorem loop2_none {𝒱 : Variants} {c : Dev nD} {bd : Option 𝒱.V} {i : grid0.Coords} {arg2 : Memref sig .tc .vmem S4096x512 .bf16} {harg2 : arg2.IsWhole} {arg3 : Memref sig .tc .vmem S512x512 .bf16} {harg3 : arg3.IsWhole} {arg4 : Memref sig .tc .vmem S512x512 .bf16} {harg4 : arg4.IsWhole} {arg5 : Memref sig .tc .vmem S4096x512 .bf16} {harg5 : arg5.IsWhole} {arg6 : Memref sig .tc .vmem S4096x512 .f32} {harg6 : arg6.IsWhole} {arg7 : Memref sig .tc .vmem S512x512 .bf16} {harg7 : arg7.IsWhole} {arg8 : Memref sig .tc .vmem S512x512 .bf16} {harg8 : arg8.IsWhole} {v155 : BitVec 32} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty}
    {G_arg6 : BufTy.Contents (Elt Ideal) arg6.view.ty} {init : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32} :
    st_k0_t2 (F := Ideal) 𝒱 c bd i arg2 harg2 arg3 harg3 arg4 harg4 arg5 harg5 arg6 harg6 arg7 harg7 arg8 harg8 v155 X_arg2 X_arg3 X_arg4 X_arg5 G_arg6 init (k0_t2_loop i).trips = (init, []) := by
  rw [trips2_eq]; rfl

theorem loop2_acc {𝒱 : Variants} {c : Dev nD} {bd : Option 𝒱.V} {i : grid0.Coords} {arg2 : Memref sig .tc .vmem S4096x512 .bf16} {harg2 : arg2.IsWhole} {arg3 : Memref sig .tc .vmem S512x512 .bf16} {harg3 : arg3.IsWhole} {arg4 : Memref sig .tc .vmem S512x512 .bf16} {harg4 : arg4.IsWhole} {arg5 : Memref sig .tc .vmem S4096x512 .bf16} {harg5 : arg5.IsWhole} {arg6 : Memref sig .tc .vmem S4096x512 .f32} {harg6 : arg6.IsWhole} {arg7 : Memref sig .tc .vmem S512x512 .bf16} {harg7 : arg7.IsWhole} {arg8 : Memref sig .tc .vmem S512x512 .bf16} {harg8 : arg8.IsWhole} {v155 : BitVec 32} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty}
    {G_arg6 : BufTy.Contents (Elt Ideal) arg6.view.ty} {init : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32} (h : AccOK kb K Q V D 4096 init) :
    AccOK kb K Q V D 4096 (st_k0_t2 (F := Ideal) 𝒱 c bd i arg2 harg2 arg3 harg3 arg4 harg4 arg5 harg5 arg6 harg6 arg7 harg7 arg8 harg8 v155 X_arg2 X_arg3 X_arg4 X_arg5 G_arg6 init (k0_t2_loop i).trips).1 := by
  rw [loop2_none]; exact h

/-- The query gradient's buffer after the body. -/
theorem out_dq {v : View sig .tc .vmem S4096x512 .f32} {f : v.ty.Contents (Elt Ideal)} {P2 P1 P0 : List (View.Piece (Elt Ideal) S4096x512 .f32)}
    {T : Vec Ideal S4096x512 .f32} (h2 : P2 = [])
    (h1 : ∀ (a : Fin 4096) (b : Fin 512), v.read (Elt Ideal) (v.writes (Elt Ideal) (v.writes (Elt Ideal) f P0) P1) (ix2 a b) = T (ix2 a b)) :
    v.read (Elt Ideal) (v.writes (Elt Ideal) f (P2 ++ (P1 ++ P0))) = T := by
  subst h2
  funext y
  rw [show y = ix2 (y 0) (y 1) from (ix2_eta y).symm, List.nil_append, View.writes_append]
  exact h1 _ _

/-- A key or value gradient's buffer after the body: four tiles side by side. -/
theorem out_tiles {v : View sig .tc .vmem S512x512 .bf16} {f : v.ty.Contents (Elt Ideal)} {w0 w1 w2 w3 : FVec Ideal S512x128 .bf16}
    {T : Vec Ideal S512x512 .bf16} {W : ℕ → ℕ → ℕ → EReal} (hT : ∀ a b : Fin 512, T (ix2 a b) = W (128 * (b.val / 128)) a.val (b.val % 128))
    (h0 : ∀ (kp : Fin 512) (l : Fin 128), w0 (ix2 kp l) = W (128 * 0) kp.val l.val)
    (h1 : ∀ (kp : Fin 512) (l : Fin 128), w1 (ix2 kp l) = W (128 * 1) kp.val l.val)
    (h2 : ∀ (kp : Fin 512) (l : Fin 128), w2 (ix2 kp l) = W (128 * 2) kp.val l.val)
    (h3 : ∀ (kp : Fin 512) (l : Fin 128), w3 (ix2 kp l) = W (128 * 3) kp.val l.val) :
    v.read (Elt Ideal) (v.writes (Elt Ideal) f
      [⟨Rect.unit (s := S512x512) ![0, 384] S512x128.size inb_S512x512_S512x128_0_384, w3⟩,
       ⟨Rect.unit (s := S512x512) ![0, 256] S512x128.size inb_S512x512_S512x128_0_256, w2⟩,
       ⟨Rect.unit (s := S512x512) ![0, 128] S512x128.size inb_S512x512_S512x128_0_128, w1⟩,
       ⟨Rect.unit (s := S512x512) ![0, 0] S512x128.size inb_S512x512_S512x128_0_0, w0⟩]) = T := by
  funext y
  obtain ⟨a, b, rfl⟩ : ∃ a b : Fin 512, y = ix2 a b := ⟨y 0, y 1, (ix2_eta y).symm⟩
  have hb := b.isLt
  have put : ∀ (h : ℕ) (w : FVec Ideal S512x128 .bf16) (hw : ∀ (kp : Fin 512) (l : Fin 128), w (ix2 kp l) = W (128 * h) kp.val l.val)
      (hlo : 128 * h ≤ b.val) (hhi : b.val < 128 * h + 128), w (ix2 a (⟨b.val - 128 * h, by omega⟩ : Fin 128)) = T (ix2 a b) := by
    intro h w hw hlo hhi
    rw [hw, hT, show b.val / 128 = h by omega]
    exact congrArg (W (128 * h) a.val) (by show b.val - 128 * h = b.val % 128; omega)
  have out : ∀ (o : ℕ) (inb : ∀ x, (![0, o] : Fin 2 → ℕ) x + S512x128.size x ≤ S512x512.size x) (w : FVec Ideal S512x128 .bf16)
      (L : List (View.Piece (Elt Ideal) S512x512 .bf16)), b.val < o →
      v.read (Elt Ideal) (v.writes (Elt Ideal) f (⟨Rect.unit (s := S512x512) ![0, o] S512x128.size inb, w⟩ :: L)) (ix2 a b)
        = v.read (Elt Ideal) (v.writes (Elt Ideal) f L) (ix2 a b) := fun o inb w L h =>
    View.read_writes_cons_unit_of_not_mem v f inb w L (ix2 a b) rfl 1 (.inl h)
  have into : ∀ (h : ℕ) (inb : ∀ x, (![0, 128 * h] : Fin 2 → ℕ) x + S512x128.size x ≤ S512x512.size x) (w : FVec Ideal S512x128 .bf16)
      (L : List (View.Piece (Elt Ideal) S512x512 .bf16)) (hlo : 128 * h ≤ b.val) (hhi : b.val < 128 * h + 128),
      v.read (Elt Ideal) (v.writes (Elt Ideal) f (⟨Rect.unit (s := S512x512) ![0, 128 * h] S512x128.size inb, w⟩ :: L)) (ix2 a b)
        = w (ix2 a (⟨b.val - 128 * h, by omega⟩ : Fin 128)) := fun h inb w L hlo hhi =>
    View.read_writes_cons_unit_of_mem v f inb w L (ix2 a b) (ix2 a (⟨b.val - 128 * h, by omega⟩ : Fin 128)) rfl fun x => by
      match x with
      | 0 => show a.val = 0 + a.val; omega
      | 1 => show b.val = 128 * h + (b.val - 128 * h); omega
  by_cases c3 : 384 ≤ b.val
  · exact (into 3 _ w3 _ (by omega) (by omega)).trans (put 3 w3 h3 (by omega) (by omega))
  refine (out 384 _ w3 _ (by omega)).trans ?_
  by_cases c2 : 256 ≤ b.val
  · exact (into 2 _ w2 _ (by omega) (by omega)).trans (put 2 w2 h2 (by omega) (by omega))
  refine (out 256 _ w2 _ (by omega)).trans ?_
  by_cases c1 : 128 ≤ b.val
  · exact (into 1 _ w1 _ (by omega) (by omega)).trans (put 1 w1 h1 (by omega) (by omega))
  refine (out 128 _ w1 _ (by omega)).trans ?_
  exact (into 0 _ w0 _ (by omega) (by omega)).trans (put 0 w0 h0 (by omega) (by omega))

end Cert.KernelIdeal.Loop

namespace Cert.KernelIdeal

open Idealize.ShloMosaic Idealize.ShloMosaic.TcCoe

/-- The condition of the kernel's conditional: the grid point is at the first key block. -/
abbrev Body.cond0_0 (i : grid0.Coords) : Prop := (Scalar.cmpi .ne (Scalar.extui (Scalar.cmpi .eq (BitVec.ofNat 32 (i 1).val) 0#32)) 0#32) = 1#1

end Cert.KernelIdeal
-- ==== Proof.BodyFirst.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Exec
public import Idealize.ShloMosaic.Lib.Tactic
public import proofs.«01_k».proof.Proof.Diag

/-! The kernel's body at one grid point, over the extended reals: what it leaves in the three output buffers, in the two
cases of its conditional.  At the first key block of a head group the query gradient starts from zero; at the others it
starts from what the key block before left. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile Cert.KernelIdeal.Loop

local notation "𝕄" => MT nD τ sig Unit (Elt Ideal) ℕ (UR sig nD τ) ℕ

variable {kb : ℕ} {K Q V D G : ℕ → ℕ → EReal}

set_option maxHeartbeats 4000000 in
/-- The body at the first key block. -/
theorem body_first (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole)
    (arg6 : Memref sig .tc .vmem S4096x512 .f32) (harg6 : arg6.IsWhole) (arg7 : Memref sig .tc .vmem S512x512 .bf16) (harg7 : arg7.IsWhole) (arg8 : Memref sig .tc .vmem S512x512 .bf16) (harg8 : arg8.IsWhole) (hc0 : cond0_0 i)
    (x0 : Vec Ideal S4096x512 .bf16) (x1 x2 : Vec Ideal S512x512 .bf16) (x3 : Vec Ideal S4096x512 .bf16)
    (o4 : Vec Ideal S4096x512 .f32) (o5 o6 : Vec Ideal S512x512 .bf16)
    (hkb : (i 1).val = kb)
    (hx0 : ∀ (a : Fin 4096) (b : Fin 512), x0 (ix2 a b) = Q a.val b.val)
    (hx1 : ∀ (a : Fin 512) (b : Fin 512), x1 (ix2 a b) = K a.val b.val)
    (hx2 : ∀ (a : Fin 512) (b : Fin 512), x2 (ix2 a b) = V a.val b.val)
    (hx3 : ∀ (a : Fin 4096) (b : Fin 512), x3 (ix2 a b) = D a.val b.val)
    (ho4 : ∀ (a : Fin 4096) (b : Fin 512), o4 (ix2 a b) = dqO kb K Q V D a.val b.val)
    (ho5 : ∀ (a : Fin 512) (b : Fin 512), o5 (ix2 a b) = dkO kb K Q V D 4096 (128 * (b.val / 128)) a.val (b.val % 128))
    (ho6 : ∀ (a : Fin 512) (b : Fin 512), o6 (ix2 a b) = dvO kb K Q D 4096 (128 * (b.val / 128)) a.val (b.val % 128)) :
      ∀ (E : Set ℕ) (K' : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ owns (c : Thread nD τ) arg6 fullShare o4 ∗ owns (c : Thread nD τ) arg7 fullShare o5 ∗ owns (c : Thread nD τ) arg8 fullShare o6) -∗ K' ⟨⟩))
          ⊢ wp frame (wpE (defs₀ (F := Ideal)) Variants.none c none) E (cc0_attn_bwd i arg2 harg2 arg3 harg3 arg4 harg4 arg5 harg5 arg6 harg6 arg7 harg7 arg8 harg8) K' := by
    intro E K'
    simp only [cc0_attn_bwd_eq_skeleton]; unfold cc0_attn_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%x4, %f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    obtain rfl := harg6.eq_unread hf4
    have hX2 : ∀ (a : Fin 4096) (b : Fin 512), arg2.view.read (Elt Ideal) (harg2.unread x0) (ix2 a b) = Q a.val b.val :=
      fun a b => (congrFun (harg2.read_unread _) _).trans (hx0 a b)
    have hX3 : ∀ (a : Fin 512) (b : Fin 512), arg3.view.read (Elt Ideal) (harg3.unread x1) (ix2 a b) = K a.val b.val :=
      fun a b => (congrFun (harg3.read_unread _) _).trans (hx1 a b)
    have hX4 : ∀ (a : Fin 512) (b : Fin 512), arg4.view.read (Elt Ideal) (harg4.unread x2) (ix2 a b) = V a.val b.val :=
      fun a b => (congrFun (harg4.read_unread _) _).trans (hx2 a b)
    have hX5 : ∀ (a : Fin 4096) (b : Fin 512), arg5.view.read (Elt Ideal) (harg5.unread x3) (ix2 a b) = D a.val b.val :=
      fun a b => (congrFun (harg5.read_unread _) _).trans (hx3 a b)
    set_option sl_exec.maxSteps 5 in sl_exec (disch := first | sl_exact hc0)
    rw [show arg6.view.writes (Elt Ideal) (harg6.unread x4) [⟨Rect.unit (s := S4096x512) ![0, 0] S4096x512.size inb_S4096x512_S4096x512_0_0, k0_pay68 (F := Ideal)⟩]
      = harg6.unread (k0_pay68 (F := Ideal)) from harg6.eq_unread (View.read_writes_full ..)]
    have hX6 : ∀ (a : Fin 4096) (b : Fin 512), arg6.view.read (Elt Ideal) (harg6.unread (k0_pay68 (F := Ideal))) (ix2 a b) = (fun _ _ => 0 : ℕ → ℕ → EReal) a.val b.val :=
      fun a b => (congrFun (harg6.read_unread _) _).trans (zero68 a b)
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine out_dq (congrArg Prod.snd loop2_none) (fun a b => ?_)
      refine (loop_dq (kb := kb) (K := K) (Q := Q) (V := V) (D := D) (G := (fun _ _ => 0 : ℕ → ℕ → EReal)) hkb hX2 hX3 hX4 hX5 ?_ ?_ a b).trans ?_
      · exact diag_acc i arg2 arg3 arg4 arg5 _ _ _ _ hkb hX2 hX3 hX4 hX5
      · exact diag_dq i arg2 arg3 arg4 arg5 _ _ _ _ arg6 _ hkb hX2 hX3 hX4 hX5 hX6
      · exact (zero_add _).trans (ho4 a b).symm
    isplitl [H5]
    · iexists _; isplitr; swap; · iexact H5
      ipureintro
      refine out_tiles (W := dkO kb K Q V D 4096) ho5
        (fun kp l => (cast10 _ kp l).trans (AccOK.k0 (kb := kb) (K := K) (Q := Q) (V := V) (D := D) (N := 4096) ?_ kp l))
        (fun kp l => (cast12 _ kp l).trans (AccOK.k1 (kb := kb) (K := K) (Q := Q) (V := V) (D := D) (N := 4096) ?_ kp l))
        (fun kp l => (cast14 _ kp l).trans (AccOK.k2 (kb := kb) (K := K) (Q := Q) (V := V) (D := D) (N := 4096) ?_ kp l))
        (fun kp l => (cast16 _ kp l).trans (AccOK.k3 (kb := kb) (K := K) (Q := Q) (V := V) (D := D) (N := 4096) ?_ kp l))
      all_goals
        refine loop2_acc ?_
        unfold body_first.sl.r_13 body_first.sl.r_14 body_first.sl.r_15 body_first.sl.r_16 body_first.sl.r_17 body_first.sl.r_18 body_first.sl.r_19 body_first.sl.r_20
        simp only [Prod.mk.eta]
        refine loop_acc (G := (fun _ _ => 0 : ℕ → ℕ → EReal)) hkb hX2 hX3 hX4 hX5 ?_ ?_
        · exact diag_acc i arg2 arg3 arg4 arg5 _ _ _ _ hkb hX2 hX3 hX4 hX5
        · exact diag_dq i arg2 arg3 arg4 arg5 _ _ _ _ arg6 _ hkb hX2 hX3 hX4 hX5 hX6
    iexists _; isplitr; swap; · iexact H6
    ipureintro
    refine out_tiles (W := dvO kb K Q D 4096) ho6
      (fun kp l => (cast11 _ kp l).trans (AccOK.v0 (kb := kb) (K := K) (Q := Q) (V := V) (D := D) (N := 4096) ?_ kp l))
      (fun kp l => (cast13 _ kp l).trans (AccOK.v1 (kb := kb) (K := K) (Q := Q) (V := V) (D := D) (N := 4096) ?_ kp l))
      (fun kp l => (cast15 _ kp l).trans (AccOK.v2 (kb := kb) (K := K) (Q := Q) (V := V) (D := D) (N := 4096) ?_ kp l))
      (fun kp l => (cast17 _ kp l).trans (AccOK.v3 (kb := kb) (K := K) (Q := Q) (V := V) (D := D) (N := 4096) ?_ kp l))
    all_goals
      refine loop2_acc ?_
      unfold body_first.sl.r_13 body_first.sl.r_14 body_first.sl.r_15 body_first.sl.r_16 body_first.sl.r_17 body_first.sl.r_18 body_first.sl.r_19 body_first.sl.r_20
      simp only [Prod.mk.eta]
      refine loop_acc (G := (fun _ _ => 0 : ℕ → ℕ → EReal)) hkb hX2 hX3 hX4 hX5 ?_ ?_
      · exact diag_acc i arg2 arg3 arg4 arg5 _ _ _ _ hkb hX2 hX3 hX4 hX5
      · exact diag_dq i arg2 arg3 arg4 arg5 _ _ _ _ arg6 _ hkb hX2 hX3 hX4 hX5 hX6

end Cert.KernelIdeal.Body
-- ==== Proof.BodyNext.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Exec
public import Idealize.ShloMosaic.Lib.Tactic
public import proofs.«01_k».proof.Proof.Diag

/-! The kernel's body at one grid point, over the extended reals: what it leaves in the three output buffers, in the two
cases of its conditional.  At the first key block of a head group the query gradient starts from zero; at the others it
starts from what the key block before left. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile Cert.KernelIdeal.Loop

local notation "𝕄" => MT nD τ sig Unit (Elt Ideal) ℕ (UR sig nD τ) ℕ

variable {kb : ℕ} {K Q V D G : ℕ → ℕ → EReal}

set_option maxHeartbeats 4000000 in
/-- The body at a later key block. -/
theorem body_next (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole)
    (arg6 : Memref sig .tc .vmem S4096x512 .f32) (harg6 : arg6.IsWhole) (arg7 : Memref sig .tc .vmem S512x512 .bf16) (harg7 : arg7.IsWhole) (arg8 : Memref sig .tc .vmem S512x512 .bf16) (harg8 : arg8.IsWhole) (hc0 : ¬cond0_0 i)
    (x0 : Vec Ideal S4096x512 .bf16) (x1 x2 : Vec Ideal S512x512 .bf16) (x3 : Vec Ideal S4096x512 .bf16) (x4 : Vec Ideal S4096x512 .f32)
    (o4 : Vec Ideal S4096x512 .f32) (o5 o6 : Vec Ideal S512x512 .bf16)
    (hkb : (i 1).val = kb)
    (hx0 : ∀ (a : Fin 4096) (b : Fin 512), x0 (ix2 a b) = Q a.val b.val)
    (hx1 : ∀ (a : Fin 512) (b : Fin 512), x1 (ix2 a b) = K a.val b.val)
    (hx2 : ∀ (a : Fin 512) (b : Fin 512), x2 (ix2 a b) = V a.val b.val)
    (hx3 : ∀ (a : Fin 4096) (b : Fin 512), x3 (ix2 a b) = D a.val b.val)
    (hx4 : ∀ (a : Fin 4096) (b : Fin 512), x4 (ix2 a b) = G a.val b.val)
    (ho4 : ∀ (a : Fin 4096) (b : Fin 512), o4 (ix2 a b) = G a.val b.val + dqO kb K Q V D a.val b.val)
    (ho5 : ∀ (a : Fin 512) (b : Fin 512), o5 (ix2 a b) = dkO kb K Q V D 4096 (128 * (b.val / 128)) a.val (b.val % 128))
    (ho6 : ∀ (a : Fin 512) (b : Fin 512), o6 (ix2 a b) = dvO kb K Q D 4096 (128 * (b.val / 128)) a.val (b.val % 128)) :
      ∀ (E : Set ℕ) (K' : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ owns (c : Thread nD τ) arg6 fullShare o4 ∗ owns (c : Thread nD τ) arg7 fullShare o5 ∗ owns (c : Thread nD τ) arg8 fullShare o6) -∗ K' ⟨⟩))
          ⊢ wp frame (wpE (defs₀ (F := Ideal)) Variants.none c none) E (cc0_attn_bwd i arg2 harg2 arg3 harg3 arg4 harg4 arg5 harg5 arg6 harg6 arg7 harg7 arg8 harg8) K' := by
    intro E K'
    simp only [cc0_attn_bwd_eq_skeleton]; unfold cc0_attn_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    obtain rfl := harg6.eq_unread hf4
    have hX2 : ∀ (a : Fin 4096) (b : Fin 512), arg2.view.read (Elt Ideal) (harg2.unread x0) (ix2 a b) = Q a.val b.val :=
      fun a b => (congrFun (harg2.read_unread _) _).trans (hx0 a b)
    have hX3 : ∀ (a : Fin 512) (b : Fin 512), arg3.view.read (Elt Ideal) (harg3.unread x1) (ix2 a b) = K a.val b.val :=
      fun a b => (congrFun (harg3.read_unread _) _).trans (hx1 a b)
    have hX4 : ∀ (a : Fin 512) (b : Fin 512), arg4.view.read (Elt Ideal) (harg4.unread x2) (ix2 a b) = V a.val b.val :=
      fun a b => (congrFun (harg4.read_unread _) _).trans (hx2 a b)
    have hX5 : ∀ (a : Fin 4096) (b : Fin 512), arg5.view.read (Elt Ideal) (harg5.unread x3) (ix2 a b) = D a.val b.val :=
      fun a b => (congrFun (harg5.read_unread _) _).trans (hx3 a b)
    have hX6 : ∀ (a : Fin 4096) (b : Fin 512), arg6.view.read (Elt Ideal) (harg6.unread x4) (ix2 a b) = G a.val b.val :=
      fun a b => (congrFun (harg6.read_unread _) _).trans (hx4 a b)
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine out_dq (congrArg Prod.snd loop2_none) (fun a b => ?_)
      refine (loop_dq (kb := kb) (K := K) (Q := Q) (V := V) (D := D) (G := G) hkb hX2 hX3 hX4 hX5 ?_ ?_ a b).trans ?_
      · exact diag_acc i arg2 arg3 arg4 arg5 _ _ _ _ hkb hX2 hX3 hX4 hX5
      · exact diag_dq i arg2 arg3 arg4 arg5 _ _ _ _ arg6 _ hkb hX2 hX3 hX4 hX5 hX6
      · exact (ho4 a b).symm
    isplitl [H5]
    · iexists _; isplitr; swap; · iexact H5
      ipureintro
      refine out_tiles (W := dkO kb K Q V D 4096) ho5
        (fun kp l => (cast10 _ kp l).trans (AccOK.k0 (kb := kb) (K := K) (Q := Q) (V := V) (D := D) (N := 4096) ?_ kp l))
        (fun kp l => (cast12 _ kp l).trans (AccOK.k1 (kb := kb) (K := K) (Q := Q) (V := V) (D := D) (N := 4096) ?_ kp l))
        (fun kp l => (cast14 _ kp l).trans (AccOK.k2 (kb := kb) (K := K) (Q := Q) (V := V) (D := D) (N := 4096) ?_ kp l))
        (fun kp l => (cast16 _ kp l).trans (AccOK.k3 (kb := kb) (K := K) (Q := Q) (V := V) (D := D) (N := 4096) ?_ kp l))
      all_goals
        refine loop2_acc ?_
        unfold body_next.sl.r_13 body_next.sl.r_14 body_next.sl.r_15 body_next.sl.r_16 body_next.sl.r_17 body_next.sl.r_18 body_next.sl.r_19 body_next.sl.r_20
        simp only [Prod.mk.eta]
        refine loop_acc (G := G) hkb hX2 hX3 hX4 hX5 ?_ ?_
        · exact diag_acc i arg2 arg3 arg4 arg5 _ _ _ _ hkb hX2 hX3 hX4 hX5
        · exact diag_dq i arg2 arg3 arg4 arg5 _ _ _ _ arg6 _ hkb hX2 hX3 hX4 hX5 hX6
    iexists _; isplitr; swap; · iexact H6
    ipureintro
    refine out_tiles (W := dvO kb K Q D 4096) ho6
      (fun kp l => (cast11 _ kp l).trans (AccOK.v0 (kb := kb) (K := K) (Q := Q) (V := V) (D := D) (N := 4096) ?_ kp l))
      (fun kp l => (cast13 _ kp l).trans (AccOK.v1 (kb := kb) (K := K) (Q := Q) (V := V) (D := D) (N := 4096) ?_ kp l))
      (fun kp l => (cast15 _ kp l).trans (AccOK.v2 (kb := kb) (K := K) (Q := Q) (V := V) (D := D) (N := 4096) ?_ kp l))
      (fun kp l => (cast17 _ kp l).trans (AccOK.v3 (kb := kb) (K := K) (Q := Q) (V := V) (D := D) (N := 4096) ?_ kp l))
    all_goals
      refine loop2_acc ?_
      unfold body_next.sl.r_13 body_next.sl.r_14 body_next.sl.r_15 body_next.sl.r_16 body_next.sl.r_17 body_next.sl.r_18 body_next.sl.r_19 body_next.sl.r_20
      simp only [Prod.mk.eta]
      refine loop_acc (G := G) hkb hX2 hX3 hX4 hX5 ?_ ?_
      · exact diag_acc i arg2 arg3 arg4 arg5 _ _ _ _ hkb hX2 hX3 hX4 hX5
      · exact diag_dq i arg2 arg3 arg4 arg5 _ _ _ _ arg6 _ hkb hX2 hX3 hX4 hX5 hX6

end Cert.KernelIdeal.Body
-- ==== Proof.Run.lean ====
module

public import proofs.«01_k».proof.Proof.BodyFirst
public import proofs.«01_k».proof.Proof.BodyNext
public import Idealize.ShloMosaic.Lib.Pipeline.Value
public import Idealize.ShloMosaic.Lib.Claim

/-! The kernel's run over the extended reals: what each grid point finds and leaves, and what the three result arrays of
the call end holding, as sums over the four arrays it is called with. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile Cert.KernelIdeal.Loop Cert.KernelIdeal.Body

local notation "𝕄" => MT nD τ sig Unit (Elt Ideal) ℕ (UR sig nD τ) ℕ

/-! ## The arrays by their row and column numbers -/

/-- A wide array at a row and column number. -/
def at2 (X : FVec Ideal S4096x1024 .f32) (r b : ℕ) : EReal :=
  if h : r < 4096 ∧ b < 1024 then X (ix2 ⟨r, h.1⟩ ⟨b, h.2⟩) else 0

theorem at2_eq (X : FVec Ideal S4096x1024 .f32) {r b : ℕ} (hr : r < 4096) (hb : b < 1024) :
    at2 X r b = X (ix2 ⟨r, hr⟩ ⟨b, hb⟩) := dif_pos ⟨hr, hb⟩

/-- The columns of head group `j`. -/
def colsOf (j : ℕ) (A : ℕ → ℕ → EReal) (r b : ℕ) : EReal := A r (512 * j + b)

/-- The columns of head group `j` and the rows of key block `kb`. -/
def blockOf (j kb : ℕ) (A : ℕ → ℕ → EReal) (r b : ℕ) : EReal := A (512 * kb + r) (512 * j + b)

/-- The query gradient of head group `j` from the first `n` key blocks. -/
def dqT (Q K V D : ℕ → ℕ → EReal) (j n r b : ℕ) : EReal :=
  ∑ kb ∈ Finset.range n, dqO kb (blockOf j kb K) (colsOf j Q) (blockOf j kb V) (colsOf j D) r b

/-- The key gradient of head group `j` at key block `kb`. -/
def dkT (Q K V D : ℕ → ℕ → EReal) (j kb r b : ℕ) : EReal :=
  dkO kb (blockOf j kb K) (colsOf j Q) (blockOf j kb V) (colsOf j D) 4096 (128 * (b / 128)) r (b % 128)

/-- The value gradient of head group `j` at key block `kb`. -/
def dvT (Q K D : ℕ → ℕ → EReal) (j kb r b : ℕ) : EReal :=
  dvO kb (blockOf j kb K) (colsOf j Q) (colsOf j D) 4096 (128 * (b / 128)) r (b % 128)

theorem dqT_first (Q K V D : ℕ → ℕ → EReal) (j r b : ℕ) :
    dqT Q K V D j (0 + 1) r b = dqO 0 (blockOf j 0 K) (colsOf j Q) (blockOf j 0 V) (colsOf j D) r b := by
  unfold dqT; rw [Finset.sum_range_one]

theorem dqT_step (Q K V D : ℕ → ℕ → EReal) (j n r b : ℕ) :
    dqT Q K V D j (n + 1) r b = dqT Q K V D j n r b + dqO n (blockOf j n K) (colsOf j Q) (blockOf j n V) (colsOf j D) r b :=
  Finset.sum_range_succ _ _

variable (m : (ℓ : Loc nD τ sig) → Buf (Elt Ideal) ℓ) (ρ : Dev nD → PrngReg)

/-- The queries the call finds, -/
def Qn (c : Dev nD) : ℕ → ℕ → EReal := at2 (V m c main_v40)
/-- the keys, -/
def Kn (c : Dev nD) : ℕ → ℕ → EReal := at2 (V m c main_v48)
/-- the values, -/
def Vn (c : Dev nD) : ℕ → ℕ → EReal := at2 (V m c main_v56)
/-- and the cotangents. -/
def Dn (c : Dev nD) : ℕ → ℕ → EReal := at2 (V m c main_v67)

/-! ## The grid -/

theorem hcond0_0 : ∀ t : Fin cfg0.N, cond0_0 (grid0.coords t) ↔ t.val % 8 = 0 := (fun t => by
    have ht : t.val < 16 := Nat.lt_of_lt_of_eq t.isLt N_0
    have e1 : (grid0.coords t 1).val = t.val / 1 % 8 := Pipeline.Grid.coords_val t 1 (by decide) rfl
    simp only [cond0_0, e1]; word_cmp : ∀ t : Fin grid0.N, cond0_0 (grid0.coords t) ↔ t.val % 8 = 0)

theorem kb_eq (t : Fin cfg0.N) : (grid0.coords t 1).val = t.val % 8 := by
  have e1 : (grid0.coords t 1).val = t.val / 1 % 8 := Pipeline.Grid.coords_val t 1 (by decide) rfl
  rw [e1, Nat.div_one]

theorem index0 : ∀ t : Fin grid0.N, win0_0.index t 0 = 0 ∧ win0_0.index t 1 = t.val / 8 := by decide +kernel
theorem index1 : ∀ t : Fin grid0.N, win0_1.index t 0 = t.val % 8 ∧ win0_1.index t 1 = t.val / 8 := by decide +kernel
theorem index2 : ∀ t : Fin grid0.N, win0_2.index t 0 = t.val % 8 ∧ win0_2.index t 1 = t.val / 8 := by decide +kernel
theorem index3 : ∀ t : Fin grid0.N, win0_3.index t 0 = 0 ∧ win0_3.index t 1 = t.val / 8 := by decide +kernel
theorem index4 : ∀ t : Fin grid0.N, win0_4.index t 0 = 0 ∧ win0_4.index t 1 = t.val / 8 := by decide +kernel
theorem index5 : ∀ t : Fin grid0.N, win0_5.index t 0 = t.val % 8 ∧ win0_5.index t 1 = t.val / 8 := by decide +kernel
theorem index6 : ∀ t : Fin grid0.N, win0_6.index t 0 = t.val % 8 ∧ win0_6.index t 1 = t.val / 8 := by decide +kernel

theorem iblk0_apply (c : Dev nD) (t : Fin cfg0.N) (a : Fin 4096) (b : Fin 512) :
    (iblk m c 0 t : FVec Ideal S4096x512 .bf16) (ix2 a b) = colsOf (t.val / 8) (Qn m c) a.val b.val := by
  have hN : t.val < 16 := Nat.lt_of_lt_of_eq t.isLt N_0
  have hi := index0 t
  unfold colsOf Qn
  rw [at2_eq _ (show a.val < 4096 by have := a.isLt; omega) (show 512 * (t.val / 8) + b.val < 1024 by have := b.isLt; omega)]
  unfold iblk
  rw [View.read_apply]
  show V m c main_v40 _ = V m c main_v40 _
  congr 1
  funext x
  apply Fin.ext
  match x with
  | ⟨0, _⟩ => show win0_0.index t 0 * 4096 + 1 * a.val = a.val; rw [hi.1]; omega
  | ⟨1, _⟩ => show win0_0.index t 1 * 512 + 1 * b.val = 512 * (t.val / 8) + b.val; rw [hi.2]; omega

theorem iblk1_apply (c : Dev nD) (t : Fin cfg0.N) (a : Fin 512) (b : Fin 512) :
    (iblk m c 1 t : FVec Ideal S512x512 .bf16) (ix2 a b) = blockOf (t.val / 8) (t.val % 8) (Kn m c) a.val b.val := by
  have hN : t.val < 16 := Nat.lt_of_lt_of_eq t.isLt N_0
  have hi := index1 t
  unfold blockOf Kn
  rw [at2_eq _ (show 512 * (t.val % 8) + a.val < 4096 by have := a.isLt; omega) (show 512 * (t.val / 8) + b.val < 1024 by have := b.isLt; omega)]
  unfold iblk
  rw [View.read_apply]
  show V m c main_v48 _ = V m c main_v48 _
  congr 1
  funext x
  apply Fin.ext
  match x with
  | ⟨0, _⟩ => show win0_1.index t 0 * 512 + 1 * a.val = 512 * (t.val % 8) + a.val; rw [hi.1]; omega
  | ⟨1, _⟩ => show win0_1.index t 1 * 512 + 1 * b.val = 512 * (t.val / 8) + b.val; rw [hi.2]; omega

theorem iblk2_apply (c : Dev nD) (t : Fin cfg0.N) (a : Fin 512) (b : Fin 512) :
    (iblk m c 2 t : FVec Ideal S512x512 .bf16) (ix2 a b) = blockOf (t.val / 8) (t.val % 8) (Vn m c) a.val b.val := by
  have hN : t.val < 16 := Nat.lt_of_lt_of_eq t.isLt N_0
  have hi := index2 t
  unfold blockOf Vn
  rw [at2_eq _ (show 512 * (t.val % 8) + a.val < 4096 by have := a.isLt; omega) (show 512 * (t.val / 8) + b.val < 1024 by have := b.isLt; omega)]
  unfold iblk
  rw [View.read_apply]
  show V m c main_v56 _ = V m c main_v56 _
  congr 1
  funext x
  apply Fin.ext
  match x with
  | ⟨0, _⟩ => show win0_2.index t 0 * 512 + 1 * a.val = 512 * (t.val % 8) + a.val; rw [hi.1]; omega
  | ⟨1, _⟩ => show win0_2.index t 1 * 512 + 1 * b.val = 512 * (t.val / 8) + b.val; rw [hi.2]; omega

theorem iblk3_apply (c : Dev nD) (t : Fin cfg0.N) (a : Fin 4096) (b : Fin 512) :
    (iblk m c 3 t : FVec Ideal S4096x512 .bf16) (ix2 a b) = colsOf (t.val / 8) (Dn m c) a.val b.val := by
  have hN : t.val < 16 := Nat.lt_of_lt_of_eq t.isLt N_0
  have hi := index3 t
  unfold colsOf Dn
  rw [at2_eq _ (show a.val < 4096 by have := a.isLt; omega) (show 512 * (t.val / 8) + b.val < 1024 by have := b.isLt; omega)]
  unfold iblk
  rw [View.read_apply]
  show V m c main_v67 _ = V m c main_v67 _
  congr 1
  funext x
  apply Fin.ext
  match x with
  | ⟨0, _⟩ => show win0_3.index t 0 * 4096 + 1 * a.val = a.val; rw [hi.1]; omega
  | ⟨1, _⟩ => show win0_3.index t 1 * 512 + 1 * b.val = 512 * (t.val / 8) + b.val; rw [hi.2]; omega

/-! ## What each point leaves -/

/-- The pipeline's proof data: each input's buffer keeps its block; the query gradient holds the sum over the key blocks
so far of its head group, the other two outputs their block's whole sum. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun x => dqT (Qn m c) (Kn m c) (Vn m c) (Dn m c) (t.val / 8) (t.val % 8 + 1) (x 0).val (x 1).val
    | ⟨5, _⟩ => fun x => dkT (Qn m c) (Kn m c) (Vn m c) (Dn m c) (t.val / 8) (t.val % 8) (x 0).val (x 1).val
    | ⟨6, _⟩ => fun x => dvT (Qn m c) (Kn m c) (Dn m c) (t.val / 8) (t.val % 8) (x 0).val (x 1).val
  Φ _ := Pipeline.ΦA spec0 c
  q _ := fullShare
  owed _ := 0

theorem A_eq (c : Dev nD) (w : Fin cfg0.W) : (dats m 0 c).A w = V m c (Pipeline.arrRef spec0 w) := by
  dsimp only [dats]

/-- The query gradient's buffer after a point, -/
def out4 (c : Dev nD) (t : Fin cfg0.N) : FVec Ideal S4096x512 .f32 :=
  fun x => dqT (Qn m c) (Kn m c) (Vn m c) (Dn m c) (t.val / 8) (t.val % 8 + 1) (x 0).val (x 1).val
/-- the key gradient's, -/
def out5 (c : Dev nD) (t : Fin cfg0.N) : FVec Ideal S512x512 .bf16 :=
  fun x => dkT (Qn m c) (Kn m c) (Vn m c) (Dn m c) (t.val / 8) (t.val % 8) (x 0).val (x 1).val
/-- and the value gradient's. -/
def out6 (c : Dev nD) (t : Fin cfg0.N) : FVec Ideal S512x512 .bf16 :=
  fun x => dvT (Qn m c) (Kn m c) (Dn m c) (t.val / 8) (t.val % 8) (x 0).val (x 1).val

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]; rfl
theorem after0_5 (c : Dev nD) (t : Fin cfg0.N) : (dats m 0 c).after 5 t = out5 m c t := by dsimp only [dats]; rfl
theorem after0_6 (c : Dev nD) (t : Fin cfg0.N) : (dats m 0 c).after 6 t = out6 m c t := by dsimp only [dats]; rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later key block the query gradient's buffer holds what the point before left. -/
theorem before0_4 (c : Dev nD) (t : Fin cfg0.N) (h : ¬t.val % 8 = 0) (d) :
    (dats m 0 c).before 4 t d = out4 m c ⟨t.val - 1, Nat.lt_of_le_of_lt (Nat.sub_le _ _) t.isLt⟩ := by
  rw [Dat.before_out_kept (dats m 0 c) 4 rfl t (by omega)
    (Bool.eq_false_iff.mpr fun hf => by have := (flush0_4 _).mp hf; dsimp only at this; omega) (fun _ => rfl) (fun _ _ => rfl) d, after0_4]

/-- The current buffers as the body takes them. -/
abbrev ms0_0 (t : Fin cfg0.N) : Memref sig .tc .vmem S4096x512 .bf16 := win0_0.stage (cfg0.slots t 0)
abbrev ms0_1 (t : Fin cfg0.N) : Memref sig .tc .vmem S512x512 .bf16 := win0_1.stage (cfg0.slots t 1)
abbrev ms0_2 (t : Fin cfg0.N) : Memref sig .tc .vmem S512x512 .bf16 := win0_2.stage (cfg0.slots t 2)
abbrev ms0_3 (t : Fin cfg0.N) : Memref sig .tc .vmem S4096x512 .bf16 := win0_3.stage (cfg0.slots t 3)
abbrev ms0_4 (t : Fin cfg0.N) : Memref sig .tc .vmem S4096x512 .f32 := win0_4.stage (cfg0.slots t 4)
abbrev ms0_5 (t : Fin cfg0.N) : Memref sig .tc .vmem S512x512 .bf16 := win0_5.stage (cfg0.slots t 5)
abbrev ms0_6 (t : Fin cfg0.N) : Memref sig .tc .vmem S512x512 .bf16 := win0_6.stage (cfg0.slots t 6)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point: the two cases of its conditional. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 16 := lt_of_lt_of_eq t.isLt (show cfg0.N = 16 from N_0)
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply ((body_first c (grid0.coords t) _ _ _ _ _ _ _ _ _ _ _ _ _ _ ((hcond0_0 t).mpr h0) (iblk m c 0 t) (iblk m c 1 t) (iblk m c 2 t) (iblk m c 3 t)
      (out4 m c t) (out5 m c t) (out6 m c t) (kb_eq t) (iblk0_apply m c t) (iblk1_apply m c t) (iblk2_apply m c t) (iblk3_apply m c t)
      (fun a b => by show dqT _ _ _ _ (t.val / 8) (t.val % 8 + 1) a.val b.val = _; rw [h0]; exact dqT_first ..) (fun a b => rfl) (fun a b => rfl)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨HΦ, Ho, ⟨%d0, H0⟩, ⟨%d1, H1⟩, ⟨%d2, H2⟩, ⟨%d3, H3⟩, ⟨%d4, H4⟩, ⟨%d5, H5⟩, ⟨%d6, H6⟩⟩
    simp only [before0_4 m c t h0]
    iapply ((body_next
      (G := dqT (Qn m c) (Kn m c) (Vn m c) (Dn m c) (t.val / 8) (t.val % 8)) c (grid0.coords t) _ _ _ _ _ _ _ _ _ _ _ _ _ _ (fun h => h0 ((hcond0_0 t).mp h)) (iblk m c 0 t) (iblk m c 1 t) (iblk m c 2 t) (iblk m c 3 t) (out4 m c ⟨t.val - 1, Nat.lt_of_le_of_lt (Nat.sub_le _ _) t.isLt⟩)
      (out4 m c t) (out5 m c t) (out6 m c t) (kb_eq t) (iblk0_apply m c t) (iblk1_apply m c t) (iblk2_apply m c t) (iblk3_apply m c t)
      (fun a b => by
        show dqT _ _ _ _ ((t.val - 1) / 8) ((t.val - 1) % 8 + 1) a.val b.val = _
        rw [show (t.val - 1) / 8 = t.val / 8 by omega, show (t.val - 1) % 8 + 1 = t.val % 8 by omega]) (fun a b => dqT_step ..) (fun a b => rfl) (fun a b => rfl)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
/-- From any memory with zero counters every execution ends, with the arrays at what the points left, and the counters at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- The arguments end as they were, and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-! ## The result arrays of the call -/

/-- The query gradient, every column of every row. -/
def fin4 (c : Dev nD) : FVec Ideal S4096x1024 .f32 := fun i => dqT (Qn m c) (Kn m c) (Vn m c) (Dn m c) ((i 1).val / 512) 8 (i 0).val ((i 1).val % 512)

theorem out4_at (c : Dev nD) (t : Fin cfg0.N) (x : S4096x512.Idx) (i : S4096x1024.Idx) (h0 : (i 0).val = (x 0).val)
    (h1 : (i 1).val = 512 * (t.val / 8) + (x 1).val) (ht : t.val % 8 = 7) : out4 m c t x = fin4 m c i := by
  have hN : t.val < 16 := lt_of_lt_of_eq t.isLt (show cfg0.N = 16 from N_0)
  have b0 : (x 0).val < 4096 := (x 0).isLt
  have b1 : (x 1).val < 512 := (x 1).isLt
  unfold out4 fin4
  rw [h0, h1, show (512 * (t.val / 8) + (x 1).val) / 512 = t.val / 8 by omega,
    show (512 * (t.val / 8) + (x 1).val) % 512 = (x 1).val by omega, ht]

theorem flushed4 (c : Dev nD) (t : Fin cfg0.N) (hf : (cfg0.win 4).flush t = true) :
    (dats m 0 c).flushed 4 t = ((cfg0.win 4).blk t).view.read (Elt Ideal) (fin4 m c) := by
  have hN : t.val < 16 := lt_of_lt_of_eq t.isLt (show cfg0.N = 16 from N_0)
  have hi := index4 t
  show (cfg0.win 4).cut (grid0.coords t) ((dats m 0 c).after 4 t) = _
  rw [after0_4]
  funext x
  rw [View.read_apply]
  have h0 : (x 0).val < 4096 := (x 0).isLt
  have h1 : (x 1).val < 512 := (x 1).isLt
  refine out4_at m c t x _ ?_ ?_ ((flush0_4 t).mp hf)
  · show win0_4.index t 0 * 4096 + 1 * (x 0).val = _
    rw [hi.1]; omega
  · show win0_4.index t 1 * 512 + 1 * (x 1).val = _
    rw [hi.2]; omega

theorem final4 (c : Dev nD) : (dats m 0 c).arrAt 4 cfg0.N = fin4 m c :=
  (dats m 0 c).arrAt_eq_of_cover 4 (fin4 m c) (flushed4 m c) fun i => by
    have h0 : (i 0 : Nat) < 4096 := (i 0).isLt
    have h1 : (i 1 : Nat) < 1024 := (i 1).isLt
    have hlt : 8 * ((i 1).val / 512) + 7 < cfg0.N := by rw [show cfg0.N = 16 from N_0]; omega
    have hi := index4 ⟨8 * ((i 1).val / 512) + 7, hlt⟩
    refine ⟨⟨8 * ((i 1).val / 512) + 7, hlt⟩, (flush0_4 _).mpr (show (8 * ((i 1).val / 512) + 7) % 8 = 7 by omega), ?_⟩
    show i ∈ ((View.whole main_v68_0).slice (win0_4.rect ⟨8 * ((i 1).val / 512) + 7, hlt⟩)).set
    rw [View.set_slice_whole, Rect.mem_set_unit]
    dsimp only at hi
    intro a
    match a with
    | ⟨0, _⟩ =>
      show win0_4.index ⟨8 * ((i 1).val / 512) + 7, hlt⟩ 0 * 4096 ≤ (i 0 : Nat) ∧ (i 0 : Nat) < win0_4.index ⟨8 * ((i 1).val / 512) + 7, hlt⟩ 0 * 4096 + 4096
      rw [hi.1]; omega
    | ⟨1, _⟩ =>
      show win0_4.index ⟨8 * ((i 1).val / 512) + 7, hlt⟩ 1 * 512 ≤ (i 1 : Nat) ∧ (i 1 : Nat) < win0_4.index ⟨8 * ((i 1).val / 512) + 7, hlt⟩ 1 * 512 + 512
      rw [hi.2]; omega

/-- The key gradient. -/
def fin5 (c : Dev nD) : FVec Ideal S4096x1024 .bf16 := fun i => dkT (Qn m c) (Kn m c) (Vn m c) (Dn m c) ((i 1).val / 512) ((i 0).val / 512) ((i 0).val % 512) ((i 1).val % 512)

theorem out5_at (c : Dev nD) (t : Fin cfg0.N) (x : S512x512.Idx) (i : S4096x1024.Idx) (h0 : (i 0).val = 512 * (t.val % 8) + (x 0).val)
    (h1 : (i 1).val = 512 * (t.val / 8) + (x 1).val) : out5 m c t x = fin5 m c i := by
  have hN : t.val < 16 := lt_of_lt_of_eq t.isLt (show cfg0.N = 16 from N_0)
  have b0 : (x 0).val < 512 := (x 0).isLt
  have b1 : (x 1).val < 512 := (x 1).isLt
  unfold out5 fin5
  rw [h0, h1, show (512 * (t.val / 8) + (x 1).val) / 512 = t.val / 8 by omega,
    show (512 * (t.val / 8) + (x 1).val) % 512 = (x 1).val by omega,
    show (512 * (t.val % 8) + (x 0).val) / 512 = t.val % 8 by omega,
    show (512 * (t.val % 8) + (x 0).val) % 512 = (x 0).val by omega]

theorem flushed5 (c : Dev nD) (t : Fin cfg0.N) (hf : (cfg0.win 5).flush t = true) :
    (dats m 0 c).flushed 5 t = ((cfg0.win 5).blk t).view.read (Elt Ideal) (fin5 m c) := by
  have hN : t.val < 16 := lt_of_lt_of_eq t.isLt (show cfg0.N = 16 from N_0)
  have hi := index5 t
  show (cfg0.win 5).cut (grid0.coords t) ((dats m 0 c).after 5 t) = _
  rw [after0_5]
  funext x
  rw [View.read_apply]
  have h0 : (x 0).val < 512 := (x 0).isLt
  have h1 : (x 1).val < 512 := (x 1).isLt
  refine out5_at m c t x _ ?_ ?_
  · show win0_5.index t 0 * 512 + 1 * (x 0).val = _
    rw [hi.1]; omega
  · show win0_5.index t 1 * 512 + 1 * (x 1).val = _
    rw [hi.2]; omega

theorem final5 (c : Dev nD) : (dats m 0 c).arrAt 5 cfg0.N = fin5 m c :=
  (dats m 0 c).arrAt_eq_of_cover 5 (fin5 m c) (flushed5 m c) fun i => by
    have h0 : (i 0 : Nat) < 4096 := (i 0).isLt
    have h1 : (i 1 : Nat) < 1024 := (i 1).isLt
    have hlt : 8 * ((i 1).val / 512) + (i 0).val / 512 < cfg0.N := by rw [show cfg0.N = 16 from N_0]; omega
    have hi := index5 ⟨8 * ((i 1).val / 512) + (i 0).val / 512, hlt⟩
    refine ⟨⟨8 * ((i 1).val / 512) + (i 0).val / 512, hlt⟩, flush0_5 _, ?_⟩
    show i ∈ ((View.whole main_v68_1).slice (win0_5.rect ⟨8 * ((i 1).val / 512) + (i 0).val / 512, hlt⟩)).set
    rw [View.set_slice_whole, Rect.mem_set_unit]
    dsimp only at hi
    intro a
    match a with
    | ⟨0, _⟩ =>
      show win0_5.index ⟨8 * ((i 1).val / 512) + (i 0).val / 512, hlt⟩ 0 * 512 ≤ (i 0 : Nat) ∧ (i 0 : Nat) < win0_5.index ⟨8 * ((i 1).val / 512) + (i 0).val / 512, hlt⟩ 0 * 512 + 512
      rw [hi.1]; omega
    | ⟨1, _⟩ =>
      show win0_5.index ⟨8 * ((i 1).val / 512) + (i 0).val / 512, hlt⟩ 1 * 512 ≤ (i 1 : Nat) ∧ (i 1 : Nat) < win0_5.index ⟨8 * ((i 1).val / 512) + (i 0).val / 512, hlt⟩ 1 * 512 + 512
      rw [hi.2]; omega

/-- The value gradient. -/
def fin6 (c : Dev nD) : FVec Ideal S4096x1024 .bf16 := fun i => dvT (Qn m c) (Kn m c) (Dn m c) ((i 1).val / 512) ((i 0).val / 512) ((i 0).val % 512) ((i 1).val % 512)

theorem out6_at (c : Dev nD) (t : Fin cfg0.N) (x : S512x512.Idx) (i : S4096x1024.Idx) (h0 : (i 0).val = 512 * (t.val % 8) + (x 0).val)
    (h1 : (i 1).val = 512 * (t.val / 8) + (x 1).val) : out6 m c t x = fin6 m c i := by
  have hN : t.val < 16 := lt_of_lt_of_eq t.isLt (show cfg0.N = 16 from N_0)
  have b0 : (x 0).val < 512 := (x 0).isLt
  have b1 : (x 1).val < 512 := (x 1).isLt
  unfold out6 fin6
  rw [h0, h1, show (512 * (t.val / 8) + (x 1).val) / 512 = t.val / 8 by omega,
    show (512 * (t.val / 8) + (x 1).val) % 512 = (x 1).val by omega,
    show (512 * (t.val % 8) + (x 0).val) / 512 = t.val % 8 by omega,
    show (512 * (t.val % 8) + (x 0).val) % 512 = (x 0).val by omega]

theorem flushed6 (c : Dev nD) (t : Fin cfg0.N) (hf : (cfg0.win 6).flush t = true) :
    (dats m 0 c).flushed 6 t = ((cfg0.win 6).blk t).view.read (Elt Ideal) (fin6 m c) := by
  have hN : t.val < 16 := lt_of_lt_of_eq t.isLt (show cfg0.N = 16 from N_0)
  have hi := index6 t
  show (cfg0.win 6).cut (grid0.coords t) ((dats m 0 c).after 6 t) = _
  rw [after0_6]
  funext x
  rw [View.read_apply]
  have h0 : (x 0).val < 512 := (x 0).isLt
  have h1 : (x 1).val < 512 := (x 1).isLt
  refine out6_at m c t x _ ?_ ?_
  · show win0_6.index t 0 * 512 + 1 * (x 0).val = _
    rw [hi.1]; omega
  · show win0_6.index t 1 * 512 + 1 * (x 1).val = _
    rw [hi.2]; omega

theorem final6 (c : Dev nD) : (dats m 0 c).arrAt 6 cfg0.N = fin6 m c :=
  (dats m 0 c).arrAt_eq_of_cover 6 (fin6 m c) (flushed6 m c) fun i => by
    have h0 : (i 0 : Nat) < 4096 := (i 0).isLt
    have h1 : (i 1 : Nat) < 1024 := (i 1).isLt
    have hlt : 8 * ((i 1).val / 512) + (i 0).val / 512 < cfg0.N := by rw [show cfg0.N = 16 from N_0]; omega
    have hi := index6 ⟨8 * ((i 1).val / 512) + (i 0).val / 512, hlt⟩
    refine ⟨⟨8 * ((i 1).val / 512) + (i 0).val / 512, hlt⟩, flush0_6 _, ?_⟩
    show i ∈ ((View.whole main_v68_2).slice (win0_6.rect ⟨8 * ((i 1).val / 512) + (i 0).val / 512, hlt⟩)).set
    rw [View.set_slice_whole, Rect.mem_set_unit]
    dsimp only at hi
    intro a
    match a with
    | ⟨0, _⟩ =>
      show win0_6.index ⟨8 * ((i 1).val / 512) + (i 0).val / 512, hlt⟩ 0 * 512 ≤ (i 0 : Nat) ∧ (i 0 : Nat) < win0_6.index ⟨8 * ((i 1).val / 512) + (i 0).val / 512, hlt⟩ 0 * 512 + 512
      rw [hi.1]; omega
    | ⟨1, _⟩ =>
      show win0_6.index ⟨8 * ((i 1).val / 512) + (i 0).val / 512, hlt⟩ 1 * 512 ≤ (i 1 : Nat) ∧ (i 1 : Nat) < win0_6.index ⟨8 * ((i 1).val / 512) + (i 0).val / 512, hlt⟩ 1 * 512 + 512
      rw [hi.2]; omega

end Cert.KernelIdeal.Run
-- ==== Proof.HostE.lean ====
module

public import proofs.«01_k».proof.Proof.HostK
public import proofs.«01_k».proof.Proof.Attn
public import proofs.«01_k».proof.Proof.Run

/-! The kernel's four wide arrays, element by element, where the arguments are real numbers. -/

@[expose] public section

noncomputable section

namespace Cert.KernelIdeal.Host

open Idealize.ShloMosaic Idealize.ShloMosaic.TcCoe Idealize.ShloMosaic.Tactic
open Cert.KernelIdeal Cert.KernelIdeal.Gen Cert.Attn

variable {q k : FVec Ideal S4096x8x96 .f32} {v d : FVec Ideal S4096x8x64 .f32} {qr kr vr dr : ℕ → ℕ → ℕ → ℝ}
variable (hq : ∀ (r : Fin 4096) (h : Fin 8) (l : Fin 96), q (ix3 r h l) = ((qr r.val h.val l.val : ℝ) : EReal))
variable (hk : ∀ (r : Fin 4096) (h : Fin 8) (l : Fin 96), k (ix3 r h l) = ((kr r.val h.val l.val : ℝ) : EReal))
variable (hv : ∀ (r : Fin 4096) (h : Fin 8) (l : Fin 64), v (ix3 r h l) = ((vr r.val h.val l.val : ℝ) : EReal))
variable (hd : ∀ (r : Fin 4096) (h : Fin 8) (l : Fin 64), d (ix3 r h l) = ((dr r.val h.val l.val : ℝ) : EReal))

include hq hk in
theorem masked_at (h : Fin 8) (r s : Fin 4096) :
    masked q k (ix3 h r s) = msk qr kr scale h.val r.val s.val := by
  unfold masked
  pointwise
  simp only [hq, hk]
  rw [select_mask, dot_fin 96 (fun l => qr r.val h.val l) (fun l => kr s.val h.val l), scale_eq, ← EReal.coe_mul]
  exact congrArg (fun z : EReal => if s.val ≤ r.val then _ else z) ninf_eq

include hq hk in
theorem rowMax_at (h : Fin 8) (r : Fin 4096) :
    rowMax q k (ix2 h r) = ((M qr kr scale h.val r.val : ℝ) : EReal) := by
  have e : ∀ s, masked q k (ix3 h r s) = _ := fun s => masked_at hq hk h r s
  unfold rowMax
  generalize masked q k = y at e
  pointwise
  simp only [e]
  rw [ninf_eq]
  exact mx_eq ..

include hq hk in
theorem exps_at (h : Fin 8) (r s : Fin 4096) :
    exps q k (ix3 h r s) = ((E qr kr scale h.val r.val s.val : ℝ) : EReal) := by
  have e := masked_at hq hk h r s
  have e' := rowMax_at hq hk h r
  unfold exps
  generalize masked q k = y at e
  generalize rowMax q k = y' at e'
  pointwise
  rw [e, e']
  exact exp_eq ..

include hq hk in
theorem rowSum_at (h : Fin 8) (r : Fin 4096) :
    rowSum q k (ix2 h r) = ((Z qr kr scale h.val r.val : ℝ) : EReal) := by
  have e : ∀ s, exps q k (ix3 h r s) = _ := fun s => exps_at hq hk h r s
  unfold rowSum
  generalize exps q k = y at e
  pointwise
  simp only [e]
  exact coe_fin 4096 fun s => E qr kr scale h.val r.val s

include hq hk in
theorem probs_at (h : Fin 8) (r s : Fin 4096) :
    probs q k (ix3 h r s) = ((P qr kr scale h.val r.val s.val : ℝ) : EReal) := by
  have e := exps_at hq hk h r s
  have e' := rowSum_at hq hk h r
  unfold probs
  generalize exps q k = y at e
  generalize rowSum q k = y' at e'
  pointwise
  rw [e, e']
  exact div_eq _ _ (Z_pos ..).ne'

theorem addf_at {s : Shape} (x y : FVec Ideal s .f32) (i : s.Idx) : addf x y i = x i + y i := rfl
theorem log_at {s : Shape} (x : FVec Ideal s .f32) (i : s.Idx) :
    Idealize.ShloMosaic.Host.log x i = Ideal.log (x i) := rfl
theorem negf_at {s : Shape} (x : FVec Ideal s .f32) (i : s.Idx) :
    Idealize.ShloMosaic.Host.negf x i = -(x i) := rfl

theorem stat_at (y : FVec Ideal S8x4096 .f32) (h : Fin 8) (r : Fin 4096) :
    broadcastInDim S8x4096x1 ![0, 1] bcast_S8x4096_S8x4096x1_0_1 y (ix3 h r 0) = y (ix2 h r) := by
  pointwise

theorem neg_turn_at (y : FVec Ideal S8x4096 .f32) (h : Fin 8) (r : Fin 4096) :
    transpose S4096x8 [1, 0] y transposes_S8x4096_S4096x8_1_0 (ix2 r h) = y (ix2 h r) :=
  transpose_apply [1, 0] y transposes_S8x4096_S4096x8_1_0 (ix2 r h) (ix2 h r) fun b => match b with
    | ⟨0, _⟩ => rfl
    | ⟨1, _⟩ => rfl

include hq hk in
theorem lse_at (h : Fin 8) (r : Fin 4096) : lse q k (ix2 h r)
    = ((M qr kr scale h.val r.val + Real.log (Z qr kr scale h.val r.val) : ℝ) : EReal) := by
  have e := rowMax_at hq hk h r
  have e' := rowSum_at hq hk h r
  unfold lse
  generalize rowMax q k = y at e
  generalize rowSum q k = y' at e'
  rw [shapeCast_apply _ shapeCasts_S8x4096x1_S8x4096 (ix2 h r) (ix3 h r 0) (by
    rewrite [Shape.rowMajor_val_two, Shape.rowMajor_val_three]
    show (h.val * 4096 + r.val) * 1 + 0 = h.val * 4096 + r.val
    omega)]
  rw [addf_at, log_at, stat_at, stat_at, e, e', Ideal.log_coe, if_neg (not_le.mpr (Z_pos ..)), EReal.coe_add]

include hq hk in
theorem nlse_at (h : Fin 8) (r : Fin 4096) : nlse q k (ix2 r h)
    = ((-(M qr kr scale h.val r.val + Real.log (Z qr kr scale h.val r.val)) : ℝ) : EReal) := by
  have e := lse_at hq hk h r
  unfold nlse
  generalize lse q k = y at e
  rw [negf_at, neg_turn_at, e, EReal.coe_neg]

include hq hk hv hd in
theorem delta_at (h : Fin 8) (r : Fin 4096) : delta q k v d (ix2 r h)
    = ((Dl qr kr vr dr scale h.val r.val : ℝ) : EReal) := by
  have e : ∀ s, probs q k (ix3 h r s) = _ := fun s => probs_at hq hk h r s
  unfold delta
  generalize probs q k = y at e
  pointwise
  have e' : ∀ l : Fin 64, ∑ s, v (ix3 s h l) * y (ix3 h r s)
      = ((∑ s ∈ Finset.range 4096, vr s h.val l.val * P qr kr scale h.val r.val s : ℝ) : EReal) := fun l => by
    simp only [e, hv]
    exact dot_fin 4096 (fun s => vr s h.val l.val) (fun s => P qr kr scale h.val r.val s)
  simp only [e', hd]
  exact dot_fin 64 (fun l => dr r.val h.val l) (fun l => ∑ s ∈ Finset.range 4096, vr s h.val l * P qr kr scale h.val r.val s)

theorem col_at (x : FVec Ideal S4096x8 .bf16) (r : Fin 4096) (h : Fin 8) : col x (ix3 r h 0) = x (ix2 r h) := by
  unfold col
  pointwise

theorem low_at (x : FVec Ideal S4096x8 .f32) (r : Fin 4096) (h : Fin 8) (y : ℝ) (e : x (ix2 r h) = (y : EReal)) :
    low x (ix2 r h) = 0 := by
  unfold low
  pointwise
  rw [e, ← EReal.coe_sub, sub_self, EReal.coe_zero]

theorem ones_at (r : Fin 4096) (h : Fin 8) : ones (ix2 r h) = 1 := by
  unfold ones
  pointwise

theorem wide96_lt (x : FVec Ideal S4096x8x96 .bf16) (a b : FVec Ideal S4096x8x1 .bf16) (r : Fin 4096) (h : Fin 8)
    (l : Fin 128) (hl : l.val < 96) : wide96 x a b (ix3 r h l) = x (ix3 r h ⟨l.val, hl⟩) := by
  unfold wide96
  exact concatenate_apply_piece 2 [⟨S4096x8x96, x⟩, ⟨S4096x8x1, a⟩, ⟨S4096x8x1, b⟩,
      ⟨S4096x8x30, broadcastInDim S4096x8x30 ![] bcast_S_S4096x8x30 (constant S_ .bf16 0x0000#16)⟩]
      concatenates_S4096x8x96_S4096x8x1_S4096x8x1_S4096x8x30_S4096x8x128_d2 (ix3 r h l) 0 (by decide : 0 < 4) S4096x8x96 _ rfl rfl 0 rfl (ix3 r h ⟨l.val, hl⟩)
      (fun b hb => match b, hb with
        | ⟨0, _⟩, _ => rfl
        | ⟨1, _⟩, _ => rfl
        | ⟨2, _⟩, hb => absurd rfl hb) (by show 0 + l.val = l.val; omega)

theorem wide96_one (x : FVec Ideal S4096x8x96 .bf16) (a b : FVec Ideal S4096x8x1 .bf16) (r : Fin 4096) (h : Fin 8)
    (l : Fin 128) (hl : l.val = 96) : wide96 x a b (ix3 r h l) = a (ix3 r h 0) := by
  unfold wide96
  exact concatenate_apply_piece 2 [⟨S4096x8x96, x⟩, ⟨S4096x8x1, a⟩, ⟨S4096x8x1, b⟩,
      ⟨S4096x8x30, broadcastInDim S4096x8x30 ![] bcast_S_S4096x8x30 (constant S_ .bf16 0x0000#16)⟩]
      concatenates_S4096x8x96_S4096x8x1_S4096x8x1_S4096x8x30_S4096x8x128_d2 (ix3 r h l) 1 (by decide : 1 < 4) S4096x8x1 _ rfl rfl 96 rfl (ix3 r h 0)
      (fun b hb => match b, hb with
        | ⟨0, _⟩, _ => rfl
        | ⟨1, _⟩, _ => rfl
        | ⟨2, _⟩, hb => absurd rfl hb) (by show 96 + 0 = l.val; omega)

theorem wide96_two (x : FVec Ideal S4096x8x96 .bf16) (a b : FVec Ideal S4096x8x1 .bf16) (r : Fin 4096) (h : Fin 8)
    (l : Fin 128) (hl : l.val = 97) : wide96 x a b (ix3 r h l) = b (ix3 r h 0) := by
  unfold wide96
  exact concatenate_apply_piece 2 [⟨S4096x8x96, x⟩, ⟨S4096x8x1, a⟩, ⟨S4096x8x1, b⟩,
      ⟨S4096x8x30, broadcastInDim S4096x8x30 ![] bcast_S_S4096x8x30 (constant S_ .bf16 0x0000#16)⟩]
      concatenates_S4096x8x96_S4096x8x1_S4096x8x1_S4096x8x30_S4096x8x128_d2 (ix3 r h l) 2 (by decide : 2 < 4) S4096x8x1 _ rfl rfl 97 rfl (ix3 r h 0)
      (fun b hb => match b, hb with
        | ⟨0, _⟩, _ => rfl
        | ⟨1, _⟩, _ => rfl
        | ⟨2, _⟩, hb => absurd rfl hb) (by show 97 + 0 = l.val; omega)

theorem wide96_rest (x : FVec Ideal S4096x8x96 .bf16) (a b : FVec Ideal S4096x8x1 .bf16) (r : Fin 4096) (h : Fin 8)
    (l : Fin 128) (hl : 98 ≤ l.val) : wide96 x a b (ix3 r h l) = 0 := by
  have hl' := l.isLt
  unfold wide96
  refine (concatenate_apply_piece 2 [⟨S4096x8x96, x⟩, ⟨S4096x8x1, a⟩, ⟨S4096x8x1, b⟩,
      ⟨S4096x8x30, broadcastInDim S4096x8x30 ![] bcast_S_S4096x8x30 (constant S_ .bf16 0x0000#16)⟩]
      concatenates_S4096x8x96_S4096x8x1_S4096x8x1_S4096x8x30_S4096x8x128_d2 (ix3 r h l) 3 (by decide : 3 < 4) S4096x8x30 _ rfl rfl 98 rfl (ix3 r h ⟨l.val - 98, by omega⟩)
      (fun b hb => match b, hb with
        | ⟨0, _⟩, _ => rfl
        | ⟨1, _⟩, _ => rfl
        | ⟨2, _⟩, hb => absurd rfl hb) (by show 98 + (l.val - 98) = l.val; omega)).trans ?_
  pointwise

theorem wide64_lt (x : FVec Ideal S4096x8x64 .bf16) (a b : FVec Ideal S4096x8x1 .bf16) (r : Fin 4096) (h : Fin 8)
    (l : Fin 128) (hl : l.val < 64) : wide64 x a b (ix3 r h l) = x (ix3 r h ⟨l.val, hl⟩) := by
  unfold wide64
  exact concatenate_apply_piece 2 [⟨S4096x8x64, x⟩, ⟨S4096x8x1, a⟩, ⟨S4096x8x1, b⟩,
      ⟨S4096x8x62, broadcastInDim S4096x8x62 ![] bcast_S_S4096x8x62 (constant S_ .bf16 0x0000#16)⟩]
      concatenates_S4096x8x64_S4096x8x1_S4096x8x1_S4096x8x62_S4096x8x128_d2 (ix3 r h l) 0 (by decide : 0 < 4) S4096x8x64 _ rfl rfl 0 rfl (ix3 r h ⟨l.val, hl⟩)
      (fun b hb => match b, hb with
        | ⟨0, _⟩, _ => rfl
        | ⟨1, _⟩, _ => rfl
        | ⟨2, _⟩, hb => absurd rfl hb) (by show 0 + l.val = l.val; omega)

theorem wide64_one (x : FVec Ideal S4096x8x64 .bf16) (a b : FVec Ideal S4096x8x1 .bf16) (r : Fin 4096) (h : Fin 8)
    (l : Fin 128) (hl : l.val = 64) : wide64 x a b (ix3 r h l) = a (ix3 r h 0) := by
  unfold wide64
  exact concatenate_apply_piece 2 [⟨S4096x8x64, x⟩, ⟨S4096x8x1, a⟩, ⟨S4096x8x1, b⟩,
      ⟨S4096x8x62, broadcastInDim S4096x8x62 ![] bcast_S_S4096x8x62 (constant S_ .bf16 0x0000#16)⟩]
      concatenates_S4096x8x64_S4096x8x1_S4096x8x1_S4096x8x62_S4096x8x128_d2 (ix3 r h l) 1 (by decide : 1 < 4) S4096x8x1 _ rfl rfl 64 rfl (ix3 r h 0)
      (fun b hb => match b, hb with
        | ⟨0, _⟩, _ => rfl
        | ⟨1, _⟩, _ => rfl
        | ⟨2, _⟩, hb => absurd rfl hb) (by show 64 + 0 = l.val; omega)

theorem wide64_two (x : FVec Ideal S4096x8x64 .bf16) (a b : FVec Ideal S4096x8x1 .bf16) (r : Fin 4096) (h : Fin 8)
    (l : Fin 128) (hl : l.val = 65) : wide64 x a b (ix3 r h l) = b (ix3 r h 0) := by
  unfold wide64
  exact concatenate_apply_piece 2 [⟨S4096x8x64, x⟩, ⟨S4096x8x1, a⟩, ⟨S4096x8x1, b⟩,
      ⟨S4096x8x62, broadcastInDim S4096x8x62 ![] bcast_S_S4096x8x62 (constant S_ .bf16 0x0000#16)⟩]
      concatenates_S4096x8x64_S4096x8x1_S4096x8x1_S4096x8x62_S4096x8x128_d2 (ix3 r h l) 2 (by decide : 2 < 4) S4096x8x1 _ rfl rfl 65 rfl (ix3 r h 0)
      (fun b hb => match b, hb with
        | ⟨0, _⟩, _ => rfl
        | ⟨1, _⟩, _ => rfl
        | ⟨2, _⟩, hb => absurd rfl hb) (by show 65 + 0 = l.val; omega)

theorem wide64_rest (x : FVec Ideal S4096x8x64 .bf16) (a b : FVec Ideal S4096x8x1 .bf16) (r : Fin 4096) (h : Fin 8)
    (l : Fin 128) (hl : 66 ≤ l.val) : wide64 x a b (ix3 r h l) = 0 := by
  have hl' := l.isLt
  unfold wide64
  refine (concatenate_apply_piece 2 [⟨S4096x8x64, x⟩, ⟨S4096x8x1, a⟩, ⟨S4096x8x1, b⟩,
      ⟨S4096x8x62, broadcastInDim S4096x8x62 ![] bcast_S_S4096x8x62 (constant S_ .bf16 0x0000#16)⟩]
      concatenates_S4096x8x64_S4096x8x1_S4096x8x1_S4096x8x62_S4096x8x128_d2 (ix3 r h l) 3 (by decide : 3 < 4) S4096x8x62 _ rfl rfl 66 rfl (ix3 r h ⟨l.val - 66, by omega⟩)
      (fun b hb => match b, hb with
        | ⟨0, _⟩, _ => rfl
        | ⟨1, _⟩, _ => rfl
        | ⟨2, _⟩, hb => absurd rfl hb) (by show 66 + (l.val - 66) = l.val; omega)).trans ?_
  pointwise

/-- The lanes of a wide array: the argument's, two more and zeros. -/
def lanes (n : ℕ) (f : ℕ → ℕ → ℕ → ℝ) (x y : ℕ → ℕ → ℝ) (r h l : ℕ) : ℝ :=
  if l < n then f r h l else if l = n then x r h else if l = n + 1 then y r h else 0

/-- The wide queries. -/
def wq (q k : ℕ → ℕ → ℕ → ℝ) : ℕ → ℕ → ℕ → ℝ :=
  lanes 96 (fun r h l => q r h l * scale) (fun r h => -(M q k scale h r + Real.log (Z q k scale h r))) (fun _ _ => 0)
/-- The wide keys. -/
def wk (k : ℕ → ℕ → ℕ → ℝ) : ℕ → ℕ → ℕ → ℝ := lanes 96 k (fun _ _ => 1) (fun _ _ => 1)
/-- The wide values. -/
def wv (v : ℕ → ℕ → ℕ → ℝ) : ℕ → ℕ → ℕ → ℝ := lanes 64 v (fun _ _ => 1) (fun _ _ => 1)
/-- The wide gradient of the output. -/
def wd (q k v d : ℕ → ℕ → ℕ → ℝ) : ℕ → ℕ → ℕ → ℝ :=
  lanes 64 d (fun r h => -Dl q k v d scale h r) (fun _ _ => 0)

theorem wide96_at {x : FVec Ideal S4096x8x96 .bf16} {a b : FVec Ideal S4096x8x1 .bf16} {f : ℕ → ℕ → ℕ → ℝ} {ar br : ℕ → ℕ → ℝ}
    (r : Fin 4096) (h : Fin 8) (l : Fin 128) (hx : ∀ l : Fin 96, x (ix3 r h l) = ((f r.val h.val l.val : ℝ) : EReal))
    (ha : a (ix3 r h 0) = ((ar r.val h.val : ℝ) : EReal)) (hb : b (ix3 r h 0) = ((br r.val h.val : ℝ) : EReal)) :
    wide96 x a b (ix3 r h l) = ((lanes 96 f ar br r.val h.val l.val : ℝ) : EReal) := by
  unfold lanes
  by_cases h0 : l.val < 96
  · rw [wide96_lt _ _ _ r h l h0, if_pos h0, hx]
  · rw [if_neg h0]
    by_cases h1 : l.val = 96
    · rw [wide96_one _ _ _ r h l h1, if_pos h1, ha]
    · rw [if_neg h1]
      by_cases h2 : l.val = 96 + 1
      · rw [wide96_two _ _ _ r h l h2, if_pos h2, hb]
      · rw [if_neg h2, wide96_rest _ _ _ r h l (by omega), EReal.coe_zero]

theorem wide64_at {x : FVec Ideal S4096x8x64 .bf16} {a b : FVec Ideal S4096x8x1 .bf16} {f : ℕ → ℕ → ℕ → ℝ} {ar br : ℕ → ℕ → ℝ}
    (r : Fin 4096) (h : Fin 8) (l : Fin 128) (hx : ∀ l : Fin 64, x (ix3 r h l) = ((f r.val h.val l.val : ℝ) : EReal))
    (ha : a (ix3 r h 0) = ((ar r.val h.val : ℝ) : EReal)) (hb : b (ix3 r h 0) = ((br r.val h.val : ℝ) : EReal)) :
    wide64 x a b (ix3 r h l) = ((lanes 64 f ar br r.val h.val l.val : ℝ) : EReal) := by
  unfold lanes
  by_cases h0 : l.val < 64
  · rw [wide64_lt _ _ _ r h l h0, if_pos h0, hx]
  · rw [if_neg h0]
    by_cases h1 : l.val = 64
    · rw [wide64_one _ _ _ r h l h1, if_pos h1, ha]
    · rw [if_neg h1]
      by_cases h2 : l.val = 64 + 1
      · rw [wide64_two _ _ _ r h l h2, if_pos h2, hb]
      · rw [if_neg h2, wide64_rest _ _ _ r h l (by omega), EReal.coe_zero]

theorem trunc_at {s : Shape} (x : FVec Ideal s .f32) (i : s.Idx) : truncf .bf16 x bitsLt_bf16_f32 i = x i := rfl

include hq in
theorem scaled_at (r : Fin 4096) (h : Fin 8) (l : Fin 96) :
    truncf .bf16 (mulf q (broadcastInDim S4096x8x96 ![] bcast_S_S4096x8x96
      (constant (F := Ideal) S_ .f32 0x3DD105EC#32))) bitsLt_bf16_f32 (ix3 r h l)
      = ((qr r.val h.val l.val * scale : ℝ) : EReal) := by
  pointwise
  rw [hq, scale_eq, EReal.coe_mul]

include hq hk in
theorem wideQ_at (r : Fin 4096) (h : Fin 8) (l : Fin 128) :
    wideQ q k (ix3 r h l) = ((wq qr kr r.val h.val l.val : ℝ) : EReal) := by
  have e := nlse_at hq hk h r
  unfold wideQ wq
  generalize nlse q k = y at e
  refine wide96_at r h l (fun l => scaled_at hq r h l) ?_ ?_
  · rw [col_at, trunc_at, e]
  · rw [col_at, low_at _ r h _ e, EReal.coe_zero]

include hk in
theorem wideK_at (r : Fin 4096) (h : Fin 8) (l : Fin 128) :
    wideK k (ix3 r h l) = ((wk kr r.val h.val l.val : ℝ) : EReal) := by
  unfold wideK wk
  refine wide96_at r h l (fun l => (trunc_at k _).trans (hk r h l)) ?_ ?_ <;> rw [col_at, trunc_at, ones_at, EReal.coe_one]

include hv in
theorem wideV_at (r : Fin 4096) (h : Fin 8) (l : Fin 128) :
    wideV v (ix3 r h l) = ((wv vr r.val h.val l.val : ℝ) : EReal) := by
  unfold wideV wv
  refine wide64_at r h l (fun l => (trunc_at v _).trans (hv r h l)) ?_ ?_ <;> rw [col_at, trunc_at, ones_at, EReal.coe_one]

include hq hk hv hd in
theorem wideD_at (r : Fin 4096) (h : Fin 8) (l : Fin 128) :
    wideD q k v d (ix3 r h l) = ((wd qr kr vr dr r.val h.val l.val : ℝ) : EReal) := by
  have e := delta_at hq hk hv hd h r
  unfold wideD wd
  generalize delta q k v d = y at e
  have e' : Idealize.ShloMosaic.Host.negf y (ix2 r h) = ((-Dl qr kr vr dr scale h.val r.val : ℝ) : EReal) := by
    rw [negf_at, e, EReal.coe_neg]
  generalize Idealize.ShloMosaic.Host.negf y = y' at e'
  refine wide64_at r h l (fun l => (trunc_at d _).trans (hd r h l)) ?_ ?_
  · rw [col_at, trunc_at, e']
  · rw [col_at, low_at _ r h _ e', EReal.coe_zero]

/-- A wide array's rows laid out flat: column `128 h + l` is lane `l` of head `h`. -/
theorem flat_at (x : FVec Ideal S4096x8x128 .bf16) (r : Fin 4096) (b : Fin 1024) :
    shapeCast S4096x1024 x shapeCasts_S4096x8x128_S4096x1024 (ix2 r b)
      = x (ix3 r ⟨b.val / 128, by omega⟩ ⟨b.val % 128, by omega⟩) :=
  shapeCast_apply _ shapeCasts_S4096x8x128_S4096x1024 _ _ (by
    rewrite [Shape.rowMajor_val_two, Shape.rowMajor_val_three]
    show (r.val * 8 + b.val / 128) * 128 + b.val % 128 = r.val * 1024 + b.val
    omega)

end Cert.KernelIdeal.Host
-- ==== Proof.Wide.lean ====
module

public import proofs.«01_k».proof.Proof.HostE

/-! The kernel's three outputs as the gradients over the real numbers: the wide rows' products are the scores less their
statistics, and the sums over rows and keys are the gradients. -/

@[expose] public section

noncomputable section

namespace Cert.KernelIdeal.Wide

open Idealize.ShloMosaic Idealize.ShloMosaic.TcCoe Idealize.ShloMosaic.Tactic
open Cert.KernelIdeal Cert.KernelIdeal.Gen Cert.KernelIdeal.Host Cert.KernelIdeal.Run Cert.Attn Cert.KernelIdeal.Tile Cert.KernelIdeal.Loop

/-- The product of two wide rows: the arguments' lanes and the two more. -/
theorem lanes_dot (n z : ℕ) (hn : n + 2 + z = 128) (f g : ℕ → ℕ → ℕ → ℝ) (x y x' y' : ℕ → ℕ → ℝ) (s r h : ℕ) :
    ∑ l ∈ Finset.range 128, lanes n f x y s h l * lanes n g x' y' r h l
      = ∑ l ∈ Finset.range n, f s h l * g r h l + x s h * x' r h + y s h * y' r h := by
  rw [sum_lanes n z _ ?_ hn]
  · congr 1
    · congr 1
      · refine Finset.sum_congr rfl fun l hl => ?_
        unfold lanes
        rw [if_pos (Finset.mem_range.mp hl), if_pos (Finset.mem_range.mp hl)]
      · unfold lanes
        rw [if_neg (lt_irrefl n), if_neg (lt_irrefl n), if_pos rfl, if_pos rfl]
    · unfold lanes
      rw [if_neg (by omega), if_neg (by omega), if_pos rfl, if_neg (by omega), if_neg (by omega), if_pos rfl]
  · intro l hl
    unfold lanes
    rw [if_neg (by omega), if_neg (by omega), if_neg (by omega), zero_mul]

variable {Q K V D : ℕ → ℕ → EReal} {q k v d : ℕ → ℕ → ℕ → ℝ}
variable (hQ : ∀ r b, r < 4096 → b < 1024 → Q r b = ((wq q k r (b / 128) (b % 128) : ℝ) : EReal))
variable (hK : ∀ r b, r < 4096 → b < 1024 → K r b = ((wk k r (b / 128) (b % 128) : ℝ) : EReal))
variable (hV : ∀ r b, r < 4096 → b < 1024 → V r b = ((wv v r (b / 128) (b % 128) : ℝ) : EReal))
variable (hD : ∀ r b, r < 4096 → b < 1024 → D r b = ((wd q k v d r (b / 128) (b % 128) : ℝ) : EReal))

/-- An element of head `h`'s columns. -/
theorem head_at {A : ℕ → ℕ → EReal} {a : ℕ → ℕ → ℕ → ℝ}
    (hA : ∀ r b, r < 4096 → b < 1024 → A r b = ((a r (b / 128) (b % 128) : ℝ) : EReal))
    (r h l : ℕ) (hr : r < 4096) (hh : h < 8) (hl : l < 128) :
    A r (512 * (h / 4) + (128 * (h % 4) + l)) = ((a r h l : ℝ) : EReal) := by
  rw [hA _ _ hr (by omega)]
  congr 3 <;> omega

/-- The product of a block's row and a row, in head `h`. -/
theorem dot_at {A B : ℕ → ℕ → EReal} {a b : ℕ → ℕ → ℕ → ℝ}
    (hA : ∀ r c, r < 4096 → c < 1024 → A r c = ((a r (c / 128) (c % 128) : ℝ) : EReal))
    (hB : ∀ r c, r < 4096 → c < 1024 → B r c = ((b r (c / 128) (c % 128) : ℝ) : EReal))
    (kb kp r h : ℕ) (hs : 512 * kb + kp < 4096) (hr : r < 4096) (hh : h < 8) :
    dotN (blockOf (h / 4) kb A) (colsOf (h / 4) B) (128 * (h % 4)) kp r
      = ((∑ l ∈ Finset.range 128, a (512 * kb + kp) h l * b r h l : ℝ) : EReal) := by
  unfold dotN blockOf colsOf
  rw [← coe_fin 128 fun l => a (512 * kb + kp) h l * b r h l]
  refine Finset.sum_congr rfl fun l _ => ?_
  rw [head_at hA _ h l.val hs hh l.isLt, head_at hB _ h l.val hr hh l.isLt, EReal.coe_mul]

include hQ hK in
/-- The weight of key `512 kb + kp` at query row `r` is its probability. -/
theorem weight_at (kb kp r h : ℕ) (hs : 512 * kb + kp < 4096) (hr : r < 4096) (hh : h < 8) :
    pN kb (blockOf (h / 4) kb K) (colsOf (h / 4) Q) (128 * (h % 4)) kp r
      = ((P q k scale h r (512 * kb + kp) : ℝ) : EReal) := by
  unfold pN
  by_cases hc : 512 * kb + kp ≤ r
  · rw [if_pos hc, dot_at hK hQ kb kp r h hs hr hh]
    unfold wk wq
    rw [lanes_dot 96 30 rfl, Ideal.exp_coe, ← P_eq q k scale h r _ hc]
    congr 2
    unfold S
    rw [Finset.sum_mul, one_mul, one_mul, add_zero]
    congr 1
    exact Finset.sum_congr rfl fun l _ => by ring
  · rw [if_neg hc, P_of_lt q k scale h r _ (not_le.mp hc), EReal.coe_zero]

include hQ hK hV hD in
/-- The gradient of the score of key `512 kb + kp` at query row `r`. -/
theorem score_at (kb kp r h : ℕ) (hs : 512 * kb + kp < 4096) (hr : r < 4096) (hh : h < 8) :
    dsN kb (blockOf (h / 4) kb K) (colsOf (h / 4) Q) (blockOf (h / 4) kb V) (colsOf (h / 4) D) (128 * (h % 4)) kp r
      = ((dS q k v d scale h r (512 * kb + kp) : ℝ) : EReal) := by
  unfold dsN
  rw [weight_at hQ hK kb kp r h hs hr hh, dot_at hV hD kb kp r h hs hr hh, ← EReal.coe_mul]
  unfold wv wd
  rw [lanes_dot 64 62 rfl]
  unfold dS dP
  congr 2
  rw [one_mul, one_mul, add_zero, sub_eq_add_neg]
  congr 1
  exact Finset.sum_congr rfl fun l _ => by ring

theorem head_of {h l : ℕ} (hl : l < 128) : (128 * (h % 4) + l) / 128 = h % 4 := by omega
theorem lane_of {h l : ℕ} (hl : l < 128) : (128 * (h % 4) + l) % 128 = l := by omega

include hQ hK hV hD in
theorem dkT_at (kb kp h l : ℕ) (hs : 512 * kb + kp < 4096) (hh : h < 8) (hl : l < 96) :
    dkT Q K V D (h / 4) kb kp (128 * (h % 4) + l) = ((dK q k v d scale h (512 * kb + kp) l : ℝ) : EReal) := by
  unfold dkT dkO dK
  rw [head_of (by omega), lane_of (by omega), coe_sum]
  refine Finset.sum_congr rfl fun r hr => ?_
  have hr := Finset.mem_range.mp hr
  rw [score_at hQ hK hV hD kb kp r h hs hr hh]
  unfold colsOf
  rw [head_at hQ r h l hr hh (by omega), ← EReal.coe_mul]
  unfold wq lanes
  rw [if_pos hl]
  congr 1
  ring

include hQ hK hV hD in
theorem dvT_at (kb kp h l : ℕ) (hs : 512 * kb + kp < 4096) (hh : h < 8) (hl : l < 64) :
    dvT Q K D (h / 4) kb kp (128 * (h % 4) + l) = ((dV q k d scale h (512 * kb + kp) l : ℝ) : EReal) := by
  unfold dvT dvO dV
  rw [head_of (by omega), lane_of (by omega), coe_sum]
  refine Finset.sum_congr rfl fun r hr => ?_
  have hr := Finset.mem_range.mp hr
  rw [weight_at hQ hK kb kp r h hs hr hh]
  unfold colsOf
  rw [head_at hD r h l hr hh (by omega), ← EReal.coe_mul]
  unfold wd lanes
  rw [if_pos hl]
  congr 1
  ring

include hQ hK hV hD in
theorem dqT_at (r h l : ℕ) (hr : r < 4096) (hh : h < 8) (hl : l < 96) :
    dqT Q K V D (h / 4) 8 r (128 * (h % 4) + l) * (scale : EReal) = ((dQ q k v d scale h r l : ℝ) : EReal) := by
  have e : dqT Q K V D (h / 4) 8 r (128 * (h % 4) + l)
      = ((∑ s ∈ Finset.range 4096, dS q k v d scale h r s * k s h l : ℝ) : EReal) := by
    rw [← sum_blocks 512 8 fun s => dS q k v d scale h r s * k s h l, coe_sum]
    unfold dqT
    refine Finset.sum_congr rfl fun kb hkb => ?_
    have hkb := Finset.mem_range.mp hkb
    unfold dqO
    rw [head_of (by omega), ← coe_fin 512 fun kp => dS q k v d scale h r (512 * kb + kp) * k (512 * kb + kp) h l]
    refine Finset.sum_congr rfl fun kp _ => ?_
    have hs : 512 * kb + kp.val < 4096 := by omega
    rw [score_at hQ hK hV hD kb kp.val r h hs hr hh]
    unfold blockOf
    rw [head_at hK _ h l hs hh (by omega), ← EReal.coe_mul]
    unfold wk lanes
    rw [if_pos hl]
  rw [e, ← EReal.coe_mul]
  unfold dQ
  rw [Finset.sum_mul]
  congr 1
  exact Finset.sum_congr rfl fun s _ => by ring

end Cert.KernelIdeal.Wide
-- ==== Proof.TailK.lean ====
module

public import proofs.«01_k».proof.Proof.Run
public import Idealize.ShloMosaic.Lib.StableHlo.ReadAt

/-! What the host's lines after the kernel make of its three result arrays. -/

@[expose] public section

set_option maxRecDepth 16384

noncomputable section

namespace Cert.KernelIdeal.Run

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- What a buffer holds when the host's last line has run. -/
abbrev endOf (b : Ref sig .tc) : Buf (Elt Ideal) ((c.tc : Thread nD τ).loc b) :=
  Pipeline.afterTail₀ cfgs (dats m) 0 (V0 m) [hostOps1] c b

theorem arrs_inj : Function.Injective (Pipeline.arrRef spec0) := by decide

/-- What the host's last lines find: the kernel's arrays as it left them. -/
abbrev leftBy : Valuation τ sig (Elt Ideal) :=
  Pipeline.withArrays (cfgs 0).spec c (V0 m c) fun w => (dats m 0 c).arrAt w (cfgs 0).N

theorem left4 : leftBy m c (Proc.devRef .tc main_v68_0) = fin4 m c :=
  (Pipeline.withArrays_arr spec0 arrs_inj c (V0 m c) (fun w => (dats m 0 c).arrAt w cfg0.N) 4).trans (final4 m c)
theorem left5 : leftBy m c (Proc.devRef .tc main_v68_1) = fin5 m c :=
  (Pipeline.withArrays_arr spec0 arrs_inj c (V0 m c) (fun w => (dats m 0 c).arrAt w cfg0.N) 5).trans (final5 m c)
theorem left6 : leftBy m c (Proc.devRef .tc main_v68_2) = fin6 m c :=
  (Pipeline.withArrays_arr spec0 arrs_inj c (V0 m c) (fun w => (dats m 0 c).arrAt w cfg0.N) 6).trans (final6 m c)

/-- The first result: the query gradient's 96 lanes, scaled. -/
theorem end_q : endOf m c main_v72 =
    (mulf (extractStridedSlice S4096x8x96 ![0, 0, 0] (shapeCast S4096x8x128 (fin4 m c) shapeCasts_S4096x1024_S4096x8x128)
        slices_S4096x8x128_S4096x8x96_0_0_0)
      (broadcastInDim S4096x8x96 ![] bcast_S_S4096x8x96 (constant (F := Ideal) S_ .f32 0x3DD105EC#32)) : FVec Ideal S4096x8x96 .f32) := by
  rw [← left4]
  change StableHlo.after (List.flatten [hostOps1]) (leftBy m c) (Proc.devRef .tc main_v72) = _
  generalize leftBy m c = W
  after_reads_simp
  rfl

/-- The second: the key gradient's. -/
theorem end_k : endOf m c main_v75 =
    (extf .f32 (extractStridedSlice S4096x8x96 ![0, 0, 0] (shapeCast S4096x8x128 (fin5 m c) shapeCasts_S4096x1024_S4096x8x128)
        slices_S4096x8x128_S4096x8x96_0_0_0) bitsLt_bf16_f32 : FVec Ideal S4096x8x96 .f32) := by
  rw [← left5]
  change StableHlo.after (List.flatten [hostOps1]) (leftBy m c) (Proc.devRef .tc main_v75) = _
  generalize leftBy m c = W
  after_reads_simp
  rfl

/-- The third: the value gradient's. -/
theorem end_v : endOf m c main_v78 =
    (extf .f32 (extractStridedSlice S4096x8x64 ![0, 0, 0] (shapeCast S4096x8x128 (fin6 m c) shapeCasts_S4096x1024_S4096x8x128)
        slices_S4096x8x128_S4096x8x64_0_0_0) bitsLt_bf16_f32 : FVec Ideal S4096x8x64 .f32) := by
  rw [← left6]
  change StableHlo.after (List.flatten [hostOps1]) (leftBy m c) (Proc.devRef .tc main_v78) = _
  generalize leftBy m c = W
  after_reads_simp
  rfl

end Cert.KernelIdeal.Run
-- ==== Proof.RefE.lean ====
module

public import proofs.«01_k».proof.Proof.Gen.ReferenceIdeal
public import proofs.«01_k».proof.Proof.Gen.ReferenceIdeal.Read
public import proofs.«01_k».proof.Proof.Attn

/-! The reference's three results, element by element, where the arguments are real numbers. -/

@[expose] public section

noncomputable section

namespace Cert.ReferenceIdeal.Elem

open Idealize.ShloMosaic Idealize.ShloMosaic.TcCoe Idealize.ShloMosaic.Tactic
open Cert.ReferenceIdeal Cert.ReferenceIdeal.Gen Cert.ReferenceIdeal.Read Cert.Attn

variable {q k : FVec Ideal S4096x8x96 .f32} {v d : FVec Ideal S4096x8x64 .f32} {qr kr vr dr : ℕ → ℕ → ℕ → ℝ}
variable (hq : ∀ (r : Fin 4096) (h : Fin 8) (l : Fin 96), q (ix3 r h l) = ((qr r.val h.val l.val : ℝ) : EReal))
variable (hk : ∀ (r : Fin 4096) (h : Fin 8) (l : Fin 96), k (ix3 r h l) = ((kr r.val h.val l.val : ℝ) : EReal))
variable (hv : ∀ (r : Fin 4096) (h : Fin 8) (l : Fin 64), v (ix3 r h l) = ((vr r.val h.val l.val : ℝ) : EReal))
variable (hd : ∀ (r : Fin 4096) (h : Fin 8) (l : Fin 64), d (ix3 r h l) = ((dr r.val h.val l.val : ℝ) : EReal))

include hq hk in
theorem score_at (h : Fin 8) (r s : Fin 4096) :
    val_main_v2 (F := Ideal) q k (ix3 h r s) = ((S qr kr scale h.val r.val s.val : ℝ) : EReal) := by
  unfold val_main_v2 val_main_v0 val_main_v1 val_main_cst
  pointwise
  simp only [hq, hk]
  rw [dot_fin 96 (fun l => qr r.val h.val l) (fun l => kr s.val h.val l), scale_eq, ← EReal.coe_mul]
  rfl

theorem cond_at (h : Fin 8) (r s : Fin 4096) :
    val_main_v9_1 (F := Ideal) (ix3 h r s) = IntOp.cmpi .sle (BitVec.ofNat 32 s.val) (BitVec.ofNat 32 r.val) := by
  unfold val_main_v9_1 val_main_v8 val_main_v7 val_main_v6 val_main_v5 val_main_v4 val_main_v3
  pointwise

include hq hk in
theorem masked_at (h : Fin 8) (r s : Fin 4096) :
    val_main_v9_0 (F := Ideal) q k (ix3 h r s) = msk qr kr scale h.val r.val s.val := by
  have e := score_at hq hk h r s
  have e' := cond_at h r s
  unfold val_main_v9_0 val_main_call0_v2 val_main_call0_v0 val_main_cst_0
  generalize val_main_v2 (F := Ideal) q k = y at e
  generalize val_main_v9_1 (F := Ideal) = y' at e'
  pointwise
  rw [e', select_mask, e]
  exact congrArg (fun z : EReal => if s.val ≤ r.val then _ else z) ninf_eq

include hq hk in
theorem rowMaxed_at (h : Fin 8) (r : Fin 4096) :
    val_main_v10 (F := Ideal) q k (ix2 h r) = ((M qr kr scale h.val r.val : ℝ) : EReal) := by
  have e : ∀ s, val_main_v9_0 (F := Ideal) q k (ix3 h r s) = _ := fun s => masked_at hq hk h r s
  unfold val_main_v10 val_main_cst_1
  generalize val_main_v9_0 (F := Ideal) q k = y at e
  pointwise
  simp only [e]
  rw [ninf_eq]
  exact mx_eq ..

theorem floor_at (h : Fin 8) (r : Fin 4096) : val_main_v16 (F := Ideal) (ix2 h r) = ⊥ := by
  rw [val_main_v16_apply]
  exact ninf_eq

theorem maxf_at {s : Shape} (x y : FVec Ideal s .f32) (i : s.Idx) :
    maximumf x y i = max (x i) (y i) := rfl

include hq hk in
theorem rowMax_at (h : Fin 8) (r : Fin 4096) :
    val_main_v17 (F := Ideal) q k (ix2 h r) = ((M qr kr scale h.val r.val : ℝ) : EReal) := by
  unfold val_main_v17
  rw [maxf_at, floor_at, rowMaxed_at hq hk]
  exact max_eq_right bot_le

include hq hk in
theorem exps_at (h : Fin 8) (r s : Fin 4096) :
    val_main_v30 (F := Ideal) q k (ix3 h r s) = ((E qr kr scale h.val r.val s.val : ℝ) : EReal) := by
  have e := masked_at hq hk h r s
  have e' := rowMax_at hq hk h r
  unfold val_main_v30 val_main_v29 val_main_v28 val_main_v27
  generalize val_main_v9_0 (F := Ideal) q k = y at e
  generalize val_main_v17 (F := Ideal) q k = y' at e'
  pointwise
  rw [e, e']
  exact exp_eq ..

include hq hk in
theorem rowSum_at (h : Fin 8) (r : Fin 4096) :
    val_main_v31 (F := Ideal) q k (ix2 h r) = ((Z qr kr scale h.val r.val : ℝ) : EReal) := by
  have e : ∀ s, val_main_v30 (F := Ideal) q k (ix3 h r s) = _ := fun s => exps_at hq hk h r s
  unfold val_main_v31 val_main_cst_9
  generalize val_main_v30 (F := Ideal) q k = y at e
  pointwise
  simp only [e]
  exact coe_fin 4096 fun s => E qr kr scale h.val r.val s

include hq hk in
theorem probs_at (h : Fin 8) (r s : Fin 4096) :
    val_main_v34 (F := Ideal) q k (ix3 h r s) = ((P qr kr scale h.val r.val s.val : ℝ) : EReal) := by
  have e := exps_at hq hk h r s
  have e' := rowSum_at hq hk h r
  unfold val_main_v34 val_main_v33 val_main_v32
  generalize val_main_v30 (F := Ideal) q k = y at e
  generalize val_main_v31 (F := Ideal) q k = y' at e'
  pointwise
  rw [e, e']
  exact div_eq _ _ (Z_pos ..).ne'

include hv hd in
theorem dP_at (h : Fin 8) (r s : Fin 4096) :
    val_main_v41 (F := Ideal) v d (ix3 h r s) = ((dP vr dr h.val r.val s.val : ℝ) : EReal) := by
  unfold val_main_v41 val_main_v40
  pointwise
  simp only [hv, hd]
  exact dot_fin 64 (fun l => dr r.val h.val l) (fun l => vr s.val h.val l)

include hq hk hd in
theorem dV_at (s : Fin 4096) (h : Fin 8) (l : Fin 64) :
    val_main_v43 (F := Ideal) q k d (ix3 s h l) = ((dV qr kr dr scale h.val s.val l.val : ℝ) : EReal) := by
  have e : ∀ r, val_main_v34 (F := Ideal) q k (ix3 h r s) = _ := fun r => probs_at hq hk h r s
  unfold val_main_v43 val_main_v42 val_main_v40
  generalize val_main_v34 (F := Ideal) q k = y at e
  pointwise
  simp only [e, hd]
  exact dot_fin 4096 (fun r => dr r h.val l.val) (fun r => P qr kr scale h.val r s.val)

/-- One divided by a square. -/
theorem inv_sq (z : ℝ) (hz : 0 < z) : Ideal.div 1 ((z * z : ℝ) : EReal) = ((1 / (z * z) : ℝ) : EReal) := by
  rw [← div_eq _ _ (mul_pos hz hz).ne', EReal.coe_one]

include hq hk hv hd in
theorem corr_at (h : Fin 8) (r : Fin 4096) :
    val_main_v47 (F := Ideal) q k v d (ix2 h r)
      = ((∑ s ∈ Finset.range 4096, dP vr dr h.val r.val s
          * (1 / (Z qr kr scale h.val r.val * Z qr kr scale h.val r.val)) * E qr kr scale h.val r.val s : ℝ) : EReal) := by
  have e1 : ∀ s, val_main_v30 (F := Ideal) q k (ix3 h r s) = _ := fun s => exps_at hq hk h r s
  have e2 := rowSum_at hq hk h r
  have e3 : ∀ s, val_main_v41 (F := Ideal) v d (ix3 h r s) = _ := fun s => dP_at hv hd h r s
  unfold val_main_v47 val_main_v46 val_main_v45 val_main_v44 val_main_v37 val_main_v36 val_main_v35 val_main_v32
    val_main_cst_10 val_main_cst_11
  generalize val_main_v30 (F := Ideal) q k = y1 at e1
  generalize val_main_v31 (F := Ideal) q k = y2 at e2
  generalize val_main_v41 (F := Ideal) v d = y3 at e3
  pointwise
  simp only [e1, e2, e3, inv_sq _ (Z_pos qr kr scale h.val r.val), ← EReal.coe_mul]
  exact coe_fin 4096 fun s => dP vr dr h.val r.val s
    * (1 / (Z qr kr scale h.val r.val * Z qr kr scale h.val r.val)) * E qr kr scale h.val r.val s

include hq hk hv hd in
theorem turned_at (h : Fin 8) (r s : Fin 4096) :
    val_main_v53 (F := Ideal) q k v d (ix3 h r s)
      = ((-∑ s ∈ Finset.range 4096, dP vr dr h.val r.val s
          * (1 / (Z qr kr scale h.val r.val * Z qr kr scale h.val r.val)) * E qr kr scale h.val r.val s : ℝ) : EReal) := by
  have e : val_main_v48 (F := Ideal) q k v d (ix3 h r 0)
      = ((∑ s ∈ Finset.range 4096, dP vr dr h.val r.val s
          * (1 / (Z qr kr scale h.val r.val * Z qr kr scale h.val r.val)) * E qr kr scale h.val r.val s : ℝ) : EReal) := by
    rw [val_main_v48_apply]
    refine Eq.trans ?_ (corr_at hq hk hv hd h r)
    refine congrArg _ (funext fun a => match a with
      | ⟨0, _⟩ => Fin.ext ?_
      | ⟨1, _⟩ => Fin.ext ?_)
    · show ((h.val * 4096 + r.val) * 1 + 0) / 4096 = h.val
      omega
    · show ((h.val * 4096 + r.val) * 1 + 0) % 4096 = r.val
      omega
  unfold val_main_v53 val_main_v52 val_main_v49 val_main_cst_12
  generalize val_main_v48 (F := Ideal) q k v d = y at e
  pointwise
  rw [Fin.sum_univ_one, e, EReal.coe_neg]

include hq hk hv hd in
theorem dS_at (h : Fin 8) (r s : Fin 4096) :
    val_main_v58 (F := Ideal) q k v d (ix3 h r s)
      = ((dS qr kr vr dr scale h.val r.val s.val * scale : ℝ) : EReal) := by
  have e1 := exps_at hq hk h r s
  have e2 := rowSum_at hq hk h r
  have e3 := dP_at hv hd h r s
  have e4 := turned_at hq hk hv hd h r s
  have e5 := cond_at h r s
  unfold val_main_v58 val_main_v57 val_main_v56 val_main_v55 val_main_v54 val_main_v51 val_main_v50 val_main_v32
    val_main_cst_13 val_main_call1_v0 val_main_call1_cst
  generalize val_main_v30 (F := Ideal) q k = y1 at e1
  generalize val_main_v31 (F := Ideal) q k = y2 at e2
  generalize val_main_v41 (F := Ideal) v d = y3 at e3
  generalize val_main_v53 (F := Ideal) q k v d = y4 at e4
  generalize val_main_v9_1 (F := Ideal) = y5 at e5
  pointwise
  rw [e1, e2, e3, e4, e5, select_mask, scale_eq, div_eq _ _ (Z_pos ..).ne', ← EReal.coe_add, ← EReal.coe_mul, dS_eq]
  by_cases hs : s.val ≤ r.val
  · rw [if_pos hs, EReal.coe_mul]
  · rw [if_neg hs, dS, P_of_lt _ _ _ _ _ _ (not_le.mp hs)]
    simp

include hq hk hv hd in
theorem dK_at (s : Fin 4096) (h : Fin 8) (l : Fin 96) :
    val_main_v60 (F := Ideal) q k v d (ix3 s h l) = ((dK qr kr vr dr scale h.val s.val l.val : ℝ) : EReal) := by
  have e : ∀ r, val_main_v58 (F := Ideal) q k v d (ix3 h r s) = _ := fun r => dS_at hq hk hv hd h r s
  unfold val_main_v60 val_main_v59
  generalize val_main_v58 (F := Ideal) q k v d = y at e
  pointwise
  simp only [e, hq]
  exact dot_fin 4096 (fun r => dS qr kr vr dr scale h.val r s.val * scale) (fun r => qr r h.val l.val)

include hq hk hv hd in
theorem dQ_at (r : Fin 4096) (h : Fin 8) (l : Fin 96) :
    val_main_v62 (F := Ideal) q k v d (ix3 r h l) = ((dQ qr kr vr dr scale h.val r.val l.val : ℝ) : EReal) := by
  have e : ∀ s, val_main_v58 (F := Ideal) q k v d (ix3 h r s) = _ := fun s => dS_at hq hk hv hd h r s
  unfold val_main_v62 val_main_v61
  generalize val_main_v58 (F := Ideal) q k v d = y at e
  pointwise
  simp only [e, hk]
  exact dot_fin 4096 (fun s => dS qr kr vr dr scale h.val r.val s * scale) (fun s => kr s h.val l.val)

end Cert.ReferenceIdeal.Elem
-- ==== Proof.Match.lean ====
module

public import proofs.«01_k».proof.Proof.Wide
public import proofs.«01_k».proof.Proof.TailK
public import proofs.«01_k».proof.Proof.RefE
public import proofs.«01_k».proof.Defs

/-! The kernel's three results and the reference's are equal where the arguments are finite: both are the gradients over
the real numbers. -/

@[expose] public section

noncomputable section

namespace Cert.KernelIdeal.Match

open Idealize.ShloMosaic Idealize.ShloMosaic.TcCoe Idealize.ShloMosaic.Tactic
open Cert.KernelIdeal Cert.KernelIdeal.Gen Cert.KernelIdeal.Host Cert.KernelIdeal.Wide Cert.KernelIdeal.Run Cert.Attn

/-! ## The kernel's operands and results -/

section results

variable {qr kr vr dr : ℕ → ℕ → ℕ → ℝ} (m : (ℓ : Loc nD τ sig) → Buf (Elt Ideal) ℓ) (c : Dev nD)
variable (hq : ∀ (r : Fin 4096) (h : Fin 8) (l : Fin 96), Q0 m c (ix3 r h l) = ((qr r.val h.val l.val : ℝ) : EReal))
variable (hk : ∀ (r : Fin 4096) (h : Fin 8) (l : Fin 96), K0 m c (ix3 r h l) = ((kr r.val h.val l.val : ℝ) : EReal))
variable (hv : ∀ (r : Fin 4096) (h : Fin 8) (l : Fin 64), V1 m c (ix3 r h l) = ((vr r.val h.val l.val : ℝ) : EReal))
variable (hd : ∀ (r : Fin 4096) (h : Fin 8) (l : Fin 64), D0 m c (ix3 r h l) = ((dr r.val h.val l.val : ℝ) : EReal))

include hq hk in
theorem Qn_at (r b : ℕ) (hr : r < 4096) (hb : b < 1024) :
    Qn m c r b = ((wq qr kr r (b / 128) (b % 128) : ℝ) : EReal) := by
  unfold Qn
  rw [at2_eq _ hr hb, V_q]
  exact (flat_at _ ⟨r, hr⟩ ⟨b, hb⟩).trans (wideQ_at hq hk ..)

include hk in
theorem Kn_at (r b : ℕ) (hr : r < 4096) (hb : b < 1024) :
    Kn m c r b = ((wk kr r (b / 128) (b % 128) : ℝ) : EReal) := by
  unfold Kn
  rw [at2_eq _ hr hb, V_k]
  exact (flat_at _ ⟨r, hr⟩ ⟨b, hb⟩).trans (wideK_at hk ..)

include hv in
theorem Vn_at (r b : ℕ) (hr : r < 4096) (hb : b < 1024) :
    Vn m c r b = ((wv vr r (b / 128) (b % 128) : ℝ) : EReal) := by
  unfold Vn
  rw [at2_eq _ hr hb, V_v]
  exact (flat_at _ ⟨r, hr⟩ ⟨b, hb⟩).trans (wideV_at hv ..)

include hq hk hv hd in
theorem Dn_at (r b : ℕ) (hr : r < 4096) (hb : b < 1024) :
    Dn m c r b = ((wd qr kr vr dr r (b / 128) (b % 128) : ℝ) : EReal) := by
  unfold Dn
  rw [at2_eq _ hr hb, V_d]
  exact (flat_at _ ⟨r, hr⟩ ⟨b, hb⟩).trans (wideD_at hq hk hv hd ..)

theorem mulf_at {s : Shape} (x y : FVec Ideal s .f32) (i : s.Idx) : mulf x y i = x i * y i := rfl
theorem ext_at {s : Shape} (x : FVec Ideal s .bf16) (i : s.Idx) : extf .f32 x bitsLt_bf16_f32 i = x i := rfl
theorem const_at {t : Shape} (h : S_.BroadcastsInDim t (![] : Fin 0 → Fin t.rank)) (w : BitVec 32) (i : t.Idx) :
    broadcastInDim t ![] h (constant (F := Ideal) S_ .f32 w) i = Ideal.ofBits .f32 w := rfl

/-- The first 96 lanes of a head of a result array. -/
theorem cut96_at {φ : FTy} (x : FVec Ideal S4096x1024 φ) (r : Fin 4096) (h : Fin 8) (l : Fin 96) :
    extractStridedSlice S4096x8x96 ![0, 0, 0] (shapeCast S4096x8x128 x shapeCasts_S4096x1024_S4096x8x128)
        slices_S4096x8x128_S4096x8x96_0_0_0 (ix3 r h l)
      = x (ix2 r ⟨128 * h.val + l.val, by omega⟩) := by
  rw [extractStridedSlice_apply ![0, 0, 0] _ slices_S4096x8x128_S4096x8x96_0_0_0 (ix3 r h l) (ix3 r h ⟨l.val, by omega⟩)
    (fun b => match b with
      | ⟨0, _⟩ => (Nat.zero_add _).symm
      | ⟨1, _⟩ => (Nat.zero_add _).symm
      | ⟨2, _⟩ => (Nat.zero_add _).symm)]
  exact shapeCast_apply _ shapeCasts_S4096x1024_S4096x8x128 _ _ (by
    rewrite [Shape.rowMajor_val_two, Shape.rowMajor_val_three]
    show r.val * 1024 + (128 * h.val + l.val) = (r.val * 8 + h.val) * 128 + l.val
    omega)

/-- The first 64 lanes. -/
theorem cut64_at {φ : FTy} (x : FVec Ideal S4096x1024 φ) (r : Fin 4096) (h : Fin 8) (l : Fin 64) :
    extractStridedSlice S4096x8x64 ![0, 0, 0] (shapeCast S4096x8x128 x shapeCasts_S4096x1024_S4096x8x128)
        slices_S4096x8x128_S4096x8x64_0_0_0 (ix3 r h l)
      = x (ix2 r ⟨128 * h.val + l.val, by omega⟩) := by
  rw [extractStridedSlice_apply ![0, 0, 0] _ slices_S4096x8x128_S4096x8x64_0_0_0 (ix3 r h l) (ix3 r h ⟨l.val, by omega⟩)
    (fun b => match b with
      | ⟨0, _⟩ => (Nat.zero_add _).symm
      | ⟨1, _⟩ => (Nat.zero_add _).symm
      | ⟨2, _⟩ => (Nat.zero_add _).symm)]
  exact shapeCast_apply _ shapeCasts_S4096x1024_S4096x8x128 _ _ (by
    rewrite [Shape.rowMajor_val_two, Shape.rowMajor_val_three]
    show r.val * 1024 + (128 * h.val + l.val) = (r.val * 8 + h.val) * 128 + l.val
    omega)

theorem group_of {h l : ℕ} (hl : l < 128) : (128 * h + l) / 512 = h / 4 := by omega
theorem column_of {h l : ℕ} (hl : l < 128) : (128 * h + l) % 512 = 128 * (h % 4) + l := by omega

include hq hk hv hd in
theorem resQ_at (r : Fin 4096) (h : Fin 8) (l : Fin 96) :
    (endOf m c main_v72 : FVec Ideal S4096x8x96 .f32) (ix3 r h l) = ((dQ qr kr vr dr scale h.val r.val l.val : ℝ) : EReal) := by
  rw [end_q, mulf_at, cut96_at, const_at, scale_eq]
  show dqT (Qn m c) (Kn m c) (Vn m c) (Dn m c) ((128 * h.val + l.val) / 512) 8 r.val ((128 * h.val + l.val) % 512) * _ = _
  rw [group_of (by omega), column_of (by omega)]
  exact dqT_at (Qn_at m c hq hk) (Kn_at m c hk) (Vn_at m c hv) (Dn_at m c hq hk hv hd) r.val h.val l.val r.isLt h.isLt l.isLt

include hq hk hv hd in
theorem resK_at (s : Fin 4096) (h : Fin 8) (l : Fin 96) :
    (endOf m c main_v75 : FVec Ideal S4096x8x96 .f32) (ix3 s h l) = ((dK qr kr vr dr scale h.val s.val l.val : ℝ) : EReal) := by
  rw [end_k, ext_at, cut96_at]
  show dkT (Qn m c) (Kn m c) (Vn m c) (Dn m c) ((128 * h.val + l.val) / 512) (s.val / 512) (s.val % 512)
    ((128 * h.val + l.val) % 512) = _
  rw [group_of (by omega), column_of (by omega)]
  have e := dkT_at (Qn_at m c hq hk) (Kn_at m c hk) (Vn_at m c hv) (Dn_at m c hq hk hv hd) (s.val / 512) (s.val % 512) h.val l.val
    (by omega) h.isLt l.isLt
  rwa [Nat.div_add_mod] at e

include hq hk hv hd in
theorem resV_at (s : Fin 4096) (h : Fin 8) (l : Fin 64) :
    (endOf m c main_v78 : FVec Ideal S4096x8x64 .f32) (ix3 s h l) = ((dV qr kr dr scale h.val s.val l.val : ℝ) : EReal) := by
  rw [end_v, ext_at, cut64_at]
  show dvT (Qn m c) (Kn m c) (Dn m c) ((128 * h.val + l.val) / 512) (s.val / 512) (s.val % 512)
    ((128 * h.val + l.val) % 512) = _
  rw [group_of (by omega), column_of (by omega)]
  have e := dvT_at (Qn_at m c hq hk) (Kn_at m c hk) (Vn_at m c hv) (Dn_at m c hq hk hv hd) (s.val / 512) (s.val % 512) h.val l.val
    (by omega) h.isLt l.isLt
  rwa [Nat.div_add_mod] at e

end results

/-! ## Finite arguments are real numbers -/

/-- An array's elements as real numbers. -/
def realOf {n : ℕ} (x : FVec Ideal ⟨3, ![4096, 8, n]⟩ .f32) (r h l : ℕ) : ℝ :=
  if hb : r < 4096 ∧ h < 8 ∧ l < n then EReal.toReal (x (ix3 ⟨r, hb.1⟩ ⟨h, hb.2.1⟩ ⟨l, hb.2.2⟩)) else 0

theorem realOf_at {n : ℕ} (x : FVec Ideal ⟨3, ![4096, 8, n]⟩ .f32) (hx : ∀ i, x i ≠ (⊤ : EReal) ∧ x i ≠ (⊥ : EReal))
    (r : Fin 4096) (h : Fin 8) (l : Fin n) : x (ix3 r h l) = ((realOf x r.val h.val l.val : ℝ) : EReal) := by
  unfold realOf
  rw [dif_pos ⟨r.isLt, h.isLt, l.isLt⟩]
  exact (EReal.coe_toReal (hx _).1 (hx _).2).symm

/-- An array below infinity in size has no infinite element. -/
theorem finite_at {s : Shape} (x : FVec Ideal s .f32) (h : S_.BroadcastsInDim s (![] : Fin 0 → Fin s.rank))
    (e : cmpf .olt (Idealize.ShloMosaic.Host.absf x) (broadcastInDim s ![] h (constant (F := Ideal) S_ .f32 0x7F800000#32))
      = fun _ => 1#1) (i : s.Idx) : x i ≠ (⊤ : EReal) ∧ x i ≠ (⊥ : EReal) := by
  have e := congrFun e i
  have e : Ideal.cmp .olt (max (x i : EReal) (-(x i : EReal))) (Ideal.ofBits .f32 0x7F800000#32) = 1#1 := e
  have htop : Ideal.ofBits .f32 0x7F800000#32 = ⊤ := by simp [Ideal.ofBits, Ideal.ieee]
  rw [htop] at e
  constructor <;> intro hx <;> rw [hx] at e <;> simp [Ideal.cmp] at e

/-! ## The two programs' results -/

section both

variable (m : (ℓ : Loc nD τ sig) → Buf (Elt Ideal) ℓ)
  (c : Dev nD)
variable (hq : ∀ i, Q0 m c i ≠ (⊤ : EReal) ∧ Q0 m c i ≠ (⊥ : EReal)) (hk : ∀ i, K0 m c i ≠ (⊤ : EReal) ∧ K0 m c i ≠ (⊥ : EReal))
  (hv : ∀ i, V1 m c i ≠ (⊤ : EReal) ∧ V1 m c i ≠ (⊥ : EReal)) (hd : ∀ i, D0 m c i ≠ (⊤ : EReal) ∧ D0 m c i ≠ (⊥ : EReal))

include hq hk hv hd in
theorem same_q : Cert.ReferenceIdeal.Read.val_main_v62 (F := Ideal) (Q0 m c) (K0 m c) (V1 m c) (D0 m c)
    = (endOf m c main_v72 : FVec Ideal S4096x8x96 .f32) := by
  funext i
  rw [eq_ix3 i]
  exact (Cert.ReferenceIdeal.Elem.dQ_at (realOf_at _ hq) (realOf_at _ hk) (realOf_at _ hv) (realOf_at _ hd) (i 0) (i 1) (i 2)).trans
    (resQ_at m c (realOf_at _ hq) (realOf_at _ hk) (realOf_at _ hv) (realOf_at _ hd) (i 0) (i 1) (i 2)).symm

include hq hk hv hd in
theorem same_k : Cert.ReferenceIdeal.Read.val_main_v60 (F := Ideal) (Q0 m c) (K0 m c) (V1 m c) (D0 m c)
    = (endOf m c main_v75 : FVec Ideal S4096x8x96 .f32) := by
  funext i
  rw [eq_ix3 i]
  exact (Cert.ReferenceIdeal.Elem.dK_at (realOf_at _ hq) (realOf_at _ hk) (realOf_at _ hv) (realOf_at _ hd) (i 0) (i 1) (i 2)).trans
    (resK_at m c (realOf_at _ hq) (realOf_at _ hk) (realOf_at _ hv) (realOf_at _ hd) (i 0) (i 1) (i 2)).symm

include hq hk hv hd in
theorem same_v : Cert.ReferenceIdeal.Read.val_main_v43 (F := Ideal) (Q0 m c) (K0 m c) (D0 m c)
    = (endOf m c main_v78 : FVec Ideal S4096x8x64 .f32) := by
  funext i
  rw [eq_ix3 i]
  exact (Cert.ReferenceIdeal.Elem.dV_at (realOf_at _ hq) (realOf_at _ hk) (realOf_at _ hd) (i 0) (i 1) (i 2)).trans
    (resV_at m c (realOf_at _ hq) (realOf_at _ hk) (realOf_at _ hv) (realOf_at _ hd) (i 0) (i 1) (i 2)).symm

end both

end Cert.KernelIdeal.Match
-- ==== Proof.Ix.lean ====
module

public import Idealize.ShloMosaic.Lib.Pointwise

/-! Equalities of two-axis indices, and the position of an element of a block. -/

@[expose] public section

namespace Cert.Ix

open Idealize.ShloMosaic

/-- Indices are equal when their coordinates are. -/
theorem ext2 {n0 n1 : Nat} {i j : (⟨2, ![n0, n1]⟩ : Shape).Idx} (h0 : (i 0).val = (j 0).val) (h1 : (i 1).val = (j 1).val) : i = j :=
  funext fun x => Fin.ext (by match x with | ⟨0, _⟩ => exact h0 | ⟨1, _⟩ => exact h1)

/-- Element `v` of block `n`, the `k`-th of `s` elements each. -/
theorem blk {n k s v r : Nat} (h : n = k) (e : k * s + v = r) : n * s + 1 * v = r := by rw [h, Nat.one_mul, e]

/-- The row of element `v` of block `k`. -/
theorem row {k s v r : Nat} (e : r = s * k + v) : k * s + v = r := by rw [e, Nat.mul_comm]

end Cert.Ix

end
-- ==== Proof.Gate.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Ix
public import Idealize.ShloMosaic.Lib.Pointwise
public import Idealize.ShloMosaic.Lib.Tactic
public import Idealize.ShloMosaic.Lib.IdealHost
public import Idealize.ShloMosaic.Lib.Pipeline.Value
public import Idealize.ShloMosaic.Lib.Claim
public import proofs.«01_k».proof.Proof.Attn

/-! The gradient of the gated product `silu g * up` over the extended reals, from the cotangent of its projection `@ w`.
The kernel and the reference multiply out the derivative of `silu` differently; the two agree where the product's own
cotangent times `up` is a number. -/

@[expose] public section

set_option maxRecDepth 16384

noncomputable section

namespace Cert.Kernel2Ideal.Gate

open Idealize.ShloMosaic Idealize.ShloMosaic.TcCoe Idealize.ShloMosaic.Tactic
open Idealize.SL.Sem
open Cert.Ix (ext2 blk row)
open Idealize.ShloMosaic.Pipeline (Dat Cfg Window)
open Cert.Kernel2Ideal Cert.Kernel2Ideal.Gen

/-- The cotangent of the gated product: that of its projection `y = f @ w`, times the transposed weights. -/
def df (x : FVec Ideal S4096x1024 .bf16) (w : FVec Ideal S2816x1024 .bf16) (i : S4096x2816.Idx) : EReal :=
  ∑ k : Fin 1024, x (ix2 (i 0) k) * w (ix2 (i 1) k)

/-- `d` times the derivative of `silu` at `g`, -/
def slope (d g : EReal) : EReal := d * Ideal.logistic g * (1 + g * (1 - Ideal.logistic g))

/-- the gradient of the gate, -/
def dgate (x : FVec Ideal S4096x1024 .bf16) (w : FVec Ideal S2816x1024 .bf16) (g up : FVec Ideal S4096x2816 .bf16)
    (i : S4096x2816.Idx) : EReal :=
  slope (df x w i * up i) (g i)

/-- and of the gated factor. -/
def dup (x : FVec Ideal S4096x1024 .bf16) (w : FVec Ideal S2816x1024 .bf16) (g : FVec Ideal S4096x2816 .bf16)
    (i : S4096x2816.Idx) : EReal :=
  df x w i * g i * Ideal.logistic (g i)

/-- The derivative of `silu` as a sum of two terms. An infinite `g` makes both sides zero or `d`. -/
theorem slope_eq (d : ℝ) (g : EReal) :
    slope d g = d * Ideal.logistic g + g * d * (Ideal.logistic g * (1 - Ideal.logistic g)) := by
  have h1 : (1 : EReal) - 1 = 0 := by rw [← EReal.coe_one, ← EReal.coe_sub, sub_self, EReal.coe_zero]
  unfold slope
  induction g using EReal.rec with
  | bot => rw [Ideal.logistic_bot]; simp
  | top => rw [Ideal.logistic_top, h1]; simp
  | coe g =>
    rw [Ideal.logistic_coe]
    generalize (1 + Real.exp (-g))⁻¹ = s
    norm_cast
    ring

/-! ## One block -/

theorem pay1_at (x : FVec Ideal S1024x1024 .bf16) (w : FVec Ideal S1408x1024 .bf16) (a : Fin 1024) (b : Fin 1408) :
    k0_pay1 (F := Ideal) x w (ix2 a b) = ∑ k : Fin 1024, x (ix2 a k) * w (ix2 b k) := by
  pointwise [k0_pay1]

theorem pay4_at (x : FVec Ideal S1024x1024 .bf16) (w : FVec Ideal S1408x1024 .bf16) (g up : FVec Ideal S1024x1408 .bf16)
    (i : S1024x1408.Idx) :
    k0_pay4 (F := Ideal) x w g up i = slope (k0_pay1 (F := Ideal) x w i * up i) (g i) := by
  unfold k0_pay4
  generalize k0_pay1 (F := Ideal) x w = y
  show y i * up i * Ideal.logistic (g i)
    * (Ideal.ofBits .f32 0x3F800000#32 + g i * (Ideal.ofBits .f32 0x3F800000#32 - Ideal.logistic (g i))) = _
  rw [Ideal.ofBits_one_f32]
  rfl

theorem pay5_at (x : FVec Ideal S1024x1024 .bf16) (w : FVec Ideal S1408x1024 .bf16) (g : FVec Ideal S1024x1408 .bf16)
    (i : S1024x1408.Idx) :
    k0_pay5 (F := Ideal) x w g i = k0_pay1 (F := Ideal) x w i * g i * Ideal.logistic (g i) := by
  unfold k0_pay5
  generalize k0_pay1 (F := Ideal) x w = y
  rfl

theorem out4_eq (x : FVec Ideal S1024x1024 .bf16) (w : FVec Ideal S1408x1024 .bf16) (g up : FVec Ideal S1024x1408 .bf16) :
    out0_4 (F := Ideal) x w g up = k0_pay4 (F := Ideal) x w g up := by
  have hzg : (![0, 0] : Fin S1024x1408.rank → Nat) = fun _ => 0 := funext fun a => by fin_cases a <;> rfl
  have hzx : (![0, 0] : Fin S1024x1024.rank → Nat) = fun _ => 0 := funext fun a => by fin_cases a <;> rfl
  have hzw : (![0, 0] : Fin S1408x1024.rank → Nat) = fun _ => 0 := funext fun a => by fin_cases a <;> rfl
  unfold out0_4
  rw [View.canon_unit_zero hzg, View.ld_unit_zero hzx, View.ld_unit_zero hzw, View.ld_unit_zero hzg, View.ld_unit_zero hzg]

theorem out5_eq (x : FVec Ideal S1024x1024 .bf16) (w : FVec Ideal S1408x1024 .bf16) (g up : FVec Ideal S1024x1408 .bf16) :
    out0_5 (F := Ideal) x w g up = k0_pay5 (F := Ideal) x w g := by
  have hzg : (![0, 0] : Fin S1024x1408.rank → Nat) = fun _ => 0 := funext fun a => by fin_cases a <;> rfl
  have hzx : (![0, 0] : Fin S1024x1024.rank → Nat) = fun _ => 0 := funext fun a => by fin_cases a <;> rfl
  have hzw : (![0, 0] : Fin S1408x1024.rank → Nat) = fun _ => 0 := funext fun a => by fin_cases a <;> rfl
  unfold out0_5
  rw [View.canon_unit_zero hzg, View.ld_unit_zero hzx, View.ld_unit_zero hzw, View.ld_unit_zero hzg]

/-! ## The grid's blocks -/

variable (m : (ℓ : Loc nD τ sig) → Buf (Elt Ideal) ℓ) (ρ : Dev nD → PrngReg)

/-- The cotangent of the projection, -/
def A0 (c : Dev nD) : FVec Ideal S4096x1024 .bf16 := m ((c.tc : Thread nD τ).loc main_arg0)
/-- its weights, -/
def W0 (c : Dev nD) : FVec Ideal S2816x1024 .bf16 := m ((c.tc : Thread nD τ).loc main_arg1)
/-- the gate, -/
def G0 (c : Dev nD) : FVec Ideal S4096x2816 .bf16 := m ((c.tc : Thread nD τ).loc main_arg2)
/-- and the gated factor. -/
def U0 (c : Dev nD) : FVec Ideal S4096x2816 .bf16 := m ((c.tc : Thread nD τ).loc main_arg3)

theorem index0 : ∀ t : Fin grid0.N, win0_0.index t 0 = t.val / 2 ∧ win0_0.index t 1 = 0 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = t.val % 2 := by decide +kernel
theorem index3 : ∀ t : Fin grid0.N, win0_3.index t 0 = t.val / 2 ∧ win0_3.index t 1 = t.val % 2 := by decide +kernel
theorem index4 : ∀ t : Fin grid0.N, win0_4.index t 0 = t.val / 2 ∧ win0_4.index t 1 = t.val % 2 := by decide +kernel
theorem index5 : ∀ t : Fin grid0.N, win0_5.index t 0 = t.val / 2 ∧ win0_5.index t 1 = t.val % 2 := by decide +kernel

theorem iblk0_apply (c : Dev nD) (t : Fin cfg0.N) (a : Fin 1024) (b : Fin 1024) (r : Fin 4096) (hr : r.val = 1024 * (t.val / 2) + a.val) :
    (iblk m c 0 t : FVec Ideal S1024x1024 .bf16) (ix2 a b) = A0 m c (ix2 r b) :=
  congrArg (V m c main_arg0) (ext2 (blk (index0 t).1 (row hr)) (blk (index0 t).2 (by simp only [ix2]; omega)))

theorem iblk1_apply (c : Dev nD) (t : Fin cfg0.N) (a : Fin 1408) (b : Fin 1024) (r : Fin 2816) (hr : r.val = 1408 * (t.val % 2) + a.val) :
    (iblk m c 1 t : FVec Ideal S1408x1024 .bf16) (ix2 a b) = W0 m c (ix2 r b) :=
  congrArg (V m c main_arg1) (ext2 (blk (index1 t).1 (row hr)) (blk (index1 t).2 (by simp only [ix2]; omega)))

theorem iblk2_apply (c : Dev nD) (t : Fin cfg0.N) (a : Fin 1024) (b : Fin 1408) (r : Fin 4096) (hr : r.val = 1024 * (t.val / 2) + a.val) (s : Fin 2816) (hs : s.val = 1408 * (t.val % 2) + b.val) :
    (iblk m c 2 t : FVec Ideal S1024x1408 .bf16) (ix2 a b) = G0 m c (ix2 r s) :=
  congrArg (V m c main_arg2) (ext2 (blk (index2 t).1 (row hr)) (blk (index2 t).2 (row hs)))

theorem iblk3_apply (c : Dev nD) (t : Fin cfg0.N) (a : Fin 1024) (b : Fin 1408) (r : Fin 4096) (hr : r.val = 1024 * (t.val / 2) + a.val) (s : Fin 2816) (hs : s.val = 1408 * (t.val % 2) + b.val) :
    (iblk m c 3 t : FVec Ideal S1024x1408 .bf16) (ix2 a b) = U0 m c (ix2 r s) :=
  congrArg (V m c main_arg3) (ext2 (blk (index3 t).1 (row hr)) (blk (index3 t).2 (row hs)))

theorem df_at (c : Dev nD) (t : Fin cfg0.N) (a : Fin 1024) (b : Fin 1408) (i : S4096x2816.Idx)
    (h0 : (i 0).val = 1024 * (t.val / 2) + a.val) (h1 : (i 1).val = 1408 * (t.val % 2) + b.val) :
    k0_pay1 (F := Ideal) (iblk m c 0 t) (iblk m c 1 t) (ix2 a b) = df (A0 m c) (W0 m c) i := by
  refine (pay1_at _ _ a b).trans ?_
  unfold df
  exact Finset.sum_congr rfl fun k _ =>
    congrArg₂ (· * ·) (iblk0_apply m c t a k (i 0) h0) (iblk1_apply m c t b k (i 1) h1)

/-- What a point leaves at a row and a column of its block of the first result, -/
theorem block4_at (c : Dev nD) (t : Fin cfg0.N) (a : Fin 1024) (b : Fin 1408) (i : S4096x2816.Idx)
    (h0 : (i 0).val = 1024 * (t.val / 2) + a.val) (h1 : (i 1).val = 1408 * (t.val % 2) + b.val) :
    k0_pay4 (F := Ideal) (iblk m c 0 t) (iblk m c 1 t) (iblk m c 2 t) (iblk m c 3 t) (ix2 a b)
      = dgate (A0 m c) (W0 m c) (G0 m c) (U0 m c) i := by
  have hi : i = ix2 (i 0) (i 1) := eq_ix2 i
  refine (pay4_at _ _ _ _ (ix2 a b)).trans ?_
  unfold dgate
  refine congrArg₂ slope (congrArg₂ (· * ·) (df_at m c t a b i h0 h1) ?_) ?_
  · exact (iblk3_apply m c t a b (i 0) h0 (i 1) h1).trans (congrArg (U0 m c) hi.symm)
  · exact (iblk2_apply m c t a b (i 0) h0 (i 1) h1).trans (congrArg (G0 m c) hi.symm)

/-- and of the second. -/
theorem block5_at (c : Dev nD) (t : Fin cfg0.N) (a : Fin 1024) (b : Fin 1408) (i : S4096x2816.Idx)
    (h0 : (i 0).val = 1024 * (t.val / 2) + a.val) (h1 : (i 1).val = 1408 * (t.val % 2) + b.val) :
    k0_pay5 (F := Ideal) (iblk m c 0 t) (iblk m c 1 t) (iblk m c 2 t) (ix2 a b) = dup (A0 m c) (W0 m c) (G0 m c) i := by
  have hi : i = ix2 (i 0) (i 1) := eq_ix2 i
  have hg := (iblk2_apply m c t a b (i 0) h0 (i 1) h1).trans (congrArg (G0 m c) hi.symm)
  refine (pay5_at _ _ _ (ix2 a b)).trans ?_
  unfold dup
  exact congrArg₂ (· * ·) (congrArg₂ (· * ·) (df_at m c t a b i h0 h1) hg) (congrArg Ideal.logistic hg)

theorem flushed4 (c : Dev nD) (t : Fin cfg0.N) (_hf : (cfg0.win 4).flush t = true) :
    (dats m 0 c).flushed 4 t = ((cfg0.win 4).blk t).view.read (Elt Ideal) (dgate (A0 m c) (W0 m c) (G0 m c) (U0 m c)) := by
  have hi := index4 t
  rw [Value.flushed4, out4_eq]
  funext x
  rw [View.read_apply]
  obtain ⟨a, b, rfl⟩ : ∃ (a : Fin 1024) (b : Fin 1408), x = ix2 a b := ⟨x 0, x 1, eq_ix2 x⟩
  refine block4_at m c t a b _ ?_ ?_
  · show win0_4.index t 0 * 1024 + 1 * a.val = _
    rw [hi.1]; omega
  · show win0_4.index t 1 * 1408 + 1 * b.val = _
    rw [hi.2]; omega

theorem final4 (c : Dev nD) : (dats m 0 c).arrAt 4 cfg0.N = dgate (A0 m c) (W0 m c) (G0 m c) (U0 m c) :=
  (dats m 0 c).arrAt_eq_of_cover 4 (dgate (A0 m c) (W0 m c) (G0 m c) (U0 m c)) (flushed4 m c) fun i => by
    have h0 : (i 0 : Nat) < 4096 := (i 0).isLt
    have h1 : (i 1 : Nat) < 2816 := (i 1).isLt
    have hlt : 2 * ((i 0).val / 1024) + (i 1).val / 1408 < cfg0.N := by rw [show cfg0.N = 8 from N_0]; omega
    have hi := index4 ⟨2 * ((i 0).val / 1024) + (i 1).val / 1408, hlt⟩
    refine ⟨⟨2 * ((i 0).val / 1024) + (i 1).val / 1408, hlt⟩, flush0_4 _, ?_⟩
    show i ∈ ((View.whole main_v0_0).slice (win0_4.rect ⟨2 * ((i 0).val / 1024) + (i 1).val / 1408, hlt⟩)).set
    rw [View.set_slice_whole, Rect.mem_set_unit]
    dsimp only at hi
    intro a
    match a with
    | ⟨0, _⟩ =>
      show win0_4.index ⟨2 * ((i 0).val / 1024) + (i 1).val / 1408, hlt⟩ 0 * 1024 ≤ (i 0 : Nat)
        ∧ (i 0 : Nat) < win0_4.index ⟨2 * ((i 0).val / 1024) + (i 1).val / 1408, hlt⟩ 0 * 1024 + 1024
      rw [hi.1]; omega
    | ⟨1, _⟩ =>
      show win0_4.index ⟨2 * ((i 0).val / 1024) + (i 1).val / 1408, hlt⟩ 1 * 1408 ≤ (i 1 : Nat)
        ∧ (i 1 : Nat) < win0_4.index ⟨2 * ((i 0).val / 1024) + (i 1).val / 1408, hlt⟩ 1 * 1408 + 1408
      rw [hi.2]; omega

theorem flushed5 (c : Dev nD) (t : Fin cfg0.N) (_hf : (cfg0.win 5).flush t = true) :
    (dats m 0 c).flushed 5 t = ((cfg0.win 5).blk t).view.read (Elt Ideal) (dup (A0 m c) (W0 m c) (G0 m c)) := by
  have hi := index5 t
  rw [Value.flushed5, out5_eq]
  funext x
  rw [View.read_apply]
  obtain ⟨a, b, rfl⟩ : ∃ (a : Fin 1024) (b : Fin 1408), x = ix2 a b := ⟨x 0, x 1, eq_ix2 x⟩
  refine block5_at m c t a b _ ?_ ?_
  · show win0_5.index t 0 * 1024 + 1 * a.val = _
    rw [hi.1]; omega
  · show win0_5.index t 1 * 1408 + 1 * b.val = _
    rw [hi.2]; omega

theorem final5 (c : Dev nD) : (dats m 0 c).arrAt 5 cfg0.N = dup (A0 m c) (W0 m c) (G0 m c) :=
  (dats m 0 c).arrAt_eq_of_cover 5 (dup (A0 m c) (W0 m c) (G0 m c)) (flushed5 m c) fun i => by
    have h0 : (i 0 : Nat) < 4096 := (i 0).isLt
    have h1 : (i 1 : Nat) < 2816 := (i 1).isLt
    have hlt : 2 * ((i 0).val / 1024) + (i 1).val / 1408 < cfg0.N := by rw [show cfg0.N = 8 from N_0]; omega
    have hi := index5 ⟨2 * ((i 0).val / 1024) + (i 1).val / 1408, hlt⟩
    refine ⟨⟨2 * ((i 0).val / 1024) + (i 1).val / 1408, hlt⟩, flush0_5 _, ?_⟩
    show i ∈ ((View.whole main_v0_1).slice (win0_5.rect ⟨2 * ((i 0).val / 1024) + (i 1).val / 1408, hlt⟩)).set
    rw [View.set_slice_whole, Rect.mem_set_unit]
    dsimp only at hi
    intro a
    match a with
    | ⟨0, _⟩ =>
      show win0_5.index ⟨2 * ((i 0).val / 1024) + (i 1).val / 1408, hlt⟩ 0 * 1024 ≤ (i 0 : Nat)
        ∧ (i 0 : Nat) < win0_5.index ⟨2 * ((i 0).val / 1024) + (i 1).val / 1408, hlt⟩ 0 * 1024 + 1024
      rw [hi.1]; omega
    | ⟨1, _⟩ =>
      show win0_5.index ⟨2 * ((i 0).val / 1024) + (i 1).val / 1408, hlt⟩ 1 * 1408 ≤ (i 1 : Nat)
        ∧ (i 1 : Nat) < win0_5.index ⟨2 * ((i 0).val / 1024) + (i 1).val / 1408, hlt⟩ 1 * 1408 + 1408
      rw [hi.2]; omega

/-- The kernel's run: its two results, and its arguments unchanged. -/
theorem run : θ_run defs (onTc (τ := τ) (main (F := Ideal))) ⟨m, fun _ => 0, ρ⟩ fun r => ∀ c : Dev nD,
      r.2.mem ((c.tc : Thread nD τ).loc main_v0_0) = dgate (A0 m c) (W0 m c) (G0 m c) (U0 m c)
      ∧ r.2.mem ((c.tc : Thread nD τ).loc main_v0_1) = dup (A0 m c) (W0 m c) (G0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final4 m c), (h c).2.1.trans (final5 m c), (h c).2.2⟩)
    (Value.run_blocks m ρ)

/-! ## The reference -/

open Cert.Reference2Ideal.Read in
theorem ref7 (x : FVec Ideal S4096x1024 .bf16) (w : FVec Ideal S2816x1024 .bf16) (i : S4096x2816.Idx) :
    val_main_v7 (F := Ideal) x w i = df x w i := by
  rw [val_main_v7_apply]
  unfold df
  refine Finset.sum_congr rfl fun k _ => ?_
  rw [val_main_v6_apply, val_main_v4_apply]
  have e0 : lidx_main_v7 i k = ix2 (i 0) k := ext2 rfl rfl
  have e1 : ridx_main_v7 i k = ix2 (i 1) k := ext2 rfl rfl
  rw [e0, e1]
  rfl

open Cert.Reference2Ideal.Read in
theorem ref2 (g : FVec Ideal S4096x2816 .bf16) (i : S4096x2816.Idx) :
    val_main_v2_2 (F := Ideal) g i = Ideal.logistic (g i) := by
  rw [val_main_v2_2_apply, val_main_call0_v4_apply, val_main_call0_cst_0_apply, val_main_call0_v3_apply,
    val_main_call0_v2_apply, val_main_call0_cst_apply, val_main_call0_v1_apply, val_main_call0_v0_apply, val_main_v0_apply]
  show Ideal.div (Ideal.ofBits .f32 0x3F800000#32) (Ideal.ofBits .f32 0x3F800000#32 + Ideal.exp (-(g i))) = _
  rw [Ideal.ofBits_one_f32]
  rfl

open Cert.Reference2Ideal.Read in
theorem ref12 (x : FVec Ideal S4096x1024 .bf16) (w : FVec Ideal S2816x1024 .bf16) (g : FVec Ideal S4096x2816 .bf16) :
    val_main_v12 (F := Ideal) x w g = dup x w g := by
  funext i
  rw [val_main_v12_apply, val_main_v8_apply, val_main_v2_0_apply, ref7, ref2, val_main_v0_apply]
  show g i * Ideal.logistic (g i) * df x w i = df x w i * g i * Ideal.logistic (g i)
  rw [mul_comm, mul_assoc]

/-- Where the cotangent, the weights and the gated factor are numbers. -/
theorem df_real (x : FVec Ideal S4096x1024 .bf16) (w : FVec Ideal S2816x1024 .bf16) (hx : ∀ i, x i ≠ ⊤ ∧ x i ≠ ⊥)
    (hw : ∀ i, w i ≠ ⊤ ∧ w i ≠ ⊥) (i : S4096x2816.Idx) : ∃ d : ℝ, df x w i = (d : EReal) := by
  refine ⟨∑ k : Fin 1024, (x (ix2 (i 0) k)).toReal * (w (ix2 (i 1) k)).toReal, ?_⟩
  unfold df
  rw [Attn.coe_sum]
  refine Finset.sum_congr rfl fun k _ => ?_
  rw [EReal.coe_mul, EReal.coe_toReal (hx _).1 (hx _).2, EReal.coe_toReal (hw _).1 (hw _).2]

open Cert.Reference2Ideal.Read in
theorem ref11 (x : FVec Ideal S4096x1024 .bf16) (w : FVec Ideal S2816x1024 .bf16) (g up : FVec Ideal S4096x2816 .bf16)
    (hx : ∀ i, x i ≠ ⊤ ∧ x i ≠ ⊥) (hw : ∀ i, w i ≠ ⊤ ∧ w i ≠ ⊥) (hu : ∀ i, up i ≠ ⊤ ∧ up i ≠ ⊥) :
    val_main_v11 (F := Ideal) x w g up = dgate x w g up := by
  funext i
  rw [val_main_v11_apply, val_main_v10_apply, val_main_call1_v1_apply, val_main_call1_v2_apply, val_main_call1_v0_apply,
    val_main_v9_apply, val_main_v2_1_apply, val_main_call0_v7_apply, val_main_call0_v6_apply, val_main_call0_cst_1_apply,
    ref7, ref2, val_main_v0_apply, val_main_v1_apply]
  obtain ⟨d, hd⟩ := df_real x w hx hw i
  show df x w i * up i * Ideal.logistic (g i)
    + g i * (df x w i * up i) * (Ideal.logistic (g i) * (Ideal.ofBits .f32 0x3F800000#32 - Ideal.logistic (g i))) = _
  unfold dgate
  rw [Ideal.ofBits_one_f32, hd, ← EReal.coe_toReal (hu i).1 (hu i).2, ← EReal.coe_mul, slope_eq]

end Cert.Kernel2Ideal.Gate

end
-- ==== Proof.WGrad.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Ix
public import Idealize.ShloMosaic.Lib.Pointwise
public import Idealize.ShloMosaic.Lib.Tactic
public import Idealize.ShloMosaic.Lib.Pipeline.Value
public import Idealize.ShloMosaic.Lib.Claim

/-! The gradient of a weight matrix over the extended reals: the kernel's two results and the reference's are, at a row `j`
and a column `n`, the sum over the 4096 tokens of the layer's input at `j` times the cotangent at `n`. -/

@[expose] public section

set_option maxRecDepth 16384

noncomputable section

namespace Cert.Kernel3Ideal.WGrad

open Idealize.ShloMosaic Idealize.ShloMosaic.TcCoe Idealize.ShloMosaic.Tactic
open Idealize.SL.Sem
open Cert.Ix (ext2 blk row)
open Idealize.ShloMosaic.Pipeline (Dat Cfg Window)
open Cert.Kernel3Ideal Cert.Kernel3Ideal.Gen

/-- The gradient of the weights `w` of `a @ w` from the cotangent `ct`. -/
def grad (a : FVec Ideal S4096x2816 .bf16) (ct : FVec Ideal S4096x1024 .bf16) (i : S2816x1024.Idx) : EReal :=
  ∑ k : Fin 4096, a (ix2 k (i 0)) * ct (ix2 k (i 1))

/-! ## One block -/

theorem pay1_at (x : FVec Ideal S4096x256 .bf16) (y : FVec Ideal S4096x1024 .bf16) (j : Fin 256) (n : Fin 1024) :
    k0_pay1 (F := Ideal) x y (ix2 j n) = ∑ k : Fin 4096, x (ix2 k j) * y (ix2 k n) := by
  pointwise [k0_pay1]

theorem out2_eq (x : FVec Ideal S4096x256 .bf16) (y : FVec Ideal S4096x1024 .bf16) : out0_2 (F := Ideal) x y = k0_pay1 (F := Ideal) x y := by
  have hz2 : (![0, 0] : Fin S256x1024.rank → Nat) = fun _ => 0 := funext fun a => by fin_cases a <;> rfl
  have hz0 : (![0, 0] : Fin S4096x256.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz2, View.ld_unit_zero hz0, View.ld_unit_zero hz1]

theorem out3_eq (x : FVec Ideal S4096x256 .bf16) (y : FVec Ideal S4096x1024 .bf16) : out0_3 (F := Ideal) x y = k0_pay2 (F := Ideal) x y := by
  have hz2 : (![0, 0] : Fin S256x1024.rank → Nat) = fun _ => 0 := funext fun a => by fin_cases a <;> rfl
  have hz0 : (![0, 0] : Fin S4096x256.rank → Nat) = fun _ => 0 := funext fun a => by fin_cases a <;> rfl
  have hz1 : (![0, 0] : Fin S4096x1024.rank → Nat) = fun _ => 0 := funext fun a => by fin_cases a <;> rfl
  unfold out0_3
  rw [View.canon_unit_zero hz2, View.ld_unit_zero hz0, View.ld_unit_zero hz1]

/-! ## The grid's blocks -/

variable (m : (ℓ : Loc nD τ sig) → Buf (Elt Ideal) ℓ) (ρ : Dev nD → PrngReg)

/-- The layer's input, -/
def A0 (c : Dev nD) : FVec Ideal S4096x2816 .bf16 := m ((c.tc : Thread nD τ).loc main_arg0)
/-- and the cotangent of its output. -/
def C0 (c : Dev nD) : FVec Ideal S4096x1024 .bf16 := m ((c.tc : Thread nD τ).loc main_arg1)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel

theorem iblk0_apply (c : Dev nD) (t : Fin cfg0.N) (a : Fin 4096) (b : Fin 256) (j : Fin 2816) (hj : j.val = 256 * t.val + b.val) :
    (iblk m c 0 t : FVec Ideal S4096x256 .bf16) (ix2 a b) = A0 m c (ix2 a j) :=
  congrArg (V m c main_arg0) (ext2 (blk (index0 t).1 (by simp only [ix2]; omega)) (blk (index0 t).2 (row hj)))

theorem iblk1_apply (c : Dev nD) (t : Fin cfg0.N) (a : Fin 4096) (b : Fin 1024) :
    (iblk m c 1 t : FVec Ideal S4096x1024 .bf16) (ix2 a b) = C0 m c (ix2 a b) :=
  congrArg (V m c main_arg1) (ext2 (blk (index1 t).1 (by simp only [ix2]; omega)) (blk (index1 t).2 (by simp only [ix2]; omega)))

/-- What a point leaves at row `j` and column `n` of its block of either result. -/
theorem block_at (c : Dev nD) (t : Fin cfg0.N) (j : Fin 256) (n : Fin 1024) (i : S2816x1024.Idx)
    (h0 : (i 0).val = 256 * t.val + j.val) (h1 : (i 1).val = n.val) :
    k0_pay1 (F := Ideal) (iblk m c 0 t) (iblk m c 1 t) (ix2 j n) = grad (A0 m c) (C0 m c) i := by
  have hn : (i 1 : Fin 1024) = n := Fin.ext h1
  refine (pay1_at _ _ j n).trans ?_
  unfold grad
  refine Finset.sum_congr rfl fun k _ => ?_
  rw [hn]
  exact congrArg₂ (· * ·) (iblk0_apply m c t k j (i 0) h0) (iblk1_apply m c t k n)

theorem flushed2 (c : Dev nD) (t : Fin cfg0.N) (_hf : (cfg0.win 2).flush t = true) :
    (dats m 0 c).flushed 2 t = ((cfg0.win 2).blk t).view.read (Elt Ideal) (grad (A0 m c) (C0 m c)) := by
  have hi := index2 t
  rw [Value.flushed2, out2_eq]
  funext x
  rw [View.read_apply]
  have h0 : (x 0).val < 256 := (x 0).isLt
  have h1 : (x 1).val < 1024 := (x 1).isLt
  obtain ⟨j, n, rfl⟩ : ∃ (j : Fin 256) (n : Fin 1024), x = ix2 j n := ⟨x 0, x 1, eq_ix2 x⟩
  refine block_at m c t j n _ ?_ ?_
  · show win0_2.index t 0 * 256 + 1 * j.val = _
    rw [hi.1]; omega
  · show win0_2.index t 1 * 1024 + 1 * n.val = _
    rw [hi.2]; omega

theorem flushed3 (c : Dev nD) (t : Fin cfg0.N) (_hf : (cfg0.win 3).flush t = true) :
    (dats m 0 c).flushed 3 t = ((cfg0.win 3).blk t).view.read (Elt Ideal) (grad (A0 m c) (C0 m c)) := by
  have hi := index3 t
  rw [Value.flushed3, out3_eq]
  funext x
  rw [View.read_apply]
  have h0 : (x 0).val < 256 := (x 0).isLt
  have h1 : (x 1).val < 1024 := (x 1).isLt
  obtain ⟨j, n, rfl⟩ : ∃ (j : Fin 256) (n : Fin 1024), x = ix2 j n := ⟨x 0, x 1, eq_ix2 x⟩
  refine block_at m c t j n _ ?_ ?_
  · show win0_3.index t 0 * 256 + 1 * j.val = _
    rw [hi.1]; omega
  · show win0_3.index t 1 * 1024 + 1 * n.val = _
    rw [hi.2]; omega

theorem final2 (c : Dev nD) : (dats m 0 c).arrAt 2 cfg0.N = grad (A0 m c) (C0 m c) :=
  (dats m 0 c).arrAt_eq_of_cover 2 (grad (A0 m c) (C0 m c)) (flushed2 m c) fun i => by
    have h0 : (i 0 : Nat) < 2816 := (i 0).isLt
    have h1 : (i 1 : Nat) < 1024 := (i 1).isLt
    have hlt : (i 0).val / 256 < cfg0.N := by rw [show cfg0.N = 11 from N_0]; omega
    have hi := index2 ⟨(i 0).val / 256, hlt⟩
    refine ⟨⟨(i 0).val / 256, hlt⟩, flush0_2 _, ?_⟩
    show i ∈ ((View.whole main_v0_0).slice (win0_2.rect ⟨(i 0).val / 256, hlt⟩)).set
    rw [View.set_slice_whole, Rect.mem_set_unit]
    dsimp only at hi
    intro a
    match a with
    | ⟨0, _⟩ =>
      show win0_2.index ⟨(i 0).val / 256, hlt⟩ 0 * 256 ≤ (i 0 : Nat) ∧ (i 0 : Nat) < win0_2.index ⟨(i 0).val / 256, hlt⟩ 0 * 256 + 256
      rw [hi.1]; omega
    | ⟨1, _⟩ =>
      show win0_2.index ⟨(i 0).val / 256, hlt⟩ 1 * 1024 ≤ (i 1 : Nat) ∧ (i 1 : Nat) < win0_2.index ⟨(i 0).val / 256, hlt⟩ 1 * 1024 + 1024
      rw [hi.2]; omega

theorem final3 (c : Dev nD) : (dats m 0 c).arrAt 3 cfg0.N = grad (A0 m c) (C0 m c) :=
  (dats m 0 c).arrAt_eq_of_cover 3 (grad (A0 m c) (C0 m c)) (flushed3 m c) fun i => by
    have h0 : (i 0 : Nat) < 2816 := (i 0).isLt
    have h1 : (i 1 : Nat) < 1024 := (i 1).isLt
    have hlt : (i 0).val / 256 < cfg0.N := by rw [show cfg0.N = 11 from N_0]; omega
    have hi := index3 ⟨(i 0).val / 256, hlt⟩
    refine ⟨⟨(i 0).val / 256, hlt⟩, flush0_3 _, ?_⟩
    show i ∈ ((View.whole main_v0_1).slice (win0_3.rect ⟨(i 0).val / 256, hlt⟩)).set
    rw [View.set_slice_whole, Rect.mem_set_unit]
    dsimp only at hi
    intro a
    match a with
    | ⟨0, _⟩ =>
      show win0_3.index ⟨(i 0).val / 256, hlt⟩ 0 * 256 ≤ (i 0 : Nat) ∧ (i 0 : Nat) < win0_3.index ⟨(i 0).val / 256, hlt⟩ 0 * 256 + 256
      rw [hi.1]; omega
    | ⟨1, _⟩ =>
      show win0_3.index ⟨(i 0).val / 256, hlt⟩ 1 * 1024 ≤ (i 1 : Nat) ∧ (i 1 : Nat) < win0_3.index ⟨(i 0).val / 256, hlt⟩ 1 * 1024 + 1024
      rw [hi.2]; omega

/-- The kernel's run: its two results, and its arguments unchanged. -/
theorem run : θ_run defs (onTc (τ := τ) (main (F := Ideal))) ⟨m, fun _ => 0, ρ⟩ fun r => ∀ c : Dev nD,
      r.2.mem ((c.tc : Thread nD τ).loc main_v0_0) = grad (A0 m c) (C0 m c)
      ∧ r.2.mem ((c.tc : Thread nD τ).loc main_v0_1) = grad (A0 m c) (C0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2.1.trans (final3 m c), (h c).2.2⟩)
    (Value.run_blocks m ρ)

/-! ## The reference -/

open Cert.Reference3Ideal.Read in
theorem ref5 (a : FVec Ideal S4096x2816 .bf16) (ct : FVec Ideal S4096x1024 .bf16) :
    val_main_v5 (F := Ideal) a ct = grad a ct := by
  funext i
  rw [val_main_v5_apply, val_main_v4_apply]
  unfold grad
  refine Finset.sum_congr rfl fun k _ => ?_
  rw [val_main_v3_apply, val_main_v1_apply, mul_comm]
  have e0 : ridx_main_v4 (idx_main_v5 i) k = ix2 k (i 0) := ext2 rfl rfl
  have e1 : lidx_main_v4 (idx_main_v5 i) k = ix2 k (i 1) := ext2 rfl rfl
  rw [e0, e1]
  rfl

open Cert.Reference3Ideal.Read in
theorem ref6 (a : FVec Ideal S4096x2816 .bf16) (ct : FVec Ideal S4096x1024 .bf16) :
    val_main_v6 (F := Ideal) a ct = grad a ct := by
  funext i
  rw [val_main_v6_apply, ref5]
  rfl

end Cert.Kernel3Ideal.WGrad

end
-- ==== Proof.NormBody.lean ====
module

public import proofs.«01_k».proof.Proof.Gen.Kernel4Ideal.Value
public import Idealize.ShloMosaic.Lib.Pointwise
public import Idealize.ShloMosaic.Lib.Tactic
public import Idealize.ShloMosaic.Lib.Pipeline.Value

/-! The gradient of the norm before the SwiGLU mixer: what the body leaves in its three output blocks, as its payloads of the
input blocks. Point 0 stores the block's column sums, every later point adds them to what it finds. -/

@[expose] public section

set_option maxRecDepth 16384

noncomputable section

namespace Cert.Kernel4Ideal.NormBody

open Idealize.ShloMosaic Idealize.ShloMosaic.TcCoe Idealize.ShloMosaic.Tactic
open Idealize.SL.Sem
open Cert.Kernel4Ideal Cert.Kernel4Ideal.Gen

variable {F : FTy → Type} [FloatOps F]

theorem hz : (![0, 0] : Fin 2 → Nat) = fun _ => 0 := funext fun a => by fin_cases a <;> rfl

/-- The gradient of the residual stream in one block. -/
abbrev dxB (x0 x1 : Vec F S256x2816 .bf16) (x2 x3 : Vec F S2816x1024 .bf16) (x4 : Vec F S256x1024 .f32) (x5 : Vec F S1x1024 .f32)
    (x6 : Vec F S256x1024 .f32) : Vec F S256x1024 .f32 :=
  k0_pay8 x2 x0 x3 x1 x4 x5 x6

/-- The terms of the norm weight's gradient in one block. -/
abbrev dwB (x0 x1 : Vec F S256x2816 .bf16) (x2 x3 : Vec F S2816x1024 .bf16) (x4 : Vec F S256x1024 .f32) : Vec F S256x1024 .f32 :=
  k0_pay7 x2 x0 x3 x1 x4

variable (c : Dev nD) (i : grid0.Coords) (arg1 : Memref sig .tc .vmem S256x2816 .bf16) (harg1 : arg1.IsWhole)
  (arg2 : Memref sig .tc .vmem S256x2816 .bf16) (harg2 : arg2.IsWhole) (arg3 : Memref sig .tc .vmem S2816x1024 .bf16)
  (harg3 : arg3.IsWhole) (arg4 : Memref sig .tc .vmem S2816x1024 .bf16) (harg4 : arg4.IsWhole)
  (arg5 : Memref sig .tc .vmem S256x1024 .f32) (harg5 : arg5.IsWhole) (arg6 : Memref sig .tc .vmem S1x1024 .f32)
  (harg6 : arg6.IsWhole) (arg7 : Memref sig .tc .vmem S256x1024 .f32) (harg7 : arg7.IsWhole)
  (arg8 : Memref sig .tc .vmem S256x1024 .f32) (harg8 : arg8.IsWhole) (arg9 : Memref sig .tc .vmem S256x1024 .bf16)
  (harg9 : arg9.IsWhole) (arg10 : Memref sig .tc .vmem S1x1024 .f32) (harg10 : arg10.IsWhole)

theorem out_A_7 (hc0 : cond0_0 i) (hc1 : ¬cond0_1 i)
    (x0 : Vec F S256x2816 .bf16) (x1 : Vec F S256x2816 .bf16) (x2 : Vec F S2816x1024 .bf16) (x3 : Vec F S2816x1024 .bf16) (x4 : Vec F S256x1024 .f32) (x5 : Vec F S1x1024 .f32) (x6 : Vec F S256x1024 .f32) :
    out0_A_7 c i arg1 harg1 arg2 harg2 arg3 harg3 arg4 harg4 arg5 harg5 arg6 harg6 arg7 harg7 arg8 harg8 arg9 harg9 arg10 harg10 hc0 hc1 x0 x1 x2 x3 x4 x5 x6 = dxB x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S256x2816) hz, View.ld_unit_zero (S := S2816x1024) hz,
    View.ld_unit_zero (S := S256x1024) hz, View.ld_unit_zero (S := S1x1024) hz]

theorem out_A_8 (hc0 : cond0_0 i) (hc1 : ¬cond0_1 i)
    (x0 : Vec F S256x2816 .bf16) (x1 : Vec F S256x2816 .bf16) (x2 : Vec F S2816x1024 .bf16) (x3 : Vec F S2816x1024 .bf16) (x4 : Vec F S256x1024 .f32) (x5 : Vec F S1x1024 .f32) (x6 : Vec F S256x1024 .f32) :
    out0_A_8 c i arg1 harg1 arg2 harg2 arg3 harg3 arg4 harg4 arg5 harg5 arg6 harg6 arg7 harg7 arg8 harg8 arg9 harg9 arg10 harg10 hc0 hc1 x0 x1 x2 x3 x4 x5 x6 = k0_pay1 (dxB x0 x1 x2 x3 x4 x5 x6) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S256x2816) hz, View.ld_unit_zero (S := S2816x1024) hz,
    View.ld_unit_zero (S := S256x1024) hz, View.ld_unit_zero (S := S1x1024) hz]

theorem out_A_9 (hc0 : cond0_0 i) (hc1 : ¬cond0_1 i)
    (x0 : Vec F S256x2816 .bf16) (x1 : Vec F S256x2816 .bf16) (x2 : Vec F S2816x1024 .bf16) (x3 : Vec F S2816x1024 .bf16) (x4 : Vec F S256x1024 .f32) (x5 : Vec F S1x1024 .f32) (x6 : Vec F S256x1024 .f32) :
    out0_A_9 c i arg1 harg1 arg2 harg2 arg3 harg3 arg4 harg4 arg5 harg5 arg6 harg6 arg7 harg7 arg8 harg8 arg9 harg9 arg10 harg10 hc0 hc1 x0 x1 x2 x3 x4 x5 x6 = k0_pay2 (dwB x0 x1 x2 x3 x4) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S256x2816) hz, View.ld_unit_zero (S := S2816x1024) hz,
    View.ld_unit_zero (S := S256x1024) hz, View.ld_unit_zero (S := S1x1024) hz]

theorem out_B_7 (hc0 : ¬cond0_0 i) (hc1 : cond0_1 i)
    (x0 : Vec F S256x2816 .bf16) (x1 : Vec F S256x2816 .bf16) (x2 : Vec F S2816x1024 .bf16) (x3 : Vec F S2816x1024 .bf16) (x4 : Vec F S256x1024 .f32) (x5 : Vec F S1x1024 .f32) (x6 : Vec F S256x1024 .f32) (xo9 : Vec F S1x1024 .f32) :
    out0_B_7 c i arg1 harg1 arg2 harg2 arg3 harg3 arg4 harg4 arg5 harg5 arg6 harg6 arg7 harg7 arg8 harg8 arg9 harg9 arg10 harg10 hc0 hc1 x0 x1 x2 x3 x4 x5 x6 xo9 = dxB x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 x5 x6 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S256x2816) hz, View.ld_unit_zero (S := S2816x1024) hz,
    View.ld_unit_zero (S := S256x1024) hz, View.ld_unit_zero (S := S1x1024) hz]

theorem out_B_8 (hc0 : ¬cond0_0 i) (hc1 : cond0_1 i)
    (x0 : Vec F S256x2816 .bf16) (x1 : Vec F S256x2816 .bf16) (x2 : Vec F S2816x1024 .bf16) (x3 : Vec F S2816x1024 .bf16) (x4 : Vec F S256x1024 .f32) (x5 : Vec F S1x1024 .f32) (x6 : Vec F S256x1024 .f32) (xo9 : Vec F S1x1024 .f32) :
    out0_B_8 c i arg1 harg1 arg2 harg2 arg3 harg3 arg4 harg4 arg5 harg5 arg6 harg6 arg7 harg7 arg8 harg8 arg9 harg9 arg10 harg10 hc0 hc1 x0 x1 x2 x3 x4 x5 x6 xo9 = k0_pay1 (dxB x0 x1 x2 x3 x4 x5 x6) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 hc1 x0 x1 x2 x3 x4 x5 x6 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S256x2816) hz, View.ld_unit_zero (S := S2816x1024) hz,
    View.ld_unit_zero (S := S256x1024) hz, View.ld_unit_zero (S := S1x1024) hz]

theorem out_B_9 (hc0 : ¬cond0_0 i) (hc1 : cond0_1 i)
    (x0 : Vec F S256x2816 .bf16) (x1 : Vec F S256x2816 .bf16) (x2 : Vec F S2816x1024 .bf16) (x3 : Vec F S2816x1024 .bf16) (x4 : Vec F S256x1024 .f32) (x5 : Vec F S1x1024 .f32) (x6 : Vec F S256x1024 .f32) (xo9 : Vec F S1x1024 .f32) :
    out0_B_9 c i arg1 harg1 arg2 harg2 arg3 harg3 arg4 harg4 arg5 harg5 arg6 harg6 arg7 harg7 arg8 harg8 arg9 harg9 arg10 harg10 hc0 hc1 x0 x1 x2 x3 x4 x5 x6 xo9 = k0_pay3 (dwB x0 x1 x2 x3 x4) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 hc1 x0 x1 x2 x3 x4 x5 x6 xo9)]
  unfold kernelRun0_B
  dsimp only
  sl_unfold_words
  rw [View.canon_unit_zero hz]
  simp only [View.readAt_eq_ld, harg1.read_unread, harg2.read_unread, harg3.read_unread, harg4.read_unread, harg5.read_unread, harg10.read_unread, View.ld_unit_zero (S := S256x2816) hz, View.ld_unit_zero (S := S2816x1024) hz,
    View.ld_unit_zero (S := S256x1024) hz, View.ld_unit_zero (S := S1x1024) hz]

end Cert.Kernel4Ideal.NormBody

end
-- ==== Proof.NormRow.lean ====
module

public import Idealize.ShloMosaic.Lib.IdealHost
public import proofs.«01_k».proof.Proof.Attn

/-! The gradient of a root mean square norm on one row of 1024 extended reals, in the two forms that the kernel and the
reference compute, and their equality for every row, finite or not: where an element of the row is infinite the row's factor
is zero and both forms leave only the residual's cotangent. -/

@[expose] public section

noncomputable section

namespace Cert.NormRow

open Idealize.ShloMosaic

/-- The width 1024, -/
def width : EReal := Ideal.ofBits .f32 0x44800000#32
/-- the norm's small constant, -/
def eps : EReal := Ideal.ofBits .f32 0x358637BD#32
/-- and minus one half. -/
def mhalf : EReal := Ideal.ofBits .f32 0xBF000000#32

/-- The mean square of a row plus the small constant, -/
def meanSq (h : Fin 1024 → EReal) : EReal := Ideal.div (∑ k, h k * h k) width + eps
/-- and the row's factor. -/
def rinv (h : Fin 1024 → EReal) : EReal := Ideal.rsqrt (meanSq h)

/-- The kernel's gradient: `p` is the cotangent of the row over its factor, `d` the residual's. -/
def kdx (p h : Fin 1024 → EReal) (d : EReal) (j : Fin 1024) : EReal :=
  rinv h * (p j - h j * rinv h * Ideal.div (∑ k, p k * (h k * rinv h)) width) + d

/-- The reference's coefficient of a row, -/
def rcoef (p h : Fin 1024 → EReal) : EReal :=
  Ideal.div ((∑ k, h k * p k) * (mhalf * Ideal.div (rinv h) (meanSq h))) width

/-- and its gradient. -/
def rdx (p h : Fin 1024 → EReal) (d : EReal) (j : Fin 1024) : EReal :=
  d + p j * rinv h + h j * rcoef p h + rcoef p h * h j

theorem width_eq : width = ((1024 : ℝ) : EReal) := by
  unfold width
  simp [Ideal.ofBits, Ideal.ieee, -EReal.coe_mul]
  norm_num

theorem mhalf_eq : mhalf = ((-(1 / 2) : ℝ) : EReal) := by
  unfold mhalf
  simp [Ideal.ofBits, Ideal.ieee, -EReal.coe_mul, -EReal.coe_neg]
  norm_num

theorem eps_eq : ∃ e : ℝ, eps = (e : EReal) ∧ 0 < e := by
  refine ⟨8796093 * 2 ^ (-43 : ℤ), ?_, by positivity⟩
  unfold eps
  simp [Ideal.ofBits, Ideal.ieee, -EReal.coe_mul]

theorem div_width (x : EReal) : Ideal.div x width = x * ((1 / 1024 : ℝ) : EReal) := by
  rw [width_eq, Ideal.div_coe (by norm_num)]

/-- A real factor that is not negative goes into a sum of extended reals. -/
theorem mul_sum_coe {ι : Type*} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem sq_nonneg (x : EReal) : 0 ≤ x * x := by
  induction x using EReal.rec with
  | bot => simp
  | top => simp
  | coe x => exact_mod_cast mul_self_nonneg x

theorem sq_top (x : EReal) (h : x = ⊤ ∨ x = ⊥) : x * x = ⊤ := by
  rcases h with rfl | rfl <;> simp

/-- A row with an infinite element has an infinite mean square. -/
theorem meanSq_top (h : Fin 1024 → EReal) (k : Fin 1024) (hk : h k = ⊤ ∨ h k = ⊥) : meanSq h = ⊤ := by
  obtain ⟨e, he, -⟩ := eps_eq
  have hs : ∑ k, h k * h k = ⊤ := by
    rw [← Finset.add_sum_erase _ _ (Finset.mem_univ k), sq_top _ hk]
    refine EReal.top_add_of_ne_bot ?_
    exact ne_of_gt (lt_of_lt_of_le EReal.bot_lt_zero (Finset.sum_nonneg fun k _ => sq_nonneg (h k)))
  unfold meanSq
  rw [hs, div_width, EReal.top_mul_coe_of_pos (by norm_num), he, EReal.top_add_coe]

/-- The two forms agree. -/
theorem dx_eq (p h : Fin 1024 → EReal) (d : EReal) (j : Fin 1024) : rdx p h d j = kdx p h d j := by
  by_cases hf : ∃ k, h k = ⊤ ∨ h k = ⊥
  · obtain ⟨k, hk⟩ := hf
    have hm := meanSq_top h k hk
    have hr : rinv h = 0 := by unfold rinv; rw [hm, Ideal.rsqrt_top]
    have hc : rcoef p h = 0 := by
      unfold rcoef
      rw [hr, hm]
      have : Ideal.div 0 ⊤ = 0 := by simp [Ideal.div]
      rw [this, mul_zero, mul_zero, div_width, zero_mul]
    unfold rdx kdx
    rw [hr, hc]
    simp
  · obtain ⟨x, hx⟩ : ∃ x : Fin 1024 → ℝ, ∀ k, h k = ((x k : ℝ) : EReal) := by
      refine ⟨fun k => (h k).toReal, fun k => (EReal.coe_toReal ?_ ?_).symm⟩
      · exact fun e => hf ⟨k, .inl e⟩
      · exact fun e => hf ⟨k, .inr e⟩
    obtain ⟨e, he, hep⟩ := eps_eq
    have hs : ∑ k, h k * h k = ((∑ k, x k * x k : ℝ) : EReal) := by
      rw [Cert.Attn.coe_sum]
      exact Finset.sum_congr rfl fun k _ => by rw [hx k, EReal.coe_mul]
    have hv : meanSq h = (((∑ k, x k * x k) * (1 / 1024) + e : ℝ) : EReal) := by
      unfold meanSq
      rw [hs, div_width, he, EReal.coe_add, EReal.coe_mul]
    have hpos : 0 < (∑ k, x k * x k) * (1 / 1024) + e := by
      have : 0 ≤ ∑ k, x k * x k := Finset.sum_nonneg fun k _ => mul_self_nonneg (x k)
      positivity
    generalize (∑ k, x k * x k) * (1 / 1024) + e = v at hv hpos
    have hr : rinv h = (((Real.sqrt v)⁻¹ : ℝ) : EReal) := by
      unfold rinv
      rw [hv, Ideal.rsqrt_coe, if_neg (not_lt.mpr hpos.le), if_neg hpos.ne']
    have hrp : 0 < (Real.sqrt v)⁻¹ := inv_pos.mpr (Real.sqrt_pos.mpr hpos)
    have hrv : 1 / v = (Real.sqrt v)⁻¹ * (Real.sqrt v)⁻¹ := by
      rw [← mul_inv, Real.mul_self_sqrt hpos.le, one_div]
    generalize (Real.sqrt v)⁻¹ = r at hr hrp hrv
    -- the kernel's inner sum is `r` times the reference's
    have hsum : ∑ k, p k * (h k * rinv h) = (r : EReal) * ∑ k, h k * p k := by
      rw [mul_sum_coe _ r hrp.le]
      refine Finset.sum_congr rfl fun k _ => ?_
      rw [hr, mul_comm (h k) (r : EReal), mul_left_comm, mul_comm (p k)]
    have hcoef : rcoef p h = (((-(1 / 2)) * (r * (r * r)) * (1 / 1024) : ℝ) : EReal) * ∑ k, h k * p k := by
      unfold rcoef
      rw [div_width, hv, hr, mhalf_eq, Ideal.div_coe hpos.ne', hrv]
      generalize ∑ k, h k * p k = S
      rw [mul_comm S, mul_right_comm]
      norm_cast
    unfold rdx kdx
    rw [hsum, hcoef, div_width, hr, hx j]
    generalize ∑ k, h k * p k = S
    generalize x j = y
    generalize p j = q
    have e1 : ((y : EReal) * (r : EReal)) * (((r : EReal) * S) * ((1 / 1024 : ℝ) : EReal)) = ((y * r * r * (1 / 1024) : ℝ) : EReal) * S := by
      rw [mul_comm (r : EReal) S, mul_assoc S, mul_left_comm, mul_comm S]
      norm_cast
      ring_nf
    have e2 : (y : EReal) * ((((-(1 / 2)) * (r * (r * r)) * (1 / 1024) : ℝ) : EReal) * S)
        = ((y * ((-(1 / 2)) * (r * (r * r)) * (1 / 1024)) : ℝ) : EReal) * S := by
      rw [← mul_assoc, ← EReal.coe_mul]
    rw [e1, mul_comm _ (y : EReal), e2, sub_eq_add_neg,
      EReal.left_distrib_of_nonneg_of_ne_top (EReal.coe_nonneg.mpr hrp.le) (EReal.coe_ne_top r), ← EReal.neg_mul, ← EReal.coe_neg,
      ← mul_assoc (r : EReal) _ S, ← EReal.coe_mul, mul_comm q]
    have e3 : ∀ z : ℝ, (z : EReal) * S + (z : EReal) * S = ((2 * z : ℝ) : EReal) * S := by
      intro z
      induction S using EReal.rec with
      | bot =>
        rcases lt_trichotomy z 0 with hz | hz | hz
        · rw [EReal.coe_mul_bot_of_neg hz, EReal.coe_mul_bot_of_neg (by linarith)]; rfl
        · subst hz; simp
        · rw [EReal.coe_mul_bot_of_pos hz, EReal.coe_mul_bot_of_pos (by linarith)]; rfl
      | top =>
        rcases lt_trichotomy z 0 with hz | hz | hz
        · rw [EReal.coe_mul_top_of_neg hz, EReal.coe_mul_top_of_neg (by linarith)]; rfl
        · subst hz; simp
        · rw [EReal.coe_mul_top_of_pos hz, EReal.coe_mul_top_of_pos (by linarith)]; rfl
      | coe s => norm_cast; ring
    rw [add_assoc, e3, show 2 * (y * ((-(1 / 2)) * (r * (r * r)) * (1 / 1024))) = r * -(y * r * r * (1 / 1024)) by ring]
    rw [add_assoc, add_comm d]

end Cert.NormRow

end
-- ==== Proof.NormPay.lean ====
module

public import proofs.«01_k».proof.Proof.Gen.Kernel4Ideal.Skeleton
public import Idealize.ShloMosaic.Lib.Pointwise
public import Idealize.ShloMosaic.Lib.Tactic
public import Idealize.ShloMosaic.Lib.IdealHost
public import proofs.«01_k».proof.Proof.NormRow

/-! The payloads of the norm's gradient at a row and a column of one block, over the extended reals. -/

@[expose] public section

set_option maxRecDepth 16384

noncomputable section

namespace Cert.Kernel4Ideal.NormPay

open Idealize.ShloMosaic Idealize.ShloMosaic.TcCoe Idealize.ShloMosaic.Tactic
open Cert.Kernel4Ideal Cert.Kernel4Ideal.Gen
open Cert.NormRow

theorem pay1_at (v : FVec Ideal S256x1024 .f32) (i : S256x1024.Idx) : k0_pay1 (F := Ideal) v i = v i := rfl

theorem pay2_at (v : FVec Ideal S256x1024 .f32) (z : Fin 1) (j : Fin 1024) :
    k0_pay2 (F := Ideal) v (ix2 z j) = ∑ a : Fin 256, v (ix2 a j) := by
  pointwise [k0_pay2]

theorem pay3_at (v : FVec Ideal S256x1024 .f32) (s : FVec Ideal S1x1024 .f32) (z : Fin 1) (j : Fin 1024) :
    k0_pay3 (F := Ideal) v s (ix2 z j) = s (ix2 z j) + ∑ a : Fin 256, v (ix2 a j) := by
  rw [← pay2_at v z j]
  unfold k0_pay3
  generalize k0_pay2 (F := Ideal) v = y
  pointwise []

theorem pay4_at (v0 : FVec Ideal S2816x1024 .bf16) (v1 : FVec Ideal S256x2816 .bf16) (v3 : FVec Ideal S2816x1024 .bf16)
    (v4 : FVec Ideal S256x2816 .bf16) (a : Fin 256) (j : Fin 1024) :
    k0_pay4 (F := Ideal) v0 v1 v3 v4 (ix2 a j)
      = (∑ k : Fin 2816, v1 (ix2 a k) * v0 (ix2 k j)) + ∑ k : Fin 2816, v4 (ix2 a k) * v3 (ix2 k j) := by
  pointwise [k0_pay4]

theorem pay5_at (h : FVec Ideal S256x1024 .f32) (a : Fin 256) (z : Fin 1) :
    k0_pay5 (F := Ideal) h (ix2 a z) = rinv fun k => h (ix2 a k) := by
  unfold rinv meanSq width eps
  pointwise [k0_pay5]

theorem pay6_at (h : FVec Ideal S256x1024 .f32) (a : Fin 256) (j : Fin 1024) :
    k0_pay6 (F := Ideal) h (ix2 a j) = h (ix2 a j) * rinv fun k => h (ix2 a k) := by
  rw [← pay5_at h a 0]
  unfold k0_pay6
  generalize k0_pay5 (F := Ideal) h = y
  pointwise []

theorem pay7_at (v0 : FVec Ideal S2816x1024 .bf16) (v1 : FVec Ideal S256x2816 .bf16) (v3 : FVec Ideal S2816x1024 .bf16)
    (v4 : FVec Ideal S256x2816 .bf16) (h : FVec Ideal S256x1024 .f32) (i : S256x1024.Idx) :
    k0_pay7 (F := Ideal) v0 v1 v3 v4 h i = k0_pay4 (F := Ideal) v0 v1 v3 v4 i * k0_pay6 (F := Ideal) h i := rfl

theorem pay8_at (v0 : FVec Ideal S2816x1024 .bf16) (v1 : FVec Ideal S256x2816 .bf16) (v3 : FVec Ideal S2816x1024 .bf16)
    (v4 : FVec Ideal S256x2816 .bf16) (h : FVec Ideal S256x1024 .f32) (w : FVec Ideal S1x1024 .f32)
    (d : FVec Ideal S256x1024 .f32) (a : Fin 256) (j : Fin 1024) :
    k0_pay8 (F := Ideal) v0 v1 v3 v4 h w d (ix2 a j)
      = kdx (fun k => k0_pay4 (F := Ideal) v0 v1 v3 v4 (ix2 a k) * w (ix2 (0 : Fin 1) k)) (fun k => h (ix2 a k)) (d (ix2 a j)) j := by
  unfold kdx width
  simp only [← pay5_at h a 0]
  have h6 : ∀ k, h (ix2 a k) * k0_pay5 (F := Ideal) h (ix2 a 0) = k0_pay6 (F := Ideal) h (ix2 a k) := fun k => by
    rw [pay5_at, pay6_at]
  simp only [h6]
  unfold k0_pay8
  generalize k0_pay4 (F := Ideal) v0 v1 v3 v4 = y
  generalize k0_pay6 (F := Ideal) h = x
  generalize k0_pay5 (F := Ideal) h = r
  pointwise []

end Cert.Kernel4Ideal.NormPay

end
-- ==== Proof.NormGrad.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Ix
public import Idealize.ShloMosaic.Lib.Pointwise
public import Idealize.ShloMosaic.Lib.Tactic
public import Idealize.ShloMosaic.Lib.IdealHost
public import Idealize.ShloMosaic.Lib.Pipeline.Value
public import Idealize.ShloMosaic.Lib.Claim
public import proofs.«01_k».proof.Proof.NormBody
public import proofs.«01_k».proof.Proof.NormPay

/-! The gradient of the norm before the SwiGLU mixer over the extended reals: the cotangents of the gate and of the gated
factor go back through their two projections, then through the norm, and the residual's cotangent is added. The weight's
gradient is summed over 16 blocks of 256 rows, one after the other; it is the sum over all 4096 rows. -/

@[expose] public section

set_option maxRecDepth 16384

noncomputable section

namespace Cert.Kernel4Ideal.NormGrad

open Idealize.ShloMosaic Idealize.ShloMosaic.TcCoe Idealize.ShloMosaic.Tactic
open Idealize.SL.Sem
open Cert.Ix (ext2 blk row)
open Idealize.ShloMosaic.Pipeline (Dat Cfg Window)
open Cert.Kernel4Ideal Cert.Kernel4Ideal.Gen Cert.NormRow Cert.Kernel4Ideal.NormBody Cert.Kernel4Ideal.NormPay

/-- The cotangent of the norm's result: of the two projections, times their transposed weights. -/
def dy (dg du : FVec Ideal S4096x2816 .bf16) (wg wu : FVec Ideal S2816x1024 .bf16) (i : S4096x1024.Idx) : EReal :=
  (∑ k : Fin 2816, dg (ix2 (i 0) k) * wg (ix2 k (i 1))) + ∑ k : Fin 2816, du (ix2 (i 0) k) * wu (ix2 k (i 1))

/-- The gradient of the residual stream, -/
def dx (dg du : FVec Ideal S4096x2816 .bf16) (wg wu : FVec Ideal S2816x1024 .bf16) (h : FVec Ideal S4096x1024 .f32)
    (w : FVec Ideal S1x1024 .f32) (d : FVec Ideal S4096x1024 .f32) (i : S4096x1024.Idx) : EReal :=
  kdx (fun k => dy dg du wg wu (ix2 (i 0) k) * w (ix2 (0 : Fin 1) k)) (fun k => h (ix2 (i 0) k)) (d i) (i 1)

/-- what one row adds to the gradient of the norm's weight, -/
def dwTerm (dg du : FVec Ideal S4096x2816 .bf16) (wg wu : FVec Ideal S2816x1024 .bf16) (h : FVec Ideal S4096x1024 .f32)
    (r : Fin 4096) (j : Fin 1024) : EReal :=
  dy dg du wg wu (ix2 r j) * (h (ix2 r j) * rinv fun k => h (ix2 r k))

/-- and that gradient. -/
def dw (dg du : FVec Ideal S4096x2816 .bf16) (wg wu : FVec Ideal S2816x1024 .bf16) (h : FVec Ideal S4096x1024 .f32)
    (i : S1x1024.Idx) : EReal :=
  ∑ r : Fin 4096, dwTerm dg du wg wu h r (i 1)

/-! ## The grid's blocks -/

variable (m : (ℓ : Loc nD τ sig) → Buf (Elt Ideal) ℓ) (ρ : Dev nD → PrngReg)

/-- The cotangent of the gate, -/
def DG (c : Dev nD) : FVec Ideal S4096x2816 .bf16 := m ((c.tc : Thread nD τ).loc main_arg0)
/-- and of the gated factor, -/
def DU (c : Dev nD) : FVec Ideal S4096x2816 .bf16 := m ((c.tc : Thread nD τ).loc main_arg1)
/-- the transposed weights of the gate's projection, -/
def WG (c : Dev nD) : FVec Ideal S2816x1024 .bf16 := m ((c.tc : Thread nD τ).loc main_arg2)
/-- and of the gated factor's, -/
def WU (c : Dev nD) : FVec Ideal S2816x1024 .bf16 := m ((c.tc : Thread nD τ).loc main_arg3)
/-- the residual stream before the norm, -/
def HX (c : Dev nD) : FVec Ideal S4096x1024 .f32 := m ((c.tc : Thread nD τ).loc main_arg4)
/-- the norm's weight, -/
def NW (c : Dev nD) : FVec Ideal S1x1024 .f32 := m ((c.tc : Thread nD τ).loc main_arg5)
/-- and the cotangent of the stream after the mixer. -/
def DH (c : Dev nD) : FVec Ideal S4096x1024 .f32 := m ((c.tc : Thread nD τ).loc main_arg6)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = 0 ∧ win0_9.index t 1 = 0 := by decide +kernel

theorem iblk0_apply (c : Dev nD) (t : Fin cfg0.N) (a : Fin 256) (b : Fin 2816) (r : Fin 4096) (hr : r.val = 256 * t.val + a.val) :
    (iblk m c 0 t : FVec Ideal S256x2816 .bf16) (ix2 a b) = DG m c (ix2 r b) :=
  congrArg (V m c main_arg0) (ext2 (blk (index0 t).1 (row hr)) (blk (index0 t).2 (by simp only [ix2]; omega)))

theorem iblk1_apply (c : Dev nD) (t : Fin cfg0.N) (a : Fin 256) (b : Fin 2816) (r : Fin 4096) (hr : r.val = 256 * t.val + a.val) :
    (iblk m c 1 t : FVec Ideal S256x2816 .bf16) (ix2 a b) = DU m c (ix2 r b) :=
  congrArg (V m c main_arg1) (ext2 (blk (index1 t).1 (row hr)) (blk (index1 t).2 (by simp only [ix2]; omega)))

theorem iblk2_apply (c : Dev nD) (t : Fin cfg0.N) (a : Fin 2816) (b : Fin 1024) :
    (iblk m c 2 t : FVec Ideal S2816x1024 .bf16) (ix2 a b) = WG m c (ix2 a b) :=
  congrArg (V m c main_arg2) (ext2 (blk (index2 t).1 (by simp only [ix2]; omega)) (blk (index2 t).2 (by simp only [ix2]; omega)))

theorem iblk3_apply (c : Dev nD) (t : Fin cfg0.N) (a : Fin 2816) (b : Fin 1024) :
    (iblk m c 3 t : FVec Ideal S2816x1024 .bf16) (ix2 a b) = WU m c (ix2 a b) :=
  congrArg (V m c main_arg3) (ext2 (blk (index3 t).1 (by simp only [ix2]; omega)) (blk (index3 t).2 (by simp only [ix2]; omega)))

theorem iblk4_apply (c : Dev nD) (t : Fin cfg0.N) (a : Fin 256) (b : Fin 1024) (r : Fin 4096) (hr : r.val = 256 * t.val + a.val) :
    (iblk m c 4 t : FVec Ideal S256x1024 .f32) (ix2 a b) = HX m c (ix2 r b) :=
  congrArg (V m c main_arg4) (ext2 (blk (index4 t).1 (row hr)) (blk (index4 t).2 (by simp only [ix2]; omega)))

theorem iblk5_apply (c : Dev nD) (t : Fin cfg0.N) (a : Fin 1) (b : Fin 1024) :
    (iblk m c 5 t : FVec Ideal S1x1024 .f32) (ix2 a b) = NW m c (ix2 a b) :=
  congrArg (V m c main_arg5) (ext2 (blk (index5 t).1 (by simp only [ix2]; omega)) (blk (index5 t).2 (by simp only [ix2]; omega)))

theorem iblk6_apply (c : Dev nD) (t : Fin cfg0.N) (a : Fin 256) (b : Fin 1024) (r : Fin 4096) (hr : r.val = 256 * t.val + a.val) :
    (iblk m c 6 t : FVec Ideal S256x1024 .f32) (ix2 a b) = DH m c (ix2 r b) :=
  congrArg (V m c main_arg6) (ext2 (blk (index6 t).1 (row hr)) (blk (index6 t).2 (by simp only [ix2]; omega)))

theorem dy_at (c : Dev nD) (t : Fin cfg0.N) (a : Fin 256) (j : Fin 1024) (r : Fin 4096) (hr : r.val = 256 * t.val + a.val) :
    k0_pay4 (F := Ideal) (iblk m c 2 t) (iblk m c 0 t) (iblk m c 3 t) (iblk m c 1 t) (ix2 a j)
      = dy (DG m c) (DU m c) (WG m c) (WU m c) (ix2 r j) := by
  refine (pay4_at _ _ _ _ a j).trans ?_
  unfold dy
  refine congrArg₂ (· + ·) (Finset.sum_congr rfl fun k _ => ?_) (Finset.sum_congr rfl fun k _ => ?_)
  · exact congrArg₂ (· * ·) (iblk0_apply m c t a k r hr) (iblk2_apply m c t k j)
  · exact congrArg₂ (· * ·) (iblk1_apply m c t a k r hr) (iblk3_apply m c t k j)

/-- What a point leaves at a row and a column of its block of the first result. -/
theorem dx_at (c : Dev nD) (t : Fin cfg0.N) (a : Fin 256) (j : Fin 1024) (r : Fin 4096) (hr : r.val = 256 * t.val + a.val) :
    dxB (F := Ideal) (iblk m c 0 t) (iblk m c 1 t) (iblk m c 2 t) (iblk m c 3 t) (iblk m c 4 t) (iblk m c 5 t) (iblk m c 6 t) (ix2 a j)
      = dx (DG m c) (DU m c) (WG m c) (WU m c) (HX m c) (NW m c) (DH m c) (ix2 r j) := by
  refine (pay8_at _ _ _ _ _ _ _ a j).trans ?_
  unfold dx
  have hp : (fun k => k0_pay4 (F := Ideal) (iblk m c 2 t) (iblk m c 0 t) (iblk m c 3 t) (iblk m c 1 t) (ix2 a k)
        * (iblk m c 5 t : FVec Ideal S1x1024 .f32) (ix2 (0 : Fin 1) k))
      = fun k : Fin 1024 => dy (DG m c) (DU m c) (WG m c) (WU m c) (ix2 r k) * NW m c (ix2 (0 : Fin 1) k) :=
    funext fun k => congrArg₂ (· * ·) (dy_at m c t a k r hr) (iblk5_apply m c t 0 k)
  have hh : (fun k => (iblk m c 4 t : FVec Ideal S256x1024 .f32) (ix2 a k)) = fun k : Fin 1024 => HX m c (ix2 r k) :=
    funext fun k => iblk4_apply m c t a k r hr
  have hd := iblk6_apply m c t a j r hr
  exact (congrFun (congrFun (congrArg₂ kdx hp hh) _) j).trans (congrArg (fun d => kdx _ _ d j) hd)

/-- What a row of a block adds to the third. -/
theorem dwTerm_at (c : Dev nD) (t : Fin cfg0.N) (a : Fin 256) (j : Fin 1024) (r : Fin 4096) (hr : r.val = 256 * t.val + a.val) :
    dwB (F := Ideal) (iblk m c 0 t) (iblk m c 1 t) (iblk m c 2 t) (iblk m c 3 t) (iblk m c 4 t) (ix2 a j)
      = dwTerm (DG m c) (DU m c) (WG m c) (WU m c) (HX m c) r j := by
  refine (pay7_at _ _ _ _ _ (ix2 a j)).trans ?_
  unfold dwTerm
  have hh : (fun k => (iblk m c 4 t : FVec Ideal S256x1024 .f32) (ix2 a k)) = fun k : Fin 1024 => HX m c (ix2 r k) :=
    funext fun k => iblk4_apply m c t a k r hr
  refine congrArg₂ (· * ·) (dy_at m c t a j r hr) ((pay6_at _ a j).trans ?_)
  exact congrArg₂ (· * ·) (iblk4_apply m c t a j r hr) (congrArg rinv hh)

/-- The term of a row, for any number. -/
def term (c : Dev nD) (j : Fin 1024) (r : ℕ) : EReal :=
  if h : r < 4096 then dwTerm (DG m c) (DU m c) (WG m c) (WU m c) (HX m c) ⟨r, h⟩ j else 0

theorem blockSum (c : Dev nD) (t : Fin cfg0.N) (j : Fin 1024) :
    ∑ a : Fin 256, dwB (F := Ideal) (iblk m c 0 t) (iblk m c 1 t) (iblk m c 2 t) (iblk m c 3 t) (iblk m c 4 t) (ix2 a j)
      = ∑ a ∈ Finset.range 256, term m c j (256 * t.val + a) := by
  rw [← Fin.sum_univ_eq_sum_range (fun a => term m c j (256 * t.val + a)) 256]
  refine Finset.sum_congr rfl fun a _ => ?_
  have ht : t.val < 16 := lt_of_lt_of_eq t.isLt N_0
  have hlt : 256 * t.val + a.val < 4096 := by have := a.isLt; omega
  unfold term
  rw [dif_pos hlt]
  exact dwTerm_at m c t a j ⟨_, hlt⟩ rfl

/-! ## The points in order -/

theorem outs7 (c : Dev nD) (t : Fin cfg0.N) : (outsAt0 m c t.val t.isLt).1
    = dxB (F := Ideal) (iblk m c 0 t) (iblk m c 1 t) (iblk m c 2 t) (iblk m c 3 t) (iblk m c 4 t) (iblk m c 5 t) (iblk m c 6 t) := by
  have ht : t.val < 16 := lt_of_lt_of_eq t.isLt N_0
  by_cases h0 : t.val % 16 = 0
  · rw [outsAt0_A m c t h0 (by omega)]
    dsimp only
    rw [out_A_7]
  · rw [outsAt0_B m c t h0 (by omega)]
    dsimp only
    rw [out_B_7]

theorem outs8 (c : Dev nD) (t : Fin cfg0.N) : (outsAt0 m c t.val t.isLt).2.1
    = k0_pay1 (F := Ideal) (dxB (F := Ideal) (iblk m c 0 t) (iblk m c 1 t) (iblk m c 2 t) (iblk m c 3 t) (iblk m c 4 t) (iblk m c 5 t) (iblk m c 6 t)) := by
  have ht : t.val < 16 := lt_of_lt_of_eq t.isLt N_0
  by_cases h0 : t.val % 16 = 0
  · rw [outsAt0_A m c t h0 (by omega)]
    dsimp only
    rw [out_A_8]
  · rw [outsAt0_B m c t h0 (by omega)]
    dsimp only
    rw [out_B_8]

/-- After a point the third block holds the sum over all the rows of the blocks so far. -/
theorem outs9 (c : Dev nD) (z : Fin 1) (j : Fin 1024) : ∀ (n : ℕ) (h : n < cfg0.N),
    ((outsAt0 m c n h).2.2 : FVec Ideal S1x1024 .f32) (ix2 z j) = ∑ r ∈ Finset.range (256 * n + 256), term m c j r
  | 0, h => by
    have e : (outsAt0 m c 0 h).2.2 = _ := congrArg (fun x => x.2.2) (outsAt0_A m c ⟨0, h⟩ rfl (by show ¬1 ≤ 0; omega))
    rw [e]
    dsimp only
    rw [out_A_9]
    refine (pay2_at _ z j).trans ?_
    refine (blockSum m c ⟨0, h⟩ j).trans ?_
    simp
  | n + 1, h => by
    have hN : cfg0.N = 16 := N_0
    have e : (outsAt0 m c (n + 1) h).2.2 = _ :=
      congrArg (fun x => x.2.2) (outsAt0_B m c ⟨n + 1, h⟩ (by show ¬(n + 1) % 16 = 0; omega) (by show 1 ≤ n + 1; omega))
    rw [e]
    dsimp only
    rw [out_B_9]
    refine (pay3_at _ _ z j).trans ?_
    rw [show 256 * (n + 1) + 256 = (256 * n + 256) + 256 by ring, Finset.sum_range_add]
    exact congrArg₂ (· + ·) (outs9 c z j n (Nat.lt_of_succ_lt h)) (blockSum m c ⟨n + 1, h⟩ j)

/-! ## The whole arrays -/

theorem flushed7 (c : Dev nD) (t : Fin cfg0.N) (_hf : (cfg0.win 7).flush t = true) :
    (dats m 0 c).flushed 7 t = ((cfg0.win 7).blk t).view.read (Elt Ideal) (dx (DG m c) (DU m c) (WG m c) (WU m c) (HX m c) (NW m c) (DH m c)) := by
  have hi := index7 t
  have ht : t.val < 16 := lt_of_lt_of_eq t.isLt N_0
  rw [Value.flushed7, outs7]
  funext x
  rw [View.read_apply]
  obtain ⟨a, b, rfl⟩ : ∃ (a : Fin 256) (b : Fin 1024), x = ix2 a b := ⟨x 0, x 1, eq_ix2 x⟩
  have hlt : 256 * t.val + a.val < 4096 := by have := a.isLt; omega
  refine (dx_at m c t a b ⟨_, hlt⟩ rfl).trans (congrArg (dx (DG m c) (DU m c) (WG m c) (WU m c) (HX m c) (NW m c) (DH m c)) ?_)
  exact ext2 (by show 256 * t.val + a.val = win0_7.index t 0 * 256 + 1 * a.val; rw [hi.1]; omega) (by show b.val = win0_7.index t 1 * 1024 + 1 * b.val; rw [hi.2]; omega)

theorem final7 (c : Dev nD) : (dats m 0 c).arrAt 7 cfg0.N = dx (DG m c) (DU m c) (WG m c) (WU m c) (HX m c) (NW m c) (DH m c) :=
  (dats m 0 c).arrAt_eq_of_cover 7 (dx (DG m c) (DU m c) (WG m c) (WU m c) (HX m c) (NW m c) (DH m c)) (flushed7 m c) fun i => by
    have h0 : (i 0 : Nat) < 4096 := (i 0).isLt
    have h1 : (i 1 : Nat) < 1024 := (i 1).isLt
    have hlt : (i 0).val / 256 < cfg0.N := by rw [show cfg0.N = 16 from N_0]; omega
    have hi := index7 ⟨(i 0).val / 256, hlt⟩
    refine ⟨⟨(i 0).val / 256, hlt⟩, flush0_7 _, ?_⟩
    show i ∈ ((View.whole main_v0_0).slice (win0_7.rect ⟨(i 0).val / 256, hlt⟩)).set
    rw [View.set_slice_whole, Rect.mem_set_unit]
    dsimp only at hi
    intro a
    match a with
    | ⟨0, _⟩ =>
      show win0_7.index ⟨(i 0).val / 256, hlt⟩ 0 * 256 ≤ (i 0 : Nat)
        ∧ (i 0 : Nat) < win0_7.index ⟨(i 0).val / 256, hlt⟩ 0 * 256 + 256
      rw [hi.1]; omega
    | ⟨1, _⟩ =>
      show win0_7.index ⟨(i 0).val / 256, hlt⟩ 1 * 1024 ≤ (i 1 : Nat)
        ∧ (i 1 : Nat) < win0_7.index ⟨(i 0).val / 256, hlt⟩ 1 * 1024 + 1024
      rw [hi.2]; omega

theorem flushed8 (c : Dev nD) (t : Fin cfg0.N) (_hf : (cfg0.win 8).flush t = true) :
    (dats m 0 c).flushed 8 t = ((cfg0.win 8).blk t).view.read (Elt Ideal) (dx (DG m c) (DU m c) (WG m c) (WU m c) (HX m c) (NW m c) (DH m c)) := by
  have hi := index8 t
  have ht : t.val < 16 := lt_of_lt_of_eq t.isLt N_0
  rw [Value.flushed8, outs8]
  funext x
  rw [View.read_apply]
  obtain ⟨a, b, rfl⟩ : ∃ (a : Fin 256) (b : Fin 1024), x = ix2 a b := ⟨x 0, x 1, eq_ix2 x⟩
  have hlt : 256 * t.val + a.val < 4096 := by have := a.isLt; omega
  refine (dx_at m c t a b ⟨_, hlt⟩ rfl).trans (congrArg (dx (DG m c) (DU m c) (WG m c) (WU m c) (HX m c) (NW m c) (DH m c)) ?_)
  exact ext2 (by show 256 * t.val + a.val = win0_8.index t 0 * 256 + 1 * a.val; rw [hi.1]; omega) (by show b.val = win0_8.index t 1 * 1024 + 1 * b.val; rw [hi.2]; omega)

theorem final8 (c : Dev nD) : (dats m 0 c).arrAt 8 cfg0.N = dx (DG m c) (DU m c) (WG m c) (WU m c) (HX m c) (NW m c) (DH m c) :=
  (dats m 0 c).arrAt_eq_of_cover 8 (dx (DG m c) (DU m c) (WG m c) (WU m c) (HX m c) (NW m c) (DH m c)) (flushed8 m c) fun i => by
    have h0 : (i 0 : Nat) < 4096 := (i 0).isLt
    have h1 : (i 1 : Nat) < 1024 := (i 1).isLt
    have hlt : (i 0).val / 256 < cfg0.N := by rw [show cfg0.N = 16 from N_0]; omega
    have hi := index8 ⟨(i 0).val / 256, hlt⟩
    refine ⟨⟨(i 0).val / 256, hlt⟩, flush0_8 _, ?_⟩
    show i ∈ ((View.whole main_v0_1).slice (win0_8.rect ⟨(i 0).val / 256, hlt⟩)).set
    rw [View.set_slice_whole, Rect.mem_set_unit]
    dsimp only at hi
    intro a
    match a with
    | ⟨0, _⟩ =>
      show win0_8.index ⟨(i 0).val / 256, hlt⟩ 0 * 256 ≤ (i 0 : Nat)
        ∧ (i 0 : Nat) < win0_8.index ⟨(i 0).val / 256, hlt⟩ 0 * 256 + 256
      rw [hi.1]; omega
    | ⟨1, _⟩ =>
      show win0_8.index ⟨(i 0).val / 256, hlt⟩ 1 * 1024 ≤ (i 1 : Nat)
        ∧ (i 1 : Nat) < win0_8.index ⟨(i 0).val / 256, hlt⟩ 1 * 1024 + 1024
      rw [hi.2]; omega

theorem flushed9 (c : Dev nD) (t : Fin cfg0.N) (hf : (cfg0.win 9).flush t = true) :
    (dats m 0 c).flushed 9 t = ((cfg0.win 9).blk t).view.read (Elt Ideal) (dw (DG m c) (DU m c) (WG m c) (WU m c) (HX m c)) := by
  have hi := index9 t
  have ht : t.val < 16 := lt_of_lt_of_eq t.isLt N_0
  have h15 : t.val = 15 := by have := (flush0_9 t).mp hf; omega
  rw [Value.flushed9]
  funext x
  rw [View.read_apply]
  obtain ⟨z, j, rfl⟩ : ∃ (z : Fin 1) (j : Fin 1024), x = ix2 z j := ⟨x 0, x 1, eq_ix2 x⟩
  have hs : ∑ r ∈ Finset.range (256 * t.val + 256), term m c j r = dw (DG m c) (DU m c) (WG m c) (WU m c) (HX m c) (ix2 z j) := by
    rw [h15]
    unfold dw
    rw [← Fin.sum_univ_eq_sum_range (term m c j) 4096]
    refine Finset.sum_congr rfl fun r _ => ?_
    unfold term
    rw [dif_pos r.isLt]
    rfl
  refine ((outs9 m c z j t.val t.isLt).trans hs).trans (congrArg (dw (DG m c) (DU m c) (WG m c) (WU m c) (HX m c)) ?_)
  exact ext2 (by show z.val = win0_9.index t 0 * 1 + 1 * z.val; rw [hi.1]; omega) (by show j.val = win0_9.index t 1 * 1024 + 1 * j.val; rw [hi.2]; omega)

theorem final9 (c : Dev nD) : (dats m 0 c).arrAt 9 cfg0.N = dw (DG m c) (DU m c) (WG m c) (WU m c) (HX m c) :=
  (dats m 0 c).arrAt_eq_of_cover 9 (dw (DG m c) (DU m c) (WG m c) (WU m c) (HX m c)) (flushed9 m c) fun i => by
    have h0 : (i 0 : Nat) < 1 := (i 0).isLt
    have h1 : (i 1 : Nat) < 1024 := (i 1).isLt
    have hlt : 15 < cfg0.N := by rw [show cfg0.N = 16 from N_0]; omega
    have hi := index9 ⟨15, hlt⟩
    refine ⟨⟨15, hlt⟩, (flush0_9 _).mpr rfl, ?_⟩
    show i ∈ ((View.whole main_v0_2).slice (win0_9.rect ⟨15, hlt⟩)).set
    rw [View.set_slice_whole, Rect.mem_set_unit]
    intro a
    match a with
    | ⟨0, _⟩ =>
      show win0_9.index ⟨15, hlt⟩ 0 * 1 ≤ (i 0 : Nat) ∧ (i 0 : Nat) < win0_9.index ⟨15, hlt⟩ 0 * 1 + 1
      rw [hi.1]; omega
    | ⟨1, _⟩ =>
      show win0_9.index ⟨15, hlt⟩ 1 * 1024 ≤ (i 1 : Nat) ∧ (i 1 : Nat) < win0_9.index ⟨15, hlt⟩ 1 * 1024 + 1024
      rw [hi.2]; omega

/-- The kernel's run: its three results, and its arguments unchanged. -/
theorem run : θ_run defs (onTc (τ := τ) (main (F := Ideal))) ⟨m, fun _ => 0, ρ⟩ fun r => ∀ c : Dev nD,
      r.2.mem ((c.tc : Thread nD τ).loc main_v0_0) = dx (DG m c) (DU m c) (WG m c) (WU m c) (HX m c) (NW m c) (DH m c)
      ∧ r.2.mem ((c.tc : Thread nD τ).loc main_v0_1) = dx (DG m c) (DU m c) (WG m c) (WU m c) (HX m c) (NW m c) (DH m c)
      ∧ r.2.mem ((c.tc : Thread nD τ).loc main_v0_2) = dw (DG m c) (DU m c) (WG m c) (WU m c) (HX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans (final7 m c), (h c).2.1.trans (final8 m c), (h c).2.2.1.trans (final9 m c), (h c).2.2.2⟩)
    (Value.run_blocks m ρ)

/-! ## The reference -/

open Cert.Reference4Ideal.Read

section
variable (dg du : FVec Ideal S4096x2816 .bf16) (wg wu : FVec Ideal S2816x1024 .bf16) (h : FVec Ideal S4096x1024 .f32)
  (w : FVec Ideal S1x1024 .f32) (d : FVec Ideal S4096x1024 .f32)

theorem ref25 (i : S4096x1024.Idx) : val_main_v25 (F := Ideal) dg du wg wu i = dy dg du wg wu i := by
  rw [val_main_v25_apply, val_main_v23_apply, val_main_v24_apply]
  refine (add_comm (_ : EReal) _).trans ?_
  unfold dy
  refine congrArg₂ (· + ·) (Finset.sum_congr rfl fun k _ => ?_) (Finset.sum_congr rfl fun k _ => ?_)
  · rw [val_main_v21_apply, val_main_v16_apply, val_main_v15_apply]
    have e0 : lidx_main_v24 i k = ix2 (i 0) k := ext2 rfl rfl
    have e1 : idx_main_v16 (ridx_main_v24 i k) = ix2 k (i 1) := ext2 rfl rfl
    rw [e0, e1]
    rfl
  · rw [val_main_v22_apply, val_main_v19_apply, val_main_v18_apply]
    have e0 : lidx_main_v23 i k = ix2 (i 0) k := ext2 rfl rfl
    have e1 : idx_main_v19 (ridx_main_v23 i k) = ix2 k (i 1) := ext2 rfl rfl
    rw [e0, e1]
    rfl

theorem ref6 (r : Fin 4096) (z : Fin 1) : val_main_v6 (F := Ideal) h (ix2 r z) = meanSq fun k => h (ix2 r k) := by
  rw [val_main_v6_apply, val_main_v4_apply, val_main_v2_apply, val_main_v1_apply, val_main_v3_apply, val_main_v5_apply,
    val_main_cst_apply, val_main_cst_0_apply, val_main_cst_1_apply]
  have hs : ∀ k : Fin 1024, val_main_v0 (F := Ideal) h (idx_main_v1 (idx_main_v2 (ix2 r z)) k) = h (ix2 r k) * h (ix2 r k) := fun k => by
    rw [val_main_v0_apply]
    have e : idx_main_v1 (idx_main_v2 (ix2 r z)) k = ix2 r k := ext2 rfl rfl
    rw [e]
    rfl
  simp only [hs]
  show Ideal.div (Ideal.ofBits .f32 0x00000000#32 + ∑ k : Fin 1024, h (ix2 r k) * h (ix2 r k)) width + eps = _
  rw [Ideal.ofBits_zero_f32, zero_add]
  rfl

theorem ref7 (r : Fin 4096) (z : Fin 1) : val_main_v7 (F := Ideal) h (ix2 r z) = rinv fun k => h (ix2 r k) := by
  rw [val_main_v7_apply, ref6]
  rfl

theorem ref10 (r : Fin 4096) (z : Fin 1) : val_main_v10 (F := Ideal) h (ix2 r z)
    = mhalf * Ideal.div (rinv fun k => h (ix2 r k)) (meanSq fun k => h (ix2 r k)) := by
  rw [val_main_v10_apply, val_main_v9_apply, val_main_cst_2_apply, val_main_v8_apply, ref6, ref7]
  rfl

theorem ref30 (r : Fin 4096) (j : Fin 1024) : val_main_v30 (F := Ideal) dg du wg wu w (ix2 r j)
    = dy dg du wg wu (ix2 r j) * w (ix2 (0 : Fin 1) j) := by
  rw [val_main_v30_apply, ref25, val_main_v29_apply]
  have e : idx_main_v29 (ix2 r j) = ix2 (0 : Fin 1) j := ext2 rfl rfl
  rw [e]
  rfl

theorem ref33 (r : Fin 4096) (z : Fin 1) : val_main_v33 (F := Ideal) dg du wg wu h w (ix2 r z)
    = ∑ k : Fin 1024, h (ix2 r k) * (dy dg du wg wu (ix2 r k) * w (ix2 (0 : Fin 1) k)) := by
  rw [val_main_v33_apply, val_main_v32_apply, val_main_cst_4_apply]
  have hs : ∀ k : Fin 1024, val_main_v31 (F := Ideal) dg du wg wu h w (idx_main_v32 (idx_main_v33 (ix2 r z)) k)
      = h (ix2 r k) * (dy dg du wg wu (ix2 r k) * w (ix2 (0 : Fin 1) k)) := fun k => by
    have e : idx_main_v32 (idx_main_v33 (ix2 r z)) k = ix2 r k := funext fun x => Fin.ext (by
      match x with
      | ⟨0, _⟩ => show r.val * 1 + z.val = r.val; have := z.isLt; omega
      | ⟨1, _⟩ => rfl)
    rw [e, val_main_v31_apply, ref30]
    rfl
  simp only [hs]
  show Ideal.ofBits .f32 0x00000000#32 + _ = _
  rw [Ideal.ofBits_zero_f32, zero_add]

theorem ref40 (r : Fin 4096) (j : Fin 1024) : val_main_v41 (F := Ideal) dg du wg wu h w (ix2 r j)
    = rcoef (fun k => dy dg du wg wu (ix2 r k) * w (ix2 (0 : Fin 1) k)) (fun k => h (ix2 r k)) := by
  rw [val_main_v41_apply, val_main_v40_apply, val_main_cst_6_apply, Fin.sum_univ_one]
  have e : idx_main_v40 (idx_main_v41 (ix2 r j)) 0 = ix2 r (0 : Fin 1) := ext2 rfl rfl
  rw [e, val_main_v39_apply, val_main_v37_apply, val_main_v38_apply, val_main_cst_5_apply, ref33, ref10]
  show Ideal.ofBits .f32 0x00000000#32 + _ = _
  rw [Ideal.ofBits_zero_f32, zero_add]
  rfl

theorem ref45 : val_main_v45 (F := Ideal) dg du wg wu h w d = dx dg du wg wu h w d := by
  funext i
  obtain ⟨r, j, rfl⟩ : ∃ (r : Fin 4096) (j : Fin 1024), i = ix2 r j := ⟨i 0, i 1, eq_ix2 i⟩
  refine Eq.trans ?_ (dx_eq (fun k => dy dg du wg wu (ix2 r k) * w (ix2 (0 : Fin 1) k)) (fun k => h (ix2 r k)) (d (ix2 r j)) j)
  rw [val_main_v45_apply, val_main_v43_apply, val_main_v36_apply, val_main_v35_apply, val_main_v42_apply, val_main_v44_apply,
    ref40, ref30, val_main_v34_apply]
  have e : idx_main_v34 (ix2 r j) = ix2 r (0 : Fin 1) := ext2 rfl rfl
  rw [e, ref7]
  rfl

theorem ref46 : val_main_v46 (F := Ideal) dg du wg wu h w d = dx dg du wg wu h w d := by
  funext i
  rw [val_main_v46_apply, ref45]
  rfl

theorem ref28 : val_main_v28 (F := Ideal) dg du wg wu h = dw dg du wg wu h := by
  funext i
  obtain ⟨z, j, rfl⟩ : ∃ (z : Fin 1) (j : Fin 1024), i = ix2 z j := ⟨i 0, i 1, eq_ix2 i⟩
  rw [val_main_v28_apply, val_main_v27_apply, val_main_cst_3_apply]
  show Ideal.ofBits .f32 0x00000000#32 + _ = _
  rw [Ideal.ofBits_zero_f32, zero_add]
  unfold dw
  refine Finset.sum_congr rfl fun r _ => ?_
  have e : idx_main_v27 (idx_main_v28 (ix2 z j)) r = ix2 r j := funext fun x => Fin.ext (by
    match x with
    | ⟨0, _⟩ => rfl
    | ⟨1, _⟩ => show z.val * 1024 + j.val = j.val; have : z.val < 1 := z.isLt; omega)
  rw [e, val_main_v26_apply, ref25, val_main_v12_apply, val_main_v11_apply]
  have e' : idx_main_v11 (ix2 r j) = ix2 r (0 : Fin 1) := ext2 rfl rfl
  rw [e', ref7]
  unfold dwTerm
  exact mul_comm (_ : EReal) _

end

end Cert.Kernel4Ideal.NormGrad

end
-- ==== Proof.GateUp.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Ix
public import Idealize.ShloMosaic.Lib.Pointwise
public import Idealize.ShloMosaic.Lib.Tactic
public import Idealize.ShloMosaic.Lib.IdealHost
public import Idealize.ShloMosaic.Lib.Pipeline.Value
public import Idealize.ShloMosaic.Lib.Claim

/-! The gate and the up projection of the SwiGLU mixer and their gated product over the extended reals: the kernel's three
results and the reference's are the two products with the transposed weights, and `silu` of the first times the second. -/

@[expose] public section

set_option maxRecDepth 16384

noncomputable section

namespace Cert.Kernel5Ideal.GateUp

open Idealize.ShloMosaic Idealize.ShloMosaic.TcCoe Idealize.ShloMosaic.Tactic
open Idealize.SL.Sem
open Cert.Ix (ext2 blk row)
open Idealize.ShloMosaic.Pipeline (Dat Cfg Window)
open Cert.Kernel5Ideal Cert.Kernel5Ideal.Gen

/-- A projection: the rows of `x` times the transposed weights `w`. -/
def proj (x : FVec Ideal S4096x1024 .bf16) (w : FVec Ideal S2816x1024 .bf16) (i : S4096x2816.Idx) : EReal :=
  ∑ k : Fin 1024, x (ix2 (i 0) k) * w (ix2 (i 1) k)

/-- `silu g * up` at one place, -/
def gated (g up : EReal) : EReal := g * Ideal.logistic g * up

/-- and for the whole arrays. -/
def act (x : FVec Ideal S4096x1024 .bf16) (w v : FVec Ideal S2816x1024 .bf16) (i : S4096x2816.Idx) : EReal :=
  gated (proj x w i) (proj x v i)

/-! ## One block -/

theorem pay1_at (x : FVec Ideal S1024x1024 .bf16) (w : FVec Ideal S1408x1024 .bf16) (a : Fin 1024) (b : Fin 1408) :
    k0_pay1 (F := Ideal) x w (ix2 a b) = ∑ k : Fin 1024, x (ix2 a k) * w (ix2 b k) := by
  pointwise [k0_pay1]

theorem pay2_at (x : FVec Ideal S1024x1024 .bf16) (w : FVec Ideal S1408x1024 .bf16) (a : Fin 1024) (b : Fin 1408) :
    k0_pay2 (F := Ideal) x w (ix2 a b) = ∑ k : Fin 1024, x (ix2 a k) * w (ix2 b k) := by
  pointwise [k0_pay2]

theorem pay3_at (x : FVec Ideal S1024x1024 .bf16) (w v : FVec Ideal S1408x1024 .bf16) (i : S1024x1408.Idx) :
    k0_pay3 (F := Ideal) x w v i = gated (k0_pay1 (F := Ideal) x w i) (k0_pay2 (F := Ideal) x v i) := by
  unfold k0_pay3
  generalize k0_pay1 (F := Ideal) x w = y
  generalize k0_pay2 (F := Ideal) x v = z
  rfl

theorem out3_eq (x : FVec Ideal S1024x1024 .bf16) (w v : FVec Ideal S1408x1024 .bf16) :
    out0_3 (F := Ideal) x w v = k0_pay1 (F := Ideal) x w := by
  have hzg : (![0, 0] : Fin S1024x1408.rank → Nat) = fun _ => 0 := funext fun a => by fin_cases a <;> rfl
  have hzx : (![0, 0] : Fin S1024x1024.rank → Nat) = fun _ => 0 := funext fun a => by fin_cases a <;> rfl
  have hzw : (![0, 0] : Fin S1408x1024.rank → Nat) = fun _ => 0 := funext fun a => by fin_cases a <;> rfl
  unfold out0_3
  rw [View.canon_unit_zero hzg, View.ld_unit_zero hzx, View.ld_unit_zero hzw]

theorem out4_eq (x : FVec Ideal S1024x1024 .bf16) (w v : FVec Ideal S1408x1024 .bf16) :
    out0_4 (F := Ideal) x w v = k0_pay2 (F := Ideal) x v := by
  have hzg : (![0, 0] : Fin S1024x1408.rank → Nat) = fun _ => 0 := funext fun a => by fin_cases a <;> rfl
  have hzx : (![0, 0] : Fin S1024x1024.rank → Nat) = fun _ => 0 := funext fun a => by fin_cases a <;> rfl
  have hzw : (![0, 0] : Fin S1408x1024.rank → Nat) = fun _ => 0 := funext fun a => by fin_cases a <;> rfl
  unfold out0_4
  rw [View.canon_unit_zero hzg, View.ld_unit_zero hzx, View.ld_unit_zero hzw]

theorem out5_eq (x : FVec Ideal S1024x1024 .bf16) (w v : FVec Ideal S1408x1024 .bf16) :
    out0_5 (F := Ideal) x w v = k0_pay3 (F := Ideal) x w v := by
  have hzg : (![0, 0] : Fin S1024x1408.rank → Nat) = fun _ => 0 := funext fun a => by fin_cases a <;> rfl
  have hzx : (![0, 0] : Fin S1024x1024.rank → Nat) = fun _ => 0 := funext fun a => by fin_cases a <;> rfl
  have hzw : (![0, 0] : Fin S1408x1024.rank → Nat) = fun _ => 0 := funext fun a => by fin_cases a <;> rfl
  unfold out0_5
  rw [View.canon_unit_zero hzg, View.ld_unit_zero hzx, View.ld_unit_zero hzw, View.ld_unit_zero hzw]

/-! ## The grid's blocks -/

variable (m : (ℓ : Loc nD τ sig) → Buf (Elt Ideal) ℓ) (ρ : Dev nD → PrngReg)

/-- The rows, -/
def X0 (c : Dev nD) : FVec Ideal S4096x1024 .bf16 := m ((c.tc : Thread nD τ).loc main_arg0)
/-- the gate's transposed weights, -/
def WG (c : Dev nD) : FVec Ideal S2816x1024 .bf16 := m ((c.tc : Thread nD τ).loc main_arg1)
/-- and the up projection's. -/
def WU (c : Dev nD) : FVec Ideal S2816x1024 .bf16 := m ((c.tc : Thread nD τ).loc main_arg2)

theorem index0 : ∀ t : Fin grid0.N, win0_0.index t 0 = t.val / 2 ∧ win0_0.index t 1 = 0 := by decide +kernel
theorem index1 : ∀ t : Fin grid0.N, win0_1.index t 0 = t.val % 2 ∧ win0_1.index t 1 = 0 := by decide +kernel
theorem index2 : ∀ t : Fin grid0.N, win0_2.index t 0 = t.val % 2 ∧ win0_2.index t 1 = 0 := by decide +kernel
theorem index3 : ∀ t : Fin grid0.N, win0_3.index t 0 = t.val / 2 ∧ win0_3.index t 1 = t.val % 2 := by decide +kernel
theorem index4 : ∀ t : Fin grid0.N, win0_4.index t 0 = t.val / 2 ∧ win0_4.index t 1 = t.val % 2 := by decide +kernel
theorem index5 : ∀ t : Fin grid0.N, win0_5.index t 0 = t.val / 2 ∧ win0_5.index t 1 = t.val % 2 := by decide +kernel

theorem iblk0_apply (c : Dev nD) (t : Fin cfg0.N) (a : Fin 1024) (b : Fin 1024) (r : Fin 4096) (hr : r.val = 1024 * (t.val / 2) + a.val) :
    (iblk m c 0 t : FVec Ideal S1024x1024 .bf16) (ix2 a b) = X0 m c (ix2 r b) :=
  congrArg (V m c main_arg0) (ext2 (blk (index0 t).1 (row hr)) (blk (index0 t).2 (by simp only [ix2]; omega)))

theorem iblk1_apply (c : Dev nD) (t : Fin cfg0.N) (a : Fin 1408) (b : Fin 1024) (r : Fin 2816) (hr : r.val = 1408 * (t.val % 2) + a.val) :
    (iblk m c 1 t : FVec Ideal S1408x1024 .bf16) (ix2 a b) = WG m c (ix2 r b) :=
  congrArg (V m c main_arg1) (ext2 (blk (index1 t).1 (row hr)) (blk (index1 t).2 (by simp only [ix2]; omega)))

theorem iblk2_apply (c : Dev nD) (t : Fin cfg0.N) (a : Fin 1408) (b : Fin 1024) (r : Fin 2816) (hr : r.val = 1408 * (t.val % 2) + a.val) :
    (iblk m c 2 t : FVec Ideal S1408x1024 .bf16) (ix2 a b) = WU m c (ix2 r b) :=
  congrArg (V m c main_arg2) (ext2 (blk (index2 t).1 (row hr)) (blk (index2 t).2 (by simp only [ix2]; omega)))

theorem gate_at (c : Dev nD) (t : Fin cfg0.N) (a : Fin 1024) (b : Fin 1408) (i : S4096x2816.Idx)
    (h0 : (i 0).val = 1024 * (t.val / 2) + a.val) (h1 : (i 1).val = 1408 * (t.val % 2) + b.val) :
    k0_pay1 (F := Ideal) (iblk m c 0 t) (iblk m c 1 t) (ix2 a b) = proj (X0 m c) (WG m c) i := by
  refine (pay1_at _ _ a b).trans ?_
  unfold proj
  exact Finset.sum_congr rfl fun k _ =>
    congrArg₂ (· * ·) (iblk0_apply m c t a k (i 0) h0) (iblk1_apply m c t b k (i 1) h1)

theorem up_at (c : Dev nD) (t : Fin cfg0.N) (a : Fin 1024) (b : Fin 1408) (i : S4096x2816.Idx)
    (h0 : (i 0).val = 1024 * (t.val / 2) + a.val) (h1 : (i 1).val = 1408 * (t.val % 2) + b.val) :
    k0_pay2 (F := Ideal) (iblk m c 0 t) (iblk m c 2 t) (ix2 a b) = proj (X0 m c) (WU m c) i := by
  refine (pay2_at _ _ a b).trans ?_
  unfold proj
  exact Finset.sum_congr rfl fun k _ =>
    congrArg₂ (· * ·) (iblk0_apply m c t a k (i 0) h0) (iblk2_apply m c t b k (i 1) h1)

theorem act_at (c : Dev nD) (t : Fin cfg0.N) (a : Fin 1024) (b : Fin 1408) (i : S4096x2816.Idx)
    (h0 : (i 0).val = 1024 * (t.val / 2) + a.val) (h1 : (i 1).val = 1408 * (t.val % 2) + b.val) :
    k0_pay3 (F := Ideal) (iblk m c 0 t) (iblk m c 1 t) (iblk m c 2 t) (ix2 a b) = act (X0 m c) (WG m c) (WU m c) i := by
  refine (pay3_at _ _ _ (ix2 a b)).trans ?_
  unfold act
  exact congrArg₂ gated (gate_at m c t a b i h0 h1) (up_at m c t a b i h0 h1)

theorem flushed3 (c : Dev nD) (t : Fin cfg0.N) (_hf : (cfg0.win 3).flush t = true) :
    (dats m 0 c).flushed 3 t = ((cfg0.win 3).blk t).view.read (Elt Ideal) (proj (X0 m c) (WG m c)) := by
  have hi := index3 t
  rw [Value.flushed3, out3_eq]
  funext x
  rw [View.read_apply]
  obtain ⟨a, b, rfl⟩ : ∃ (a : Fin 1024) (b : Fin 1408), x = ix2 a b := ⟨x 0, x 1, eq_ix2 x⟩
  refine gate_at m c t a b _ ?_ ?_
  · show win0_3.index t 0 * 1024 + 1 * a.val = _
    rw [hi.1]; omega
  · show win0_3.index t 1 * 1408 + 1 * b.val = _
    rw [hi.2]; omega

theorem final3 (c : Dev nD) : (dats m 0 c).arrAt 3 cfg0.N = proj (X0 m c) (WG m c) :=
  (dats m 0 c).arrAt_eq_of_cover 3 (proj (X0 m c) (WG m c)) (flushed3 m c) fun i => by
    have h0 : (i 0 : Nat) < 4096 := (i 0).isLt
    have h1 : (i 1 : Nat) < 2816 := (i 1).isLt
    have hlt : 2 * ((i 0).val / 1024) + (i 1).val / 1408 < cfg0.N := by rw [show cfg0.N = 8 from N_0]; omega
    have hi := index3 ⟨2 * ((i 0).val / 1024) + (i 1).val / 1408, hlt⟩
    refine ⟨⟨2 * ((i 0).val / 1024) + (i 1).val / 1408, hlt⟩, flush0_3 _, ?_⟩
    show i ∈ ((View.whole main_v0_0).slice (win0_3.rect ⟨2 * ((i 0).val / 1024) + (i 1).val / 1408, hlt⟩)).set
    rw [View.set_slice_whole, Rect.mem_set_unit]
    dsimp only at hi
    intro a
    match a with
    | ⟨0, _⟩ =>
      show win0_3.index ⟨2 * ((i 0).val / 1024) + (i 1).val / 1408, hlt⟩ 0 * 1024 ≤ (i 0 : Nat)
        ∧ (i 0 : Nat) < win0_3.index ⟨2 * ((i 0).val / 1024) + (i 1).val / 1408, hlt⟩ 0 * 1024 + 1024
      rw [hi.1]; omega
    | ⟨1, _⟩ =>
      show win0_3.index ⟨2 * ((i 0).val / 1024) + (i 1).val / 1408, hlt⟩ 1 * 1408 ≤ (i 1 : Nat)
        ∧ (i 1 : Nat) < win0_3.index ⟨2 * ((i 0).val / 1024) + (i 1).val / 1408, hlt⟩ 1 * 1408 + 1408
      rw [hi.2]; omega

theorem flushed4 (c : Dev nD) (t : Fin cfg0.N) (_hf : (cfg0.win 4).flush t = true) :
    (dats m 0 c).flushed 4 t = ((cfg0.win 4).blk t).view.read (Elt Ideal) (proj (X0 m c) (WU m c)) := by
  have hi := index4 t
  rw [Value.flushed4, out4_eq]
  funext x
  rw [View.read_apply]
  obtain ⟨a, b, rfl⟩ : ∃ (a : Fin 1024) (b : Fin 1408), x = ix2 a b := ⟨x 0, x 1, eq_ix2 x⟩
  refine up_at m c t a b _ ?_ ?_
  · show win0_4.index t 0 * 1024 + 1 * a.val = _
    rw [hi.1]; omega
  · show win0_4.index t 1 * 1408 + 1 * b.val = _
    rw [hi.2]; omega

theorem final4 (c : Dev nD) : (dats m 0 c).arrAt 4 cfg0.N = proj (X0 m c) (WU m c) :=
  (dats m 0 c).arrAt_eq_of_cover 4 (proj (X0 m c) (WU m c)) (flushed4 m c) fun i => by
    have h0 : (i 0 : Nat) < 4096 := (i 0).isLt
    have h1 : (i 1 : Nat) < 2816 := (i 1).isLt
    have hlt : 2 * ((i 0).val / 1024) + (i 1).val / 1408 < cfg0.N := by rw [show cfg0.N = 8 from N_0]; omega
    have hi := index4 ⟨2 * ((i 0).val / 1024) + (i 1).val / 1408, hlt⟩
    refine ⟨⟨2 * ((i 0).val / 1024) + (i 1).val / 1408, hlt⟩, flush0_4 _, ?_⟩
    show i ∈ ((View.whole main_v0_1).slice (win0_4.rect ⟨2 * ((i 0).val / 1024) + (i 1).val / 1408, hlt⟩)).set
    rw [View.set_slice_whole, Rect.mem_set_unit]
    dsimp only at hi
    intro a
    match a with
    | ⟨0, _⟩ =>
      show win0_4.index ⟨2 * ((i 0).val / 1024) + (i 1).val / 1408, hlt⟩ 0 * 1024 ≤ (i 0 : Nat)
        ∧ (i 0 : Nat) < win0_4.index ⟨2 * ((i 0).val / 1024) + (i 1).val / 1408, hlt⟩ 0 * 1024 + 1024
      rw [hi.1]; omega
    | ⟨1, _⟩ =>
      show win0_4.index ⟨2 * ((i 0).val / 1024) + (i 1).val / 1408, hlt⟩ 1 * 1408 ≤ (i 1 : Nat)
        ∧ (i 1 : Nat) < win0_4.index ⟨2 * ((i 0).val / 1024) + (i 1).val / 1408, hlt⟩ 1 * 1408 + 1408
      rw [hi.2]; omega

theorem flushed5 (c : Dev nD) (t : Fin cfg0.N) (_hf : (cfg0.win 5).flush t = true) :
    (dats m 0 c).flushed 5 t = ((cfg0.win 5).blk t).view.read (Elt Ideal) (act (X0 m c) (WG m c) (WU m c)) := by
  have hi := index5 t
  rw [Value.flushed5, out5_eq]
  funext x
  rw [View.read_apply]
  obtain ⟨a, b, rfl⟩ : ∃ (a : Fin 1024) (b : Fin 1408), x = ix2 a b := ⟨x 0, x 1, eq_ix2 x⟩
  refine act_at m c t a b _ ?_ ?_
  · show win0_5.index t 0 * 1024 + 1 * a.val = _
    rw [hi.1]; omega
  · show win0_5.index t 1 * 1408 + 1 * b.val = _
    rw [hi.2]; omega

theorem final5 (c : Dev nD) : (dats m 0 c).arrAt 5 cfg0.N = act (X0 m c) (WG m c) (WU m c) :=
  (dats m 0 c).arrAt_eq_of_cover 5 (act (X0 m c) (WG m c) (WU m c)) (flushed5 m c) fun i => by
    have h0 : (i 0 : Nat) < 4096 := (i 0).isLt
    have h1 : (i 1 : Nat) < 2816 := (i 1).isLt
    have hlt : 2 * ((i 0).val / 1024) + (i 1).val / 1408 < cfg0.N := by rw [show cfg0.N = 8 from N_0]; omega
    have hi := index5 ⟨2 * ((i 0).val / 1024) + (i 1).val / 1408, hlt⟩
    refine ⟨⟨2 * ((i 0).val / 1024) + (i 1).val / 1408, hlt⟩, flush0_5 _, ?_⟩
    show i ∈ ((View.whole main_v0_2).slice (win0_5.rect ⟨2 * ((i 0).val / 1024) + (i 1).val / 1408, hlt⟩)).set
    rw [View.set_slice_whole, Rect.mem_set_unit]
    dsimp only at hi
    intro a
    match a with
    | ⟨0, _⟩ =>
      show win0_5.index ⟨2 * ((i 0).val / 1024) + (i 1).val / 1408, hlt⟩ 0 * 1024 ≤ (i 0 : Nat)
        ∧ (i 0 : Nat) < win0_5.index ⟨2 * ((i 0).val / 1024) + (i 1).val / 1408, hlt⟩ 0 * 1024 + 1024
      rw [hi.1]; omega
    | ⟨1, _⟩ =>
      show win0_5.index ⟨2 * ((i 0).val / 1024) + (i 1).val / 1408, hlt⟩ 1 * 1408 ≤ (i 1 : Nat)
        ∧ (i 1 : Nat) < win0_5.index ⟨2 * ((i 0).val / 1024) + (i 1).val / 1408, hlt⟩ 1 * 1408 + 1408
      rw [hi.2]; omega

/-- The kernel's run: its three results, and its arguments unchanged. -/
theorem run : θ_run defs (onTc (τ := τ) (main (F := Ideal))) ⟨m, fun _ => 0, ρ⟩ fun r => ∀ c : Dev nD,
      r.2.mem ((c.tc : Thread nD τ).loc main_v0_0) = proj (X0 m c) (WG m c)
      ∧ r.2.mem ((c.tc : Thread nD τ).loc main_v0_1) = proj (X0 m c) (WU m c)
      ∧ r.2.mem ((c.tc : Thread nD τ).loc main_v0_2) = act (X0 m c) (WG m c) (WU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans (final3 m c), (h c).2.1.trans (final4 m c), (h c).2.2.1.trans (final5 m c), (h c).2.2.2⟩)
    (Value.run_blocks m ρ)

/-! ## The reference -/

open Cert.Reference5Ideal.Read

variable (x : FVec Ideal S4096x1024 .bf16) (w v : FVec Ideal S2816x1024 .bf16)

theorem ref5 (i : S4096x2816.Idx) : val_main_v5 (F := Ideal) x w i = proj x w i := by
  rw [val_main_v5_apply]
  unfold proj
  refine Finset.sum_congr rfl fun k _ => ?_
  rw [val_main_v0_apply, val_main_v2_apply, val_main_v1_apply]
  have e0 : lidx_main_v5 i k = ix2 (i 0) k := ext2 rfl rfl
  have e1 : idx_main_v2 (ridx_main_v5 i k) = ix2 (i 1) k := ext2 rfl rfl
  rw [e0, e1]
  rfl

theorem ref6 (i : S4096x2816.Idx) : val_main_v6 (F := Ideal) x v i = proj x v i := by
  rw [val_main_v6_apply]
  unfold proj
  refine Finset.sum_congr rfl fun k _ => ?_
  rw [val_main_v0_apply, val_main_v4_apply, val_main_v3_apply]
  have e0 : lidx_main_v6 i k = ix2 (i 0) k := ext2 rfl rfl
  have e1 : idx_main_v4 (ridx_main_v6 i k) = ix2 (i 1) k := ext2 rfl rfl
  rw [e0, e1]
  rfl

theorem ref7 : val_main_v7 (F := Ideal) x w = proj x w := by
  funext i
  rw [val_main_v7_apply, ref5]
  rfl

theorem ref8 : val_main_v8 (F := Ideal) x v = proj x v := by
  funext i
  rw [val_main_v8_apply, ref6]
  rfl

theorem ref11 : val_main_v11 (F := Ideal) x w v = act x w v := by
  funext i
  rw [val_main_v11_apply, val_main_v10_apply, val_main_v9_apply, val_main_call0_v5_apply, val_main_call0_v4_apply,
    val_main_call0_cst_0_apply, val_main_call0_v3_apply, val_main_call0_v2_apply, val_main_call0_cst_apply,
    val_main_call0_v1_apply, val_main_call0_v0_apply, ref5, ref6]
  unfold act
  generalize proj x w i = g
  generalize proj x v i = u
  show g * Ideal.div (Ideal.ofBits .f32 0x3F800000#32) (Ideal.ofBits .f32 0x3F800000#32 + Ideal.exp (-g)) * u = _
  rw [Ideal.ofBits_one_f32]
  rfl

end Cert.Kernel5Ideal.GateUp

end
-- ==== Proof.WGradM.lean ====
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Ix
public import Idealize.ShloMosaic.Lib.Pointwise
public import Idealize.ShloMosaic.Lib.Tactic
public import Idealize.ShloMosaic.Lib.Pipeline.Value
public import Idealize.ShloMosaic.Lib.Claim

/-! The gradient of the mLSTM's part of the input projection, transposed, over the extended reals: the kernel's result and the
reference's are, at a row `j` and a column `n`, the sum over the 4096 tokens of the cotangent at `j` times the input at `n`. -/

@[expose] public section

set_option maxRecDepth 16384

noncomputable section

namespace Cert.Kernel6Ideal.WGradM

open Idealize.ShloMosaic Idealize.ShloMosaic.TcCoe Idealize.ShloMosaic.Tactic
open Idealize.SL.Sem
open Cert.Ix (ext2 blk row)
open Idealize.ShloMosaic.Pipeline (Dat Cfg Window)
open Cert.Kernel6Ideal Cert.Kernel6Ideal.Gen

/-- The gradient of the transposed weights, from the cotangent `a` of the product and its left side `ct`. -/
def grad (a : FVec Ideal S4096x2048 .bf16) (ct : FVec Ideal S4096x1024 .bf16) (i : S2048x1024.Idx) : EReal :=
  ∑ k : Fin 4096, a (ix2 k (i 0)) * ct (ix2 k (i 1))

/-! ## One block -/

theorem pay1_at (x : FVec Ideal S4096x512 .bf16) (y : FVec Ideal S4096x1024 .bf16) (j : Fin 512) (n : Fin 1024) :
    k0_pay1 (F := Ideal) x y (ix2 j n) = ∑ k : Fin 4096, x (ix2 k j) * y (ix2 k n) := by
  pointwise [k0_pay1]

theorem out2_eq (x : FVec Ideal S4096x512 .bf16) (y : FVec Ideal S4096x1024 .bf16) : out0_2 (F := Ideal) x y = k0_pay1 (F := Ideal) x y := by
  have hz2 : (![0, 0] : Fin S512x1024.rank → Nat) = fun _ => 0 := funext fun a => by fin_cases a <;> rfl
  have hz0 : (![0, 0] : Fin S4096x512.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz2, View.ld_unit_zero hz0, View.ld_unit_zero hz1]

/-! ## The grid's blocks -/

variable (m : (ℓ : Loc nD τ sig) → Buf (Elt Ideal) ℓ) (ρ : Dev nD → PrngReg)

/-- The cotangent of the product, -/
def A0 (c : Dev nD) : FVec Ideal S4096x2048 .bf16 := m ((c.tc : Thread nD τ).loc main_arg0)
/-- and its left side. -/
def C0 (c : Dev nD) : FVec Ideal S4096x1024 .bf16 := m ((c.tc : Thread nD τ).loc main_arg1)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem iblk0_apply (c : Dev nD) (t : Fin cfg0.N) (a : Fin 4096) (b : Fin 512) (j : Fin 2048) (hj : j.val = 512 * t.val + b.val) :
    (iblk m c 0 t : FVec Ideal S4096x512 .bf16) (ix2 a b) = A0 m c (ix2 a j) :=
  congrArg (V m c main_arg0) (ext2 (blk (index0 t).1 (by simp only [ix2]; omega)) (blk (index0 t).2 (row hj)))

theorem iblk1_apply (c : Dev nD) (t : Fin cfg0.N) (a : Fin 4096) (b : Fin 1024) :
    (iblk m c 1 t : FVec Ideal S4096x1024 .bf16) (ix2 a b) = C0 m c (ix2 a b) :=
  congrArg (V m c main_arg1) (ext2 (blk (index1 t).1 (by simp only [ix2]; omega)) (blk (index1 t).2 (by simp only [ix2]; omega)))

/-- What a point leaves at row `j` and column `n` of its block. -/
theorem block_at (c : Dev nD) (t : Fin cfg0.N) (j : Fin 512) (n : Fin 1024) (i : S2048x1024.Idx)
    (h0 : (i 0).val = 512 * t.val + j.val) (h1 : (i 1).val = n.val) :
    k0_pay1 (F := Ideal) (iblk m c 0 t) (iblk m c 1 t) (ix2 j n) = grad (A0 m c) (C0 m c) i := by
  have hn : (i 1 : Fin 1024) = n := Fin.ext h1
  refine (pay1_at _ _ j n).trans ?_
  unfold grad
  refine Finset.sum_congr rfl fun k _ => ?_
  rw [hn]
  exact congrArg₂ (· * ·) (iblk0_apply m c t k j (i 0) h0) (iblk1_apply m c t k n)

theorem flushed2 (c : Dev nD) (t : Fin cfg0.N) (_hf : (cfg0.win 2).flush t = true) :
    (dats m 0 c).flushed 2 t = ((cfg0.win 2).blk t).view.read (Elt Ideal) (grad (A0 m c) (C0 m c)) := by
  have hi := index2 t
  rw [Value.flushed2, out2_eq]
  funext x
  rw [View.read_apply]
  have h0 : (x 0).val < 512 := (x 0).isLt
  have h1 : (x 1).val < 1024 := (x 1).isLt
  obtain ⟨j, n, rfl⟩ : ∃ (j : Fin 512) (n : Fin 1024), x = ix2 j n := ⟨x 0, x 1, eq_ix2 x⟩
  refine block_at m c t j n _ ?_ ?_
  · show win0_2.index t 0 * 512 + 1 * j.val = _
    rw [hi.1]; omega
  · show win0_2.index t 1 * 1024 + 1 * n.val = _
    rw [hi.2]; omega

theorem final2 (c : Dev nD) : (dats m 0 c).arrAt 2 cfg0.N = grad (A0 m c) (C0 m c) :=
  (dats m 0 c).arrAt_eq_of_cover 2 (grad (A0 m c) (C0 m c)) (flushed2 m c) fun i => by
    have h0 : (i 0 : Nat) < 2048 := (i 0).isLt
    have h1 : (i 1 : Nat) < 1024 := (i 1).isLt
    have hlt : (i 0).val / 512 < cfg0.N := by rw [show cfg0.N = 4 from N_0]; omega
    have hi := index2 ⟨(i 0).val / 512, hlt⟩
    refine ⟨⟨(i 0).val / 512, hlt⟩, flush0_2 _, ?_⟩
    show i ∈ ((View.whole main_v0).slice (win0_2.rect ⟨(i 0).val / 512, hlt⟩)).set
    rw [View.set_slice_whole, Rect.mem_set_unit]
    dsimp only at hi
    intro a
    match a with
    | ⟨0, _⟩ =>
      show win0_2.index ⟨(i 0).val / 512, hlt⟩ 0 * 512 ≤ (i 0 : Nat) ∧ (i 0 : Nat) < win0_2.index ⟨(i 0).val / 512, hlt⟩ 0 * 512 + 512
      rw [hi.1]; omega
    | ⟨1, _⟩ =>
      show win0_2.index ⟨(i 0).val / 512, hlt⟩ 1 * 1024 ≤ (i 1 : Nat) ∧ (i 1 : Nat) < win0_2.index ⟨(i 0).val / 512, hlt⟩ 1 * 1024 + 1024
      rw [hi.2]; omega

/-- The kernel's run: its result, and its arguments unchanged. -/
theorem run : θ_run defs (onTc (τ := τ) (main (F := Ideal))) ⟨m, fun _ => 0, ρ⟩ fun r => ∀ c : Dev nD,
      r.2.mem ((c.tc : Thread nD τ).loc main_v0) = grad (A0 m c) (C0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩)
    (Value.run_blocks m ρ)

/-! ## The reference -/

open Cert.Reference6Ideal.Read in
theorem ref6 (a : FVec Ideal S4096x2048 .bf16) (ct : FVec Ideal S4096x1024 .bf16) :
    val_main_v6 (F := Ideal) a ct = grad a ct := by
  funext i
  obtain ⟨j, n, rfl⟩ : ∃ (j : Fin 2048) (n : Fin 1024), i = ix2 j n := ⟨i 0, i 1, eq_ix2 i⟩
  have e : idx_main_v5 (idx_main_v6 (ix2 j n)) = ix2 j n := ext2 rfl rfl
  rw [val_main_v6_apply, val_main_v5_apply, e, val_main_v4_apply]
  unfold grad
  refine Finset.sum_congr rfl fun k _ => ?_
  rw [val_main_v3_apply, val_main_v1_apply]
  have e0 : lidx_main_v4 (ix2 j n) k = ix2 k j := ext2 rfl rfl
  have e1 : ridx_main_v4 (ix2 j n) k = ix2 k n := ext2 rfl rfl
  rw [e0, e1]
  rfl

end Cert.Kernel6Ideal.WGradM

end
-- ==== Proof.InBody.lean ====
module

public import proofs.«01_k».proof.Proof.Gen.Kernel7Ideal.Value
public import Idealize.ShloMosaic.Lib.Pointwise
public import Idealize.ShloMosaic.Lib.Tactic
public import Idealize.ShloMosaic.Lib.Pipeline.Value

/-! The gradient of the norm before the input projection: what the body leaves in its two output blocks, as its payloads of the
input blocks. Point 0 stores the block's column sums, every later point adds them to what it finds. -/

@[expose] public section

set_option maxRecDepth 16384

noncomputable section

namespace Cert.Kernel7Ideal.InBody

open Idealize.ShloMosaic Idealize.ShloMosaic.TcCoe Idealize.ShloMosaic.Tactic
open Idealize.SL.Sem
open Cert.Kernel7Ideal Cert.Kernel7Ideal.Gen

variable {F : FTy → Type} [FloatOps F]

theorem hz : (![0, 0] : Fin 2 → Nat) = fun _ => 0 := funext fun a => by fin_cases a <;> rfl

/-- The first 2048 rows of the transposed input projection. -/
abbrev head (x : Vec F S2728x1024 .bf16) : Vec F S2048x1024 .bf16 :=
  View.ld x (Rect.unit (s := S2728x1024) ![0, 0] S2048x1024.size inb_S2728x1024_S2048x1024_0_0)

/-- The cotangent of the norm's result in one block, -/
abbrev dyB (x0 : Vec F S512x2048 .bf16) (x1 : Vec F S512x640 .bf16) (x2 : Vec F S512x128 .bf16)
    (x3 : Vec F S2728x1024 .bf16) (x4 : Vec F S640x1024 .bf16) (x5 : Vec F S128x1024 .bf16) : Vec F S512x1024 .f32 :=
  k0_pay4 (head x3) x0 x4 x1 x5 x2

/-- and the gradient of the stream. -/
abbrev dxB (x0 : Vec F S512x2048 .bf16) (x1 : Vec F S512x640 .bf16) (x2 : Vec F S512x128 .bf16)
    (x3 : Vec F S2728x1024 .bf16) (x4 : Vec F S640x1024 .bf16) (x5 : Vec F S128x1024 .bf16)
    (x6 : Vec F S512x1024 .f32) (x7 : Vec F S1x1024 .f32) (x8 : Vec F S512x1024 .f32) : Vec F S512x1024 .f32 :=
  k0_pay1 (k0_pay7 (head x3) x0 x4 x1 x5 x2 x6 x7) x8

variable (c : Dev nD) (i : grid0.Coords) (arg1 : Memref sig .tc .vmem S512x2048 .bf16) (harg1 : arg1.IsWhole)
  (arg2 : Memref sig .tc .vmem S512x640 .bf16) (harg2 : arg2.IsWhole) (arg3 : Memref sig .tc .vmem S512x128 .bf16)
  (harg3 : arg3.IsWhole) (arg4 : Memref sig .tc .vmem S2728x1024 .bf16) (harg4 : arg4.IsWhole)
  (arg5 : Memref sig .tc .vmem S640x1024 .bf16) (harg5 : arg5.IsWhole) (arg6 : Memref sig .tc .vmem S128x1024 .bf16)
  (harg6 : arg6.IsWhole) (arg7 : Memref sig .tc .vmem S512x1024 .f32) (harg7 : arg7.IsWhole)
  (arg8 : Memref sig .tc .vmem S1x1024 .f32) (harg8 : arg8.IsWhole) (arg9 : Memref sig .tc .vmem S512x1024 .f32)
  (harg9 : arg9.IsWhole) (arg10 : Memref sig .tc .vmem S512x1024 .f32) (harg10 : arg10.IsWhole)
  (arg11 : Memref sig .tc .vmem S1x1024 .f32) (harg11 : arg11.IsWhole)

theorem out_A_9 (hc0 : cond0_0 i) (hc1 : ¬cond0_1 i)
    (x0 : Vec F S512x2048 .bf16) (x1 : Vec F S512x640 .bf16) (x2 : Vec F S512x128 .bf16) (x3 : Vec F S2728x1024 .bf16) (x4 : Vec F S640x1024 .bf16) (x5 : Vec F S128x1024 .bf16) (x6 : Vec F S512x1024 .f32) (x7 : Vec F S1x1024 .f32) (x8 : Vec F S512x1024 .f32) :
    out0_A_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 = dxB x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S512x2048) hz, View.ld_unit_zero (S := S512x640) hz, View.ld_unit_zero (S := S512x128) hz,
    View.ld_unit_zero (S := S640x1024) hz, View.ld_unit_zero (S := S128x1024) hz, View.ld_unit_zero (S := S512x1024) hz,
    View.ld_unit_zero (S := S1x1024) hz]

theorem out_A_10 (hc0 : cond0_0 i) (hc1 : ¬cond0_1 i)
    (x0 : Vec F S512x2048 .bf16) (x1 : Vec F S512x640 .bf16) (x2 : Vec F S512x128 .bf16) (x3 : Vec F S2728x1024 .bf16) (x4 : Vec F S640x1024 .bf16) (x5 : Vec F S128x1024 .bf16) (x6 : Vec F S512x1024 .f32) (x7 : Vec F S1x1024 .f32) (x8 : Vec F S512x1024 .f32) :
    out0_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 = k0_pay2 (dyB x0 x1 x2 x3 x4 x5) (k0_pay6 x6) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread,
    View.ld_unit_zero (S := S512x2048) hz, View.ld_unit_zero (S := S512x640) hz, View.ld_unit_zero (S := S512x128) hz,
    View.ld_unit_zero (S := S640x1024) hz, View.ld_unit_zero (S := S128x1024) hz, View.ld_unit_zero (S := S512x1024) hz,
    View.ld_unit_zero (S := S1x1024) hz]

theorem out_B_9 (hc0 : ¬cond0_0 i) (hc1 : cond0_1 i)
    (x0 : Vec F S512x2048 .bf16) (x1 : Vec F S512x640 .bf16) (x2 : Vec F S512x128 .bf16) (x3 : Vec F S2728x1024 .bf16) (x4 : Vec F S640x1024 .bf16) (x5 : Vec F S128x1024 .bf16) (x6 : Vec F S512x1024 .f32) (x7 : Vec F S1x1024 .f32) (x8 : Vec F S512x1024 .f32) (xo10 : Vec F S1x1024 .f32) :
    out0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo10 = dxB x0 x1 x2 x3 x4 x5 x6 x7 x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S512x2048) hz, View.ld_unit_zero (S := S512x640) hz, View.ld_unit_zero (S := S512x128) hz,
    View.ld_unit_zero (S := S640x1024) hz, View.ld_unit_zero (S := S128x1024) hz, View.ld_unit_zero (S := S512x1024) hz,
    View.ld_unit_zero (S := S1x1024) hz]

theorem out_B_10 (hc0 : ¬cond0_0 i) (hc1 : cond0_1 i)
    (x0 : Vec F S512x2048 .bf16) (x1 : Vec F S512x640 .bf16) (x2 : Vec F S512x128 .bf16) (x3 : Vec F S2728x1024 .bf16) (x4 : Vec F S640x1024 .bf16) (x5 : Vec F S128x1024 .bf16) (x6 : Vec F S512x1024 .f32) (x7 : Vec F S1x1024 .f32) (x8 : Vec F S512x1024 .f32) (xo10 : Vec F S1x1024 .f32) :
    out0_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo10 = k0_pay3 (dyB x0 x1 x2 x3 x4 x5) (k0_pay6 x6) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg11.read_unread,
    View.ld_unit_zero (S := S512x2048) hz, View.ld_unit_zero (S := S512x640) hz, View.ld_unit_zero (S := S512x128) hz,
    View.ld_unit_zero (S := S640x1024) hz, View.ld_unit_zero (S := S128x1024) hz, View.ld_unit_zero (S := S512x1024) hz,
    View.ld_unit_zero (S := S1x1024) hz]

end Cert.Kernel7Ideal.InBody

end
-- ==== Proof.InPay.lean ====
module

public import proofs.«01_k».proof.Proof.Gen.Kernel7Ideal.Skeleton
public import Idealize.ShloMosaic.Lib.Pointwise
public import Idealize.ShloMosaic.Lib.Tactic
public import Idealize.ShloMosaic.Lib.IdealHost
public import proofs.«01_k».proof.Proof.NormRow

/-! The payloads of the gradient of the norm before the input projection at a row and a column of one block, over the extended
reals. -/

@[expose] public section

set_option maxRecDepth 16384

noncomputable section

namespace Cert.Kernel7Ideal.InPay

open Idealize.ShloMosaic Idealize.ShloMosaic.TcCoe Idealize.ShloMosaic.Tactic
open Cert.Kernel7Ideal Cert.Kernel7Ideal.Gen
open Cert.NormRow

theorem pay4_at (v0 : FVec Ideal S2048x1024 .bf16) (v1 : FVec Ideal S512x2048 .bf16) (v3 : FVec Ideal S640x1024 .bf16)
    (v4 : FVec Ideal S512x640 .bf16) (v7 : FVec Ideal S128x1024 .bf16) (v8 : FVec Ideal S512x128 .bf16) (a : Fin 512) (j : Fin 1024) :
    k0_pay4 (F := Ideal) v0 v1 v3 v4 v7 v8 (ix2 a j)
      = (∑ k : Fin 2048, v1 (ix2 a k) * v0 (ix2 k j)) + (∑ k : Fin 640, v4 (ix2 a k) * v3 (ix2 k j))
        + ∑ k : Fin 128, v8 (ix2 a k) * v7 (ix2 k j) := by
  pointwise [k0_pay4]

theorem pay5_at (h : FVec Ideal S512x1024 .f32) (a : Fin 512) (z : Fin 1) :
    k0_pay5 (F := Ideal) h (ix2 a z) = rinv fun k => h (ix2 a k) := by
  unfold rinv meanSq width eps
  pointwise [k0_pay5]

theorem pay6_at (h : FVec Ideal S512x1024 .f32) (a : Fin 512) (j : Fin 1024) :
    k0_pay6 (F := Ideal) h (ix2 a j) = h (ix2 a j) * rinv fun k => h (ix2 a k) := by
  rw [← pay5_at h a 0]
  unfold k0_pay6
  generalize k0_pay5 (F := Ideal) h = y
  pointwise []

theorem pay2_at (u v : FVec Ideal S512x1024 .f32) (z : Fin 1) (j : Fin 1024) :
    k0_pay2 (F := Ideal) u v (ix2 z j) = ∑ a : Fin 512, u (ix2 a j) * v (ix2 a j) := by
  pointwise [k0_pay2]

theorem pay3_at (u v : FVec Ideal S512x1024 .f32) (s : FVec Ideal S1x1024 .f32) (z : Fin 1) (j : Fin 1024) :
    k0_pay3 (F := Ideal) u v s (ix2 z j) = s (ix2 z j) + ∑ a : Fin 512, u (ix2 a j) * v (ix2 a j) := by
  rw [← pay2_at u v z j]
  unfold k0_pay3
  generalize k0_pay2 (F := Ideal) u v = y
  pointwise []

/-- The gradient of the stream, with the residual's cotangent added. -/
theorem pay7_at (v0 : FVec Ideal S2048x1024 .bf16) (v1 : FVec Ideal S512x2048 .bf16) (v3 : FVec Ideal S640x1024 .bf16)
    (v4 : FVec Ideal S512x640 .bf16) (v7 : FVec Ideal S128x1024 .bf16) (v8 : FVec Ideal S512x128 .bf16) (h : FVec Ideal S512x1024 .f32) (w : FVec Ideal S1x1024 .f32)
    (d : FVec Ideal S512x1024 .f32) (a : Fin 512) (j : Fin 1024) :
    k0_pay1 (F := Ideal) (k0_pay7 (F := Ideal) v0 v1 v3 v4 v7 v8 h w) d (ix2 a j)
      = kdx (fun k => k0_pay4 (F := Ideal) v0 v1 v3 v4 v7 v8 (ix2 a k) * w (ix2 (0 : Fin 1) k)) (fun k => h (ix2 a k)) (d (ix2 a j)) j := by
  unfold kdx width
  simp only [← pay5_at h a 0]
  have h6 : ∀ k, h (ix2 a k) * k0_pay5 (F := Ideal) h (ix2 a 0) = k0_pay6 (F := Ideal) h (ix2 a k) := fun k => by
    rw [pay5_at, pay6_at]
  simp only [h6]
  unfold k0_pay1 k0_pay7
  generalize k0_pay4 (F := Ideal) v0 v1 v3 v4 v7 v8 = y
  generalize k0_pay6 (F := Ideal) h = x
  generalize k0_pay5 (F := Ideal) h = r
  pointwise []

end Cert.Kernel7Ideal.InPay

end
-- ==== Proof.InGrad.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Ix
public import Idealize.ShloMosaic.Lib.Pointwise
public import Idealize.ShloMosaic.Lib.Tactic
public import Idealize.ShloMosaic.Lib.IdealHost
public import Idealize.ShloMosaic.Lib.Pipeline.Value
public import Idealize.ShloMosaic.Lib.Claim
public import proofs.«01_k».proof.Proof.InBody
public import proofs.«01_k».proof.Proof.InPay

/-! The gradient of the norm before the input projection over the extended reals: the cotangents of the projection's three
groups of columns go back through their weights, then through the norm, and the residual's cotangent is added. The weight's
gradient is summed over 8 blocks of 512 rows, one after the other; it is the sum over all 4096 rows. -/

@[expose] public section

set_option maxRecDepth 16384

noncomputable section

namespace Cert.Kernel7Ideal.InGrad

open Idealize.ShloMosaic Idealize.ShloMosaic.TcCoe Idealize.ShloMosaic.Tactic
open Idealize.SL.Sem
open Cert.Ix (ext2 blk row)
open Idealize.ShloMosaic.Pipeline (Dat Cfg Window)
open Cert.Kernel7Ideal Cert.Kernel7Ideal.Gen Cert.NormRow Cert.Kernel7Ideal.InBody Cert.Kernel7Ideal.InPay

/-- A row of the transposed input projection among the first 2048. -/
def top (k : Fin 2048) : Fin 2728 := ⟨k.val, by have := k.isLt; omega⟩

/-- The cotangent of the norm's result: of the three groups of columns, times their transposed weights. -/
def dy (dm : FVec Ideal S4096x2048 .bf16) (da : FVec Ideal S4096x640 .bf16) (dg : FVec Ideal S4096x128 .bf16)
    (wi : FVec Ideal S2728x1024 .bf16) (wa : FVec Ideal S640x1024 .bf16) (wg : FVec Ideal S128x1024 .bf16) (i : S4096x1024.Idx) : EReal :=
  (∑ k : Fin 2048, dm (ix2 (i 0) k) * wi (ix2 (top k) (i 1))) + (∑ k : Fin 640, da (ix2 (i 0) k) * wa (ix2 k (i 1)))
    + ∑ k : Fin 128, dg (ix2 (i 0) k) * wg (ix2 k (i 1))

/-- The gradient of the residual stream, -/
def dx (dm : FVec Ideal S4096x2048 .bf16) (da : FVec Ideal S4096x640 .bf16) (dg : FVec Ideal S4096x128 .bf16)
    (wi : FVec Ideal S2728x1024 .bf16) (wa : FVec Ideal S640x1024 .bf16) (wg : FVec Ideal S128x1024 .bf16) (h : FVec Ideal S4096x1024 .f32)
    (w : FVec Ideal S1x1024 .f32) (d : FVec Ideal S4096x1024 .f32) (i : S4096x1024.Idx) : EReal :=
  kdx (fun k => dy dm da dg wi wa wg (ix2 (i 0) k) * w (ix2 (0 : Fin 1) k)) (fun k => h (ix2 (i 0) k)) (d i) (i 1)

/-- what one row adds to the gradient of the norm's weight, -/
def dwTerm (dm : FVec Ideal S4096x2048 .bf16) (da : FVec Ideal S4096x640 .bf16) (dg : FVec Ideal S4096x128 .bf16)
    (wi : FVec Ideal S2728x1024 .bf16) (wa : FVec Ideal S640x1024 .bf16) (wg : FVec Ideal S128x1024 .bf16) (h : FVec Ideal S4096x1024 .f32)
    (r : Fin 4096) (j : Fin 1024) : EReal :=
  dy dm da dg wi wa wg (ix2 r j) * (h (ix2 r j) * rinv fun k => h (ix2 r k))

/-- and that gradient. -/
def dw (dm : FVec Ideal S4096x2048 .bf16) (da : FVec Ideal S4096x640 .bf16) (dg : FVec Ideal S4096x128 .bf16)
    (wi : FVec Ideal S2728x1024 .bf16) (wa : FVec Ideal S640x1024 .bf16) (wg : FVec Ideal S128x1024 .bf16) (h : FVec Ideal S4096x1024 .f32)
    (i : S1x1024.Idx) : EReal :=
  ∑ r : Fin 4096, dwTerm dm da dg wi wa wg h r (i 1)

/-! ## The grid's blocks -/

variable (m : (ℓ : Loc nD τ sig) → Buf (Elt Ideal) ℓ) (ρ : Dev nD → PrngReg)

/-- The cotangent of the first 2048 columns of the projection, -/
def DM (c : Dev nD) : FVec Ideal S4096x2048 .bf16 := m ((c.tc : Thread nD τ).loc main_arg0)
/-- of the low-rank factors' columns, -/
def DA (c : Dev nD) : FVec Ideal S4096x640 .bf16 := m ((c.tc : Thread nD τ).loc main_arg1)
/-- and of the decays' columns; -/
def DG (c : Dev nD) : FVec Ideal S4096x128 .bf16 := m ((c.tc : Thread nD τ).loc main_arg2)
/-- the transposed input projection, -/
def WI (c : Dev nD) : FVec Ideal S2728x1024 .bf16 := m ((c.tc : Thread nD τ).loc main_arg3)
/-- the transposed weights of the second group, -/
def WA (c : Dev nD) : FVec Ideal S640x1024 .bf16 := m ((c.tc : Thread nD τ).loc main_arg4)
/-- and of the third; -/
def WG (c : Dev nD) : FVec Ideal S128x1024 .bf16 := m ((c.tc : Thread nD τ).loc main_arg5)
/-- the residual stream before the norm, -/
def HX (c : Dev nD) : FVec Ideal S4096x1024 .f32 := m ((c.tc : Thread nD τ).loc main_arg6)
/-- the norm's weight, -/
def NW (c : Dev nD) : FVec Ideal S1x1024 .f32 := m ((c.tc : Thread nD τ).loc main_arg7)
/-- and the cotangent of the stream after the layer. -/
def DH (c : Dev nD) : FVec Ideal S4096x1024 .f32 := m ((c.tc : Thread nD τ).loc main_arg8)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = 0 ∧ win0_10.index t 1 = 0 := by decide +kernel

theorem iblk0_apply (c : Dev nD) (t : Fin cfg0.N) (a : Fin 512) (b : Fin 2048) (r : Fin 4096) (hr : r.val = 512 * t.val + a.val) :
    (iblk m c 0 t : FVec Ideal S512x2048 .bf16) (ix2 a b) = DM m c (ix2 r b) :=
  congrArg (V m c main_arg0) (ext2 (blk (index0 t).1 (row hr)) (blk (index0 t).2 (by simp only [ix2]; omega)))

theorem iblk1_apply (c : Dev nD) (t : Fin cfg0.N) (a : Fin 512) (b : Fin 640) (r : Fin 4096) (hr : r.val = 512 * t.val + a.val) :
    (iblk m c 1 t : FVec Ideal S512x640 .bf16) (ix2 a b) = DA m c (ix2 r b) :=
  congrArg (V m c main_arg1) (ext2 (blk (index1 t).1 (row hr)) (blk (index1 t).2 (by simp only [ix2]; omega)))

theorem iblk2_apply (c : Dev nD) (t : Fin cfg0.N) (a : Fin 512) (b : Fin 128) (r : Fin 4096) (hr : r.val = 512 * t.val + a.val) :
    (iblk m c 2 t : FVec Ideal S512x128 .bf16) (ix2 a b) = DG m c (ix2 r b) :=
  congrArg (V m c main_arg2) (ext2 (blk (index2 t).1 (row hr)) (blk (index2 t).2 (by simp only [ix2]; omega)))

theorem iblk3_apply (c : Dev nD) (t : Fin cfg0.N) (a : Fin 2728) (b : Fin 1024) :
    (iblk m c 3 t : FVec Ideal S2728x1024 .bf16) (ix2 a b) = WI m c (ix2 a b) :=
  congrArg (V m c main_arg3) (ext2 (blk (index3 t).1 (by simp only [ix2]; omega)) (blk (index3 t).2 (by simp only [ix2]; omega)))

theorem iblk4_apply (c : Dev nD) (t : Fin cfg0.N) (a : Fin 640) (b : Fin 1024) :
    (iblk m c 4 t : FVec Ideal S640x1024 .bf16) (ix2 a b) = WA m c (ix2 a b) :=
  congrArg (V m c main_arg4) (ext2 (blk (index4 t).1 (by simp only [ix2]; omega)) (blk (index4 t).2 (by simp only [ix2]; omega)))

theorem iblk5_apply (c : Dev nD) (t : Fin cfg0.N) (a : Fin 128) (b : Fin 1024) :
    (iblk m c 5 t : FVec Ideal S128x1024 .bf16) (ix2 a b) = WG m c (ix2 a b) :=
  congrArg (V m c main_arg5) (ext2 (blk (index5 t).1 (by simp only [ix2]; omega)) (blk (index5 t).2 (by simp only [ix2]; omega)))

theorem iblk6_apply (c : Dev nD) (t : Fin cfg0.N) (a : Fin 512) (b : Fin 1024) (r : Fin 4096) (hr : r.val = 512 * t.val + a.val) :
    (iblk m c 6 t : FVec Ideal S512x1024 .f32) (ix2 a b) = HX m c (ix2 r b) :=
  congrArg (V m c main_arg6) (ext2 (blk (index6 t).1 (row hr)) (blk (index6 t).2 (by simp only [ix2]; omega)))

theorem iblk7_apply (c : Dev nD) (t : Fin cfg0.N) (a : Fin 1) (b : Fin 1024) :
    (iblk m c 7 t : FVec Ideal S1x1024 .f32) (ix2 a b) = NW m c (ix2 a b) :=
  congrArg (V m c main_arg7) (ext2 (blk (index7 t).1 (by simp only [ix2]; omega)) (blk (index7 t).2 (by simp only [ix2]; omega)))

theorem iblk8_apply (c : Dev nD) (t : Fin cfg0.N) (a : Fin 512) (b : Fin 1024) (r : Fin 4096) (hr : r.val = 512 * t.val + a.val) :
    (iblk m c 8 t : FVec Ideal S512x1024 .f32) (ix2 a b) = DH m c (ix2 r b) :=
  congrArg (V m c main_arg8) (ext2 (blk (index8 t).1 (row hr)) (blk (index8 t).2 (by simp only [ix2]; omega)))

theorem head_apply (x : FVec Ideal S2728x1024 .bf16) (k : Fin 2048) (j : Fin 1024) : head (F := Ideal) x (ix2 k j) = x (ix2 (top k) j) := by
  show x ((Rect.unit (s := S2728x1024) ![0, 0] S2048x1024.size inb_S2728x1024_S2048x1024_0_0).idx (ix2 k j)) = _
  congr 1
  exact ext2 (by show 0 + 1 * k.val = k.val; omega) (by show 0 + 1 * j.val = j.val; omega)

theorem dy_at (c : Dev nD) (t : Fin cfg0.N) (a : Fin 512) (j : Fin 1024) (r : Fin 4096) (hr : r.val = 512 * t.val + a.val) :
    dyB (F := Ideal) (iblk m c 0 t) (iblk m c 1 t) (iblk m c 2 t) (iblk m c 3 t) (iblk m c 4 t) (iblk m c 5 t) (ix2 a j)
      = dy (DM m c) (DA m c) (DG m c) (WI m c) (WA m c) (WG m c) (ix2 r j) := by
  refine (pay4_at _ _ _ _ _ _ a j).trans ?_
  unfold dy
  refine congrArg₂ (· + ·) (congrArg₂ (· + ·) (Finset.sum_congr rfl fun k _ => ?_) (Finset.sum_congr rfl fun k _ => ?_))
    (Finset.sum_congr rfl fun k _ => ?_)
  · exact congrArg₂ (· * ·) (iblk0_apply m c t a k r hr) ((head_apply _ k j).trans (iblk3_apply m c t (top k) j))
  · exact congrArg₂ (· * ·) (iblk1_apply m c t a k r hr) (iblk4_apply m c t k j)
  · exact congrArg₂ (· * ·) (iblk2_apply m c t a k r hr) (iblk5_apply m c t k j)

/-- What a point leaves at a row and a column of its block of the first result. -/
theorem dx_at (c : Dev nD) (t : Fin cfg0.N) (a : Fin 512) (j : Fin 1024) (r : Fin 4096) (hr : r.val = 512 * t.val + a.val) :
    dxB (F := Ideal) (iblk m c 0 t) (iblk m c 1 t) (iblk m c 2 t) (iblk m c 3 t) (iblk m c 4 t) (iblk m c 5 t)
        (iblk m c 6 t) (iblk m c 7 t) (iblk m c 8 t) (ix2 a j)
      = dx (DM m c) (DA m c) (DG m c) (WI m c) (WA m c) (WG m c) (HX m c) (NW m c) (DH m c) (ix2 r j) := by
  refine (pay7_at _ _ _ _ _ _ _ _ _ a j).trans ?_
  unfold dx
  have hp : (fun k => dyB (F := Ideal) (iblk m c 0 t) (iblk m c 1 t) (iblk m c 2 t) (iblk m c 3 t) (iblk m c 4 t) (iblk m c 5 t) (ix2 a k)
        * (iblk m c 7 t : FVec Ideal S1x1024 .f32) (ix2 (0 : Fin 1) k))
      = fun k : Fin 1024 => dy (DM m c) (DA m c) (DG m c) (WI m c) (WA m c) (WG m c) (ix2 r k) * NW m c (ix2 (0 : Fin 1) k) :=
    funext fun k => congrArg₂ (· * ·) (dy_at m c t a k r hr) (iblk7_apply m c t 0 k)
  have hh : (fun k => (iblk m c 6 t : FVec Ideal S512x1024 .f32) (ix2 a k)) = fun k : Fin 1024 => HX m c (ix2 r k) :=
    funext fun k => iblk6_apply m c t a k r hr
  have hd := iblk8_apply m c t a j r hr
  exact (congrFun (congrFun (congrArg₂ kdx hp hh) _) j).trans (congrArg (fun d => kdx _ _ d j) hd)

/-- What a row of a block adds to the second. -/
theorem dwTerm_at (c : Dev nD) (t : Fin cfg0.N) (a : Fin 512) (j : Fin 1024) (r : Fin 4096) (hr : r.val = 512 * t.val + a.val) :
    dyB (F := Ideal) (iblk m c 0 t) (iblk m c 1 t) (iblk m c 2 t) (iblk m c 3 t) (iblk m c 4 t) (iblk m c 5 t) (ix2 a j)
        * k0_pay6 (F := Ideal) (iblk m c 6 t) (ix2 a j)
      = dwTerm (DM m c) (DA m c) (DG m c) (WI m c) (WA m c) (WG m c) (HX m c) r j := by
  unfold dwTerm
  have hh : (fun k => (iblk m c 6 t : FVec Ideal S512x1024 .f32) (ix2 a k)) = fun k : Fin 1024 => HX m c (ix2 r k) :=
    funext fun k => iblk6_apply m c t a k r hr
  refine congrArg₂ (· * ·) (dy_at m c t a j r hr) ((pay6_at _ a j).trans ?_)
  exact congrArg₂ (· * ·) (iblk6_apply m c t a j r hr) (congrArg rinv hh)

/-- The term of a row, for any number. -/
def term (c : Dev nD) (j : Fin 1024) (r : ℕ) : EReal :=
  if h : r < 4096 then dwTerm (DM m c) (DA m c) (DG m c) (WI m c) (WA m c) (WG m c) (HX m c) ⟨r, h⟩ j else 0

theorem blockSum (c : Dev nD) (t : Fin cfg0.N) (j : Fin 1024) :
    ∑ a : Fin 512, (dyB (F := Ideal) (iblk m c 0 t) (iblk m c 1 t) (iblk m c 2 t) (iblk m c 3 t) (iblk m c 4 t) (iblk m c 5 t) (ix2 a j)
        * k0_pay6 (F := Ideal) (iblk m c 6 t) (ix2 a j))
      = ∑ a ∈ Finset.range 512, term m c j (512 * t.val + a) := by
  rw [← Fin.sum_univ_eq_sum_range (fun a => term m c j (512 * t.val + a)) 512]
  refine Finset.sum_congr rfl fun a _ => ?_
  have ht : t.val < 8 := lt_of_lt_of_eq t.isLt N_0
  have hlt : 512 * t.val + a.val < 4096 := by have := a.isLt; omega
  unfold term
  rw [dif_pos hlt]
  exact dwTerm_at m c t a j ⟨_, hlt⟩ rfl

/-! ## The points in order -/

theorem outs9 (c : Dev nD) (t : Fin cfg0.N) : (outsAt0 m c t.val t.isLt).1
    = dxB (F := Ideal) (iblk m c 0 t) (iblk m c 1 t) (iblk m c 2 t) (iblk m c 3 t) (iblk m c 4 t) (iblk m c 5 t)
        (iblk m c 6 t) (iblk m c 7 t) (iblk m c 8 t) := by
  have ht : t.val < 8 := lt_of_lt_of_eq t.isLt N_0
  by_cases h0 : t.val % 8 = 0
  · rw [outsAt0_A m c t h0 (by omega)]
    dsimp only
    rw [out_A_9]
  · rw [outsAt0_B m c t h0 (by omega)]
    dsimp only
    rw [out_B_9]

/-- After a point the second block holds the sum over all the rows of the blocks so far. -/
theorem outs10 (c : Dev nD) (z : Fin 1) (j : Fin 1024) : ∀ (n : ℕ) (h : n < cfg0.N),
    ((outsAt0 m c n h).2 : FVec Ideal S1x1024 .f32) (ix2 z j) = ∑ r ∈ Finset.range (512 * n + 512), term m c j r
  | 0, h => by
    have e : (outsAt0 m c 0 h).2 = _ := congrArg (fun x => x.2) (outsAt0_A m c ⟨0, h⟩ rfl (by show ¬1 ≤ 0; omega))
    rw [e]
    dsimp only
    rw [out_A_10]
    refine (pay2_at _ _ z j).trans ?_
    refine (blockSum m c ⟨0, h⟩ j).trans ?_
    simp
  | n + 1, h => by
    have hN : cfg0.N = 8 := N_0
    have e : (outsAt0 m c (n + 1) h).2 = _ :=
      congrArg (fun x => x.2) (outsAt0_B m c ⟨n + 1, h⟩ (by show ¬(n + 1) % 8 = 0; omega) (by show 1 ≤ n + 1; omega))
    rw [e]
    dsimp only
    rw [out_B_10]
    refine (pay3_at _ _ _ z j).trans ?_
    rw [show 512 * (n + 1) + 512 = (512 * n + 512) + 512 by ring, Finset.sum_range_add]
    exact congrArg₂ (· + ·) (outs10 c z j n (Nat.lt_of_succ_lt h)) (blockSum m c ⟨n + 1, h⟩ j)

/-! ## The whole arrays -/

theorem flushed9 (c : Dev nD) (t : Fin cfg0.N) (_hf : (cfg0.win 9).flush t = true) :
    (dats m 0 c).flushed 9 t = ((cfg0.win 9).blk t).view.read (Elt Ideal) (dx (DM m c) (DA m c) (DG m c) (WI m c) (WA m c) (WG m c) (HX m c) (NW m c) (DH m c)) := by
  have hi := index9 t
  have ht : t.val < 8 := lt_of_lt_of_eq t.isLt N_0
  rw [Value.flushed9, outs9]
  funext x
  rw [View.read_apply]
  obtain ⟨a, b, rfl⟩ : ∃ (a : Fin 512) (b : Fin 1024), x = ix2 a b := ⟨x 0, x 1, eq_ix2 x⟩
  have hlt : 512 * t.val + a.val < 4096 := by have := a.isLt; omega
  refine (dx_at m c t a b ⟨_, hlt⟩ rfl).trans (congrArg (dx (DM m c) (DA m c) (DG m c) (WI m c) (WA m c) (WG m c) (HX m c) (NW m c) (DH m c)) ?_)
  exact ext2 (by show 512 * t.val + a.val = win0_9.index t 0 * 512 + 1 * a.val; rw [hi.1]; omega) (by show b.val = win0_9.index t 1 * 1024 + 1 * b.val; rw [hi.2]; omega)

theorem final9 (c : Dev nD) : (dats m 0 c).arrAt 9 cfg0.N = dx (DM m c) (DA m c) (DG m c) (WI m c) (WA m c) (WG m c) (HX m c) (NW m c) (DH m c) :=
  (dats m 0 c).arrAt_eq_of_cover 9 (dx (DM m c) (DA m c) (DG m c) (WI m c) (WA m c) (WG m c) (HX m c) (NW m c) (DH m c)) (flushed9 m c) fun i => by
    have h0 : (i 0 : Nat) < 4096 := (i 0).isLt
    have h1 : (i 1 : Nat) < 1024 := (i 1).isLt
    have hlt : (i 0).val / 512 < cfg0.N := by rw [show cfg0.N = 8 from N_0]; omega
    have hi := index9 ⟨(i 0).val / 512, hlt⟩
    refine ⟨⟨(i 0).val / 512, hlt⟩, flush0_9 _, ?_⟩
    show i ∈ ((View.whole main_v0_0).slice (win0_9.rect ⟨(i 0).val / 512, hlt⟩)).set
    rw [View.set_slice_whole, Rect.mem_set_unit]
    dsimp only at hi
    intro a
    match a with
    | ⟨0, _⟩ =>
      show win0_9.index ⟨(i 0).val / 512, hlt⟩ 0 * 512 ≤ (i 0 : Nat)
        ∧ (i 0 : Nat) < win0_9.index ⟨(i 0).val / 512, hlt⟩ 0 * 512 + 512
      rw [hi.1]; omega
    | ⟨1, _⟩ =>
      show win0_9.index ⟨(i 0).val / 512, hlt⟩ 1 * 1024 ≤ (i 1 : Nat)
        ∧ (i 1 : Nat) < win0_9.index ⟨(i 0).val / 512, hlt⟩ 1 * 1024 + 1024
      rw [hi.2]; omega

theorem flushed10 (c : Dev nD) (t : Fin cfg0.N) (hf : (cfg0.win 10).flush t = true) :
    (dats m 0 c).flushed 10 t = ((cfg0.win 10).blk t).view.read (Elt Ideal) (dw (DM m c) (DA m c) (DG m c) (WI m c) (WA m c) (WG m c) (HX m c)) := by
  have hi := index10 t
  have ht : t.val < 8 := lt_of_lt_of_eq t.isLt N_0
  have h7 : t.val = 7 := by have := (flush0_10 t).mp hf; omega
  rw [Value.flushed10]
  funext x
  rw [View.read_apply]
  obtain ⟨z, j, rfl⟩ : ∃ (z : Fin 1) (j : Fin 1024), x = ix2 z j := ⟨x 0, x 1, eq_ix2 x⟩
  have hs : ∑ r ∈ Finset.range (512 * t.val + 512), term m c j r = dw (DM m c) (DA m c) (DG m c) (WI m c) (WA m c) (WG m c) (HX m c) (ix2 z j) := by
    rw [h7]
    unfold dw
    rw [← Fin.sum_univ_eq_sum_range (term m c j) 4096]
    refine Finset.sum_congr rfl fun r _ => ?_
    unfold term
    rw [dif_pos r.isLt]
    rfl
  refine ((outs10 m c z j t.val t.isLt).trans hs).trans (congrArg (dw (DM m c) (DA m c) (DG m c) (WI m c) (WA m c) (WG m c) (HX m c)) ?_)
  exact ext2 (by show z.val = win0_10.index t 0 * 1 + 1 * z.val; rw [hi.1]; omega) (by show j.val = win0_10.index t 1 * 1024 + 1 * j.val; rw [hi.2]; omega)

theorem final10 (c : Dev nD) : (dats m 0 c).arrAt 10 cfg0.N = dw (DM m c) (DA m c) (DG m c) (WI m c) (WA m c) (WG m c) (HX m c) :=
  (dats m 0 c).arrAt_eq_of_cover 10 (dw (DM m c) (DA m c) (DG m c) (WI m c) (WA m c) (WG m c) (HX m c)) (flushed10 m c) fun i => by
    have h0 : (i 0 : Nat) < 1 := (i 0).isLt
    have h1 : (i 1 : Nat) < 1024 := (i 1).isLt
    have hlt : 7 < cfg0.N := by rw [show cfg0.N = 8 from N_0]; omega
    have hi := index10 ⟨7, hlt⟩
    refine ⟨⟨7, hlt⟩, (flush0_10 _).mpr rfl, ?_⟩
    show i ∈ ((View.whole main_v0_1).slice (win0_10.rect ⟨7, hlt⟩)).set
    rw [View.set_slice_whole, Rect.mem_set_unit]
    intro a
    match a with
    | ⟨0, _⟩ =>
      show win0_10.index ⟨7, hlt⟩ 0 * 1 ≤ (i 0 : Nat) ∧ (i 0 : Nat) < win0_10.index ⟨7, hlt⟩ 0 * 1 + 1
      rw [hi.1]; omega
    | ⟨1, _⟩ =>
      show win0_10.index ⟨7, hlt⟩ 1 * 1024 ≤ (i 1 : Nat) ∧ (i 1 : Nat) < win0_10.index ⟨7, hlt⟩ 1 * 1024 + 1024
      rw [hi.2]; omega

/-- The kernel's run: its two results, and its arguments unchanged. -/
theorem run : θ_run defs (onTc (τ := τ) (main (F := Ideal))) ⟨m, fun _ => 0, ρ⟩ fun r => ∀ c : Dev nD,
      r.2.mem ((c.tc : Thread nD τ).loc main_v0_0) = dx (DM m c) (DA m c) (DG m c) (WI m c) (WA m c) (WG m c) (HX m c) (NW m c) (DH m c)
      ∧ r.2.mem ((c.tc : Thread nD τ).loc main_v0_1) = dw (DM m c) (DA m c) (DG m c) (WI m c) (WA m c) (WG m c) (HX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (final9 m c), (h c).2.1.trans (final10 m c), (h c).2.2⟩) (Value.run_blocks m ρ)

/-! ## The reference -/

open Cert.Reference7Ideal.Read

section
variable (dm : FVec Ideal S4096x2048 .bf16) (da : FVec Ideal S4096x640 .bf16) (dg : FVec Ideal S4096x128 .bf16)
    (wi : FVec Ideal S2728x1024 .bf16) (wa : FVec Ideal S640x1024 .bf16) (wg : FVec Ideal S128x1024 .bf16)
    (h : FVec Ideal S4096x1024 .f32) (w : FVec Ideal S1x1024 .f32) (d : FVec Ideal S4096x1024 .f32)

theorem ref32 (i : S4096x1024.Idx) : val_main_v32 (F := Ideal) dm da dg wi wa wg i = dy dm da dg wi wa wg i := by
  rw [val_main_v32_apply, val_main_v30_apply, val_main_v28_apply, val_main_v29_apply, val_main_v31_apply]
  refine (add_comm (_ : EReal) _).trans ((congrArg (_ + ·) (add_comm (_ : EReal) _)).trans ((add_assoc (_ : EReal) _ _).symm.trans ?_))
  unfold dy
  refine congrArg₂ (· + ·) (congrArg₂ (· + ·) (Finset.sum_congr rfl fun k _ => ?_) (Finset.sum_congr rfl fun k _ => ?_))
    (Finset.sum_congr rfl fun k _ => ?_)
  · rw [val_main_v25_apply, val_main_v17_apply, val_main_v16_apply, val_main_v15_apply]
    have e0 : lidx_main_v31 i k = ix2 (i 0) k := ext2 rfl rfl
    have e1 : idx_main_v15 (idx_main_v17 (ridx_main_v31 i k)) = ix2 (top k) (i 1) := ext2 rfl rfl
    rw [e0, e1]
    rfl
  · rw [val_main_v26_apply, val_main_v20_apply, val_main_v19_apply]
    have e0 : lidx_main_v29 i k = ix2 (i 0) k := ext2 rfl rfl
    have e1 : idx_main_v20 (ridx_main_v29 i k) = ix2 k (i 1) := ext2 rfl rfl
    rw [e0, e1]
    rfl
  · rw [val_main_v27_apply, val_main_v23_apply, val_main_v22_apply]
    have e0 : lidx_main_v28 i k = ix2 (i 0) k := ext2 rfl rfl
    have e1 : idx_main_v23 (ridx_main_v28 i k) = ix2 k (i 1) := ext2 rfl rfl
    rw [e0, e1]
    rfl

theorem ref6 (r : Fin 4096) (z : Fin 1) : val_main_v6 (F := Ideal) h (ix2 r z) = meanSq fun k => h (ix2 r k) := by
  rw [val_main_v6_apply, val_main_v4_apply, val_main_v2_apply, val_main_v1_apply, val_main_v3_apply, val_main_v5_apply,
    val_main_cst_apply, val_main_cst_0_apply, val_main_cst_1_apply]
  have hs : ∀ k : Fin 1024, val_main_v0 (F := Ideal) h (idx_main_v1 (idx_main_v2 (ix2 r z)) k) = h (ix2 r k) * h (ix2 r k) := fun k => by
    rw [val_main_v0_apply]
    have e : idx_main_v1 (idx_main_v2 (ix2 r z)) k = ix2 r k := ext2 rfl rfl
    rw [e]
    rfl
  simp only [hs]
  show Ideal.div (Ideal.ofBits .f32 0x00000000#32 + ∑ k : Fin 1024, h (ix2 r k) * h (ix2 r k)) width + eps = _
  rw [Ideal.ofBits_zero_f32, zero_add]
  rfl

theorem ref7 (r : Fin 4096) (z : Fin 1) : val_main_v7 (F := Ideal) h (ix2 r z) = rinv fun k => h (ix2 r k) := by
  rw [val_main_v7_apply, ref6]
  rfl

theorem ref10 (r : Fin 4096) (z : Fin 1) : val_main_v10 (F := Ideal) h (ix2 r z)
    = mhalf * Ideal.div (rinv fun k => h (ix2 r k)) (meanSq fun k => h (ix2 r k)) := by
  rw [val_main_v10_apply, val_main_v9_apply, val_main_cst_2_apply, val_main_v8_apply, ref6, ref7]
  rfl

theorem ref37 (r : Fin 4096) (j : Fin 1024) : val_main_v37 (F := Ideal) dm da dg wi wa wg w (ix2 r j)
    = dy dm da dg wi wa wg (ix2 r j) * w (ix2 (0 : Fin 1) j) := by
  rw [val_main_v37_apply, ref32, val_main_v36_apply]
  have e : idx_main_v36 (ix2 r j) = ix2 (0 : Fin 1) j := ext2 rfl rfl
  rw [e]
  rfl

theorem ref40 (r : Fin 4096) (z : Fin 1) : val_main_v40 (F := Ideal) dm da dg wi wa wg h w (ix2 r z)
    = ∑ k : Fin 1024, h (ix2 r k) * (dy dm da dg wi wa wg (ix2 r k) * w (ix2 (0 : Fin 1) k)) := by
  rw [val_main_v40_apply, val_main_v39_apply, val_main_cst_4_apply]
  have hs : ∀ k : Fin 1024, val_main_v38 (F := Ideal) dm da dg wi wa wg h w (idx_main_v39 (idx_main_v40 (ix2 r z)) k)
      = h (ix2 r k) * (dy dm da dg wi wa wg (ix2 r k) * w (ix2 (0 : Fin 1) k)) := fun k => by
    have e : idx_main_v39 (idx_main_v40 (ix2 r z)) k = ix2 r k := funext fun x => Fin.ext (by
      match x with
      | ⟨0, _⟩ => show r.val * 1 + z.val = r.val; have := z.isLt; omega
      | ⟨1, _⟩ => rfl)
    rw [e, val_main_v38_apply, ref37]
    rfl
  simp only [hs]
  show Ideal.ofBits .f32 0x00000000#32 + _ = _
  rw [Ideal.ofBits_zero_f32, zero_add]

theorem ref47 (r : Fin 4096) (j : Fin 1024) : val_main_v48 (F := Ideal) dm da dg wi wa wg h w (ix2 r j)
    = rcoef (fun k => dy dm da dg wi wa wg (ix2 r k) * w (ix2 (0 : Fin 1) k)) (fun k => h (ix2 r k)) := by
  rw [val_main_v48_apply, val_main_v47_apply, val_main_cst_6_apply, Fin.sum_univ_one]
  have e : idx_main_v47 (idx_main_v48 (ix2 r j)) 0 = ix2 r (0 : Fin 1) := ext2 rfl rfl
  rw [e, val_main_v46_apply, val_main_v44_apply, val_main_v45_apply, val_main_cst_5_apply, ref40, ref10]
  show Ideal.ofBits .f32 0x00000000#32 + _ = _
  rw [Ideal.ofBits_zero_f32, zero_add]
  rfl

theorem ref52 : val_main_v52 (F := Ideal) dm da dg wi wa wg h w d = dx dm da dg wi wa wg h w d := by
  funext i
  obtain ⟨r, j, rfl⟩ : ∃ (r : Fin 4096) (j : Fin 1024), i = ix2 r j := ⟨i 0, i 1, eq_ix2 i⟩
  refine Eq.trans ?_ (dx_eq (fun k => dy dm da dg wi wa wg (ix2 r k) * w (ix2 (0 : Fin 1) k)) (fun k => h (ix2 r k)) (d (ix2 r j)) j)
  rw [val_main_v52_apply, val_main_v50_apply, val_main_v43_apply, val_main_v42_apply, val_main_v49_apply, val_main_v51_apply,
    ref47, ref37, val_main_v41_apply]
  have e : idx_main_v41 (ix2 r j) = ix2 r (0 : Fin 1) := ext2 rfl rfl
  rw [e, ref7]
  rfl

theorem ref35 : val_main_v35 (F := Ideal) dm da dg wi wa wg h = dw dm da dg wi wa wg h := by
  funext i
  obtain ⟨z, j, rfl⟩ : ∃ (z : Fin 1) (j : Fin 1024), i = ix2 z j := ⟨i 0, i 1, eq_ix2 i⟩
  rw [val_main_v35_apply, val_main_v34_apply, val_main_cst_3_apply]
  show Ideal.ofBits .f32 0x00000000#32 + _ = _
  rw [Ideal.ofBits_zero_f32, zero_add]
  unfold dw
  refine Finset.sum_congr rfl fun r _ => ?_
  have e : idx_main_v34 (idx_main_v35 (ix2 z j)) r = ix2 r j := funext fun x => Fin.ext (by
    match x with
    | ⟨0, _⟩ => rfl
    | ⟨1, _⟩ => show z.val * 1024 + j.val = j.val; have : z.val < 1 := z.isLt; omega)
  rw [e, val_main_v33_apply, ref32, val_main_v12_apply, val_main_v11_apply]
  have e' : idx_main_v11 (ix2 r j) = ix2 r (0 : Fin 1) := ext2 rfl rfl
  rw [e', ref7]
  unfold dwTerm
  exact mul_comm (_ : EReal) _

end

end Cert.Kernel7Ideal.InGrad

end
-- ==== Proof.WGradA.lean ====
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Ix
public import Idealize.ShloMosaic.Lib.Pointwise
public import Idealize.ShloMosaic.Lib.Tactic
public import Idealize.ShloMosaic.Lib.Pipeline.Value
public import Idealize.ShloMosaic.Lib.Claim

/-! The gradient of the latents' part of the input projection, transposed, over the extended reals: the kernel's result and the
reference's are, at a row `j` and a column `n`, the sum over the 4096 tokens of the cotangent at `j` times the input at `n`. -/

@[expose] public section

set_option maxRecDepth 16384

noncomputable section

namespace Cert.Kernel8Ideal.WGradA

open Idealize.ShloMosaic Idealize.ShloMosaic.TcCoe Idealize.ShloMosaic.Tactic
open Idealize.SL.Sem
open Cert.Ix (ext2 blk row)
open Idealize.ShloMosaic.Pipeline (Dat Cfg Window)
open Cert.Kernel8Ideal Cert.Kernel8Ideal.Gen

/-- The gradient of the transposed weights, from the cotangent `a` of the product and its left side `ct`. -/
def grad (a : FVec Ideal S4096x640 .bf16) (ct : FVec Ideal S4096x1024 .bf16) (i : S640x1024.Idx) : EReal :=
  ∑ k : Fin 4096, a (ix2 k (i 0)) * ct (ix2 k (i 1))

/-! ## One block -/

theorem pay1_at (x : FVec Ideal S4096x640 .bf16) (y : FVec Ideal S4096x1024 .bf16) (j : Fin 640) (n : Fin 1024) :
    k0_pay1 (F := Ideal) x y (ix2 j n) = ∑ k : Fin 4096, x (ix2 k j) * y (ix2 k n) := by
  pointwise [k0_pay1]

theorem out2_eq (x : FVec Ideal S4096x640 .bf16) (y : FVec Ideal S4096x1024 .bf16) : out0_2 (F := Ideal) x y = k0_pay1 (F := Ideal) x y := by
  have hz2 : (![0, 0] : Fin S640x1024.rank → Nat) = fun _ => 0 := funext fun a => by fin_cases a <;> rfl
  have hz0 : (![0, 0] : Fin S4096x640.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz2, View.ld_unit_zero hz0, View.ld_unit_zero hz1]

/-! ## The grid's blocks -/

variable (m : (ℓ : Loc nD τ sig) → Buf (Elt Ideal) ℓ) (ρ : Dev nD → PrngReg)

/-- The cotangent of the product, -/
def A0 (c : Dev nD) : FVec Ideal S4096x640 .bf16 := m ((c.tc : Thread nD τ).loc main_arg0)
/-- and its left side. -/
def C0 (c : Dev nD) : FVec Ideal S4096x1024 .bf16 := m ((c.tc : Thread nD τ).loc main_arg1)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem iblk0_apply (c : Dev nD) (t : Fin cfg0.N) (a : Fin 4096) (b : Fin 640) (j : Fin 640) (hj : j.val = 640 * t.val + b.val) :
    (iblk m c 0 t : FVec Ideal S4096x640 .bf16) (ix2 a b) = A0 m c (ix2 a j) :=
  congrArg (V m c main_arg0) (ext2 (blk (index0 t).1 (by simp only [ix2]; omega)) (blk (index0 t).2 (row hj)))

theorem iblk1_apply (c : Dev nD) (t : Fin cfg0.N) (a : Fin 4096) (b : Fin 1024) :
    (iblk m c 1 t : FVec Ideal S4096x1024 .bf16) (ix2 a b) = C0 m c (ix2 a b) :=
  congrArg (V m c main_arg1) (ext2 (blk (index1 t).1 (by simp only [ix2]; omega)) (blk (index1 t).2 (by simp only [ix2]; omega)))

/-- What a point leaves at row `j` and column `n` of its block. -/
theorem block_at (c : Dev nD) (t : Fin cfg0.N) (j : Fin 640) (n : Fin 1024) (i : S640x1024.Idx)
    (h0 : (i 0).val = 640 * t.val + j.val) (h1 : (i 1).val = n.val) :
    k0_pay1 (F := Ideal) (iblk m c 0 t) (iblk m c 1 t) (ix2 j n) = grad (A0 m c) (C0 m c) i := by
  have hn : (i 1 : Fin 1024) = n := Fin.ext h1
  refine (pay1_at _ _ j n).trans ?_
  unfold grad
  refine Finset.sum_congr rfl fun k _ => ?_
  rw [hn]
  exact congrArg₂ (· * ·) (iblk0_apply m c t k j (i 0) h0) (iblk1_apply m c t k n)

theorem flushed2 (c : Dev nD) (t : Fin cfg0.N) (_hf : (cfg0.win 2).flush t = true) :
    (dats m 0 c).flushed 2 t = ((cfg0.win 2).blk t).view.read (Elt Ideal) (grad (A0 m c) (C0 m c)) := by
  have hi := index2 t
  rw [Value.flushed2, out2_eq]
  funext x
  rw [View.read_apply]
  have h0 : (x 0).val < 640 := (x 0).isLt
  have h1 : (x 1).val < 1024 := (x 1).isLt
  obtain ⟨j, n, rfl⟩ : ∃ (j : Fin 640) (n : Fin 1024), x = ix2 j n := ⟨x 0, x 1, eq_ix2 x⟩
  refine block_at m c t j n _ ?_ ?_
  · show win0_2.index t 0 * 640 + 1 * j.val = _
    rw [hi.1]; omega
  · show win0_2.index t 1 * 1024 + 1 * n.val = _
    rw [hi.2]; omega

theorem final2 (c : Dev nD) : (dats m 0 c).arrAt 2 cfg0.N = grad (A0 m c) (C0 m c) :=
  (dats m 0 c).arrAt_eq_of_cover 2 (grad (A0 m c) (C0 m c)) (flushed2 m c) fun i => by
    have h0 : (i 0 : Nat) < 640 := (i 0).isLt
    have h1 : (i 1 : Nat) < 1024 := (i 1).isLt
    have hlt : (i 0).val / 640 < cfg0.N := by rw [show cfg0.N = 1 from N_0]; omega
    have hi := index2 ⟨(i 0).val / 640, hlt⟩
    refine ⟨⟨(i 0).val / 640, hlt⟩, flush0_2 _, ?_⟩
    show i ∈ ((View.whole main_v0).slice (win0_2.rect ⟨(i 0).val / 640, hlt⟩)).set
    rw [View.set_slice_whole, Rect.mem_set_unit]
    dsimp only at hi
    intro a
    match a with
    | ⟨0, _⟩ =>
      show win0_2.index ⟨(i 0).val / 640, hlt⟩ 0 * 640 ≤ (i 0 : Nat) ∧ (i 0 : Nat) < win0_2.index ⟨(i 0).val / 640, hlt⟩ 0 * 640 + 640
      rw [hi.1]; omega
    | ⟨1, _⟩ =>
      show win0_2.index ⟨(i 0).val / 640, hlt⟩ 1 * 1024 ≤ (i 1 : Nat) ∧ (i 1 : Nat) < win0_2.index ⟨(i 0).val / 640, hlt⟩ 1 * 1024 + 1024
      rw [hi.2]; omega

/-- The kernel's run: its result, and its arguments unchanged. -/
theorem run : θ_run defs (onTc (τ := τ) (main (F := Ideal))) ⟨m, fun _ => 0, ρ⟩ fun r => ∀ c : Dev nD,
      r.2.mem ((c.tc : Thread nD τ).loc main_v0) = grad (A0 m c) (C0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩)
    (Value.run_blocks m ρ)

/-! ## The reference -/

open Cert.Reference8Ideal.Read in
theorem ref6 (a : FVec Ideal S4096x640 .bf16) (ct : FVec Ideal S4096x1024 .bf16) :
    val_main_v6 (F := Ideal) a ct = grad a ct := by
  funext i
  obtain ⟨j, n, rfl⟩ : ∃ (j : Fin 640) (n : Fin 1024), i = ix2 j n := ⟨i 0, i 1, eq_ix2 i⟩
  have e : idx_main_v5 (idx_main_v6 (ix2 j n)) = ix2 j n := ext2 rfl rfl
  rw [val_main_v6_apply, val_main_v5_apply, e, val_main_v4_apply]
  unfold grad
  refine Finset.sum_congr rfl fun k _ => ?_
  rw [val_main_v3_apply, val_main_v1_apply]
  have e0 : lidx_main_v4 (ix2 j n) k = ix2 k j := ext2 rfl rfl
  have e1 : ridx_main_v4 (ix2 j n) k = ix2 k n := ext2 rfl rfl
  rw [e0, e1]
  rfl

end Cert.Kernel8Ideal.WGradA

end
-- ==== Proof.LossBody.lean ====
module

public import proofs.«01_k».proof.Proof.Gen.Kernel9Ideal.Value
public import Idealize.ShloMosaic.Lib.Pointwise
public import Idealize.ShloMosaic.Lib.Tactic
public import Idealize.ShloMosaic.Lib.Pipeline.Value

/-! The last call of the forward, which also starts the backward: what the body leaves in its four output blocks, as its
payloads of the input blocks. Point 0 stores the block's loss and column sums, every later point adds them to what it finds. -/

@[expose] public section

set_option maxRecDepth 16384

noncomputable section

namespace Cert.Kernel9Ideal.LossBody

open Idealize.ShloMosaic Idealize.ShloMosaic.TcCoe Idealize.ShloMosaic.Tactic
open Idealize.SL.Sem
open Cert.Kernel9Ideal Cert.Kernel9Ideal.Gen

variable {F : FTy → Type} [FloatOps F]

theorem hz : (![0, 0] : Fin 2 → Nat) = fun _ => 0 := funext fun a => by fin_cases a <;> rfl

/-- The gradient of the stream in one block, -/
abbrev dhB (x0 : Vec F S512x2816 .bf16) (x1 : Vec F S2816x1024 .bf16) (x2 : Vec F S512x1024 .f32)
    (x3 : Vec F S512x1024 .f32) (x4 : Vec F S1x1024 .f32) : Vec F S512x1024 .f32 :=
  k0_pay1 (k0_pay8 x0 x1 x2) (k0_pay9 x0 x1 x2) (k0_pay13 x0 x1 x2 x4 x3 x4) (k0_pay14 x0 x1 x2 x4 x3 x4)

/-- and the same in the narrower type. -/
abbrev dhbB (x0 : Vec F S512x2816 .bf16) (x1 : Vec F S2816x1024 .bf16) (x2 : Vec F S512x1024 .f32)
    (x3 : Vec F S512x1024 .f32) (x4 : Vec F S1x1024 .f32) : Vec F S512x1024 .bf16 :=
  k0_pay2 (k0_pay8 x0 x1 x2) (k0_pay9 x0 x1 x2) (k0_pay13 x0 x1 x2 x4 x3 x4) (k0_pay14 x0 x1 x2 x4 x3 x4)

variable (c : Dev nD) (i : grid0.Coords) (arg1 : Memref sig .tc .vmem S512x2816 .bf16) (harg1 : arg1.IsWhole)
  (arg2 : Memref sig .tc .vmem S2816x1024 .bf16) (harg2 : arg2.IsWhole) (arg3 : Memref sig .tc .vmem S512x1024 .f32)
  (harg3 : arg3.IsWhole) (arg4 : Memref sig .tc .vmem S512x1024 .f32) (harg4 : arg4.IsWhole)
  (arg5 : Memref sig .tc .vmem S1x1024 .f32) (harg5 : arg5.IsWhole) (arg6 : Memref sig .tc .vmem S512x1024 .f32)
  (harg6 : arg6.IsWhole) (arg7 : Memref sig .tc .vmem S512x1024 .bf16) (harg7 : arg7.IsWhole)
  (arg8 : Memref sig .tc .vmem S1x128 .f32) (harg8 : arg8.IsWhole) (arg9 : Memref sig .tc .vmem S1x1024 .f32)
  (harg9 : arg9.IsWhole)

theorem out_A_5
    (hc0 : cond0_0 i) (hc1 : ¬cond0_1 i) (hc2 : cond0_2 i) (hc3 : ¬cond0_3 i)
    (x0 : Vec F S512x2816 .bf16) (x1 : Vec F S2816x1024 .bf16) (x2 : Vec F S512x1024 .f32) (x3 : Vec F S512x1024 .f32) (x4 : Vec F S1x1024 .f32) :
    out0_A_5 c i arg1 harg1 arg2 harg2 arg3 harg3 arg4 harg4 arg5 harg5 arg6 harg6 arg7 harg7 arg8 harg8 arg9 harg9 hc0 hc1 hc2 hc3 x0 x1 x2 x3 x4 = dhB x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 hc2 hc3 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S512x2816) hz, View.ld_unit_zero (S := S2816x1024) hz, View.ld_unit_zero (S := S512x1024) hz,
    View.ld_unit_zero (S := S1x1024) hz, View.ld_unit_zero (S := S1x128) hz]

theorem out_A_6
    (hc0 : cond0_0 i) (hc1 : ¬cond0_1 i) (hc2 : cond0_2 i) (hc3 : ¬cond0_3 i)
    (x0 : Vec F S512x2816 .bf16) (x1 : Vec F S2816x1024 .bf16) (x2 : Vec F S512x1024 .f32) (x3 : Vec F S512x1024 .f32) (x4 : Vec F S1x1024 .f32) :
    out0_A_6 c i arg1 harg1 arg2 harg2 arg3 harg3 arg4 harg4 arg5 harg5 arg6 harg6 arg7 harg7 arg8 harg8 arg9 harg9 hc0 hc1 hc2 hc3 x0 x1 x2 x3 x4 = dhbB x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 hc2 hc3 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S512x2816) hz, View.ld_unit_zero (S := S2816x1024) hz, View.ld_unit_zero (S := S512x1024) hz,
    View.ld_unit_zero (S := S1x1024) hz, View.ld_unit_zero (S := S1x128) hz]

theorem out_A_7
    (hc0 : cond0_0 i) (hc1 : ¬cond0_1 i) (hc2 : cond0_2 i) (hc3 : ¬cond0_3 i)
    (x0 : Vec F S512x2816 .bf16) (x1 : Vec F S2816x1024 .bf16) (x2 : Vec F S512x1024 .f32) (x3 : Vec F S512x1024 .f32) (x4 : Vec F S1x1024 .f32) :
    out0_A_7 c i arg1 harg1 arg2 harg2 arg3 harg3 arg4 harg4 arg5 harg5 arg6 harg6 arg7 harg7 arg8 harg8 arg9 harg9 hc0 hc1 hc2 hc3 x0 x1 x2 x3 x4 = k0_pay5 (k0_pay11 x0 x1 x2 x4 x3) := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 hc2 hc3 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S512x2816) hz, View.ld_unit_zero (S := S2816x1024) hz, View.ld_unit_zero (S := S512x1024) hz,
    View.ld_unit_zero (S := S1x1024) hz, View.ld_unit_zero (S := S1x128) hz]

theorem out_A_8
    (hc0 : cond0_0 i) (hc1 : ¬cond0_1 i) (hc2 : cond0_2 i) (hc3 : ¬cond0_3 i)
    (x0 : Vec F S512x2816 .bf16) (x1 : Vec F S2816x1024 .bf16) (x2 : Vec F S512x1024 .f32) (x3 : Vec F S512x1024 .f32) (x4 : Vec F S1x1024 .f32) :
    out0_A_8 c i arg1 harg1 arg2 harg2 arg3 harg3 arg4 harg4 arg5 harg5 arg6 harg6 arg7 harg7 arg8 harg8 arg9 harg9 hc0 hc1 hc2 hc3 x0 x1 x2 x3 x4 = k0_pay3 (k0_pay9 x0 x1 x2) (k0_pay12 x0 x1 x2 x4 x3) := by
  unfold out0_A_8
  rw [View.read_writes_eq_canon _ _ _ (cover0_A_8 c i arg1 harg1 arg2 harg2 arg3 harg3 arg4 harg4 arg5 harg5 arg6 harg6 arg7 harg7 arg8 harg8 arg9 harg9 hc0 hc1 hc2 hc3 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S512x2816) hz, View.ld_unit_zero (S := S2816x1024) hz, View.ld_unit_zero (S := S512x1024) hz,
    View.ld_unit_zero (S := S1x1024) hz, View.ld_unit_zero (S := S1x128) hz]

theorem out_B_5
    (hc0 : ¬cond0_0 i) (hc1 : cond0_1 i) (hc2 : ¬cond0_2 i) (hc3 : cond0_3 i)
    (x0 : Vec F S512x2816 .bf16) (x1 : Vec F S2816x1024 .bf16) (x2 : Vec F S512x1024 .f32) (x3 : Vec F S512x1024 .f32) (x4 : Vec F S1x1024 .f32) (xo7 : Vec F S1x128 .f32) (xo8 : Vec F S1x1024 .f32) :
    out0_B_5 c i arg1 harg1 arg2 harg2 arg3 harg3 arg4 harg4 arg5 harg5 arg6 harg6 arg7 harg7 arg8 harg8 arg9 harg9 hc0 hc1 hc2 hc3 x0 x1 x2 x3 x4 xo7 xo8 = dhB x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 hc2 hc3 x0 x1 x2 x3 x4 xo7 xo8)]
  unfold kernelRun0_B
  dsimp only
  sl_unfold_words
  rw [View.canon_unit_zero hz]
  simp only [View.readAt_eq_ld, harg1.read_unread, harg2.read_unread, harg3.read_unread, harg4.read_unread, harg5.read_unread,
    View.ld_unit_zero (S := S512x2816) hz, View.ld_unit_zero (S := S2816x1024) hz, View.ld_unit_zero (S := S512x1024) hz,
    View.ld_unit_zero (S := S1x1024) hz, View.ld_unit_zero (S := S1x128) hz]

theorem out_B_6
    (hc0 : ¬cond0_0 i) (hc1 : cond0_1 i) (hc2 : ¬cond0_2 i) (hc3 : cond0_3 i)
    (x0 : Vec F S512x2816 .bf16) (x1 : Vec F S2816x1024 .bf16) (x2 : Vec F S512x1024 .f32) (x3 : Vec F S512x1024 .f32) (x4 : Vec F S1x1024 .f32) (xo7 : Vec F S1x128 .f32) (xo8 : Vec F S1x1024 .f32) :
    out0_B_6 c i arg1 harg1 arg2 harg2 arg3 harg3 arg4 harg4 arg5 harg5 arg6 harg6 arg7 harg7 arg8 harg8 arg9 harg9 hc0 hc1 hc2 hc3 x0 x1 x2 x3 x4 xo7 xo8 = dhbB x0 x1 x2 x3 x4 := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 hc2 hc3 x0 x1 x2 x3 x4 xo7 xo8)]
  unfold kernelRun0_B
  dsimp only
  sl_unfold_words
  rw [View.canon_unit_zero hz]
  simp only [View.readAt_eq_ld, harg1.read_unread, harg2.read_unread, harg3.read_unread, harg4.read_unread, harg5.read_unread,
    View.ld_unit_zero (S := S512x2816) hz, View.ld_unit_zero (S := S2816x1024) hz, View.ld_unit_zero (S := S512x1024) hz,
    View.ld_unit_zero (S := S1x1024) hz, View.ld_unit_zero (S := S1x128) hz]

theorem out_B_7
    (hc0 : ¬cond0_0 i) (hc1 : cond0_1 i) (hc2 : ¬cond0_2 i) (hc3 : cond0_3 i)
    (x0 : Vec F S512x2816 .bf16) (x1 : Vec F S2816x1024 .bf16) (x2 : Vec F S512x1024 .f32) (x3 : Vec F S512x1024 .f32) (x4 : Vec F S1x1024 .f32) (xo7 : Vec F S1x128 .f32) (xo8 : Vec F S1x1024 .f32) :
    out0_B_7 c i arg1 harg1 arg2 harg2 arg3 harg3 arg4 harg4 arg5 harg5 arg6 harg6 arg7 harg7 arg8 harg8 arg9 harg9 hc0 hc1 hc2 hc3 x0 x1 x2 x3 x4 xo7 xo8 = k0_pay6 (k0_pay11 x0 x1 x2 x4 x3) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 hc2 hc3 x0 x1 x2 x3 x4 xo7 xo8)]
  unfold kernelRun0_B
  dsimp only
  sl_unfold_words
  rw [View.canon_unit_zero hz]
  simp only [View.readAt_eq_ld, harg1.read_unread, harg2.read_unread, harg3.read_unread, harg4.read_unread, harg5.read_unread, harg8.read_unread,
    View.ld_unit_zero (S := S512x2816) hz, View.ld_unit_zero (S := S2816x1024) hz, View.ld_unit_zero (S := S512x1024) hz,
    View.ld_unit_zero (S := S1x1024) hz, View.ld_unit_zero (S := S1x128) hz]

theorem out_B_8
    (hc0 : ¬cond0_0 i) (hc1 : cond0_1 i) (hc2 : ¬cond0_2 i) (hc3 : cond0_3 i)
    (x0 : Vec F S512x2816 .bf16) (x1 : Vec F S2816x1024 .bf16) (x2 : Vec F S512x1024 .f32) (x3 : Vec F S512x1024 .f32) (x4 : Vec F S1x1024 .f32) (xo7 : Vec F S1x128 .f32) (xo8 : Vec F S1x1024 .f32) :
    out0_B_8 c i arg1 harg1 arg2 harg2 arg3 harg3 arg4 harg4 arg5 harg5 arg6 harg6 arg7 harg7 arg8 harg8 arg9 harg9 hc0 hc1 hc2 hc3 x0 x1 x2 x3 x4 xo7 xo8 = k0_pay4 (k0_pay9 x0 x1 x2) (k0_pay12 x0 x1 x2 x4 x3) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 hc1 hc2 hc3 x0 x1 x2 x3 x4 xo7 xo8)]
  unfold kernelRun0_B
  dsimp only
  sl_unfold_words
  rw [View.canon_unit_zero hz]
  simp only [View.readAt_eq_ld, harg1.read_unread, harg2.read_unread, harg3.read_unread, harg4.read_unread, harg5.read_unread, harg9.read_unread,
    View.ld_unit_zero (S := S512x2816) hz, View.ld_unit_zero (S := S2816x1024) hz, View.ld_unit_zero (S := S512x1024) hz,
    View.ld_unit_zero (S := S1x1024) hz, View.ld_unit_zero (S := S1x128) hz]

end Cert.Kernel9Ideal.LossBody

end
-- ==== Proof.LossRow.lean ====
module

public import proofs.«01_k».proof.Proof.NormRow

/-! The training loss and its gradient on one row of 1024 extended reals: the row is normed, the target is taken off, and half
the mean of the squares is the row's part of the loss. The kernel and the reference differ in where the constant factors
stand. -/

@[expose] public section

set_option maxRecDepth 16384

noncomputable section

namespace Cert.LossRow

open Idealize.ShloMosaic Cert.NormRow

/-- One half, -/
def half : EReal := Ideal.ofBits .f32 0x3F000000#32
/-- one over the width, -/
def inv : EReal := Ideal.ofBits .f32 0x3A800000#32
/-- one -/
def one : EReal := Ideal.ofBits .f32 0x3F800000#32
/-- and two. -/
def two : EReal := Ideal.ofBits .f32 0x40000000#32

theorem half_eq : half = ((1 / 2 : ℝ) : EReal) := by
  unfold half
  simp [Ideal.ofBits, Ideal.ieee, -EReal.coe_mul]
  norm_num

theorem inv_eq : inv = ((1 / 1024 : ℝ) : EReal) := by
  unfold inv
  simp [Ideal.ofBits, Ideal.ieee, -EReal.coe_mul]
  norm_num

theorem one_eq : one = ((1 : ℝ) : EReal) := by
  unfold one
  simp [Ideal.ofBits, Ideal.ieee, -EReal.coe_mul]
  norm_num

theorem two_eq : two = ((2 : ℝ) : EReal) := by
  unfold two
  simp [Ideal.ofBits, Ideal.ieee, -EReal.coe_mul]
  norm_num

/-- The normed row less the target; `w` is the norm's weight, `t` the target's row, `h` the stream's. -/
def err (w t h : Fin 1024 → EReal) (j : Fin 1024) : EReal := h j * rinv h * w j - t j

/-- The cotangent of the normed row, -/
def cot (w t h : Fin 1024 → EReal) (j : Fin 1024) : EReal := err w t h j * inv

/-- the same before the norm's weight, -/
def pre (w t h : Fin 1024 → EReal) (j : Fin 1024) : EReal := cot w t h j * w j

/-- the gradient of the stream, -/
def dh (w t h : Fin 1024 → EReal) (j : Fin 1024) : EReal :=
  rinv h * (pre w t h j - h j * rinv h * Ideal.div (∑ k, pre w t h k * (h k * rinv h)) width)

/-- and the row's part of the loss. -/
def loss (w t h : Fin 1024 → EReal) : EReal := half * inv * ∑ k, err w t h k * err w t h k

/-- The reference's cotangent. -/
theorem cot_eq (e : EReal) : Ideal.div (half * one) width * (two * e) = e * inv := by
  rw [div_width, half_eq, one_eq, two_eq, inv_eq, mul_comm e, ← mul_assoc, ← EReal.coe_mul, ← EReal.coe_mul, ← EReal.coe_mul]
  norm_num

/-- The reference's gradient of the stream. -/
theorem dh_eq (w t h : Fin 1024 → EReal) (j : Fin 1024) :
    pre w t h j * rinv h + h j * rcoef (pre w t h) h + rcoef (pre w t h) h * h j = dh w t h j := by
  have e := dx_eq (pre w t h) h 0 j
  unfold rdx kdx at e
  rw [zero_add, add_zero] at e
  exact e

/-- The two factors of the loss go into its sum: as the kernel applies them to a block, -/
theorem block_eq {ι : Type*} (s : Finset ι) (f : ι → EReal) : half * (∑ k ∈ s, f k) * inv = ∑ k ∈ s, half * inv * f k := by
  rw [mul_assoc, mul_comm (∑ k ∈ s, f k), ← mul_assoc, half_eq, inv_eq, ← EReal.coe_mul]
  exact mul_sum_coe s _ (by norm_num) f

/-- and as the reference does. -/
theorem mean_eq {ι : Type*} (s : Finset ι) (f : ι → EReal) :
    half * (∑ k ∈ s, Ideal.div (f k) width) = ∑ k ∈ s, half * inv * f k := by
  rw [half_eq, mul_sum_coe s _ (by norm_num)]
  refine Finset.sum_congr rfl fun k _ => ?_
  rw [div_width, inv_eq, mul_comm (f k), mul_assoc]

end Cert.LossRow

end
-- ==== Proof.LossPay.lean ====
module

public import proofs.«01_k».proof.Proof.Gen.Kernel9Ideal.Skeleton
public import Idealize.ShloMosaic.Lib.Pointwise
public import Idealize.ShloMosaic.Lib.Tactic
public import Idealize.ShloMosaic.Lib.IdealHost
public import proofs.«01_k».proof.Proof.LossRow

/-! The payloads of the last call of the forward, which also starts the backward, at a row and a column of one block, over the
extended reals. -/

@[expose] public section

set_option maxRecDepth 16384

noncomputable section

namespace Cert.Kernel9Ideal.LossPay

open Idealize.ShloMosaic Idealize.ShloMosaic.TcCoe Idealize.ShloMosaic.Tactic
open Cert.Kernel9Ideal Cert.Kernel9Ideal.Gen
open Cert.NormRow Cert.LossRow

theorem pay7_at (v0 : FVec Ideal S512x2816 .bf16) (v1 : FVec Ideal S2816x1024 .bf16) (v3 : FVec Ideal S512x1024 .f32) (a : Fin 512) (j : Fin 1024) :
    k0_pay7 (F := Ideal) v0 v1 v3 (ix2 a j) = (∑ k : Fin 2816, v0 (ix2 a k) * v1 (ix2 k j)) + v3 (ix2 a j) := by
  pointwise [k0_pay7]

theorem pay8_at (v0 : FVec Ideal S512x2816 .bf16) (v1 : FVec Ideal S2816x1024 .bf16) (v3 : FVec Ideal S512x1024 .f32) (a : Fin 512) (z : Fin 1) :
    k0_pay8 (F := Ideal) v0 v1 v3 (ix2 a z) = rinv (fun k => k0_pay7 (F := Ideal) v0 v1 v3 (ix2 a k)) := by
  unfold rinv meanSq width eps k0_pay8
  generalize k0_pay7 (F := Ideal) v0 v1 v3 = h
  pointwise []

theorem pay9_at (v0 : FVec Ideal S512x2816 .bf16) (v1 : FVec Ideal S2816x1024 .bf16) (v3 : FVec Ideal S512x1024 .f32) (a : Fin 512) (j : Fin 1024) :
    k0_pay9 (F := Ideal) v0 v1 v3 (ix2 a j)
      = k0_pay7 (F := Ideal) v0 v1 v3 (ix2 a j) * rinv (fun k => k0_pay7 (F := Ideal) v0 v1 v3 (ix2 a k)) := by
  rw [← pay8_at v0 v1 v3 a 0]
  unfold k0_pay9
  generalize k0_pay8 (F := Ideal) v0 v1 v3 = y
  generalize k0_pay7 (F := Ideal) v0 v1 v3 = h
  pointwise []

theorem pay10_at (v0 : FVec Ideal S512x2816 .bf16) (v1 : FVec Ideal S2816x1024 .bf16) (v3 : FVec Ideal S512x1024 .f32)
    (w : FVec Ideal S1x1024 .f32) (t : FVec Ideal S512x1024 .f32) (a : Fin 512) (j : Fin 1024) :
    k0_pay10 (F := Ideal) v0 v1 v3 w t (ix2 a j)
      = err (fun k => w (ix2 (0 : Fin 1) k)) (fun k => t (ix2 a k)) (fun k => k0_pay7 (F := Ideal) v0 v1 v3 (ix2 a k)) j := by
  unfold err
  rw [← pay9_at v0 v1 v3 a j]
  unfold k0_pay10
  generalize k0_pay9 (F := Ideal) v0 v1 v3 = x
  pointwise []

theorem pay12_at (v0 : FVec Ideal S512x2816 .bf16) (v1 : FVec Ideal S2816x1024 .bf16) (v3 : FVec Ideal S512x1024 .f32)
    (w : FVec Ideal S1x1024 .f32) (t : FVec Ideal S512x1024 .f32) (a : Fin 512) (j : Fin 1024) :
    k0_pay12 (F := Ideal) v0 v1 v3 w t (ix2 a j)
      = cot (fun k => w (ix2 (0 : Fin 1) k)) (fun k => t (ix2 a k)) (fun k => k0_pay7 (F := Ideal) v0 v1 v3 (ix2 a k)) j := by
  unfold cot LossRow.inv
  rw [← pay10_at v0 v1 v3 w t a j]
  unfold k0_pay12
  generalize k0_pay10 (F := Ideal) v0 v1 v3 w t = x
  pointwise []

theorem pay13_at (v0 : FVec Ideal S512x2816 .bf16) (v1 : FVec Ideal S2816x1024 .bf16) (v3 : FVec Ideal S512x1024 .f32)
    (w : FVec Ideal S1x1024 .f32) (t : FVec Ideal S512x1024 .f32) (a : Fin 512) (j : Fin 1024) :
    k0_pay13 (F := Ideal) v0 v1 v3 w t w (ix2 a j)
      = pre (fun k => w (ix2 (0 : Fin 1) k)) (fun k => t (ix2 a k)) (fun k => k0_pay7 (F := Ideal) v0 v1 v3 (ix2 a k)) j := by
  unfold pre
  rw [← pay12_at v0 v1 v3 w t a j]
  unfold k0_pay13
  generalize k0_pay12 (F := Ideal) v0 v1 v3 w t = x
  pointwise []

/-- A block's part of the loss. -/
theorem pay11_at (v0 : FVec Ideal S512x2816 .bf16) (v1 : FVec Ideal S2816x1024 .bf16) (v3 : FVec Ideal S512x1024 .f32)
    (w : FVec Ideal S1x1024 .f32) (t : FVec Ideal S512x1024 .f32) (z z' : Fin 1) :
    k0_pay11 (F := Ideal) v0 v1 v3 w t (ix2 z z')
      = ∑ a : Fin 512, loss (fun k => w (ix2 (0 : Fin 1) k)) (fun k => t (ix2 a k)) (fun k => k0_pay7 (F := Ideal) v0 v1 v3 (ix2 a k)) := by
  unfold loss
  rw [← block_eq]
  simp only [← pay10_at v0 v1 v3 w t]
  unfold half LossRow.inv k0_pay11
  generalize k0_pay10 (F := Ideal) v0 v1 v3 w t = x
  pointwise []

theorem pay5_at (v : FVec Ideal S1x1 .f32) (z : Fin 1) (j : Fin 128) :
    k0_pay5 (F := Ideal) v (ix2 z j) = v (ix2 (0 : Fin 1) (0 : Fin 1)) := by
  pointwise [k0_pay5]

theorem pay6_at (v : FVec Ideal S1x1 .f32) (s : FVec Ideal S1x128 .f32) (z : Fin 1) (j : Fin 128) :
    k0_pay6 (F := Ideal) v s (ix2 z j) = s (ix2 z j) + v (ix2 (0 : Fin 1) (0 : Fin 1)) := by
  rw [← pay5_at v z j]
  unfold k0_pay6
  generalize k0_pay5 (F := Ideal) v = y
  pointwise []

theorem pay3_at (u v : FVec Ideal S512x1024 .f32) (z : Fin 1) (j : Fin 1024) :
    k0_pay3 (F := Ideal) u v (ix2 z j) = ∑ a : Fin 512, v (ix2 a j) * u (ix2 a j) := by
  pointwise [k0_pay3]

theorem pay4_at (u v : FVec Ideal S512x1024 .f32) (s : FVec Ideal S1x1024 .f32) (z : Fin 1) (j : Fin 1024) :
    k0_pay4 (F := Ideal) u v s (ix2 z j) = s (ix2 z j) + ∑ a : Fin 512, v (ix2 a j) * u (ix2 a j) := by
  rw [← pay3_at u v z j]
  unfold k0_pay4
  generalize k0_pay3 (F := Ideal) u v = y
  pointwise []

theorem pay14_at (v0 : FVec Ideal S512x2816 .bf16) (v1 : FVec Ideal S2816x1024 .bf16) (v3 : FVec Ideal S512x1024 .f32)
    (w : FVec Ideal S1x1024 .f32) (t : FVec Ideal S512x1024 .f32) (a : Fin 512) (z : Fin 1) :
    k0_pay14 (F := Ideal) v0 v1 v3 w t w (ix2 a z)
      = ∑ k : Fin 1024, k0_pay13 (F := Ideal) v0 v1 v3 w t w (ix2 a k) * k0_pay9 (F := Ideal) v0 v1 v3 (ix2 a k) := by
  unfold k0_pay14
  generalize k0_pay13 (F := Ideal) v0 v1 v3 w t w = x
  generalize k0_pay9 (F := Ideal) v0 v1 v3 = y
  pointwise []

theorem pay1_at (r : FVec Ideal S512x1 .f32) (x p : FVec Ideal S512x1024 .f32) (q : FVec Ideal S512x1 .f32) (a : Fin 512) (j : Fin 1024) :
    k0_pay1 (F := Ideal) r x p q (ix2 a j)
      = r (ix2 a (0 : Fin 1)) * (p (ix2 a j) - x (ix2 a j) * Ideal.div (q (ix2 a (0 : Fin 1))) width) := by
  unfold width
  pointwise [k0_pay1]

theorem pay2_at (r : FVec Ideal S512x1 .f32) (x p : FVec Ideal S512x1024 .f32) (q : FVec Ideal S512x1 .f32) (a : Fin 512) (j : Fin 1024) :
    k0_pay2 (F := Ideal) r x p q (ix2 a j) = k0_pay1 (F := Ideal) r x p q (ix2 a j) := by
  unfold k0_pay2
  generalize k0_pay1 (F := Ideal) r x p q = y
  pointwise []

/-- The gradient of the stream. -/
theorem dh_at (v0 : FVec Ideal S512x2816 .bf16) (v1 : FVec Ideal S2816x1024 .bf16) (v3 : FVec Ideal S512x1024 .f32)
    (w : FVec Ideal S1x1024 .f32) (t : FVec Ideal S512x1024 .f32) (a : Fin 512) (j : Fin 1024) :
    k0_pay1 (F := Ideal) (k0_pay8 (F := Ideal) v0 v1 v3) (k0_pay9 (F := Ideal) v0 v1 v3) (k0_pay13 (F := Ideal) v0 v1 v3 w t w)
        (k0_pay14 (F := Ideal) v0 v1 v3 w t w) (ix2 a j)
      = dh (fun k => w (ix2 (0 : Fin 1) k)) (fun k => t (ix2 a k)) (fun k => k0_pay7 (F := Ideal) v0 v1 v3 (ix2 a k)) j := by
  rw [pay1_at, pay14_at, pay8_at, pay9_at, pay13_at]
  simp only [pay13_at, pay9_at]
  rfl

end Cert.Kernel9Ideal.LossPay

end
-- ==== Proof.LossGrad.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Ix
public import Idealize.ShloMosaic.Lib.Pointwise
public import Idealize.ShloMosaic.Lib.Tactic
public import Idealize.ShloMosaic.Lib.IdealHost
public import Idealize.ShloMosaic.Lib.Pipeline.Value
public import Idealize.ShloMosaic.Lib.Claim
public import proofs.«01_k».proof.Proof.LossBody
public import proofs.«01_k».proof.Proof.LossPay

/-! The last call of the forward, which also starts the backward, over the extended reals: the down projection is added to the
stream, the stream is normed and compared with the target. The loss and the weight's gradient are summed over 8 blocks of 512
rows, one after the other; they are the sums over all 4096 rows. -/

@[expose] public section

set_option maxRecDepth 16384

noncomputable section

namespace Cert.Kernel9Ideal.LossGrad

open Idealize.ShloMosaic Idealize.ShloMosaic.TcCoe Idealize.ShloMosaic.Tactic
open Idealize.SL.Sem
open Cert.Ix (ext2 blk row)
open Idealize.ShloMosaic.Pipeline (Dat Cfg Window)
open Cert.Kernel9Ideal Cert.Kernel9Ideal.Gen Cert.NormRow Cert.LossRow Cert.Kernel9Ideal.LossBody Cert.Kernel9Ideal.LossPay

/-- The stream after the layer. -/
def stream (a : FVec Ideal S4096x2816 .bf16) (wd : FVec Ideal S2816x1024 .bf16) (h : FVec Ideal S4096x1024 .f32) (i : S4096x1024.Idx) : EReal :=
  (∑ k : Fin 2816, a (ix2 (i 0) k) * wd (ix2 k (i 1))) + h i

/-- A row of the stream, -/
def hrow (a : FVec Ideal S4096x2816 .bf16) (wd : FVec Ideal S2816x1024 .bf16) (h : FVec Ideal S4096x1024 .f32) (r : Fin 4096) (k : Fin 1024) : EReal :=
  stream a wd h (ix2 r k)

/-- of the target, -/
def trow (t : FVec Ideal S4096x1024 .f32) (r : Fin 4096) (k : Fin 1024) : EReal := t (ix2 r k)

/-- and the norm's weight. -/
def wrow (w : FVec Ideal S1x1024 .f32) (k : Fin 1024) : EReal := w (ix2 (0 : Fin 1) k)

/-- The gradient of the stream, -/
def grad (a : FVec Ideal S4096x2816 .bf16) (wd : FVec Ideal S2816x1024 .bf16) (h : FVec Ideal S4096x1024 .f32)
    (t : FVec Ideal S4096x1024 .f32) (w : FVec Ideal S1x1024 .f32) (i : S4096x1024.Idx) : EReal :=
  dh (wrow w) (trow t (i 0)) (hrow a wd h (i 0)) (i 1)

/-- the loss, at every lane of its vector, -/
def total (a : FVec Ideal S4096x2816 .bf16) (wd : FVec Ideal S2816x1024 .bf16) (h : FVec Ideal S4096x1024 .f32)
    (t : FVec Ideal S4096x1024 .f32) (w : FVec Ideal S1x1024 .f32) (_ : S1x128.Idx) : EReal :=
  ∑ r : Fin 4096, loss (wrow w) (trow t r) (hrow a wd h r)

/-- what one row adds to the gradient of the norm's weight, -/
def dwTerm (a : FVec Ideal S4096x2816 .bf16) (wd : FVec Ideal S2816x1024 .bf16) (h : FVec Ideal S4096x1024 .f32)
    (t : FVec Ideal S4096x1024 .f32) (w : FVec Ideal S1x1024 .f32) (r : Fin 4096) (j : Fin 1024) : EReal :=
  cot (wrow w) (trow t r) (hrow a wd h r) j * (hrow a wd h r j * rinv (hrow a wd h r))

/-- and that gradient. -/
def dw (a : FVec Ideal S4096x2816 .bf16) (wd : FVec Ideal S2816x1024 .bf16) (h : FVec Ideal S4096x1024 .f32)
    (t : FVec Ideal S4096x1024 .f32) (w : FVec Ideal S1x1024 .f32) (i : S1x1024.Idx) : EReal :=
  ∑ r : Fin 4096, dwTerm a wd h t w r (i 1)

/-! ## The grid's blocks -/

variable (m : (ℓ : Loc nD τ sig) → Buf (Elt Ideal) ℓ) (ρ : Dev nD → PrngReg)

/-- The gated product, -/
def AC (c : Dev nD) : FVec Ideal S4096x2816 .bf16 := m ((c.tc : Thread nD τ).loc main_arg0)
/-- the down projection, -/
def WD (c : Dev nD) : FVec Ideal S2816x1024 .bf16 := m ((c.tc : Thread nD τ).loc main_arg1)
/-- the stream after the mixer, -/
def H1 (c : Dev nD) : FVec Ideal S4096x1024 .f32 := m ((c.tc : Thread nD τ).loc main_arg2)
/-- the target, -/
def TG (c : Dev nD) : FVec Ideal S4096x1024 .f32 := m ((c.tc : Thread nD τ).loc main_arg3)
/-- and the norm's weight. -/
def NW (c : Dev nD) : FVec Ideal S1x1024 .f32 := m ((c.tc : Thread nD τ).loc main_arg4)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel

theorem iblk0_apply (c : Dev nD) (t : Fin cfg0.N) (a : Fin 512) (b : Fin 2816) (r : Fin 4096) (hr : r.val = 512 * t.val + a.val) :
    (iblk m c 0 t : FVec Ideal S512x2816 .bf16) (ix2 a b) = AC m c (ix2 r b) :=
  congrArg (V m c main_arg0) (ext2 (blk (index0 t).1 (row hr)) (blk (index0 t).2 (by simp only [ix2]; omega)))

theorem iblk1_apply (c : Dev nD) (t : Fin cfg0.N) (a : Fin 2816) (b : Fin 1024) :
    (iblk m c 1 t : FVec Ideal S2816x1024 .bf16) (ix2 a b) = WD m c (ix2 a b) :=
  congrArg (V m c main_arg1) (ext2 (blk (index1 t).1 (by simp only [ix2]; omega)) (blk (index1 t).2 (by simp only [ix2]; omega)))

theorem iblk2_apply (c : Dev nD) (t : Fin cfg0.N) (a : Fin 512) (b : Fin 1024) (r : Fin 4096) (hr : r.val = 512 * t.val + a.val) :
    (iblk m c 2 t : FVec Ideal S512x1024 .f32) (ix2 a b) = H1 m c (ix2 r b) :=
  congrArg (V m c main_arg2) (ext2 (blk (index2 t).1 (row hr)) (blk (index2 t).2 (by simp only [ix2]; omega)))

theorem iblk3_apply (c : Dev nD) (t : Fin cfg0.N) (a : Fin 512) (b : Fin 1024) (r : Fin 4096) (hr : r.val = 512 * t.val + a.val) :
    (iblk m c 3 t : FVec Ideal S512x1024 .f32) (ix2 a b) = TG m c (ix2 r b) :=
  congrArg (V m c main_arg3) (ext2 (blk (index3 t).1 (row hr)) (blk (index3 t).2 (by simp only [ix2]; omega)))

theorem iblk4_apply (c : Dev nD) (t : Fin cfg0.N) (a : Fin 1) (b : Fin 1024) :
    (iblk m c 4 t : FVec Ideal S1x1024 .f32) (ix2 a b) = NW m c (ix2 a b) :=
  congrArg (V m c main_arg4) (ext2 (blk (index4 t).1 (by simp only [ix2]; omega)) (blk (index4 t).2 (by simp only [ix2]; omega)))

theorem hrow_at (c : Dev nD) (t : Fin cfg0.N) (a : Fin 512) (r : Fin 4096) (hr : r.val = 512 * t.val + a.val) :
    (fun k => k0_pay7 (F := Ideal) (iblk m c 0 t) (iblk m c 1 t) (iblk m c 2 t) (ix2 a k)) = hrow (AC m c) (WD m c) (H1 m c) r := by
  funext j
  refine (pay7_at _ _ _ a j).trans ?_
  exact congrArg₂ (· + ·)
    (Finset.sum_congr rfl fun k _ => congrArg₂ (· * ·) (iblk0_apply m c t a k r hr) (iblk1_apply m c t k j)) (iblk2_apply m c t a j r hr)

theorem trow_at (c : Dev nD) (t : Fin cfg0.N) (a : Fin 512) (r : Fin 4096) (hr : r.val = 512 * t.val + a.val) :
    (fun k => (iblk m c 3 t : FVec Ideal S512x1024 .f32) (ix2 a k)) = trow (TG m c) r :=
  funext fun k => iblk3_apply m c t a k r hr

theorem wrow_at (c : Dev nD) (t : Fin cfg0.N) :
    (fun k => (iblk m c 4 t : FVec Ideal S1x1024 .f32) (ix2 (0 : Fin 1) k)) = wrow (NW m c) :=
  funext fun k => iblk4_apply m c t 0 k

/-- What a point leaves at a row and a column of its block of the first result. -/
theorem grad_at (c : Dev nD) (t : Fin cfg0.N) (a : Fin 512) (j : Fin 1024) (r : Fin 4096) (hr : r.val = 512 * t.val + a.val) :
    dhB (F := Ideal) (iblk m c 0 t) (iblk m c 1 t) (iblk m c 2 t) (iblk m c 3 t) (iblk m c 4 t) (ix2 a j)
      = grad (AC m c) (WD m c) (H1 m c) (TG m c) (NW m c) (ix2 r j) := by
  refine (dh_at _ _ _ _ _ a j).trans ?_
  rw [hrow_at m c t a r hr, trow_at m c t a r hr, wrow_at m c t]
  rfl

/-- What a row of a block adds to the loss, -/
theorem loss_at (c : Dev nD) (t : Fin cfg0.N) (a : Fin 512) (r : Fin 4096) (hr : r.val = 512 * t.val + a.val) :
    loss (fun k => (iblk m c 4 t : FVec Ideal S1x1024 .f32) (ix2 (0 : Fin 1) k))
        (fun k => (iblk m c 3 t : FVec Ideal S512x1024 .f32) (ix2 a k))
        (fun k => k0_pay7 (F := Ideal) (iblk m c 0 t) (iblk m c 1 t) (iblk m c 2 t) (ix2 a k))
      = loss (wrow (NW m c)) (trow (TG m c) r) (hrow (AC m c) (WD m c) (H1 m c) r) := by
  rw [hrow_at m c t a r hr, trow_at m c t a r hr, wrow_at m c t]

/-- and to the weight's gradient. -/
theorem dwTerm_at (c : Dev nD) (t : Fin cfg0.N) (a : Fin 512) (j : Fin 1024) (r : Fin 4096) (hr : r.val = 512 * t.val + a.val) :
    k0_pay12 (F := Ideal) (iblk m c 0 t) (iblk m c 1 t) (iblk m c 2 t) (iblk m c 4 t) (iblk m c 3 t) (ix2 a j)
        * k0_pay9 (F := Ideal) (iblk m c 0 t) (iblk m c 1 t) (iblk m c 2 t) (ix2 a j)
      = dwTerm (AC m c) (WD m c) (H1 m c) (TG m c) (NW m c) r j := by
  have hh := hrow_at m c t a r hr
  refine congrArg₂ (· * ·) ((pay12_at _ _ _ _ _ a j).trans ?_) ((pay9_at _ _ _ a j).trans ?_)
  · rw [hh, trow_at m c t a r hr, wrow_at m c t]
  · rw [hh]
    exact congrArg (· * rinv (hrow (AC m c) (WD m c) (H1 m c) r)) (congrFun hh j)

/-- The terms of a row, for any number. -/
def lterm (c : Dev nD) (r : ℕ) : EReal :=
  if h : r < 4096 then (fun r : Fin 4096 => loss (wrow (NW m c)) (trow (TG m c) r) (hrow (AC m c) (WD m c) (H1 m c) r)) ⟨r, h⟩ else 0

def term (c : Dev nD) (j : Fin 1024) (r : ℕ) : EReal :=
  if h : r < 4096 then dwTerm (AC m c) (WD m c) (H1 m c) (TG m c) (NW m c) ⟨r, h⟩ j else 0

theorem lossSum (c : Dev nD) (t : Fin cfg0.N) (z z' : Fin 1) :
    k0_pay11 (F := Ideal) (iblk m c 0 t) (iblk m c 1 t) (iblk m c 2 t) (iblk m c 4 t) (iblk m c 3 t) (ix2 z z')
      = ∑ a ∈ Finset.range 512, lterm m c (512 * t.val + a) := by
  refine (pay11_at _ _ _ _ _ z z').trans ?_
  rw [← Fin.sum_univ_eq_sum_range (fun a => lterm m c (512 * t.val + a)) 512]
  refine Finset.sum_congr rfl fun a _ => ?_
  have ht : t.val < 8 := lt_of_lt_of_eq t.isLt N_0
  have hlt : 512 * t.val + a.val < 4096 := by have := a.isLt; omega
  unfold lterm
  rw [dif_pos hlt]
  exact loss_at m c t a ⟨_, hlt⟩ rfl

theorem blockSum (c : Dev nD) (t : Fin cfg0.N) (j : Fin 1024) :
    ∑ a : Fin 512, (k0_pay12 (F := Ideal) (iblk m c 0 t) (iblk m c 1 t) (iblk m c 2 t) (iblk m c 4 t) (iblk m c 3 t) (ix2 a j)
        * k0_pay9 (F := Ideal) (iblk m c 0 t) (iblk m c 1 t) (iblk m c 2 t) (ix2 a j))
      = ∑ a ∈ Finset.range 512, term m c j (512 * t.val + a) := by
  rw [← Fin.sum_univ_eq_sum_range (fun a => term m c j (512 * t.val + a)) 512]
  refine Finset.sum_congr rfl fun a _ => ?_
  have ht : t.val < 8 := lt_of_lt_of_eq t.isLt N_0
  have hlt : 512 * t.val + a.val < 4096 := by have := a.isLt; omega
  unfold term
  rw [dif_pos hlt]
  exact dwTerm_at m c t a j ⟨_, hlt⟩ rfl

/-! ## The points in order -/

theorem outs5 (c : Dev nD) (t : Fin cfg0.N) : (outsAt0 m c t.val t.isLt).1
    = dhB (F := Ideal) (iblk m c 0 t) (iblk m c 1 t) (iblk m c 2 t) (iblk m c 3 t) (iblk m c 4 t) := by
  have ht : t.val < 8 := lt_of_lt_of_eq t.isLt N_0
  by_cases h0 : t.val % 8 = 0
  · rw [outsAt0_A m c t h0 (by omega) h0 (by omega)]
    dsimp only
    rw [out_A_5]
  · rw [outsAt0_B m c t h0 (by omega) h0 (by omega)]
    dsimp only
    rw [out_B_5]

theorem outs6 (c : Dev nD) (t : Fin cfg0.N) : (outsAt0 m c t.val t.isLt).2.1
    = dhbB (F := Ideal) (iblk m c 0 t) (iblk m c 1 t) (iblk m c 2 t) (iblk m c 3 t) (iblk m c 4 t) := by
  have ht : t.val < 8 := lt_of_lt_of_eq t.isLt N_0
  by_cases h0 : t.val % 8 = 0
  · rw [outsAt0_A m c t h0 (by omega) h0 (by omega)]
    dsimp only
    rw [out_A_6]
  · rw [outsAt0_B m c t h0 (by omega) h0 (by omega)]
    dsimp only
    rw [out_B_6]

/-- After a point the third block holds the loss of all the rows of the blocks so far, -/
theorem outs7 (c : Dev nD) (z : Fin 1) (j : Fin 128) : ∀ (n : ℕ) (h : n < cfg0.N),
    ((outsAt0 m c n h).2.2.1 : FVec Ideal S1x128 .f32) (ix2 z j) = ∑ r ∈ Finset.range (512 * n + 512), lterm m c r
  | 0, h => by
    have e : (outsAt0 m c 0 h).2.2.1 = _ := congrArg (fun x => x.2.2.1)
      (outsAt0_A m c ⟨0, h⟩ rfl (by show ¬1 ≤ 0; omega) rfl (by show ¬1 ≤ 0; omega))
    rw [e]
    dsimp only
    rw [out_A_7]
    refine (pay5_at _ z j).trans ?_
    refine (lossSum m c ⟨0, h⟩ 0 0).trans ?_
    simp
  | n + 1, h => by
    have hN : cfg0.N = 8 := N_0
    have e : (outsAt0 m c (n + 1) h).2.2.1 = _ := congrArg (fun x => x.2.2.1)
      (outsAt0_B m c ⟨n + 1, h⟩ (by show ¬(n + 1) % 8 = 0; omega) (by show 1 ≤ n + 1; omega)
        (by show ¬(n + 1) % 8 = 0; omega) (by show 1 ≤ n + 1; omega))
    rw [e]
    dsimp only
    rw [out_B_7]
    refine (pay6_at _ _ z j).trans ?_
    rw [show 512 * (n + 1) + 512 = (512 * n + 512) + 512 by ring, Finset.sum_range_add]
    exact congrArg₂ (· + ·) (outs7 c z j n (Nat.lt_of_succ_lt h)) (lossSum m c ⟨n + 1, h⟩ 0 0)

/-- and the fourth those rows' sums. -/
theorem outs8 (c : Dev nD) (z : Fin 1) (j : Fin 1024) : ∀ (n : ℕ) (h : n < cfg0.N),
    ((outsAt0 m c n h).2.2.2 : FVec Ideal S1x1024 .f32) (ix2 z j) = ∑ r ∈ Finset.range (512 * n + 512), term m c j r
  | 0, h => by
    have e : (outsAt0 m c 0 h).2.2.2 = _ := congrArg (fun x => x.2.2.2)
      (outsAt0_A m c ⟨0, h⟩ rfl (by show ¬1 ≤ 0; omega) rfl (by show ¬1 ≤ 0; omega))
    rw [e]
    dsimp only
    rw [out_A_8]
    refine (pay3_at _ _ z j).trans ?_
    refine (blockSum m c ⟨0, h⟩ j).trans ?_
    simp
  | n + 1, h => by
    have hN : cfg0.N = 8 := N_0
    have e : (outsAt0 m c (n + 1) h).2.2.2 = _ := congrArg (fun x => x.2.2.2)
      (outsAt0_B m c ⟨n + 1, h⟩ (by show ¬(n + 1) % 8 = 0; omega) (by show 1 ≤ n + 1; omega)
        (by show ¬(n + 1) % 8 = 0; omega) (by show 1 ≤ n + 1; omega))
    rw [e]
    dsimp only
    rw [out_B_8]
    refine (pay4_at _ _ _ z j).trans ?_
    rw [show 512 * (n + 1) + 512 = (512 * n + 512) + 512 by ring, Finset.sum_range_add]
    exact congrArg₂ (· + ·) (outs8 c z j n (Nat.lt_of_succ_lt h)) (blockSum m c ⟨n + 1, h⟩ j)

/-! ## The whole arrays -/

theorem flushed5 (c : Dev nD) (t : Fin cfg0.N) (_hf : (cfg0.win 5).flush t = true) :
    (dats m 0 c).flushed 5 t = ((cfg0.win 5).blk t).view.read (Elt Ideal) (grad (AC m c) (WD m c) (H1 m c) (TG m c) (NW m c)) := by
  have hi := index5 t
  have ht : t.val < 8 := lt_of_lt_of_eq t.isLt N_0
  rw [Value.flushed5, outs5]
  funext x
  rw [View.read_apply]
  obtain ⟨a, b, rfl⟩ : ∃ (a : Fin 512) (b : Fin 1024), x = ix2 a b := ⟨x 0, x 1, eq_ix2 x⟩
  have hlt : 512 * t.val + a.val < 4096 := by have := a.isLt; omega
  refine (grad_at m c t a b ⟨_, hlt⟩ rfl).trans (congrArg (grad (AC m c) (WD m c) (H1 m c) (TG m c) (NW m c)) ?_)
  exact ext2 (by show 512 * t.val + a.val = win0_5.index t 0 * 512 + 1 * a.val; rw [hi.1]; omega) (by show b.val = win0_5.index t 1 * 1024 + 1 * b.val; rw [hi.2]; omega)

theorem final5 (c : Dev nD) : (dats m 0 c).arrAt 5 cfg0.N = grad (AC m c) (WD m c) (H1 m c) (TG m c) (NW m c) :=
  (dats m 0 c).arrAt_eq_of_cover 5 (grad (AC m c) (WD m c) (H1 m c) (TG m c) (NW m c)) (flushed5 m c) fun i => by
    have h0 : (i 0 : Nat) < 4096 := (i 0).isLt
    have h1 : (i 1 : Nat) < 1024 := (i 1).isLt
    have hlt : (i 0).val / 512 < cfg0.N := by rw [show cfg0.N = 8 from N_0]; omega
    have hi := index5 ⟨(i 0).val / 512, hlt⟩
    refine ⟨⟨(i 0).val / 512, hlt⟩, flush0_5 _, ?_⟩
    show i ∈ ((View.whole main_v0_0).slice (win0_5.rect ⟨(i 0).val / 512, hlt⟩)).set
    rw [View.set_slice_whole, Rect.mem_set_unit]
    dsimp only at hi
    intro a
    match a with
    | ⟨0, _⟩ =>
      show win0_5.index ⟨(i 0).val / 512, hlt⟩ 0 * 512 ≤ (i 0 : Nat)
        ∧ (i 0 : Nat) < win0_5.index ⟨(i 0).val / 512, hlt⟩ 0 * 512 + 512
      rw [hi.1]; omega
    | ⟨1, _⟩ =>
      show win0_5.index ⟨(i 0).val / 512, hlt⟩ 1 * 1024 ≤ (i 1 : Nat)
        ∧ (i 1 : Nat) < win0_5.index ⟨(i 0).val / 512, hlt⟩ 1 * 1024 + 1024
      rw [hi.2]; omega

theorem flushed6 (c : Dev nD) (t : Fin cfg0.N) (_hf : (cfg0.win 6).flush t = true) :
    (dats m 0 c).flushed 6 t = ((cfg0.win 6).blk t).view.read (Elt Ideal) (grad (AC m c) (WD m c) (H1 m c) (TG m c) (NW m c)) := by
  have hi := index6 t
  have ht : t.val < 8 := lt_of_lt_of_eq t.isLt N_0
  rw [Value.flushed6, outs6]
  funext x
  rw [View.read_apply]
  obtain ⟨a, b, rfl⟩ : ∃ (a : Fin 512) (b : Fin 1024), x = ix2 a b := ⟨x 0, x 1, eq_ix2 x⟩
  have hlt : 512 * t.val + a.val < 4096 := by have := a.isLt; omega
  refine ((pay2_at _ _ _ _ a b).trans (grad_at m c t a b ⟨_, hlt⟩ rfl)).trans (congrArg (grad (AC m c) (WD m c) (H1 m c) (TG m c) (NW m c)) ?_)
  exact ext2 (by show 512 * t.val + a.val = win0_6.index t 0 * 512 + 1 * a.val; rw [hi.1]; omega) (by show b.val = win0_6.index t 1 * 1024 + 1 * b.val; rw [hi.2]; omega)

theorem final6 (c : Dev nD) : (dats m 0 c).arrAt 6 cfg0.N = grad (AC m c) (WD m c) (H1 m c) (TG m c) (NW m c) :=
  (dats m 0 c).arrAt_eq_of_cover 6 (grad (AC m c) (WD m c) (H1 m c) (TG m c) (NW m c)) (flushed6 m c) fun i => by
    have h0 : (i 0 : Nat) < 4096 := (i 0).isLt
    have h1 : (i 1 : Nat) < 1024 := (i 1).isLt
    have hlt : (i 0).val / 512 < cfg0.N := by rw [show cfg0.N = 8 from N_0]; omega
    have hi := index6 ⟨(i 0).val / 512, hlt⟩
    refine ⟨⟨(i 0).val / 512, hlt⟩, flush0_6 _, ?_⟩
    show i ∈ ((View.whole main_v0_1).slice (win0_6.rect ⟨(i 0).val / 512, hlt⟩)).set
    rw [View.set_slice_whole, Rect.mem_set_unit]
    dsimp only at hi
    intro a
    match a with
    | ⟨0, _⟩ =>
      show win0_6.index ⟨(i 0).val / 512, hlt⟩ 0 * 512 ≤ (i 0 : Nat)
        ∧ (i 0 : Nat) < win0_6.index ⟨(i 0).val / 512, hlt⟩ 0 * 512 + 512
      rw [hi.1]; omega
    | ⟨1, _⟩ =>
      show win0_6.index ⟨(i 0).val / 512, hlt⟩ 1 * 1024 ≤ (i 1 : Nat)
        ∧ (i 1 : Nat) < win0_6.index ⟨(i 0).val / 512, hlt⟩ 1 * 1024 + 1024
      rw [hi.2]; omega

theorem flushed7 (c : Dev nD) (t : Fin cfg0.N) (hf : (cfg0.win 7).flush t = true) :
    (dats m 0 c).flushed 7 t = ((cfg0.win 7).blk t).view.read (Elt Ideal) (total (AC m c) (WD m c) (H1 m c) (TG m c) (NW m c)) := by
  have hi := index7 t
  have ht : t.val < 8 := lt_of_lt_of_eq t.isLt N_0
  have h7 : t.val = 7 := by have := (flush0_7 t).mp hf; omega
  rw [Value.flushed7]
  funext x
  rw [View.read_apply]
  obtain ⟨z, j, rfl⟩ : ∃ (z : Fin 1) (j : Fin 128), x = ix2 z j := ⟨x 0, x 1, eq_ix2 x⟩
  have hs : ∑ r ∈ Finset.range (512 * t.val + 512), lterm m c r = total (AC m c) (WD m c) (H1 m c) (TG m c) (NW m c) (ix2 z j) := by
    rw [h7]
    unfold total
    rw [← Fin.sum_univ_eq_sum_range (lterm m c) 4096]
    refine Finset.sum_congr rfl fun r _ => ?_
    unfold lterm
    rw [dif_pos r.isLt]
  exact (outs7 m c z j t.val t.isLt).trans hs

theorem final7 (c : Dev nD) : (dats m 0 c).arrAt 7 cfg0.N = total (AC m c) (WD m c) (H1 m c) (TG m c) (NW m c) :=
  (dats m 0 c).arrAt_eq_of_cover 7 (total (AC m c) (WD m c) (H1 m c) (TG m c) (NW m c)) (flushed7 m c) fun i => by
    have h0 : (i 0 : Nat) < 1 := (i 0).isLt
    have h1 : (i 1 : Nat) < 128 := (i 1).isLt
    have hlt : 7 < cfg0.N := by rw [show cfg0.N = 8 from N_0]; omega
    have hi := index7 ⟨7, hlt⟩
    refine ⟨⟨7, hlt⟩, (flush0_7 _).mpr rfl, ?_⟩
    show i ∈ ((View.whole main_v0_2).slice (win0_7.rect ⟨7, hlt⟩)).set
    rw [View.set_slice_whole, Rect.mem_set_unit]
    intro a
    match a with
    | ⟨0, _⟩ =>
      show win0_7.index ⟨7, hlt⟩ 0 * 1 ≤ (i 0 : Nat) ∧ (i 0 : Nat) < win0_7.index ⟨7, hlt⟩ 0 * 1 + 1
      rw [hi.1]; omega
    | ⟨1, _⟩ =>
      show win0_7.index ⟨7, hlt⟩ 1 * 128 ≤ (i 1 : Nat) ∧ (i 1 : Nat) < win0_7.index ⟨7, hlt⟩ 1 * 128 + 128
      rw [hi.2]; omega

theorem flushed8 (c : Dev nD) (t : Fin cfg0.N) (hf : (cfg0.win 8).flush t = true) :
    (dats m 0 c).flushed 8 t = ((cfg0.win 8).blk t).view.read (Elt Ideal) (dw (AC m c) (WD m c) (H1 m c) (TG m c) (NW m c)) := by
  have hi := index8 t
  have ht : t.val < 8 := lt_of_lt_of_eq t.isLt N_0
  have h7 : t.val = 7 := by have := (flush0_8 t).mp hf; omega
  rw [Value.flushed8]
  funext x
  rw [View.read_apply]
  obtain ⟨z, j, rfl⟩ : ∃ (z : Fin 1) (j : Fin 1024), x = ix2 z j := ⟨x 0, x 1, eq_ix2 x⟩
  have hs : ∑ r ∈ Finset.range (512 * t.val + 512), term m c j r = dw (AC m c) (WD m c) (H1 m c) (TG m c) (NW m c) (ix2 z j) := by
    rw [h7]
    unfold dw
    rw [← Fin.sum_univ_eq_sum_range (term m c j) 4096]
    refine Finset.sum_congr rfl fun r _ => ?_
    unfold term
    rw [dif_pos r.isLt]
    rfl
  refine ((outs8 m c z j t.val t.isLt).trans hs).trans (congrArg (dw (AC m c) (WD m c) (H1 m c) (TG m c) (NW m c)) ?_)
  exact ext2 (by show z.val = win0_8.index t 0 * 1 + 1 * z.val; rw [hi.1]; omega) (by show j.val = win0_8.index t 1 * 1024 + 1 * j.val; rw [hi.2]; omega)

theorem final8 (c : Dev nD) : (dats m 0 c).arrAt 8 cfg0.N = dw (AC m c) (WD m c) (H1 m c) (TG m c) (NW m c) :=
  (dats m 0 c).arrAt_eq_of_cover 8 (dw (AC m c) (WD m c) (H1 m c) (TG m c) (NW m c)) (flushed8 m c) fun i => by
    have h0 : (i 0 : Nat) < 1 := (i 0).isLt
    have h1 : (i 1 : Nat) < 1024 := (i 1).isLt
    have hlt : 7 < cfg0.N := by rw [show cfg0.N = 8 from N_0]; omega
    have hi := index8 ⟨7, hlt⟩
    refine ⟨⟨7, hlt⟩, (flush0_8 _).mpr rfl, ?_⟩
    show i ∈ ((View.whole main_v0_3).slice (win0_8.rect ⟨7, hlt⟩)).set
    rw [View.set_slice_whole, Rect.mem_set_unit]
    intro a
    match a with
    | ⟨0, _⟩ =>
      show win0_8.index ⟨7, hlt⟩ 0 * 1 ≤ (i 0 : Nat) ∧ (i 0 : Nat) < win0_8.index ⟨7, hlt⟩ 0 * 1 + 1
      rw [hi.1]; omega
    | ⟨1, _⟩ =>
      show win0_8.index ⟨7, hlt⟩ 1 * 1024 ≤ (i 1 : Nat) ∧ (i 1 : Nat) < win0_8.index ⟨7, hlt⟩ 1 * 1024 + 1024
      rw [hi.2]; omega

/-- The kernel's run: its four results, and its arguments unchanged. -/
theorem run : θ_run defs (onTc (τ := τ) (main (F := Ideal))) ⟨m, fun _ => 0, ρ⟩ fun r => ∀ c : Dev nD,
      r.2.mem ((c.tc : Thread nD τ).loc main_v0_0) = grad (AC m c) (WD m c) (H1 m c) (TG m c) (NW m c)
      ∧ r.2.mem ((c.tc : Thread nD τ).loc main_v0_1) = grad (AC m c) (WD m c) (H1 m c) (TG m c) (NW m c)
      ∧ r.2.mem ((c.tc : Thread nD τ).loc main_v0_2) = total (AC m c) (WD m c) (H1 m c) (TG m c) (NW m c)
      ∧ r.2.mem ((c.tc : Thread nD τ).loc main_v0_3) = dw (AC m c) (WD m c) (H1 m c) (TG m c) (NW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Value.run_blocks m ρ)

/-! ## The reference -/

open Cert.Reference9Ideal.Read

section
variable (a : FVec Ideal S4096x2816 .bf16) (wd : FVec Ideal S2816x1024 .bf16) (h : FVec Ideal S4096x1024 .f32)
    (t : FVec Ideal S4096x1024 .f32) (w : FVec Ideal S1x1024 .f32)

theorem ref3 (r : Fin 4096) (j : Fin 1024) : val_main_v3 (F := Ideal) a wd h (ix2 r j) = hrow a wd h r j := by
  rw [val_main_v3_apply, val_main_v2_apply]
  refine (add_comm (_ : EReal) _).trans (congrArg (· + h (ix2 r j)) (Finset.sum_congr rfl fun k _ => ?_))
  rw [val_main_v0_apply, val_main_v1_apply]
  have e0 : lidx_main_v2 (ix2 r j) k = ix2 r k := ext2 rfl rfl
  have e1 : ridx_main_v2 (ix2 r j) k = ix2 k j := ext2 rfl rfl
  rw [e0, e1]
  rfl

theorem ref10 (r : Fin 4096) (z : Fin 1) : val_main_v10 (F := Ideal) a wd h (ix2 r z) = meanSq (hrow a wd h r) := by
  rw [val_main_v10_apply, val_main_v8_apply, val_main_v6_apply, val_main_v5_apply, val_main_v7_apply, val_main_v9_apply,
    val_main_cst_apply, val_main_cst_0_apply, val_main_cst_1_apply]
  have hs : ∀ k : Fin 1024, val_main_v4 (F := Ideal) a wd h (idx_main_v5 (idx_main_v6 (ix2 r z)) k)
      = hrow a wd h r k * hrow a wd h r k := fun k => by
    have e : idx_main_v5 (idx_main_v6 (ix2 r z)) k = ix2 r k := ext2 rfl rfl
    rw [e, val_main_v4_apply, ref3]
    rfl
  simp only [hs]
  show Ideal.div (Ideal.ofBits .f32 0x00000000#32 + ∑ k : Fin 1024, hrow a wd h r k * hrow a wd h r k) width + eps = _
  rw [Ideal.ofBits_zero_f32, zero_add]
  rfl

theorem ref11 (r : Fin 4096) (z : Fin 1) : val_main_v11 (F := Ideal) a wd h (ix2 r z) = rinv (hrow a wd h r) := by
  rw [val_main_v11_apply, ref10]
  rfl

theorem ref14 (r : Fin 4096) (z : Fin 1) : val_main_v14 (F := Ideal) a wd h (ix2 r z)
    = mhalf * Ideal.div (rinv (hrow a wd h r)) (meanSq (hrow a wd h r)) := by
  rw [val_main_v14_apply, val_main_v13_apply, val_main_cst_2_apply, val_main_v12_apply, ref10, ref11]
  rfl

theorem ref16 (r : Fin 4096) (j : Fin 1024) : val_main_v16 (F := Ideal) a wd h (ix2 r j)
    = hrow a wd h r j * rinv (hrow a wd h r) := by
  rw [val_main_v16_apply, ref3, val_main_v15_apply]
  have e : idx_main_v15 (ix2 r j) = ix2 r (0 : Fin 1) := ext2 rfl rfl
  rw [e, ref11]
  rfl

theorem ref19 (r : Fin 4096) (j : Fin 1024) : val_main_v19 (F := Ideal) a wd h t w (ix2 r j) = err (wrow w) (trow t r) (hrow a wd h r) j := by
  rw [val_main_v19_apply, val_main_v18_apply, ref16, val_main_v17_apply]
  have e : idx_main_v17 (ix2 r j) = ix2 (0 : Fin 1) j := ext2 rfl rfl
  rw [e]
  rfl

theorem ref33 (r : Fin 4096) (j : Fin 1024) : val_main_v33 (F := Ideal) a wd h t w (ix2 r j) = cot (wrow w) (trow t r) (hrow a wd h r) j := by
  rw [val_main_v33_apply, val_main_v32_apply, val_main_v31_apply, val_main_v29_apply, val_main_v28_apply, val_main_v30_apply,
    val_main_v22_apply, val_main_v21_apply, ref19, val_main_cst_3_apply, val_main_cst_8_apply, val_main_cst_9_apply,
    val_main_cst_10_apply]
  exact cot_eq _

theorem ref38 (r : Fin 4096) (j : Fin 1024) : val_main_v38 (F := Ideal) a wd h t w (ix2 r j) = pre (wrow w) (trow t r) (hrow a wd h r) j := by
  rw [val_main_v38_apply, ref33, val_main_v37_apply]
  have e : idx_main_v37 (ix2 r j) = ix2 (0 : Fin 1) j := ext2 rfl rfl
  rw [e]
  rfl

theorem ref41 (r : Fin 4096) (z : Fin 1) : val_main_v41 (F := Ideal) a wd h t w (ix2 r z)
    = ∑ k : Fin 1024, hrow a wd h r k * pre (wrow w) (trow t r) (hrow a wd h r) k := by
  rw [val_main_v41_apply, val_main_v40_apply, val_main_cst_12_apply]
  have hs : ∀ k : Fin 1024, val_main_v39 (F := Ideal) a wd h t w (idx_main_v40 (idx_main_v41 (ix2 r z)) k)
      = hrow a wd h r k * pre (wrow w) (trow t r) (hrow a wd h r) k := fun k => by
    have e : idx_main_v40 (idx_main_v41 (ix2 r z)) k = ix2 r k := funext fun x => Fin.ext (by
      match x with
      | ⟨0, _⟩ => show r.val * 1 + z.val = r.val; have := z.isLt; omega
      | ⟨1, _⟩ => rfl)
    rw [e, val_main_v39_apply, ref38, ref3]
    rfl
  simp only [hs]
  show Ideal.ofBits .f32 0x00000000#32 + _ = _
  rw [Ideal.ofBits_zero_f32, zero_add]

theorem ref48 (r : Fin 4096) (j : Fin 1024) : val_main_v48 (F := Ideal) a wd h t w (ix2 r j)
    = rcoef (pre (wrow w) (trow t r) (hrow a wd h r)) (hrow a wd h r) := by
  rw [val_main_v48_apply, val_main_v47_apply, val_main_cst_14_apply, Fin.sum_univ_one]
  have e : idx_main_v47 (idx_main_v48 (ix2 r j)) 0 = ix2 r (0 : Fin 1) := ext2 rfl rfl
  rw [e, val_main_v46_apply, val_main_v44_apply, val_main_v45_apply, val_main_cst_13_apply, ref41, ref14]
  show Ideal.ofBits .f32 0x00000000#32 + _ = _
  rw [Ideal.ofBits_zero_f32, zero_add]
  rfl

theorem ref52 : val_main_v52 (F := Ideal) a wd h t w = grad a wd h t w := by
  funext i
  obtain ⟨r, j, rfl⟩ : ∃ (r : Fin 4096) (j : Fin 1024), i = ix2 r j := ⟨i 0, i 1, eq_ix2 i⟩
  refine Eq.trans ?_ (dh_eq (wrow w) (trow t r) (hrow a wd h r) j)
  rw [val_main_v52_apply, val_main_v50_apply, val_main_v43_apply, val_main_v49_apply, val_main_v51_apply,
    ref48, ref38, ref3, val_main_v42_apply]
  have e : idx_main_v42 (ix2 r j) = ix2 r (0 : Fin 1) := ext2 rfl rfl
  rw [e, ref11]
  rfl

theorem ref53 : val_main_v53 (F := Ideal) a wd h t w = grad a wd h t w := by
  rw [← ref52]
  funext i
  rw [val_main_v53_apply]
  rfl

/-- An index of a vector. -/
def at1 (r : Fin 4096) : Cert.Reference9Ideal.S4096.Idx := fun x => match x with | ⟨0, _⟩ => r

/-- A sum over the indices of a vector is a sum over its length. -/
theorem sum_idx (f : Cert.Reference9Ideal.S4096.Idx → EReal) :
    ∑ i, f i = ∑ r : Fin 4096, f (at1 r) :=
  Fintype.sum_equiv
    ⟨fun i => ⟨(i 0).val, (i 0).isLt⟩, at1,
      fun i => funext fun x => Fin.ext (by match x with | ⟨0, _⟩ => rfl), fun _ => rfl⟩ _ _
    fun i => congrArg f (funext fun x => Fin.ext (by match x with | ⟨0, _⟩ => rfl))

theorem ref54 : val_main_v54 (F := Ideal) a wd h t w = total a wd h t w := by
  funext i
  rw [val_main_v54_apply, val_main_v27_apply, val_main_cst_7_apply, val_main_v26_apply, val_main_cst_6_apply, sum_idx]
  show half * (Ideal.ofBits .f32 0x00000000#32 + _) = _
  rw [Ideal.ofBits_zero_f32, zero_add]
  have hs : ∀ r : Fin 4096, val_main_v25 (F := Ideal) a wd h t w (at1 r)
      = Ideal.div (∑ k, err (wrow w) (trow t r) (hrow a wd h r) k * err (wrow w) (trow t r) (hrow a wd h r) k) width := fun r => by
    rw [val_main_v25_apply, val_main_v23_apply, val_main_v24_apply, val_main_cst_4_apply, val_main_cst_5_apply]
    have hk : ∀ k : Fin 1024, val_main_v20 (F := Ideal) a wd h t w (idx_main_v23 (at1 r) k)
        = err (wrow w) (trow t r) (hrow a wd h r) k * err (wrow w) (trow t r) (hrow a wd h r) k := fun k => by
      have e : idx_main_v23 (at1 r) k = ix2 r k := ext2 rfl rfl
      rw [e, val_main_v20_apply, ref19]
      rfl
    simp only [hk]
    show Ideal.div (Ideal.ofBits .f32 0x00000000#32 + _) width = _
    rw [Ideal.ofBits_zero_f32, zero_add]
  simp only [hs]
  exact mean_eq _ _

theorem ref36 : val_main_v36 (F := Ideal) a wd h t w = dw a wd h t w := by
  funext i
  obtain ⟨z, j, rfl⟩ : ∃ (z : Fin 1) (j : Fin 1024), i = ix2 z j := ⟨i 0, i 1, eq_ix2 i⟩
  rw [val_main_v36_apply, val_main_v35_apply, val_main_cst_11_apply]
  show Ideal.ofBits .f32 0x00000000#32 + _ = _
  rw [Ideal.ofBits_zero_f32, zero_add]
  unfold dw
  refine Finset.sum_congr rfl fun r _ => ?_
  have e : idx_main_v35 (idx_main_v36 (ix2 z j)) r = ix2 r j := funext fun x => Fin.ext (by
    match x with
    | ⟨0, _⟩ => rfl
    | ⟨1, _⟩ => show z.val * 1024 + j.val = j.val; have : z.val < 1 := z.isLt; omega)
  rw [e, val_main_v34_apply, ref33, ref16]
  unfold dwTerm
  exact mul_comm (_ : EReal) _

end

end Cert.Kernel9Ideal.LossGrad

end
-- ==== Proof.WGradQ.lean ====
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Ix
public import Idealize.ShloMosaic.Lib.Pointwise
public import Idealize.ShloMosaic.Lib.Tactic
public import Idealize.ShloMosaic.Lib.Pipeline.Value
public import Idealize.ShloMosaic.Lib.Claim

/-! The gradient of the query's projection from its latent, transposed, over the extended reals: the kernel's result and the
reference's are, at a row `j` and a column `n`, the sum over the 4096 tokens of the cotangent at `j` times the left side at `n`. -/

@[expose] public section

set_option maxRecDepth 16384

noncomputable section

namespace Cert.Kernel10Ideal.WGradQ

open Idealize.ShloMosaic Idealize.ShloMosaic.TcCoe Idealize.ShloMosaic.Tactic
open Idealize.SL.Sem
open Cert.Ix (ext2 blk row)
open Idealize.ShloMosaic.Pipeline (Dat Cfg Window)
open Cert.Kernel10Ideal Cert.Kernel10Ideal.Gen

/-- The gradient of the transposed weights, from the cotangent `a` of the product and its left side `ct`. -/
def grad (a : FVec Ideal S4096x1024 .bf16) (ct : FVec Ideal S4096x384 .bf16) (i : S1024x384.Idx) : EReal :=
  ∑ k : Fin 4096, a (ix2 k (i 0)) * ct (ix2 k (i 1))

/-! ## One block -/

theorem pay1_at (x : FVec Ideal S4096x512 .bf16) (y : FVec Ideal S4096x384 .bf16) (j : Fin 512) (n : Fin 384) :
    k0_pay1 (F := Ideal) x y (ix2 j n) = ∑ k : Fin 4096, x (ix2 k j) * y (ix2 k n) := by
  pointwise [k0_pay1]

theorem out2_eq (x : FVec Ideal S4096x512 .bf16) (y : FVec Ideal S4096x384 .bf16) : out0_2 (F := Ideal) x y = k0_pay1 (F := Ideal) x y := by
  have hz2 : (![0, 0] : Fin S512x384.rank → Nat) = fun _ => 0 := funext fun a => by fin_cases a <;> rfl
  have hz0 : (![0, 0] : Fin S4096x512.rank → Nat) = fun _ => 0 := funext fun a => by fin_cases a <;> rfl
  have hz1 : (![0, 0] : Fin S4096x384.rank → Nat) = fun _ => 0 := funext fun a => by fin_cases a <;> rfl
  unfold out0_2
  rw [View.canon_unit_zero hz2, View.ld_unit_zero hz0, View.ld_unit_zero hz1]

/-! ## The grid's blocks -/

variable (m : (ℓ : Loc nD τ sig) → Buf (Elt Ideal) ℓ) (ρ : Dev nD → PrngReg)

/-- The cotangent of the product, -/
def A0 (c : Dev nD) : FVec Ideal S4096x1024 .bf16 := m ((c.tc : Thread nD τ).loc main_arg0)
/-- and its left side. -/
def C0 (c : Dev nD) : FVec Ideal S4096x384 .bf16 := m ((c.tc : Thread nD τ).loc main_arg1)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem iblk0_apply (c : Dev nD) (t : Fin cfg0.N) (a : Fin 4096) (b : Fin 512) (j : Fin 1024) (hj : j.val = 512 * t.val + b.val) :
    (iblk m c 0 t : FVec Ideal S4096x512 .bf16) (ix2 a b) = A0 m c (ix2 a j) :=
  congrArg (V m c main_arg0) (ext2 (blk (index0 t).1 (by simp only [ix2]; omega)) (blk (index0 t).2 (row hj)))

theorem iblk1_apply (c : Dev nD) (t : Fin cfg0.N) (a : Fin 4096) (b : Fin 384) :
    (iblk m c 1 t : FVec Ideal S4096x384 .bf16) (ix2 a b) = C0 m c (ix2 a b) :=
  congrArg (V m c main_arg1) (ext2 (blk (index1 t).1 (by simp only [ix2]; omega)) (blk (index1 t).2 (by simp only [ix2]; omega)))

/-- What a point leaves at row `j` and column `n` of its block. -/
theorem block_at (c : Dev nD) (t : Fin cfg0.N) (j : Fin 512) (n : Fin 384) (i : S1024x384.Idx)
    (h0 : (i 0).val = 512 * t.val + j.val) (h1 : (i 1).val = n.val) :
    k0_pay1 (F := Ideal) (iblk m c 0 t) (iblk m c 1 t) (ix2 j n) = grad (A0 m c) (C0 m c) i := by
  have hn : (i 1 : Fin 384) = n := Fin.ext h1
  refine (pay1_at _ _ j n).trans ?_
  unfold grad
  refine Finset.sum_congr rfl fun k _ => ?_
  rw [hn]
  exact congrArg₂ (· * ·) (iblk0_apply m c t k j (i 0) h0) (iblk1_apply m c t k n)

theorem flushed2 (c : Dev nD) (t : Fin cfg0.N) (_hf : (cfg0.win 2).flush t = true) :
    (dats m 0 c).flushed 2 t = ((cfg0.win 2).blk t).view.read (Elt Ideal) (grad (A0 m c) (C0 m c)) := by
  have hi := index2 t
  rw [Value.flushed2, out2_eq]
  funext x
  rw [View.read_apply]
  have h0 : (x 0).val < 512 := (x 0).isLt
  have h1 : (x 1).val < 384 := (x 1).isLt
  obtain ⟨j, n, rfl⟩ : ∃ (j : Fin 512) (n : Fin 384), x = ix2 j n := ⟨x 0, x 1, eq_ix2 x⟩
  refine block_at m c t j n _ ?_ ?_
  · show win0_2.index t 0 * 512 + 1 * j.val = _
    rw [hi.1]; omega
  · show win0_2.index t 1 * 384 + 1 * n.val = _
    rw [hi.2]; omega

theorem final2 (c : Dev nD) : (dats m 0 c).arrAt 2 cfg0.N = grad (A0 m c) (C0 m c) :=
  (dats m 0 c).arrAt_eq_of_cover 2 (grad (A0 m c) (C0 m c)) (flushed2 m c) fun i => by
    have h0 : (i 0 : Nat) < 1024 := (i 0).isLt
    have h1 : (i 1 : Nat) < 384 := (i 1).isLt
    have hlt : (i 0).val / 512 < cfg0.N := by rw [show cfg0.N = 2 from N_0]; omega
    have hi := index2 ⟨(i 0).val / 512, hlt⟩
    refine ⟨⟨(i 0).val / 512, hlt⟩, flush0_2 _, ?_⟩
    show i ∈ ((View.whole main_v0).slice (win0_2.rect ⟨(i 0).val / 512, hlt⟩)).set
    rw [View.set_slice_whole, Rect.mem_set_unit]
    dsimp only at hi
    intro a
    match a with
    | ⟨0, _⟩ =>
      show win0_2.index ⟨(i 0).val / 512, hlt⟩ 0 * 512 ≤ (i 0 : Nat) ∧ (i 0 : Nat) < win0_2.index ⟨(i 0).val / 512, hlt⟩ 0 * 512 + 512
      rw [hi.1]; omega
    | ⟨1, _⟩ =>
      show win0_2.index ⟨(i 0).val / 512, hlt⟩ 1 * 384 ≤ (i 1 : Nat) ∧ (i 1 : Nat) < win0_2.index ⟨(i 0).val / 512, hlt⟩ 1 * 384 + 384
      rw [hi.2]; omega

/-- The kernel's run: its result, and its arguments unchanged. -/
theorem run : θ_run defs (onTc (τ := τ) (main (F := Ideal))) ⟨m, fun _ => 0, ρ⟩ fun r => ∀ c : Dev nD,
      r.2.mem ((c.tc : Thread nD τ).loc main_v0) = grad (A0 m c) (C0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩)
    (Value.run_blocks m ρ)

/-! ## The reference -/

open Cert.Reference10Ideal.Read in
theorem ref6 (a : FVec Ideal S4096x1024 .bf16) (ct : FVec Ideal S4096x384 .bf16) :
    val_main_v6 (F := Ideal) a ct = grad a ct := by
  funext i
  obtain ⟨j, n, rfl⟩ : ∃ (j : Fin 1024) (n : Fin 384), i = ix2 j n := ⟨i 0, i 1, eq_ix2 i⟩
  have e : idx_main_v5 (idx_main_v6 (ix2 j n)) = ix2 j n := ext2 rfl rfl
  rw [val_main_v6_apply, val_main_v5_apply, e, val_main_v4_apply]
  unfold grad
  refine Finset.sum_congr rfl fun k _ => ?_
  rw [val_main_v3_apply, val_main_v1_apply]
  have e0 : lidx_main_v4 (ix2 j n) k = ix2 k j := ext2 rfl rfl
  have e1 : ridx_main_v4 (ix2 j n) k = ix2 k n := ext2 rfl rfl
  rw [e0, e1]
  rfl

end Cert.Kernel10Ideal.WGradQ

end
-- ==== Proof.WGradK.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Ix
public import Idealize.ShloMosaic.Lib.Pointwise
public import Idealize.ShloMosaic.Lib.Tactic
public import Idealize.ShloMosaic.Lib.Pipeline.Value
public import Idealize.ShloMosaic.Lib.Claim

/-! The gradient of the key's or the value's projection from their latent, transposed, over the extended reals: the kernel's result and the
reference's are, at a row `j` and a column `n`, the sum over the 4096 tokens of the cotangent at `j` times the left side at `n`. -/

@[expose] public section

set_option maxRecDepth 16384

noncomputable section

namespace Cert.Kernel11Ideal.WGradK

open Idealize.ShloMosaic Idealize.ShloMosaic.TcCoe Idealize.ShloMosaic.Tactic
open Idealize.SL.Sem
open Cert.Ix (ext2 blk row)
open Idealize.ShloMosaic.Pipeline (Dat Cfg Window)
open Cert.Kernel11Ideal Cert.Kernel11Ideal.Gen

/-- The gradient of the transposed weights, from the cotangent `a` of the product and its left side `ct`. -/
def grad (a : FVec Ideal S4096x1024 .bf16) (ct : FVec Ideal S4096x256 .bf16) (i : S1024x256.Idx) : EReal :=
  ∑ k : Fin 4096, a (ix2 k (i 0)) * ct (ix2 k (i 1))

/-! ## One block -/

theorem pay1_at (x : FVec Ideal S4096x512 .bf16) (y : FVec Ideal S4096x256 .bf16) (j : Fin 512) (n : Fin 256) :
    k0_pay1 (F := Ideal) x y (ix2 j n) = ∑ k : Fin 4096, x (ix2 k j) * y (ix2 k n) := by
  pointwise [k0_pay1]

theorem out2_eq (x : FVec Ideal S4096x512 .bf16) (y : FVec Ideal S4096x256 .bf16) : out0_2 (F := Ideal) x y = k0_pay1 (F := Ideal) x y := by
  have hz2 : (![0, 0] : Fin S512x256.rank → Nat) = fun _ => 0 := funext fun a => by fin_cases a <;> rfl
  have hz0 : (![0, 0] : Fin S4096x512.rank → Nat) = fun _ => 0 := funext fun a => by fin_cases a <;> rfl
  have hz1 : (![0, 0] : Fin S4096x256.rank → Nat) = fun _ => 0 := funext fun a => by fin_cases a <;> rfl
  unfold out0_2
  rw [View.canon_unit_zero hz2, View.ld_unit_zero hz0, View.ld_unit_zero hz1]

/-! ## The grid's blocks -/

variable (m : (ℓ : Loc nD τ sig) → Buf (Elt Ideal) ℓ) (ρ : Dev nD → PrngReg)

/-- The cotangent of the product, -/
def A0 (c : Dev nD) : FVec Ideal S4096x1024 .bf16 := m ((c.tc : Thread nD τ).loc main_arg0)
/-- and its left side. -/
def C0 (c : Dev nD) : FVec Ideal S4096x256 .bf16 := m ((c.tc : Thread nD τ).loc main_arg1)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem iblk0_apply (c : Dev nD) (t : Fin cfg0.N) (a : Fin 4096) (b : Fin 512) (j : Fin 1024) (hj : j.val = 512 * t.val + b.val) :
    (iblk m c 0 t : FVec Ideal S4096x512 .bf16) (ix2 a b) = A0 m c (ix2 a j) :=
  congrArg (V m c main_arg0) (ext2 (blk (index0 t).1 (by simp only [ix2]; omega)) (blk (index0 t).2 (row hj)))

theorem iblk1_apply (c : Dev nD) (t : Fin cfg0.N) (a : Fin 4096) (b : Fin 256) :
    (iblk m c 1 t : FVec Ideal S4096x256 .bf16) (ix2 a b) = C0 m c (ix2 a b) :=
  congrArg (V m c main_arg1) (ext2 (blk (index1 t).1 (by simp only [ix2]; omega)) (blk (index1 t).2 (by simp only [ix2]; omega)))

/-- What a point leaves at row `j` and column `n` of its block. -/
theorem block_at (c : Dev nD) (t : Fin cfg0.N) (j : Fin 512) (n : Fin 256) (i : S1024x256.Idx)
    (h0 : (i 0).val = 512 * t.val + j.val) (h1 : (i 1).val = n.val) :
    k0_pay1 (F := Ideal) (iblk m c 0 t) (iblk m c 1 t) (ix2 j n) = grad (A0 m c) (C0 m c) i := by
  have hn : (i 1 : Fin 256) = n := Fin.ext h1
  refine (pay1_at _ _ j n).trans ?_
  unfold grad
  refine Finset.sum_congr rfl fun k _ => ?_
  rw [hn]
  exact congrArg₂ (· * ·) (iblk0_apply m c t k j (i 0) h0) (iblk1_apply m c t k n)

theorem flushed2 (c : Dev nD) (t : Fin cfg0.N) (_hf : (cfg0.win 2).flush t = true) :
    (dats m 0 c).flushed 2 t = ((cfg0.win 2).blk t).view.read (Elt Ideal) (grad (A0 m c) (C0 m c)) := by
  have hi := index2 t
  rw [Value.flushed2, out2_eq]
  funext x
  rw [View.read_apply]
  have h0 : (x 0).val < 512 := (x 0).isLt
  have h1 : (x 1).val < 256 := (x 1).isLt
  obtain ⟨j, n, rfl⟩ : ∃ (j : Fin 512) (n : Fin 256), x = ix2 j n := ⟨x 0, x 1, eq_ix2 x⟩
  refine block_at m c t j n _ ?_ ?_
  · show win0_2.index t 0 * 512 + 1 * j.val = _
    rw [hi.1]; omega
  · show win0_2.index t 1 * 256 + 1 * n.val = _
    rw [hi.2]; omega

theorem final2 (c : Dev nD) : (dats m 0 c).arrAt 2 cfg0.N = grad (A0 m c) (C0 m c) :=
  (dats m 0 c).arrAt_eq_of_cover 2 (grad (A0 m c) (C0 m c)) (flushed2 m c) fun i => by
    have h0 : (i 0 : Nat) < 1024 := (i 0).isLt
    have h1 : (i 1 : Nat) < 256 := (i 1).isLt
    have hlt : (i 0).val / 512 < cfg0.N := by rw [show cfg0.N = 2 from N_0]; omega
    have hi := index2 ⟨(i 0).val / 512, hlt⟩
    refine ⟨⟨(i 0).val / 512, hlt⟩, flush0_2 _, ?_⟩
    show i ∈ ((View.whole main_v0).slice (win0_2.rect ⟨(i 0).val / 512, hlt⟩)).set
    rw [View.set_slice_whole, Rect.mem_set_unit]
    dsimp only at hi
    intro a
    match a with
    | ⟨0, _⟩ =>
      show win0_2.index ⟨(i 0).val / 512, hlt⟩ 0 * 512 ≤ (i 0 : Nat) ∧ (i 0 : Nat) < win0_2.index ⟨(i 0).val / 512, hlt⟩ 0 * 512 + 512
      rw [hi.1]; omega
    | ⟨1, _⟩ =>
      show win0_2.index ⟨(i 0).val / 512, hlt⟩ 1 * 256 ≤ (i 1 : Nat) ∧ (i 1 : Nat) < win0_2.index ⟨(i 0).val / 512, hlt⟩ 1 * 256 + 256
      rw [hi.2]; omega

/-- The kernel's run: its result, and its arguments unchanged. -/
theorem run : θ_run defs (onTc (τ := τ) (main (F := Ideal))) ⟨m, fun _ => 0, ρ⟩ fun r => ∀ c : Dev nD,
      r.2.mem ((c.tc : Thread nD τ).loc main_v0) = grad (A0 m c) (C0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩)
    (Value.run_blocks m ρ)

/-! ## The reference -/

open Cert.Reference11Ideal.Read in
theorem ref6 (a : FVec Ideal S4096x1024 .bf16) (ct : FVec Ideal S4096x256 .bf16) :
    val_main_v6 (F := Ideal) a ct = grad a ct := by
  funext i
  obtain ⟨j, n, rfl⟩ : ∃ (j : Fin 1024) (n : Fin 256), i = ix2 j n := ⟨i 0, i 1, eq_ix2 i⟩
  have e : idx_main_v5 (idx_main_v6 (ix2 j n)) = ix2 j n := ext2 rfl rfl
  rw [val_main_v6_apply, val_main_v5_apply, e, val_main_v4_apply]
  unfold grad
  refine Finset.sum_congr rfl fun k _ => ?_
  rw [val_main_v3_apply, val_main_v1_apply]
  have e0 : lidx_main_v4 (ix2 j n) k = ix2 k j := ext2 rfl rfl
  have e1 : ridx_main_v4 (ix2 j n) k = ix2 k n := ext2 rfl rfl
  rw [e0, e1]
  rfl

end Cert.Kernel11Ideal.WGradK

end
-- ==== Proof.WGradOM.lean ====
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Ix
public import Idealize.ShloMosaic.Lib.Pointwise
public import Idealize.ShloMosaic.Lib.Tactic
public import Idealize.ShloMosaic.Lib.Pipeline.Value
public import Idealize.ShloMosaic.Lib.Claim

/-! The gradient of the output projection's first 512 rows, those of the mLSTM, over the extended reals: the kernel's result and the reference's
are, at a row `j` and a column `n`, the sum over the 4096 tokens of the left side at `j` times the cotangent at `n`. -/

@[expose] public section

set_option maxRecDepth 16384

noncomputable section

namespace Cert.Kernel12Ideal.WGradOM

open Idealize.ShloMosaic Idealize.ShloMosaic.TcCoe Idealize.ShloMosaic.Tactic
open Idealize.SL.Sem
open Cert.Ix (ext2 blk row)
open Idealize.ShloMosaic.Pipeline (Dat Cfg Window)
open Cert.Kernel12Ideal Cert.Kernel12Ideal.Gen

/-- The gradient of the weights, from the left side `a` of the product and its cotangent `ct`. -/
def grad (a : FVec Ideal S4096x512 .bf16) (ct : FVec Ideal S4096x1024 .bf16) (i : S512x1024.Idx) : EReal :=
  ∑ k : Fin 4096, a (ix2 k (i 0)) * ct (ix2 k (i 1))

/-! ## One block -/

theorem pay1_at (x : FVec Ideal S4096x512 .bf16) (y : FVec Ideal S4096x1024 .bf16) (j : Fin 512) (n : Fin 1024) :
    k0_pay1 (F := Ideal) x y (ix2 j n) = ∑ k : Fin 4096, x (ix2 k j) * y (ix2 k n) := by
  pointwise [k0_pay1]

theorem out2_eq (x : FVec Ideal S4096x512 .bf16) (y : FVec Ideal S4096x1024 .bf16) : out0_2 (F := Ideal) x y = k0_pay1 (F := Ideal) x y := by
  have hz2 : (![0, 0] : Fin S512x1024.rank → Nat) = fun _ => 0 := funext fun a => by fin_cases a <;> rfl
  have hz0 : (![0, 0] : Fin S4096x512.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz2, View.ld_unit_zero hz0, View.ld_unit_zero hz1]

/-! ## The grid's blocks -/

variable (m : (ℓ : Loc nD τ sig) → Buf (Elt Ideal) ℓ) (ρ : Dev nD → PrngReg)

/-- The left side of the product, -/
def A0 (c : Dev nD) : FVec Ideal S4096x512 .bf16 := m ((c.tc : Thread nD τ).loc main_arg0)
/-- and its cotangent. -/
def C0 (c : Dev nD) : FVec Ideal S4096x1024 .bf16 := m ((c.tc : Thread nD τ).loc main_arg1)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem iblk0_apply (c : Dev nD) (t : Fin cfg0.N) (a : Fin 4096) (b : Fin 512) (j : Fin 512) (hj : j.val = 512 * t.val + b.val) :
    (iblk m c 0 t : FVec Ideal S4096x512 .bf16) (ix2 a b) = A0 m c (ix2 a j) :=
  congrArg (V m c main_arg0) (ext2 (blk (index0 t).1 (by simp only [ix2]; omega)) (blk (index0 t).2 (row hj)))

theorem iblk1_apply (c : Dev nD) (t : Fin cfg0.N) (a : Fin 4096) (b : Fin 1024) :
    (iblk m c 1 t : FVec Ideal S4096x1024 .bf16) (ix2 a b) = C0 m c (ix2 a b) :=
  congrArg (V m c main_arg1) (ext2 (blk (index1 t).1 (by simp only [ix2]; omega)) (blk (index1 t).2 (by simp only [ix2]; omega)))

/-- What a point leaves at row `j` and column `n` of its block. -/
theorem block_at (c : Dev nD) (t : Fin cfg0.N) (j : Fin 512) (n : Fin 1024) (i : S512x1024.Idx)
    (h0 : (i 0).val = 512 * t.val + j.val) (h1 : (i 1).val = n.val) :
    k0_pay1 (F := Ideal) (iblk m c 0 t) (iblk m c 1 t) (ix2 j n) = grad (A0 m c) (C0 m c) i := by
  have hn : (i 1 : Fin 1024) = n := Fin.ext h1
  refine (pay1_at _ _ j n).trans ?_
  unfold grad
  refine Finset.sum_congr rfl fun k _ => ?_
  rw [hn]
  exact congrArg₂ (· * ·) (iblk0_apply m c t k j (i 0) h0) (iblk1_apply m c t k n)

theorem flushed2 (c : Dev nD) (t : Fin cfg0.N) (_hf : (cfg0.win 2).flush t = true) :
    (dats m 0 c).flushed 2 t = ((cfg0.win 2).blk t).view.read (Elt Ideal) (grad (A0 m c) (C0 m c)) := by
  have hi := index2 t
  rw [Value.flushed2, out2_eq]
  funext x
  rw [View.read_apply]
  have h0 : (x 0).val < 512 := (x 0).isLt
  have h1 : (x 1).val < 1024 := (x 1).isLt
  obtain ⟨j, n, rfl⟩ : ∃ (j : Fin 512) (n : Fin 1024), x = ix2 j n := ⟨x 0, x 1, eq_ix2 x⟩
  refine block_at m c t j n _ ?_ ?_
  · show win0_2.index t 0 * 512 + 1 * j.val = _
    rw [hi.1]; omega
  · show win0_2.index t 1 * 1024 + 1 * n.val = _
    rw [hi.2]; omega

theorem final2 (c : Dev nD) : (dats m 0 c).arrAt 2 cfg0.N = grad (A0 m c) (C0 m c) :=
  (dats m 0 c).arrAt_eq_of_cover 2 (grad (A0 m c) (C0 m c)) (flushed2 m c) fun i => by
    have h0 : (i 0 : Nat) < 512 := (i 0).isLt
    have h1 : (i 1 : Nat) < 1024 := (i 1).isLt
    have hlt : (i 0).val / 512 < cfg0.N := by rw [show cfg0.N = 1 from N_0]; omega
    have hi := index2 ⟨(i 0).val / 512, hlt⟩
    refine ⟨⟨(i 0).val / 512, hlt⟩, flush0_2 _, ?_⟩
    show i ∈ ((View.whole main_v0).slice (win0_2.rect ⟨(i 0).val / 512, hlt⟩)).set
    rw [View.set_slice_whole, Rect.mem_set_unit]
    dsimp only at hi
    intro a
    match a with
    | ⟨0, _⟩ =>
      show win0_2.index ⟨(i 0).val / 512, hlt⟩ 0 * 512 ≤ (i 0 : Nat) ∧ (i 0 : Nat) < win0_2.index ⟨(i 0).val / 512, hlt⟩ 0 * 512 + 512
      rw [hi.1]; omega
    | ⟨1, _⟩ =>
      show win0_2.index ⟨(i 0).val / 512, hlt⟩ 1 * 1024 ≤ (i 1 : Nat) ∧ (i 1 : Nat) < win0_2.index ⟨(i 0).val / 512, hlt⟩ 1 * 1024 + 1024
      rw [hi.2]; omega

/-- The kernel's run: its result, and its arguments unchanged. -/
theorem run : θ_run defs (onTc (τ := τ) (main (F := Ideal))) ⟨m, fun _ => 0, ρ⟩ fun r => ∀ c : Dev nD,
      r.2.mem ((c.tc : Thread nD τ).loc main_v0) = grad (A0 m c) (C0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩)
    (Value.run_blocks m ρ)

/-! ## The reference -/

open Cert.Reference12Ideal.Read in
theorem ref5 (a : FVec Ideal S4096x512 .bf16) (ct : FVec Ideal S4096x1024 .bf16) :
    val_main_v5 (F := Ideal) a ct = grad a ct := by
  funext i
  rw [val_main_v5_apply, val_main_v4_apply]
  unfold grad
  refine Finset.sum_congr rfl fun k _ => ?_
  rw [val_main_v3_apply, val_main_v1_apply, mul_comm]
  have e0 : ridx_main_v4 (idx_main_v5 i) k = ix2 k (i 0) := ext2 rfl rfl
  have e1 : lidx_main_v4 (idx_main_v5 i) k = ix2 k (i 1) := ext2 rfl rfl
  rw [e0, e1]
  rfl

end Cert.Kernel12Ideal.WGradOM

end
-- ==== Proof.WGradOA.lean ====
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Ix
public import Idealize.ShloMosaic.Lib.Pointwise
public import Idealize.ShloMosaic.Lib.Tactic
public import Idealize.ShloMosaic.Lib.Pipeline.Value
public import Idealize.ShloMosaic.Lib.Claim

/-! The gradient of the attention's rows of the output projection, every head's padded to 128, over the extended reals: the kernel's result and the reference's
are, at a row `j` and a column `n`, the sum over the 4096 tokens of the left side at `j` times the cotangent at `n`. -/

@[expose] public section

set_option maxRecDepth 16384

noncomputable section

namespace Cert.Kernel13Ideal.WGradOA

open Idealize.ShloMosaic Idealize.ShloMosaic.TcCoe Idealize.ShloMosaic.Tactic
open Idealize.SL.Sem
open Cert.Ix (ext2 blk row)
open Idealize.ShloMosaic.Pipeline (Dat Cfg Window)
open Cert.Kernel13Ideal Cert.Kernel13Ideal.Gen

/-- The gradient of the weights, from the left side `a` of the product and its cotangent `ct`. -/
def grad (a : FVec Ideal S4096x1024 .bf16) (ct : FVec Ideal S4096x1024 .bf16) (i : S1024x1024.Idx) : EReal :=
  ∑ k : Fin 4096, a (ix2 k (i 0)) * ct (ix2 k (i 1))

/-! ## One block -/

theorem pay1_at (x : FVec Ideal S4096x512 .bf16) (y : FVec Ideal S4096x1024 .bf16) (j : Fin 512) (n : Fin 1024) :
    k0_pay1 (F := Ideal) x y (ix2 j n) = ∑ k : Fin 4096, x (ix2 k j) * y (ix2 k n) := by
  pointwise [k0_pay1]

theorem out2_eq (x : FVec Ideal S4096x512 .bf16) (y : FVec Ideal S4096x1024 .bf16) : out0_2 (F := Ideal) x y = k0_pay1 (F := Ideal) x y := by
  have hz2 : (![0, 0] : Fin S512x1024.rank → Nat) = fun _ => 0 := funext fun a => by fin_cases a <;> rfl
  have hz0 : (![0, 0] : Fin S4096x512.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz2, View.ld_unit_zero hz0, View.ld_unit_zero hz1]

/-! ## The grid's blocks -/

variable (m : (ℓ : Loc nD τ sig) → Buf (Elt Ideal) ℓ) (ρ : Dev nD → PrngReg)

/-- The left side of the product, -/
def A0 (c : Dev nD) : FVec Ideal S4096x1024 .bf16 := m ((c.tc : Thread nD τ).loc main_arg0)
/-- and its cotangent. -/
def C0 (c : Dev nD) : FVec Ideal S4096x1024 .bf16 := m ((c.tc : Thread nD τ).loc main_arg1)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem iblk0_apply (c : Dev nD) (t : Fin cfg0.N) (a : Fin 4096) (b : Fin 512) (j : Fin 1024) (hj : j.val = 512 * t.val + b.val) :
    (iblk m c 0 t : FVec Ideal S4096x512 .bf16) (ix2 a b) = A0 m c (ix2 a j) :=
  congrArg (V m c main_arg0) (ext2 (blk (index0 t).1 (by simp only [ix2]; omega)) (blk (index0 t).2 (row hj)))

theorem iblk1_apply (c : Dev nD) (t : Fin cfg0.N) (a : Fin 4096) (b : Fin 1024) :
    (iblk m c 1 t : FVec Ideal S4096x1024 .bf16) (ix2 a b) = C0 m c (ix2 a b) :=
  congrArg (V m c main_arg1) (ext2 (blk (index1 t).1 (by simp only [ix2]; omega)) (blk (index1 t).2 (by simp only [ix2]; omega)))

/-- What a point leaves at row `j` and column `n` of its block. -/
theorem block_at (c : Dev nD) (t : Fin cfg0.N) (j : Fin 512) (n : Fin 1024) (i : S1024x1024.Idx)
    (h0 : (i 0).val = 512 * t.val + j.val) (h1 : (i 1).val = n.val) :
    k0_pay1 (F := Ideal) (iblk m c 0 t) (iblk m c 1 t) (ix2 j n) = grad (A0 m c) (C0 m c) i := by
  have hn : (i 1 : Fin 1024) = n := Fin.ext h1
  refine (pay1_at _ _ j n).trans ?_
  unfold grad
  refine Finset.sum_congr rfl fun k _ => ?_
  rw [hn]
  exact congrArg₂ (· * ·) (iblk0_apply m c t k j (i 0) h0) (iblk1_apply m c t k n)

theorem flushed2 (c : Dev nD) (t : Fin cfg0.N) (_hf : (cfg0.win 2).flush t = true) :
    (dats m 0 c).flushed 2 t = ((cfg0.win 2).blk t).view.read (Elt Ideal) (grad (A0 m c) (C0 m c)) := by
  have hi := index2 t
  rw [Value.flushed2, out2_eq]
  funext x
  rw [View.read_apply]
  have h0 : (x 0).val < 512 := (x 0).isLt
  have h1 : (x 1).val < 1024 := (x 1).isLt
  obtain ⟨j, n, rfl⟩ : ∃ (j : Fin 512) (n : Fin 1024), x = ix2 j n := ⟨x 0, x 1, eq_ix2 x⟩
  refine block_at m c t j n _ ?_ ?_
  · show win0_2.index t 0 * 512 + 1 * j.val = _
    rw [hi.1]; omega
  · show win0_2.index t 1 * 1024 + 1 * n.val = _
    rw [hi.2]; omega

theorem final2 (c : Dev nD) : (dats m 0 c).arrAt 2 cfg0.N = grad (A0 m c) (C0 m c) :=
  (dats m 0 c).arrAt_eq_of_cover 2 (grad (A0 m c) (C0 m c)) (flushed2 m c) fun i => by
    have h0 : (i 0 : Nat) < 1024 := (i 0).isLt
    have h1 : (i 1 : Nat) < 1024 := (i 1).isLt
    have hlt : (i 0).val / 512 < cfg0.N := by rw [show cfg0.N = 2 from N_0]; omega
    have hi := index2 ⟨(i 0).val / 512, hlt⟩
    refine ⟨⟨(i 0).val / 512, hlt⟩, flush0_2 _, ?_⟩
    show i ∈ ((View.whole main_v0).slice (win0_2.rect ⟨(i 0).val / 512, hlt⟩)).set
    rw [View.set_slice_whole, Rect.mem_set_unit]
    dsimp only at hi
    intro a
    match a with
    | ⟨0, _⟩ =>
      show win0_2.index ⟨(i 0).val / 512, hlt⟩ 0 * 512 ≤ (i 0 : Nat) ∧ (i 0 : Nat) < win0_2.index ⟨(i 0).val / 512, hlt⟩ 0 * 512 + 512
      rw [hi.1]; omega
    | ⟨1, _⟩ =>
      show win0_2.index ⟨(i 0).val / 512, hlt⟩ 1 * 1024 ≤ (i 1 : Nat) ∧ (i 1 : Nat) < win0_2.index ⟨(i 0).val / 512, hlt⟩ 1 * 1024 + 1024
      rw [hi.2]; omega

/-- The kernel's run: its result, and its arguments unchanged. -/
theorem run : θ_run defs (onTc (τ := τ) (main (F := Ideal))) ⟨m, fun _ => 0, ρ⟩ fun r => ∀ c : Dev nD,
      r.2.mem ((c.tc : Thread nD τ).loc main_v0) = grad (A0 m c) (C0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩)
    (Value.run_blocks m ρ)

/-! ## The reference -/

open Cert.Reference13Ideal.Read in
theorem ref5 (a : FVec Ideal S4096x1024 .bf16) (ct : FVec Ideal S4096x1024 .bf16) :
    val_main_v5 (F := Ideal) a ct = grad a ct := by
  funext i
  rw [val_main_v5_apply, val_main_v4_apply]
  unfold grad
  refine Finset.sum_congr rfl fun k _ => ?_
  rw [val_main_v3_apply, val_main_v1_apply, mul_comm]
  have e0 : ridx_main_v4 (idx_main_v5 i) k = ix2 k (i 0) := ext2 rfl rfl
  have e1 : lidx_main_v4 (idx_main_v5 i) k = ix2 k (i 1) := ext2 rfl rfl
  rw [e0, e1]
  rfl

end Cert.Kernel13Ideal.WGradOA

end
-- ==== Proof.WGradG.lean ====
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Ix
public import Idealize.ShloMosaic.Lib.Pointwise
public import Idealize.ShloMosaic.Lib.Tactic
public import Idealize.ShloMosaic.Lib.Pipeline.Value
public import Idealize.ShloMosaic.Lib.Claim

/-! The gradient of the gates' and the rotary key's part of the input projection, transposed, over the extended reals: the kernel's result and the
reference's are, at a row `j` and a column `n`, the sum over the 4096 tokens of the cotangent at `j` times the left side at `n`. -/

@[expose] public section

set_option maxRecDepth 16384

noncomputable section

namespace Cert.Kernel14Ideal.WGradG

open Idealize.ShloMosaic Idealize.ShloMosaic.TcCoe Idealize.ShloMosaic.Tactic
open Idealize.SL.Sem
open Cert.Ix (ext2 blk row)
open Idealize.ShloMosaic.Pipeline (Dat Cfg Window)
open Cert.Kernel14Ideal Cert.Kernel14Ideal.Gen

/-- The gradient of the transposed weights, from the cotangent `a` of the product and its left side `ct`. -/
def grad (a : FVec Ideal S4096x128 .bf16) (ct : FVec Ideal S4096x1024 .bf16) (i : S128x1024.Idx) : EReal :=
  ∑ k : Fin 4096, a (ix2 k (i 0)) * ct (ix2 k (i 1))

/-! ## One block -/

theorem pay1_at (x : FVec Ideal S4096x128 .bf16) (y : FVec Ideal S4096x1024 .bf16) (j : Fin 128) (n : Fin 1024) :
    k0_pay1 (F := Ideal) x y (ix2 j n) = ∑ k : Fin 4096, x (ix2 k j) * y (ix2 k n) := by
  pointwise [k0_pay1]

theorem out2_eq (x : FVec Ideal S4096x128 .bf16) (y : FVec Ideal S4096x1024 .bf16) : out0_2 (F := Ideal) x y = k0_pay1 (F := Ideal) x y := by
  have hz2 : (![0, 0] : Fin S128x1024.rank → Nat) = fun _ => 0 := funext fun a => by fin_cases a <;> rfl
  have hz0 : (![0, 0] : Fin S4096x128.rank → Nat) = fun _ => 0 := funext fun a => by fin_cases a <;> rfl
  have hz1 : (![0, 0] : Fin S4096x1024.rank → Nat) = fun _ => 0 := funext fun a => by fin_cases a <;> rfl
  unfold out0_2
  rw [View.canon_unit_zero hz2, View.ld_unit_zero hz0, View.ld_unit_zero hz1]

/-! ## The grid's blocks -/

variable (m : (ℓ : Loc nD τ sig) → Buf (Elt Ideal) ℓ) (ρ : Dev nD → PrngReg)

/-- The cotangent of the product, -/
def A0 (c : Dev nD) : FVec Ideal S4096x128 .bf16 := m ((c.tc : Thread nD τ).loc main_arg0)
/-- and its left side. -/
def C0 (c : Dev nD) : FVec Ideal S4096x1024 .bf16 := m ((c.tc : Thread nD τ).loc main_arg1)

theorem index0 : ∀ t : Fin grid0.N, win0_0.index t 0 = 0 ∧ win0_0.index t 1 = t.val := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem iblk0_apply (c : Dev nD) (t : Fin cfg0.N) (a : Fin 4096) (b : Fin 128) (j : Fin 128) (hj : j.val = 128 * t.val + b.val) :
    (iblk m c 0 t : FVec Ideal S4096x128 .bf16) (ix2 a b) = A0 m c (ix2 a j) :=
  congrArg (V m c main_arg0) (ext2 (blk (index0 t).1 (by simp only [ix2]; omega)) (blk (index0 t).2 (row hj)))

theorem iblk1_apply (c : Dev nD) (t : Fin cfg0.N) (a : Fin 4096) (b : Fin 1024) :
    (iblk m c 1 t : FVec Ideal S4096x1024 .bf16) (ix2 a b) = C0 m c (ix2 a b) :=
  congrArg (V m c main_arg1) (ext2 (blk (index1 t).1 (by simp only [ix2]; omega)) (blk (index1 t).2 (by simp only [ix2]; omega)))

/-- What a point leaves at row `j` and column `n` of its block. -/
theorem block_at (c : Dev nD) (t : Fin cfg0.N) (j : Fin 128) (n : Fin 1024) (i : S128x1024.Idx)
    (h0 : (i 0).val = 128 * t.val + j.val) (h1 : (i 1).val = n.val) :
    k0_pay1 (F := Ideal) (iblk m c 0 t) (iblk m c 1 t) (ix2 j n) = grad (A0 m c) (C0 m c) i := by
  have hn : (i 1 : Fin 1024) = n := Fin.ext h1
  refine (pay1_at _ _ j n).trans ?_
  unfold grad
  refine Finset.sum_congr rfl fun k _ => ?_
  rw [hn]
  exact congrArg₂ (· * ·) (iblk0_apply m c t k j (i 0) h0) (iblk1_apply m c t k n)

theorem flushed2 (c : Dev nD) (t : Fin cfg0.N) (_hf : (cfg0.win 2).flush t = true) :
    (dats m 0 c).flushed 2 t = ((cfg0.win 2).blk t).view.read (Elt Ideal) (grad (A0 m c) (C0 m c)) := by
  have hi := index2 t
  rw [Value.flushed2, out2_eq]
  funext x
  rw [View.read_apply]
  have h0 : (x 0).val < 128 := (x 0).isLt
  have h1 : (x 1).val < 1024 := (x 1).isLt
  obtain ⟨j, n, rfl⟩ : ∃ (j : Fin 128) (n : Fin 1024), x = ix2 j n := ⟨x 0, x 1, eq_ix2 x⟩
  refine block_at m c t j n _ ?_ ?_
  · show win0_2.index t 0 * 128 + 1 * j.val = _
    rw [hi.1]; omega
  · show win0_2.index t 1 * 1024 + 1 * n.val = _
    rw [hi.2]; omega

theorem final2 (c : Dev nD) : (dats m 0 c).arrAt 2 cfg0.N = grad (A0 m c) (C0 m c) :=
  (dats m 0 c).arrAt_eq_of_cover 2 (grad (A0 m c) (C0 m c)) (flushed2 m c) fun i => by
    have h0 : (i 0 : Nat) < 128 := (i 0).isLt
    have h1 : (i 1 : Nat) < 1024 := (i 1).isLt
    have hlt : (i 0).val / 128 < cfg0.N := by rw [show cfg0.N = 1 from N_0]; omega
    have hi := index2 ⟨(i 0).val / 128, hlt⟩
    refine ⟨⟨(i 0).val / 128, hlt⟩, flush0_2 _, ?_⟩
    show i ∈ ((View.whole main_v0).slice (win0_2.rect ⟨(i 0).val / 128, hlt⟩)).set
    rw [View.set_slice_whole, Rect.mem_set_unit]
    dsimp only at hi
    intro a
    match a with
    | ⟨0, _⟩ =>
      show win0_2.index ⟨(i 0).val / 128, hlt⟩ 0 * 128 ≤ (i 0 : Nat) ∧ (i 0 : Nat) < win0_2.index ⟨(i 0).val / 128, hlt⟩ 0 * 128 + 128
      rw [hi.1]; omega
    | ⟨1, _⟩ =>
      show win0_2.index ⟨(i 0).val / 128, hlt⟩ 1 * 1024 ≤ (i 1 : Nat) ∧ (i 1 : Nat) < win0_2.index ⟨(i 0).val / 128, hlt⟩ 1 * 1024 + 1024
      rw [hi.2]; omega

/-- The kernel's run: its result, and its arguments unchanged. -/
theorem run : θ_run defs (onTc (τ := τ) (main (F := Ideal))) ⟨m, fun _ => 0, ρ⟩ fun r => ∀ c : Dev nD,
      r.2.mem ((c.tc : Thread nD τ).loc main_v0) = grad (A0 m c) (C0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩)
    (Value.run_blocks m ρ)

/-! ## The reference -/

open Cert.Reference14Ideal.Read in
theorem ref6 (a : FVec Ideal S4096x128 .bf16) (ct : FVec Ideal S4096x1024 .bf16) :
    val_main_v6 (F := Ideal) a ct = grad a ct := by
  funext i
  obtain ⟨j, n, rfl⟩ : ∃ (j : Fin 128) (n : Fin 1024), i = ix2 j n := ⟨i 0, i 1, eq_ix2 i⟩
  have e : idx_main_v5 (idx_main_v6 (ix2 j n)) = ix2 j n := ext2 rfl rfl
  rw [val_main_v6_apply, val_main_v5_apply, e, val_main_v4_apply]
  unfold grad
  refine Finset.sum_congr rfl fun k _ => ?_
  rw [val_main_v3_apply, val_main_v1_apply]
  have e0 : lidx_main_v4 (ix2 j n) k = ix2 k j := ext2 rfl rfl
  have e1 : ridx_main_v4 (ix2 j n) k = ix2 k n := ext2 rfl rfl
  rw [e0, e1]
  rfl

end Cert.Kernel14Ideal.WGradG

end
-- ==== Proof.LatQBody.lean ====
module

public import proofs.«01_k».proof.Proof.Gen.Kernel15Ideal.Value
public import Idealize.ShloMosaic.Lib.Pointwise
public import Idealize.ShloMosaic.Lib.Tactic
public import Idealize.ShloMosaic.Lib.Pipeline.Value

/-! The gradient of the norm of the query latent: what the body leaves in its two output blocks, as its payloads of the input blocks. Point 0 stores
the block's column sums, every later point adds them to what it finds. -/

@[expose] public section

set_option maxRecDepth 16384

noncomputable section

namespace Cert.Kernel15Ideal.LatQBody

open Idealize.ShloMosaic Idealize.ShloMosaic.TcCoe Idealize.ShloMosaic.Tactic
open Idealize.SL.Sem
open Cert.Kernel15Ideal Cert.Kernel15Ideal.Gen

variable {F : FTy → Type} [FloatOps F]

theorem hz : (![0, 0] : Fin 2 → Nat) = fun _ => 0 := funext fun a => by fin_cases a <;> rfl

variable (c : Dev nD) (i : grid0.Coords) (arg1 : Memref sig .tc .vmem S512x1024 .bf16) (harg1 : arg1.IsWhole)
  (arg2 : Memref sig .tc .vmem S1024x384 .bf16) (harg2 : arg2.IsWhole) (arg3 : Memref sig .tc .vmem S512x384 .bf16)
  (harg3 : arg3.IsWhole) (arg4 : Memref sig .tc .vmem S1x384 .f32) (harg4 : arg4.IsWhole)
  (arg5 : Memref sig .tc .vmem S512x384 .bf16) (harg5 : arg5.IsWhole) (arg6 : Memref sig .tc .vmem S1x384 .f32)
  (harg6 : arg6.IsWhole)

theorem out_A_4 (hc0 : cond0_0 i) (hc1 : ¬cond0_1 i)
    (x0 : Vec F S512x1024 .bf16) (x1 : Vec F S1024x384 .bf16) (x2 : Vec F S512x384 .bf16) (x3 : Vec F S1x384 .f32) :
    out0_A_4 c i arg1 harg1 arg2 harg2 arg3 harg3 arg4 harg4 arg5 harg5 arg6 harg6 hc0 hc1 x0 x1 x2 x3 = k0_pay6 x1 x0 x2 x3 := by
  unfold out0_A_4
  rw [View.read_writes_eq_canon _ _ _ (cover0_A_4 c i arg1 harg1 arg2 harg2 arg3 harg3 arg4 harg4 arg5 harg5 arg6 harg6 hc0 hc1 x0 x1 x2 x3)]
  unfold kernelRun0_A
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S1024x384) hz, View.ld_unit_zero (S := S512x384) hz, View.ld_unit_zero (S := S1x384) hz]

theorem out_A_5 (hc0 : cond0_0 i) (hc1 : ¬cond0_1 i)
    (x0 : Vec F S512x1024 .bf16) (x1 : Vec F S1024x384 .bf16) (x2 : Vec F S512x384 .bf16) (x3 : Vec F S1x384 .f32) :
    out0_A_5 c i arg1 harg1 arg2 harg2 arg3 harg3 arg4 harg4 arg5 harg5 arg6 harg6 hc0 hc1 x0 x1 x2 x3 = k0_pay7 x1 x0 x2 := by
  unfold out0_A_5
  rw [View.read_writes_eq_canon _ _ _ (cover0_A_5 c i arg1 harg1 arg2 harg2 arg3 harg3 arg4 harg4 arg5 harg5 arg6 harg6 hc0 hc1 x0 x1 x2 x3)]
  unfold kernelRun0_A
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S1024x384) hz, View.ld_unit_zero (S := S512x384) hz, View.ld_unit_zero (S := S1x384) hz]

theorem out_B_4 (hc0 : ¬cond0_0 i) (hc1 : cond0_1 i)
    (x0 : Vec F S512x1024 .bf16) (x1 : Vec F S1024x384 .bf16) (x2 : Vec F S512x384 .bf16) (x3 : Vec F S1x384 .f32) (xo5 : Vec F S1x384 .f32) :
    out0_B_4 c i arg1 harg1 arg2 harg2 arg3 harg3 arg4 harg4 arg5 harg5 arg6 harg6 hc0 hc1 x0 x1 x2 x3 xo5 = k0_pay6 x1 x0 x2 x3 := by
  unfold out0_B_4
  rw [View.read_writes_eq_canon _ _ _ (cover0_B_4 c i arg1 harg1 arg2 harg2 arg3 harg3 arg4 harg4 arg5 harg5 arg6 harg6 hc0 hc1 x0 x1 x2 x3 xo5)]
  unfold kernelRun0_B
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S1024x384) hz, View.ld_unit_zero (S := S512x384) hz, View.ld_unit_zero (S := S1x384) hz]

theorem out_B_5 (hc0 : ¬cond0_0 i) (hc1 : cond0_1 i)
    (x0 : Vec F S512x1024 .bf16) (x1 : Vec F S1024x384 .bf16) (x2 : Vec F S512x384 .bf16) (x3 : Vec F S1x384 .f32) (xo5 : Vec F S1x384 .f32) :
    out0_B_5 c i arg1 harg1 arg2 harg2 arg3 harg3 arg4 harg4 arg5 harg5 arg6 harg6 hc0 hc1 x0 x1 x2 x3 xo5 = k0_pay1 (k0_pay7 x1 x0 x2) xo5 := by
  unfold out0_B_5
  rw [View.read_writes_eq_canon _ _ _ (cover0_B_5 c i arg1 harg1 arg2 harg2 arg3 harg3 arg4 harg4 arg5 harg5 arg6 harg6 hc0 hc1 x0 x1 x2 x3 xo5)]
  unfold kernelRun0_B
  dsimp only
  sl_unfold_words
  rw [View.canon_unit_zero hz]
  simp only [View.readAt_eq_ld, harg1.read_unread, harg2.read_unread, harg3.read_unread, harg4.read_unread, harg6.read_unread, View.ld_unit_zero (S := S512x1024) hz, View.ld_unit_zero (S := S1024x384) hz, View.ld_unit_zero (S := S512x384) hz, View.ld_unit_zero (S := S1x384) hz]

end Cert.Kernel15Ideal.LatQBody

end
-- ==== Proof.NormLat.lean ====
module

public import Idealize.ShloMosaic.Lib.IdealHost
public import proofs.«01_k».proof.Proof.NormRow

/-! The gradient of a root mean square norm on one row of `n` extended reals, without a residual, in the two forms that the
kernel and the reference compute, and their equality for every row, finite or not. `W` is the row's width as the programs
write it. -/

@[expose] public section

noncomputable section

namespace Cert.NormLat

open Idealize.ShloMosaic
open Cert.NormRow (eps mhalf mhalf_eq eps_eq mul_sum_coe sq_nonneg sq_top)

variable {n : ℕ} (W : EReal)

/-- The mean square of a row plus the small constant, -/
def meanSq (h : Fin n → EReal) : EReal := Ideal.div (∑ k, h k * h k) W + eps
/-- and the row's factor. -/
def rinv (h : Fin n → EReal) : EReal := Ideal.rsqrt (meanSq W h)

/-- The kernel's gradient: `p` is the cotangent of the row over its factor. -/
def kdx (p h : Fin n → EReal) (j : Fin n) : EReal :=
  rinv W h * (p j - h j * rinv W h * Ideal.div (∑ k, p k * (h k * rinv W h)) W)

/-- The reference's coefficient of a row, -/
def rcoef (p h : Fin n → EReal) : EReal :=
  Ideal.div ((∑ k, h k * p k) * (mhalf * Ideal.div (rinv W h) (meanSq W h))) W

/-- and its gradient. -/
def rdx (p h : Fin n → EReal) (j : Fin n) : EReal :=
  p j * rinv W h + h j * rcoef W p h + rcoef W p h * h j

/-- A quotient by a positive width. -/
theorem div_W (N : ℝ) (hW : W = (N : EReal)) (hN : 0 < N) (x : EReal) : Ideal.div x W = x * ((1 / N : ℝ) : EReal) := by
  rw [hW, Ideal.div_coe hN.ne']

/-- A row with an infinite element has an infinite mean square. -/
theorem meanSq_top (N : ℝ) (hW : W = (N : EReal)) (hN : 0 < N) (h : Fin n → EReal) (k : Fin n) (hk : h k = ⊤ ∨ h k = ⊥) : meanSq W h = ⊤ := by
  obtain ⟨e, he, -⟩ := eps_eq
  have hs : ∑ k, h k * h k = ⊤ := by
    rw [← Finset.add_sum_erase _ _ (Finset.mem_univ k), sq_top _ hk]
    refine EReal.top_add_of_ne_bot ?_
    exact ne_of_gt (lt_of_lt_of_le EReal.bot_lt_zero (Finset.sum_nonneg fun k _ => sq_nonneg (h k)))
  unfold meanSq
  rw [hs, div_W W N hW hN, EReal.top_mul_coe_of_pos (by positivity), he, EReal.top_add_coe]

/-- The two forms agree. -/
theorem dx_eq (N : ℝ) (hW : W = (N : EReal)) (hN : 0 < N) (p h : Fin n → EReal) (j : Fin n) : rdx W p h j = kdx W p h j := by
  by_cases hf : ∃ k, h k = ⊤ ∨ h k = ⊥
  · obtain ⟨k, hk⟩ := hf
    have hm := meanSq_top W N hW hN h k hk
    have hr : rinv W h = 0 := by unfold rinv; rw [hm, Ideal.rsqrt_top]
    have hc : rcoef W p h = 0 := by
      unfold rcoef
      rw [hr, hm]
      have : Ideal.div 0 ⊤ = 0 := by simp [Ideal.div]
      rw [this, mul_zero, mul_zero, div_W W N hW hN, zero_mul]
    unfold rdx kdx
    rw [hr, hc]
    simp
  · obtain ⟨x, hx⟩ : ∃ x : Fin n → ℝ, ∀ k, h k = ((x k : ℝ) : EReal) := by
      refine ⟨fun k => (h k).toReal, fun k => (EReal.coe_toReal ?_ ?_).symm⟩
      · exact fun e => hf ⟨k, .inl e⟩
      · exact fun e => hf ⟨k, .inr e⟩
    obtain ⟨e, he, hep⟩ := eps_eq
    have hs : ∑ k, h k * h k = ((∑ k, x k * x k : ℝ) : EReal) := by
      rw [Cert.Attn.coe_sum]
      exact Finset.sum_congr rfl fun k _ => by rw [hx k, EReal.coe_mul]
    have hv : meanSq W h = (((∑ k, x k * x k) * (1 / N) + e : ℝ) : EReal) := by
      unfold meanSq
      rw [hs, div_W W N hW hN, he, EReal.coe_add, EReal.coe_mul]
    have hpos : 0 < (∑ k, x k * x k) * (1 / N) + e := by
      have : 0 ≤ ∑ k, x k * x k := Finset.sum_nonneg fun k _ => mul_self_nonneg (x k)
      positivity
    generalize (∑ k, x k * x k) * (1 / N) + e = v at hv hpos
    have hr : rinv W h = (((Real.sqrt v)⁻¹ : ℝ) : EReal) := by
      unfold rinv
      rw [hv, Ideal.rsqrt_coe, if_neg (not_lt.mpr hpos.le), if_neg hpos.ne']
    have hrp : 0 < (Real.sqrt v)⁻¹ := inv_pos.mpr (Real.sqrt_pos.mpr hpos)
    have hrv : 1 / v = (Real.sqrt v)⁻¹ * (Real.sqrt v)⁻¹ := by
      rw [← mul_inv, Real.mul_self_sqrt hpos.le, one_div]
    generalize (Real.sqrt v)⁻¹ = r at hr hrp hrv
    -- the kernel's inner sum is `r` times the reference's
    have hsum : ∑ k, p k * (h k * rinv W h) = (r : EReal) * ∑ k, h k * p k := by
      rw [mul_sum_coe _ r hrp.le]
      refine Finset.sum_congr rfl fun k _ => ?_
      rw [hr, mul_comm (h k) (r : EReal), mul_left_comm, mul_comm (p k)]
    have hcoef : rcoef W p h = (((-(1 / 2)) * (r * (r * r)) * (1 / N) : ℝ) : EReal) * ∑ k, h k * p k := by
      unfold rcoef
      rw [div_W W N hW hN, hv, hr, mhalf_eq, Ideal.div_coe hpos.ne', hrv]
      generalize ∑ k, h k * p k = S
      rw [mul_comm S, mul_right_comm]
      norm_cast
    unfold rdx kdx
    rw [hsum, hcoef, div_W W N hW hN, hr, hx j]
    generalize ∑ k, h k * p k = S
    generalize x j = y
    generalize p j = q
    have e1 : ((y : EReal) * (r : EReal)) * (((r : EReal) * S) * ((1 / N : ℝ) : EReal)) = ((y * r * r * (1 / N) : ℝ) : EReal) * S := by
      rw [mul_comm (r : EReal) S, mul_assoc S, mul_left_comm, mul_comm S]
      norm_cast
      ring_nf
    have e2 : (y : EReal) * ((((-(1 / 2)) * (r * (r * r)) * (1 / N) : ℝ) : EReal) * S)
        = ((y * ((-(1 / 2)) * (r * (r * r)) * (1 / N)) : ℝ) : EReal) * S := by
      rw [← mul_assoc, ← EReal.coe_mul]
    rw [e1, mul_comm _ (y : EReal), e2, sub_eq_add_neg,
      EReal.left_distrib_of_nonneg_of_ne_top (EReal.coe_nonneg.mpr hrp.le) (EReal.coe_ne_top r), ← EReal.neg_mul, ← EReal.coe_neg,
      ← mul_assoc (r : EReal) _ S, ← EReal.coe_mul, mul_comm q]
    have e3 : ∀ z : ℝ, (z : EReal) * S + (z : EReal) * S = ((2 * z : ℝ) : EReal) * S := by
      intro z
      induction S using EReal.rec with
      | bot =>
        rcases lt_trichotomy z 0 with hz | hz | hz
        · rw [EReal.coe_mul_bot_of_neg hz, EReal.coe_mul_bot_of_neg (by linarith)]; rfl
        · subst hz; simp
        · rw [EReal.coe_mul_bot_of_pos hz, EReal.coe_mul_bot_of_pos (by linarith)]; rfl
      | top =>
        rcases lt_trichotomy z 0 with hz | hz | hz
        · rw [EReal.coe_mul_top_of_neg hz, EReal.coe_mul_top_of_neg (by linarith)]; rfl
        · subst hz; simp
        · rw [EReal.coe_mul_top_of_pos hz, EReal.coe_mul_top_of_pos (by linarith)]; rfl
      | coe s => norm_cast; ring
    rw [add_assoc, e3, show 2 * (y * ((-(1 / 2)) * (r * (r * r)) * (1 / N))) = r * -(y * r * r * (1 / N)) by ring]

end Cert.NormLat

end
-- ==== Proof.LatQPay.lean ====
module

public import proofs.«01_k».proof.Proof.Gen.Kernel15Ideal.Skeleton
public import Idealize.ShloMosaic.Lib.Pointwise
public import Idealize.ShloMosaic.Lib.Tactic
public import Idealize.ShloMosaic.Lib.IdealHost
public import proofs.«01_k».proof.Proof.NormLat

/-! The payloads of the gradient of the norm of the query latent at a row and a column of one block, over the extended reals. -/

@[expose] public section

set_option maxRecDepth 16384

noncomputable section

namespace Cert.Kernel15Ideal.LatQPay

open Idealize.ShloMosaic Idealize.ShloMosaic.TcCoe Idealize.ShloMosaic.Tactic
open Cert.Kernel15Ideal Cert.Kernel15Ideal.Gen
open Cert.NormRow (eps)
open Cert.NormLat

/-- The width of a row, as the programs write it. -/
def width : EReal := Ideal.ofBits .f32 0x43C00000#32

theorem width_eq : width = ((384 : ℝ) : EReal) := by
  unfold width
  simp [Ideal.ofBits, Ideal.ieee, -EReal.coe_mul]
  norm_num

theorem dy_pay (x0 : FVec Ideal S512x1024 .bf16) (x1 : FVec Ideal S1024x384 .bf16) (a : Fin 512) (j : Fin 384) :
    k0_pay2 (F := Ideal) x1 x0 (ix2 a j)
      = ∑ k : Fin 1024, x0 (ix2 a k) * x1 (ix2 k j) := by
  pointwise [k0_pay2]

theorem rinv_at (x2 : FVec Ideal S512x384 .bf16) (a : Fin 512) (z : Fin 1) :
    k0_pay4 (F := Ideal) x2 (ix2 a z) = rinv width fun k => x2 (ix2 a k) := by
  unfold rinv meanSq width eps
  pointwise [k0_pay4, k0_pay3]

theorem norm_at (x2 : FVec Ideal S512x384 .bf16) (a : Fin 512) (j : Fin 384) :
    k0_pay5 (F := Ideal) x2 (ix2 a j) = x2 (ix2 a j) * rinv width fun k => x2 (ix2 a k) := by
  rw [← rinv_at x2 a 0]
  unfold k0_pay5 k0_pay3
  generalize k0_pay4 (F := Ideal) x2 = y
  pointwise []

theorem dw_pay (x0 : FVec Ideal S512x1024 .bf16) (x1 : FVec Ideal S1024x384 .bf16) (x2 : FVec Ideal S512x384 .bf16) (z : Fin 1) (j : Fin 384) :
    k0_pay7 (F := Ideal) x1 x0 x2 (ix2 z j)
      = ∑ a : Fin 512, k0_pay2 (F := Ideal) x1 x0 (ix2 a j) * (x2 (ix2 a j) * rinv width fun k => x2 (ix2 a k)) := by
  simp only [← norm_at x2]
  unfold k0_pay7
  generalize k0_pay2 (F := Ideal) x1 x0 = y
  generalize k0_pay5 (F := Ideal) x2 = x
  pointwise []

theorem next_pay (x0 : FVec Ideal S512x1024 .bf16) (x1 : FVec Ideal S1024x384 .bf16) (x2 : FVec Ideal S512x384 .bf16)
    (s : FVec Ideal S1x384 .f32) (z : Fin 1) (j : Fin 384) :
    k0_pay1 (F := Ideal) (k0_pay7 (F := Ideal) x1 x0 x2) s (ix2 z j)
      = s (ix2 z j) + k0_pay7 (F := Ideal) x1 x0 x2 (ix2 z j) := by
  unfold k0_pay1
  generalize k0_pay7 (F := Ideal) x1 x0 x2 = y
  pointwise []

theorem dx_pay (x0 : FVec Ideal S512x1024 .bf16) (x1 : FVec Ideal S1024x384 .bf16) (x2 : FVec Ideal S512x384 .bf16) (x3 : FVec Ideal S1x384 .f32)
    (a : Fin 512) (j : Fin 384) :
    k0_pay6 (F := Ideal) x1 x0 x2 x3 (ix2 a j)
      = kdx width (fun k => k0_pay2 (F := Ideal) x1 x0 (ix2 a k) * x3 (ix2 (0 : Fin 1) k)) (fun k => x2 (ix2 a k)) j := by
  unfold kdx
  simp only [← rinv_at x2 a 0]
  have hx : ∀ k, x2 (ix2 a k) * k0_pay4 (F := Ideal) x2 (ix2 a 0) = k0_pay5 (F := Ideal) x2 (ix2 a k) := fun k => by
    rw [rinv_at, norm_at]
  simp only [hx]
  unfold width k0_pay6
  generalize k0_pay2 (F := Ideal) x1 x0 = y
  generalize k0_pay5 (F := Ideal) x2 = x
  generalize k0_pay4 (F := Ideal) x2 = r
  pointwise []

end Cert.Kernel15Ideal.LatQPay

end
-- ==== Proof.LatQGrad.lean ====
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Ix
public import Idealize.ShloMosaic.Lib.Pointwise
public import Idealize.ShloMosaic.Lib.Tactic
public import Idealize.ShloMosaic.Lib.IdealHost
public import Idealize.ShloMosaic.Lib.Pipeline.Value
public import Idealize.ShloMosaic.Lib.Claim
public import proofs.«01_k».proof.Proof.LatQBody
public import proofs.«01_k».proof.Proof.LatQPay

/-! The gradient of the norm of the query latent over the extended reals: the cotangent of the query heads goes back through their projection, then through the norm. The weight's gradient is summed over 8 blocks
of 512 rows, one after the other; it is the sum over all 4096 rows. -/

@[expose] public section

set_option maxRecDepth 16384

noncomputable section

namespace Cert.Kernel15Ideal.LatQGrad

open Idealize.ShloMosaic Idealize.ShloMosaic.TcCoe Idealize.ShloMosaic.Tactic
open Idealize.SL.Sem
open Cert.Ix (ext2 blk row)
open Idealize.ShloMosaic.Pipeline (Dat Cfg Window)
open Cert.Kernel15Ideal Cert.Kernel15Ideal.Gen Cert.Kernel15Ideal.LatQBody Cert.Kernel15Ideal.LatQPay
open Cert.NormRow (eps mhalf)
open Cert.NormLat

/-- The cotangent of the norm's result. -/
def dy (d : FVec Ideal S4096x1024 .bf16) (wq : FVec Ideal S1024x384 .bf16) (i : S4096x384.Idx) : EReal :=
  ∑ k : Fin 1024, d (ix2 (i 0) k) * wq (ix2 k (i 1))

/-- The gradient of the latent, -/
def dx (d : FVec Ideal S4096x1024 .bf16) (wq : FVec Ideal S1024x384 .bf16) (q : FVec Ideal S4096x384 .bf16)
    (w : FVec Ideal S1x384 .f32) (i : S4096x384.Idx) : EReal :=
  kdx width (fun k => dy d wq (ix2 (i 0) k) * w (ix2 (0 : Fin 1) k)) (fun k => q (ix2 (i 0) k)) (i 1)

/-- what one row adds to the gradient of the norm's weight, -/
def dwTerm (d : FVec Ideal S4096x1024 .bf16) (wq : FVec Ideal S1024x384 .bf16) (q : FVec Ideal S4096x384 .bf16)
    (r : Fin 4096) (j : Fin 384) : EReal :=
  dy d wq (ix2 r j) * (q (ix2 r j) * rinv width fun k => q (ix2 r k))

/-- and that gradient. -/
def dw (d : FVec Ideal S4096x1024 .bf16) (wq : FVec Ideal S1024x384 .bf16) (q : FVec Ideal S4096x384 .bf16)
    (i : S1x384.Idx) : EReal :=
  ∑ r : Fin 4096, dwTerm d wq q r (i 1)

/-! ## The grid's blocks -/

variable (m : (ℓ : Loc nD τ sig) → Buf (Elt Ideal) ℓ) (ρ : Dev nD → PrngReg)

/-- The cotangent of the query heads, -/
def DQ (c : Dev nD) : FVec Ideal S4096x1024 .bf16 := m ((c.tc : Thread nD τ).loc main_arg0)
/-- the transposed weights of their projection, -/
def WQ (c : Dev nD) : FVec Ideal S1024x384 .bf16 := m ((c.tc : Thread nD τ).loc main_arg1)
/-- the query latent, -/
def QA (c : Dev nD) : FVec Ideal S4096x384 .bf16 := m ((c.tc : Thread nD τ).loc main_arg2)
/-- and the norm's weight. -/
def NW (c : Dev nD) : FVec Ideal S1x384 .f32 := m ((c.tc : Thread nD τ).loc main_arg3)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel

theorem iblk0_apply (c : Dev nD) (t : Fin cfg0.N) (a : Fin 512) (b : Fin 1024) (r : Fin 4096) (hr : r.val = 512 * t.val + a.val) :
    (iblk m c 0 t : FVec Ideal S512x1024 .bf16) (ix2 a b) = DQ m c (ix2 r b) :=
  congrArg (V m c main_arg0) (ext2 (blk (index0 t).1 (row hr)) (blk (index0 t).2 (by simp only [ix2]; omega)))

theorem iblk1_apply (c : Dev nD) (t : Fin cfg0.N) (a : Fin 1024) (b : Fin 384) :
    (iblk m c 1 t : FVec Ideal S1024x384 .bf16) (ix2 a b) = WQ m c (ix2 a b) :=
  congrArg (V m c main_arg1) (ext2 (blk (index1 t).1 (by simp only [ix2]; omega)) (blk (index1 t).2 (by simp only [ix2]; omega)))

theorem iblk2_apply (c : Dev nD) (t : Fin cfg0.N) (a : Fin 512) (b : Fin 384) (r : Fin 4096) (hr : r.val = 512 * t.val + a.val) :
    (iblk m c 2 t : FVec Ideal S512x384 .bf16) (ix2 a b) = QA m c (ix2 r b) :=
  congrArg (V m c main_arg2) (ext2 (blk (index2 t).1 (row hr)) (blk (index2 t).2 (by simp only [ix2]; omega)))

theorem iblk3_apply (c : Dev nD) (t : Fin cfg0.N) (a : Fin 1) (b : Fin 384) :
    (iblk m c 3 t : FVec Ideal S1x384 .f32) (ix2 a b) = NW m c (ix2 a b) :=
  congrArg (V m c main_arg3) (ext2 (blk (index3 t).1 (by simp only [ix2]; omega)) (blk (index3 t).2 (by simp only [ix2]; omega)))

theorem dy_at (c : Dev nD) (t : Fin cfg0.N) (a : Fin 512) (j : Fin 384) (r : Fin 4096) (hr : r.val = 512 * t.val + a.val) :
    k0_pay2 (F := Ideal) (iblk m c 1 t) (iblk m c 0 t) (ix2 a j)
      = dy (DQ m c) (WQ m c) (ix2 r j) := by
  refine (dy_pay _ _ a j).trans ?_
  unfold dy
  refine Finset.sum_congr rfl fun k _ => ?_
  exact congrArg₂ (· * ·) (iblk0_apply m c t a k r hr) (iblk1_apply m c t k j)

/-- What a point leaves at a row and a column of its block of the first result. -/
theorem dx_at (c : Dev nD) (t : Fin cfg0.N) (a : Fin 512) (j : Fin 384) (r : Fin 4096) (hr : r.val = 512 * t.val + a.val) :
    k0_pay6 (F := Ideal) (iblk m c 1 t) (iblk m c 0 t) (iblk m c 2 t) (iblk m c 3 t) (ix2 a j)
      = dx (DQ m c) (WQ m c) (QA m c) (NW m c) (ix2 r j) := by
  refine (dx_pay _ _ _ _ a j).trans ?_
  unfold dx
  have hp : (fun k => k0_pay2 (F := Ideal) (iblk m c 1 t) (iblk m c 0 t) (ix2 a k)
        * (iblk m c 3 t : FVec Ideal S1x384 .f32) (ix2 (0 : Fin 1) k))
      = fun k : Fin 384 => dy (DQ m c) (WQ m c) (ix2 r k) * NW m c (ix2 (0 : Fin 1) k) :=
    funext fun k => congrArg₂ (· * ·) (dy_at m c t a k r hr) (iblk3_apply m c t 0 k)
  have hh : (fun k => (iblk m c 2 t : FVec Ideal S512x384 .bf16) (ix2 a k)) = fun k : Fin 384 => QA m c (ix2 r k) :=
    funext fun k => iblk2_apply m c t a k r hr
  exact congrFun (congrArg₂ (kdx width) hp hh) j

/-- The term of a row, for any number. -/
def term (c : Dev nD) (j : Fin 384) (r : ℕ) : EReal :=
  if h : r < 4096 then dwTerm (DQ m c) (WQ m c) (QA m c) ⟨r, h⟩ j else 0

/-- What a block adds to the second. -/
theorem blockSum (c : Dev nD) (t : Fin cfg0.N) (z : Fin 1) (j : Fin 384) :
    k0_pay7 (F := Ideal) (iblk m c 1 t) (iblk m c 0 t) (iblk m c 2 t) (ix2 z j)
      = ∑ a ∈ Finset.range 512, term m c j (512 * t.val + a) := by
  refine (dw_pay _ _ _ z j).trans ?_
  rw [← Fin.sum_univ_eq_sum_range (fun a => term m c j (512 * t.val + a)) 512]
  refine Finset.sum_congr rfl fun a _ => ?_
  have ht : t.val < 8 := lt_of_lt_of_eq t.isLt N_0
  have hlt : 512 * t.val + a.val < 4096 := by have := a.isLt; omega
  unfold term
  rw [dif_pos hlt]
  unfold dwTerm
  have hh : (fun k => (iblk m c 2 t : FVec Ideal S512x384 .bf16) (ix2 a k)) = fun k : Fin 384 => QA m c (ix2 ⟨_, hlt⟩ k) :=
    funext fun k => iblk2_apply m c t a k _ rfl
  refine congrArg₂ (· * ·) (dy_at m c t a j ⟨_, hlt⟩ rfl) ?_
  exact congrArg₂ (· * ·) (iblk2_apply m c t a j _ rfl) (congrArg (rinv width) hh)

/-! ## The points in order -/

theorem outs4 (c : Dev nD) (t : Fin cfg0.N) : (outsAt0 m c t.val t.isLt).1
    = k0_pay6 (F := Ideal) (iblk m c 1 t) (iblk m c 0 t) (iblk m c 2 t) (iblk m c 3 t) := by
  have ht : t.val < 8 := lt_of_lt_of_eq t.isLt N_0
  by_cases h0 : t.val % 8 = 0
  · rw [outsAt0_A m c t h0 (by omega)]
    dsimp only
    rw [out_A_4]
  · rw [outsAt0_B m c t h0 (by omega)]
    dsimp only
    rw [out_B_4]

/-- After a point the second block holds the sum over all the rows of the blocks so far. -/
theorem outs5 (c : Dev nD) (z : Fin 1) (j : Fin 384) : ∀ (n : ℕ) (h : n < cfg0.N),
    ((outsAt0 m c n h).2 : FVec Ideal S1x384 .f32) (ix2 z j) = ∑ r ∈ Finset.range (512 * n + 512), term m c j r
  | 0, h => by
    have e : (outsAt0 m c 0 h).2 = _ := congrArg (fun x => x.2) (outsAt0_A m c ⟨0, h⟩ rfl (by show ¬1 ≤ 0; omega))
    rw [e]
    dsimp only
    rw [out_A_5]
    refine (blockSum m c ⟨0, h⟩ z j).trans ?_
    simp
  | n + 1, h => by
    have hN : cfg0.N = 8 := N_0
    have e : (outsAt0 m c (n + 1) h).2 = _ :=
      congrArg (fun x => x.2) (outsAt0_B m c ⟨n + 1, h⟩ (by show ¬(n + 1) % 8 = 0; omega) (by show 1 ≤ n + 1; omega))
    rw [e]
    dsimp only
    rw [out_B_5]
    refine (next_pay _ _ _ _ z j).trans ?_
    rw [show 512 * (n + 1) + 512 = (512 * n + 512) + 512 by ring, Finset.sum_range_add]
    exact congrArg₂ (· + ·) (outs5 c z j n (Nat.lt_of_succ_lt h)) (blockSum m c ⟨n + 1, h⟩ z j)

/-! ## The whole arrays -/

theorem flushed4 (c : Dev nD) (t : Fin cfg0.N) (_hf : (cfg0.win 4).flush t = true) :
    (dats m 0 c).flushed 4 t = ((cfg0.win 4).blk t).view.read (Elt Ideal) (dx (DQ m c) (WQ m c) (QA m c) (NW m c)) := by
  have hi := index4 t
  have ht : t.val < 8 := lt_of_lt_of_eq t.isLt N_0
  rw [Value.flushed4, outs4]
  funext x
  rw [View.read_apply]
  obtain ⟨a, b, rfl⟩ : ∃ (a : Fin 512) (b : Fin 384), x = ix2 a b := ⟨x 0, x 1, eq_ix2 x⟩
  have hlt : 512 * t.val + a.val < 4096 := by have := a.isLt; omega
  refine (dx_at m c t a b ⟨_, hlt⟩ rfl).trans (congrArg (dx (DQ m c) (WQ m c) (QA m c) (NW m c)) ?_)
  exact ext2 (by show 512 * t.val + a.val = win0_4.index t 0 * 512 + 1 * a.val; rw [hi.1]; omega) (by show b.val = win0_4.index t 1 * 384 + 1 * b.val; rw [hi.2]; omega)

theorem final4 (c : Dev nD) : (dats m 0 c).arrAt 4 cfg0.N = dx (DQ m c) (WQ m c) (QA m c) (NW m c) :=
  (dats m 0 c).arrAt_eq_of_cover 4 (dx (DQ m c) (WQ m c) (QA m c) (NW m c)) (flushed4 m c) fun i => by
    have h0 : (i 0 : Nat) < 4096 := (i 0).isLt
    have h1 : (i 1 : Nat) < 384 := (i 1).isLt
    have hlt : (i 0).val / 512 < cfg0.N := by rw [show cfg0.N = 8 from N_0]; omega
    have hi := index4 ⟨(i 0).val / 512, hlt⟩
    refine ⟨⟨(i 0).val / 512, hlt⟩, flush0_4 _, ?_⟩
    show i ∈ ((View.whole main_v0_0).slice (win0_4.rect ⟨(i 0).val / 512, hlt⟩)).set
    rw [View.set_slice_whole, Rect.mem_set_unit]
    dsimp only at hi
    intro a
    match a with
    | ⟨0, _⟩ =>
      show win0_4.index ⟨(i 0).val / 512, hlt⟩ 0 * 512 ≤ (i 0 : Nat)
        ∧ (i 0 : Nat) < win0_4.index ⟨(i 0).val / 512, hlt⟩ 0 * 512 + 512
      rw [hi.1]; omega
    | ⟨1, _⟩ =>
      show win0_4.index ⟨(i 0).val / 512, hlt⟩ 1 * 384 ≤ (i 1 : Nat)
        ∧ (i 1 : Nat) < win0_4.index ⟨(i 0).val / 512, hlt⟩ 1 * 384 + 384
      rw [hi.2]; omega

theorem flushed5 (c : Dev nD) (t : Fin cfg0.N) (hf : (cfg0.win 5).flush t = true) :
    (dats m 0 c).flushed 5 t = ((cfg0.win 5).blk t).view.read (Elt Ideal) (dw (DQ m c) (WQ m c) (QA m c)) := by
  have hi := index5 t
  have ht : t.val < 8 := lt_of_lt_of_eq t.isLt N_0
  have h7 : t.val = 7 := by have := (flush0_5 t).mp hf; omega
  rw [Value.flushed5]
  funext x
  rw [View.read_apply]
  obtain ⟨z, j, rfl⟩ : ∃ (z : Fin 1) (j : Fin 384), x = ix2 z j := ⟨x 0, x 1, eq_ix2 x⟩
  have hs : ∑ r ∈ Finset.range (512 * t.val + 512), term m c j r = dw (DQ m c) (WQ m c) (QA m c) (ix2 z j) := by
    rw [h7]
    unfold dw
    rw [← Fin.sum_univ_eq_sum_range (term m c j) 4096]
    refine Finset.sum_congr rfl fun r _ => ?_
    unfold term
    rw [dif_pos r.isLt]
    rfl
  refine ((outs5 m c z j t.val t.isLt).trans hs).trans (congrArg (dw (DQ m c) (WQ m c) (QA m c)) ?_)
  exact ext2 (by show z.val = win0_5.index t 0 * 1 + 1 * z.val; rw [hi.1]; omega) (by show j.val = win0_5.index t 1 * 384 + 1 * j.val; rw [hi.2]; omega)

theorem final5 (c : Dev nD) : (dats m 0 c).arrAt 5 cfg0.N = dw (DQ m c) (WQ m c) (QA m c) :=
  (dats m 0 c).arrAt_eq_of_cover 5 (dw (DQ m c) (WQ m c) (QA m c)) (flushed5 m c) fun i => by
    have h0 : (i 0 : Nat) < 1 := (i 0).isLt
    have h1 : (i 1 : Nat) < 384 := (i 1).isLt
    have hlt : 7 < cfg0.N := by rw [show cfg0.N = 8 from N_0]; omega
    have hi := index5 ⟨7, hlt⟩
    refine ⟨⟨7, hlt⟩, (flush0_5 _).mpr rfl, ?_⟩
    show i ∈ ((View.whole main_v0_1).slice (win0_5.rect ⟨7, hlt⟩)).set
    rw [View.set_slice_whole, Rect.mem_set_unit]
    intro a
    match a with
    | ⟨0, _⟩ =>
      show win0_5.index ⟨7, hlt⟩ 0 * 1 ≤ (i 0 : Nat) ∧ (i 0 : Nat) < win0_5.index ⟨7, hlt⟩ 0 * 1 + 1
      rw [hi.1]; omega
    | ⟨1, _⟩ =>
      show win0_5.index ⟨7, hlt⟩ 1 * 384 ≤ (i 1 : Nat) ∧ (i 1 : Nat) < win0_5.index ⟨7, hlt⟩ 1 * 384 + 384
      rw [hi.2]; omega

/-- The kernel's run: its two results, and its arguments unchanged. -/
theorem run : θ_run defs (onTc (τ := τ) (main (F := Ideal))) ⟨m, fun _ => 0, ρ⟩ fun r => ∀ c : Dev nD,
      r.2.mem ((c.tc : Thread nD τ).loc main_v0_0) = dx (DQ m c) (WQ m c) (QA m c) (NW m c)
      ∧ r.2.mem ((c.tc : Thread nD τ).loc main_v0_1) = dw (DQ m c) (WQ m c) (QA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans (final4 m c), (h c).2.1.trans (final5 m c), (h c).2.2⟩)
    (Value.run_blocks m ρ)

/-! ## The reference -/

open Cert.Reference15Ideal.Read

section
variable (d : FVec Ideal S4096x1024 .bf16) (wq : FVec Ideal S1024x384 .bf16) (q : FVec Ideal S4096x384 .bf16)
  (w : FVec Ideal S1x384 .f32)

theorem ref_dy (i : S4096x384.Idx) : val_main_v20 (F := Ideal) d wq i = dy d wq i := by
  rw [val_main_v20_apply]
  unfold dy
  refine Finset.sum_congr rfl fun k _ => ?_
  rw [val_main_v19_apply, val_main_v17_apply, val_main_v16_apply]
  have e0 : lidx_main_v20 i k = ix2 (i 0) k := ext2 rfl rfl
  have e1 : idx_main_v17 (ridx_main_v20 i k) = ix2 k (i 1) := ext2 rfl rfl
  rw [e0, e1]
  rfl

theorem ref_meanSq (r : Fin 4096) (z : Fin 1) : val_main_v7 (F := Ideal) q (ix2 r z) = meanSq width fun k => q (ix2 r k) := by
  rw [val_main_v7_apply, val_main_v5_apply, val_main_v3_apply, val_main_v2_apply, val_main_v4_apply, val_main_v6_apply,
    val_main_cst_apply, val_main_cst_0_apply, val_main_cst_1_apply]
  have hs : ∀ k : Fin 384, val_main_v1 (F := Ideal) q (idx_main_v2 (idx_main_v3 (ix2 r z)) k) = q (ix2 r k) * q (ix2 r k) := fun k => by
    rw [val_main_v1_apply, val_main_v0_apply]
    have e : idx_main_v2 (idx_main_v3 (ix2 r z)) k = ix2 r k := ext2 rfl rfl
    rw [e]
    rfl
  simp only [hs]
  show Ideal.div (Ideal.ofBits .f32 0x00000000#32 + ∑ k : Fin 384, q (ix2 r k) * q (ix2 r k)) width + eps = _
  rw [Ideal.ofBits_zero_f32, zero_add]
  rfl

theorem ref_rinv (r : Fin 4096) (z : Fin 1) : val_main_v8 (F := Ideal) q (ix2 r z) = rinv width fun k => q (ix2 r k) := by
  rw [val_main_v8_apply, ref_meanSq]
  rfl

theorem ref11 (r : Fin 4096) (z : Fin 1) : val_main_v11 (F := Ideal) q (ix2 r z)
    = mhalf * Ideal.div (rinv width fun k => q (ix2 r k)) (meanSq width fun k => q (ix2 r k)) := by
  rw [val_main_v11_apply, val_main_v10_apply, val_main_cst_2_apply, val_main_v9_apply, ref_meanSq, ref_rinv]
  rfl

theorem ref_p (r : Fin 4096) (j : Fin 384) : val_main_v25 (F := Ideal) d wq w (ix2 r j)
    = dy d wq (ix2 r j) * w (ix2 (0 : Fin 1) j) := by
  rw [val_main_v25_apply, ref_dy, val_main_v24_apply]
  have e : idx_main_v24 (ix2 r j) = ix2 (0 : Fin 1) j := ext2 rfl rfl
  rw [e]
  rfl

theorem ref_sum (r : Fin 4096) (z : Fin 1) : val_main_v28 (F := Ideal) d wq q w (ix2 r z)
    = ∑ k : Fin 384, q (ix2 r k) * (dy d wq (ix2 r k) * w (ix2 (0 : Fin 1) k)) := by
  rw [val_main_v28_apply, val_main_v27_apply, val_main_cst_4_apply]
  have hs : ∀ k : Fin 384, val_main_v26 (F := Ideal) d wq q w (idx_main_v27 (idx_main_v28 (ix2 r z)) k)
      = q (ix2 r k) * (dy d wq (ix2 r k) * w (ix2 (0 : Fin 1) k)) := fun k => by
    have e : idx_main_v27 (idx_main_v28 (ix2 r z)) k = ix2 r k := funext fun x => Fin.ext (by
      match x with
      | ⟨0, _⟩ => show r.val * 1 + z.val = r.val; have := z.isLt; omega
      | ⟨1, _⟩ => rfl)
    rw [e, val_main_v26_apply, ref_p, val_main_v0_apply]
    rfl
  simp only [hs]
  show Ideal.ofBits .f32 0x00000000#32 + _ = _
  rw [Ideal.ofBits_zero_f32, zero_add]

theorem ref_coef (r : Fin 4096) (j : Fin 384) : val_main_v35 (F := Ideal) d wq q w (ix2 r j)
    = rcoef width (fun k => dy d wq (ix2 r k) * w (ix2 (0 : Fin 1) k)) (fun k => q (ix2 r k)) := by
  rw [val_main_v35_apply, val_main_v34_apply, val_main_cst_6_apply, Fin.sum_univ_one]
  have e : idx_main_v34 (idx_main_v35 (ix2 r j)) 0 = ix2 r (0 : Fin 1) := ext2 rfl rfl
  rw [e, val_main_v33_apply, val_main_v31_apply, val_main_v32_apply, val_main_cst_5_apply, ref_sum, ref11]
  show Ideal.ofBits .f32 0x00000000#32 + _ = _
  rw [Ideal.ofBits_zero_f32, zero_add]
  rfl

/-- The reference's first result, -/
theorem ref_dx : val_main_v40 (F := Ideal) d wq q w = dx d wq q w := by
  funext i
  obtain ⟨r, j, rfl⟩ : ∃ (r : Fin 4096) (j : Fin 384), i = ix2 r j := ⟨i 0, i 1, eq_ix2 i⟩
  refine Eq.trans ?_ (dx_eq width 384 width_eq (by norm_num) (fun k => dy d wq (ix2 r k) * w (ix2 (0 : Fin 1) k)) (fun k => q (ix2 r k)) j)
  rw [val_main_v40_apply, val_main_v39_apply, val_main_v37_apply, val_main_v30_apply, val_main_v29_apply, val_main_v36_apply, val_main_v38_apply,
    ref_coef, ref_p, val_main_v0_apply]
  have e : idx_main_v29 (ix2 r j) = ix2 r (0 : Fin 1) := ext2 rfl rfl
  rw [e, ref_rinv]
  rfl

/-- and its second. -/
theorem ref_dw : val_main_v23 (F := Ideal) d wq q = dw d wq q := by
  funext i
  obtain ⟨z, j, rfl⟩ : ∃ (z : Fin 1) (j : Fin 384), i = ix2 z j := ⟨i 0, i 1, eq_ix2 i⟩
  rw [val_main_v23_apply, val_main_v22_apply, val_main_cst_3_apply]
  show Ideal.ofBits .f32 0x00000000#32 + _ = _
  rw [Ideal.ofBits_zero_f32, zero_add]
  unfold dw
  refine Finset.sum_congr rfl fun r _ => ?_
  have e : idx_main_v22 (idx_main_v23 (ix2 z j)) r = ix2 r j := funext fun x => Fin.ext (by
    match x with
    | ⟨0, _⟩ => rfl
    | ⟨1, _⟩ => show z.val * 384 + j.val = j.val; have : z.val < 1 := z.isLt; omega)
  rw [e, val_main_v21_apply, ref_dy, val_main_v13_apply, val_main_v12_apply, val_main_v0_apply]
  have e' : idx_main_v12 (ix2 r j) = ix2 r (0 : Fin 1) := ext2 rfl rfl
  rw [e', ref_rinv]
  unfold dwTerm
  exact mul_comm (_ : EReal) _

end

end Cert.Kernel15Ideal.LatQGrad

end
-- ==== Proof.LatKVBody.lean ====
module

public import proofs.«01_k».proof.Proof.Gen.Kernel16Ideal.Value
public import Idealize.ShloMosaic.Lib.Pointwise
public import Idealize.ShloMosaic.Lib.Tactic
public import Idealize.ShloMosaic.Lib.Pipeline.Value

/-! The gradient of the norm of the latent of the keys and the values: what the body leaves in its two output blocks, as its payloads of the input blocks. Point 0 stores
the block's column sums, every later point adds them to what it finds. -/

@[expose] public section

set_option maxRecDepth 16384

noncomputable section

namespace Cert.Kernel16Ideal.LatKVBody

open Idealize.ShloMosaic Idealize.ShloMosaic.TcCoe Idealize.ShloMosaic.Tactic
open Idealize.SL.Sem
open Cert.Kernel16Ideal Cert.Kernel16Ideal.Gen

variable {F : FTy → Type} [FloatOps F]

theorem hz : (![0, 0] : Fin 2 → Nat) = fun _ => 0 := funext fun a => by fin_cases a <;> rfl

variable (c : Dev nD) (i : grid0.Coords) (arg1 : Memref sig .tc .vmem S512x1024 .bf16) (harg1 : arg1.IsWhole)
  (arg2 : Memref sig .tc .vmem S512x1024 .bf16) (harg2 : arg2.IsWhole) (arg3 : Memref sig .tc .vmem S1024x256 .bf16)
  (harg3 : arg3.IsWhole) (arg4 : Memref sig .tc .vmem S1024x256 .bf16) (harg4 : arg4.IsWhole)
  (arg5 : Memref sig .tc .vmem S512x256 .bf16) (harg5 : arg5.IsWhole) (arg6 : Memref sig .tc .vmem S1x256 .f32)
  (harg6 : arg6.IsWhole) (arg7 : Memref sig .tc .vmem S512x256 .bf16) (harg7 : arg7.IsWhole)
  (arg8 : Memref sig .tc .vmem S1x256 .f32) (harg8 : arg8.IsWhole)

theorem out_A_6 (hc0 : cond0_0 i) (hc1 : ¬cond0_1 i)
    (x0 : Vec F S512x1024 .bf16) (x1 : Vec F S512x1024 .bf16) (x2 : Vec F S1024x256 .bf16) (x3 : Vec F S1024x256 .bf16) (x4 : Vec F S512x256 .bf16) (x5 : Vec F S1x256 .f32) :
    out0_A_6 c i arg1 harg1 arg2 harg2 arg3 harg3 arg4 harg4 arg5 harg5 arg6 harg6 arg7 harg7 arg8 harg8 hc0 hc1 x0 x1 x2 x3 x4 x5 = k0_pay7 x2 x0 x3 x1 x4 x5 := by
  unfold out0_A_6
  rw [View.read_writes_eq_canon _ _ _ (cover0_A_6 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1024x256) hz, View.ld_unit_zero (S := S512x256) hz, View.ld_unit_zero (S := S1x256) hz]

theorem out_A_7 (hc0 : cond0_0 i) (hc1 : ¬cond0_1 i)
    (x0 : Vec F S512x1024 .bf16) (x1 : Vec F S512x1024 .bf16) (x2 : Vec F S1024x256 .bf16) (x3 : Vec F S1024x256 .bf16) (x4 : Vec F S512x256 .bf16) (x5 : Vec F S1x256 .f32) :
    out0_A_7 c i arg1 harg1 arg2 harg2 arg3 harg3 arg4 harg4 arg5 harg5 arg6 harg6 arg7 harg7 arg8 harg8 hc0 hc1 x0 x1 x2 x3 x4 x5 = k0_pay1 (k0_pay8 x2 x0 x3 x1 x4) := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1024x256) hz, View.ld_unit_zero (S := S512x256) hz, View.ld_unit_zero (S := S1x256) hz]

theorem out_B_6 (hc0 : ¬cond0_0 i) (hc1 : cond0_1 i)
    (x0 : Vec F S512x1024 .bf16) (x1 : Vec F S512x1024 .bf16) (x2 : Vec F S1024x256 .bf16) (x3 : Vec F S1024x256 .bf16) (x4 : Vec F S512x256 .bf16) (x5 : Vec F S1x256 .f32) (xo7 : Vec F S1x256 .f32) :
    out0_B_6 c i arg1 harg1 arg2 harg2 arg3 harg3 arg4 harg4 arg5 harg5 arg6 harg6 arg7 harg7 arg8 harg8 hc0 hc1 x0 x1 x2 x3 x4 x5 xo7 = k0_pay7 x2 x0 x3 x1 x4 x5 := by
  unfold out0_B_6
  rw [View.read_writes_eq_canon _ _ _ (cover0_B_6 c i arg1 harg1 arg2 harg2 arg3 harg3 arg4 harg4 arg5 harg5 arg6 harg6 arg7 harg7 arg8 harg8 hc0 hc1 x0 x1 x2 x3 x4 x5 xo7)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1024x256) hz, View.ld_unit_zero (S := S512x256) hz, View.ld_unit_zero (S := S1x256) hz]

theorem out_B_7 (hc0 : ¬cond0_0 i) (hc1 : cond0_1 i)
    (x0 : Vec F S512x1024 .bf16) (x1 : Vec F S512x1024 .bf16) (x2 : Vec F S1024x256 .bf16) (x3 : Vec F S1024x256 .bf16) (x4 : Vec F S512x256 .bf16) (x5 : Vec F S1x256 .f32) (xo7 : Vec F S1x256 .f32) :
    out0_B_7 c i arg1 harg1 arg2 harg2 arg3 harg3 arg4 harg4 arg5 harg5 arg6 harg6 arg7 harg7 arg8 harg8 hc0 hc1 x0 x1 x2 x3 x4 x5 xo7 = k0_pay2 (k0_pay8 x2 x0 x3 x1 x4) xo7 := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 x5 xo7)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S512x1024) hz, View.ld_unit_zero (S := S1024x256) hz, View.ld_unit_zero (S := S512x256) hz, View.ld_unit_zero (S := S1x256) hz]

end Cert.Kernel16Ideal.LatKVBody

end
-- ==== Proof.LatKVPay.lean ====
module

public import proofs.«01_k».proof.Proof.Gen.Kernel16Ideal.Skeleton
public import Idealize.ShloMosaic.Lib.Pointwise
public import Idealize.ShloMosaic.Lib.Tactic
public import Idealize.ShloMosaic.Lib.IdealHost
public import proofs.«01_k».proof.Proof.NormLat

/-! The payloads of the gradient of the norm of the latent of the keys and the values at a row and a column of one block, over the extended reals. -/

@[expose] public section

set_option maxRecDepth 16384

noncomputable section

namespace Cert.Kernel16Ideal.LatKVPay

open Idealize.ShloMosaic Idealize.ShloMosaic.TcCoe Idealize.ShloMosaic.Tactic
open Cert.Kernel16Ideal Cert.Kernel16Ideal.Gen
open Cert.NormRow (eps)
open Cert.NormLat

/-- The width of a row, as the programs write it. -/
def width : EReal := Ideal.ofBits .f32 0x43800000#32

theorem width_eq : width = ((256 : ℝ) : EReal) := by
  unfold width
  simp [Ideal.ofBits, Ideal.ieee, -EReal.coe_mul]
  norm_num

theorem dy_pay (x0 : FVec Ideal S512x1024 .bf16) (x1 : FVec Ideal S512x1024 .bf16) (x2 : FVec Ideal S1024x256 .bf16) (x3 : FVec Ideal S1024x256 .bf16) (a : Fin 512) (j : Fin 256) :
    k0_pay3 (F := Ideal) x2 x0 x3 x1 (ix2 a j)
      = (∑ k : Fin 1024, x0 (ix2 a k) * x2 (ix2 k j)) + ∑ k : Fin 1024, x1 (ix2 a k) * x3 (ix2 k j) := by
  pointwise [k0_pay3]

theorem rinv_at (x4 : FVec Ideal S512x256 .bf16) (a : Fin 512) (z : Fin 1) :
    k0_pay5 (F := Ideal) x4 (ix2 a z) = rinv width fun k => x4 (ix2 a k) := by
  unfold rinv meanSq width eps
  pointwise [k0_pay5, k0_pay4]

theorem norm_at (x4 : FVec Ideal S512x256 .bf16) (a : Fin 512) (j : Fin 256) :
    k0_pay6 (F := Ideal) x4 (ix2 a j) = x4 (ix2 a j) * rinv width fun k => x4 (ix2 a k) := by
  rw [← rinv_at x4 a 0]
  unfold k0_pay6 k0_pay4
  generalize k0_pay5 (F := Ideal) x4 = y
  pointwise []

theorem dw_pay (x0 : FVec Ideal S512x1024 .bf16) (x1 : FVec Ideal S512x1024 .bf16) (x2 : FVec Ideal S1024x256 .bf16) (x3 : FVec Ideal S1024x256 .bf16) (x4 : FVec Ideal S512x256 .bf16) (z : Fin 1) (j : Fin 256) :
    k0_pay1 (F := Ideal) (k0_pay8 (F := Ideal) x2 x0 x3 x1 x4) (ix2 z j)
      = ∑ a : Fin 512, k0_pay3 (F := Ideal) x2 x0 x3 x1 (ix2 a j) * (x4 (ix2 a j) * rinv width fun k => x4 (ix2 a k)) := by
  simp only [← norm_at x4]
  unfold k0_pay1 k0_pay8
  generalize k0_pay3 (F := Ideal) x2 x0 x3 x1 = y
  generalize k0_pay6 (F := Ideal) x4 = x
  pointwise []

theorem next_pay (x0 : FVec Ideal S512x1024 .bf16) (x1 : FVec Ideal S512x1024 .bf16) (x2 : FVec Ideal S1024x256 .bf16) (x3 : FVec Ideal S1024x256 .bf16) (x4 : FVec Ideal S512x256 .bf16)
    (s : FVec Ideal S1x256 .f32) (z : Fin 1) (j : Fin 256) :
    k0_pay2 (F := Ideal) (k0_pay8 (F := Ideal) x2 x0 x3 x1 x4) s (ix2 z j)
      = s (ix2 z j) + k0_pay1 (F := Ideal) (k0_pay8 (F := Ideal) x2 x0 x3 x1 x4) (ix2 z j) := by
  unfold k0_pay2
  generalize k0_pay1 (F := Ideal) (k0_pay8 (F := Ideal) x2 x0 x3 x1 x4) = y
  pointwise []

theorem dx_pay (x0 : FVec Ideal S512x1024 .bf16) (x1 : FVec Ideal S512x1024 .bf16) (x2 : FVec Ideal S1024x256 .bf16) (x3 : FVec Ideal S1024x256 .bf16) (x4 : FVec Ideal S512x256 .bf16) (x5 : FVec Ideal S1x256 .f32)
    (a : Fin 512) (j : Fin 256) :
    k0_pay7 (F := Ideal) x2 x0 x3 x1 x4 x5 (ix2 a j)
      = kdx width (fun k => k0_pay3 (F := Ideal) x2 x0 x3 x1 (ix2 a k) * x5 (ix2 (0 : Fin 1) k)) (fun k => x4 (ix2 a k)) j := by
  unfold kdx
  simp only [← rinv_at x4 a 0]
  have hx : ∀ k, x4 (ix2 a k) * k0_pay5 (F := Ideal) x4 (ix2 a 0) = k0_pay6 (F := Ideal) x4 (ix2 a k) := fun k => by
    rw [rinv_at, norm_at]
  simp only [hx]
  unfold width k0_pay7
  generalize k0_pay3 (F := Ideal) x2 x0 x3 x1 = y
  generalize k0_pay6 (F := Ideal) x4 = x
  generalize k0_pay5 (F := Ideal) x4 = r
  pointwise []

end Cert.Kernel16Ideal.LatKVPay

end
-- ==== Proof.LatKVGrad.lean ====
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Ix
public import Idealize.ShloMosaic.Lib.Pointwise
public import Idealize.ShloMosaic.Lib.Tactic
public import Idealize.ShloMosaic.Lib.IdealHost
public import Idealize.ShloMosaic.Lib.Pipeline.Value
public import Idealize.ShloMosaic.Lib.Claim
public import proofs.«01_k».proof.Proof.LatKVBody
public import proofs.«01_k».proof.Proof.LatKVPay

/-! The gradient of the norm of the latent of the keys and the values over the extended reals: the cotangents of the key and of the value heads go back through their two projections and are added, then through the norm. The weight's gradient is summed over 8 blocks
of 512 rows, one after the other; it is the sum over all 4096 rows. -/

@[expose] public section

set_option maxRecDepth 16384

noncomputable section

namespace Cert.Kernel16Ideal.LatKVGrad

open Idealize.ShloMosaic Idealize.ShloMosaic.TcCoe Idealize.ShloMosaic.Tactic
open Idealize.SL.Sem
open Cert.Ix (ext2 blk row)
open Idealize.ShloMosaic.Pipeline (Dat Cfg Window)
open Cert.Kernel16Ideal Cert.Kernel16Ideal.Gen Cert.Kernel16Ideal.LatKVBody Cert.Kernel16Ideal.LatKVPay
open Cert.NormRow (eps mhalf)
open Cert.NormLat

/-- The cotangent of the norm's result. -/
def dy (dk : FVec Ideal S4096x1024 .bf16) (dv : FVec Ideal S4096x1024 .bf16) (wk : FVec Ideal S1024x256 .bf16) (wv : FVec Ideal S1024x256 .bf16) (i : S4096x256.Idx) : EReal :=
  (∑ k : Fin 1024, dk (ix2 (i 0) k) * wk (ix2 k (i 1))) + ∑ k : Fin 1024, dv (ix2 (i 0) k) * wv (ix2 k (i 1))

/-- The gradient of the latent, -/
def dx (dk : FVec Ideal S4096x1024 .bf16) (dv : FVec Ideal S4096x1024 .bf16) (wk : FVec Ideal S1024x256 .bf16) (wv : FVec Ideal S1024x256 .bf16) (q : FVec Ideal S4096x256 .bf16)
    (w : FVec Ideal S1x256 .f32) (i : S4096x256.Idx) : EReal :=
  kdx width (fun k => dy dk dv wk wv (ix2 (i 0) k) * w (ix2 (0 : Fin 1) k)) (fun k => q (ix2 (i 0) k)) (i 1)

/-- what one row adds to the gradient of the norm's weight, -/
def dwTerm (dk : FVec Ideal S4096x1024 .bf16) (dv : FVec Ideal S4096x1024 .bf16) (wk : FVec Ideal S1024x256 .bf16) (wv : FVec Ideal S1024x256 .bf16) (q : FVec Ideal S4096x256 .bf16)
    (r : Fin 4096) (j : Fin 256) : EReal :=
  dy dk dv wk wv (ix2 r j) * (q (ix2 r j) * rinv width fun k => q (ix2 r k))

/-- and that gradient. -/
def dw (dk : FVec Ideal S4096x1024 .bf16) (dv : FVec Ideal S4096x1024 .bf16) (wk : FVec Ideal S1024x256 .bf16) (wv : FVec Ideal S1024x256 .bf16) (q : FVec Ideal S4096x256 .bf16)
    (i : S1x256.Idx) : EReal :=
  ∑ r : Fin 4096, dwTerm dk dv wk wv q r (i 1)

/-! ## The grid's blocks -/

variable (m : (ℓ : Loc nD τ sig) → Buf (Elt Ideal) ℓ) (ρ : Dev nD → PrngReg)

/-- The cotangent of the key heads, -/
def DK (c : Dev nD) : FVec Ideal S4096x1024 .bf16 := m ((c.tc : Thread nD τ).loc main_arg0)
/-- and of the value heads, -/
def DV (c : Dev nD) : FVec Ideal S4096x1024 .bf16 := m ((c.tc : Thread nD τ).loc main_arg1)
/-- the transposed weights of the keys' projection, -/
def WK (c : Dev nD) : FVec Ideal S1024x256 .bf16 := m ((c.tc : Thread nD τ).loc main_arg2)
/-- and of the values', -/
def WV (c : Dev nD) : FVec Ideal S1024x256 .bf16 := m ((c.tc : Thread nD τ).loc main_arg3)
/-- the latent of the keys and the values, -/
def KVA (c : Dev nD) : FVec Ideal S4096x256 .bf16 := m ((c.tc : Thread nD τ).loc main_arg4)
/-- and the norm's weight. -/
def NW (c : Dev nD) : FVec Ideal S1x256 .f32 := m ((c.tc : Thread nD τ).loc main_arg5)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel

theorem iblk0_apply (c : Dev nD) (t : Fin cfg0.N) (a : Fin 512) (b : Fin 1024) (r : Fin 4096) (hr : r.val = 512 * t.val + a.val) :
    (iblk m c 0 t : FVec Ideal S512x1024 .bf16) (ix2 a b) = DK m c (ix2 r b) :=
  congrArg (V m c main_arg0) (ext2 (blk (index0 t).1 (row hr)) (blk (index0 t).2 (by simp only [ix2]; omega)))

theorem iblk1_apply (c : Dev nD) (t : Fin cfg0.N) (a : Fin 512) (b : Fin 1024) (r : Fin 4096) (hr : r.val = 512 * t.val + a.val) :
    (iblk m c 1 t : FVec Ideal S512x1024 .bf16) (ix2 a b) = DV m c (ix2 r b) :=
  congrArg (V m c main_arg1) (ext2 (blk (index1 t).1 (row hr)) (blk (index1 t).2 (by simp only [ix2]; omega)))

theorem iblk2_apply (c : Dev nD) (t : Fin cfg0.N) (a : Fin 1024) (b : Fin 256) :
    (iblk m c 2 t : FVec Ideal S1024x256 .bf16) (ix2 a b) = WK m c (ix2 a b) :=
  congrArg (V m c main_arg2) (ext2 (blk (index2 t).1 (by simp only [ix2]; omega)) (blk (index2 t).2 (by simp only [ix2]; omega)))

theorem iblk3_apply (c : Dev nD) (t : Fin cfg0.N) (a : Fin 1024) (b : Fin 256) :
    (iblk m c 3 t : FVec Ideal S1024x256 .bf16) (ix2 a b) = WV m c (ix2 a b) :=
  congrArg (V m c main_arg3) (ext2 (blk (index3 t).1 (by simp only [ix2]; omega)) (blk (index3 t).2 (by simp only [ix2]; omega)))

theorem iblk4_apply (c : Dev nD) (t : Fin cfg0.N) (a : Fin 512) (b : Fin 256) (r : Fin 4096) (hr : r.val = 512 * t.val + a.val) :
    (iblk m c 4 t : FVec Ideal S512x256 .bf16) (ix2 a b) = KVA m c (ix2 r b) :=
  congrArg (V m c main_arg4) (ext2 (blk (index4 t).1 (row hr)) (blk (index4 t).2 (by simp only [ix2]; omega)))

theorem iblk5_apply (c : Dev nD) (t : Fin cfg0.N) (a : Fin 1) (b : Fin 256) :
    (iblk m c 5 t : FVec Ideal S1x256 .f32) (ix2 a b) = NW m c (ix2 a b) :=
  congrArg (V m c main_arg5) (ext2 (blk (index5 t).1 (by simp only [ix2]; omega)) (blk (index5 t).2 (by simp only [ix2]; omega)))

theorem dy_at (c : Dev nD) (t : Fin cfg0.N) (a : Fin 512) (j : Fin 256) (r : Fin 4096) (hr : r.val = 512 * t.val + a.val) :
    k0_pay3 (F := Ideal) (iblk m c 2 t) (iblk m c 0 t) (iblk m c 3 t) (iblk m c 1 t) (ix2 a j)
      = dy (DK m c) (DV m c) (WK m c) (WV m c) (ix2 r j) := by
  refine (dy_pay _ _ _ _ a j).trans ?_
  unfold dy
  refine congrArg₂ (· + ·) (Finset.sum_congr rfl fun k _ => ?_) (Finset.sum_congr rfl fun k _ => ?_)
  · exact congrArg₂ (· * ·) (iblk0_apply m c t a k r hr) (iblk2_apply m c t k j)
  · exact congrArg₂ (· * ·) (iblk1_apply m c t a k r hr) (iblk3_apply m c t k j)

/-- What a point leaves at a row and a column of its block of the first result. -/
theorem dx_at (c : Dev nD) (t : Fin cfg0.N) (a : Fin 512) (j : Fin 256) (r : Fin 4096) (hr : r.val = 512 * t.val + a.val) :
    k0_pay7 (F := Ideal) (iblk m c 2 t) (iblk m c 0 t) (iblk m c 3 t) (iblk m c 1 t) (iblk m c 4 t) (iblk m c 5 t) (ix2 a j)
      = dx (DK m c) (DV m c) (WK m c) (WV m c) (KVA m c) (NW m c) (ix2 r j) := by
  refine (dx_pay _ _ _ _ _ _ a j).trans ?_
  unfold dx
  have hp : (fun k => k0_pay3 (F := Ideal) (iblk m c 2 t) (iblk m c 0 t) (iblk m c 3 t) (iblk m c 1 t) (ix2 a k)
        * (iblk m c 5 t : FVec Ideal S1x256 .f32) (ix2 (0 : Fin 1) k))
      = fun k : Fin 256 => dy (DK m c) (DV m c) (WK m c) (WV m c) (ix2 r k) * NW m c (ix2 (0 : Fin 1) k) :=
    funext fun k => congrArg₂ (· * ·) (dy_at m c t a k r hr) (iblk5_apply m c t 0 k)
  have hh : (fun k => (iblk m c 4 t : FVec Ideal S512x256 .bf16) (ix2 a k)) = fun k : Fin 256 => KVA m c (ix2 r k) :=
    funext fun k => iblk4_apply m c t a k r hr
  exact congrFun (congrArg₂ (kdx width) hp hh) j

/-- The term of a row, for any number. -/
def term (c : Dev nD) (j : Fin 256) (r : ℕ) : EReal :=
  if h : r < 4096 then dwTerm (DK m c) (DV m c) (WK m c) (WV m c) (KVA m c) ⟨r, h⟩ j else 0

/-- What a block adds to the second. -/
theorem blockSum (c : Dev nD) (t : Fin cfg0.N) (z : Fin 1) (j : Fin 256) :
    k0_pay1 (F := Ideal) (k0_pay8 (F := Ideal) (iblk m c 2 t) (iblk m c 0 t) (iblk m c 3 t) (iblk m c 1 t) (iblk m c 4 t)) (ix2 z j)
      = ∑ a ∈ Finset.range 512, term m c j (512 * t.val + a) := by
  refine (dw_pay _ _ _ _ _ z j).trans ?_
  rw [← Fin.sum_univ_eq_sum_range (fun a => term m c j (512 * t.val + a)) 512]
  refine Finset.sum_congr rfl fun a _ => ?_
  have ht : t.val < 8 := lt_of_lt_of_eq t.isLt N_0
  have hlt : 512 * t.val + a.val < 4096 := by have := a.isLt; omega
  unfold term
  rw [dif_pos hlt]
  unfold dwTerm
  have hh : (fun k => (iblk m c 4 t : FVec Ideal S512x256 .bf16) (ix2 a k)) = fun k : Fin 256 => KVA m c (ix2 ⟨_, hlt⟩ k) :=
    funext fun k => iblk4_apply m c t a k _ rfl
  refine congrArg₂ (· * ·) (dy_at m c t a j ⟨_, hlt⟩ rfl) ?_
  exact congrArg₂ (· * ·) (iblk4_apply m c t a j _ rfl) (congrArg (rinv width) hh)

/-! ## The points in order -/

theorem outs6 (c : Dev nD) (t : Fin cfg0.N) : (outsAt0 m c t.val t.isLt).1
    = k0_pay7 (F := Ideal) (iblk m c 2 t) (iblk m c 0 t) (iblk m c 3 t) (iblk m c 1 t) (iblk m c 4 t) (iblk m c 5 t) := by
  have ht : t.val < 8 := lt_of_lt_of_eq t.isLt N_0
  by_cases h0 : t.val % 8 = 0
  · rw [outsAt0_A m c t h0 (by omega)]
    dsimp only
    rw [out_A_6]
  · rw [outsAt0_B m c t h0 (by omega)]
    dsimp only
    rw [out_B_6]

/-- After a point the second block holds the sum over all the rows of the blocks so far. -/
theorem outs7 (c : Dev nD) (z : Fin 1) (j : Fin 256) : ∀ (n : ℕ) (h : n < cfg0.N),
    ((outsAt0 m c n h).2 : FVec Ideal S1x256 .f32) (ix2 z j) = ∑ r ∈ Finset.range (512 * n + 512), term m c j r
  | 0, h => by
    have e : (outsAt0 m c 0 h).2 = _ := congrArg (fun x => x.2) (outsAt0_A m c ⟨0, h⟩ rfl (by show ¬1 ≤ 0; omega))
    rw [e]
    dsimp only
    rw [out_A_7]
    refine (blockSum m c ⟨0, h⟩ z j).trans ?_
    simp
  | n + 1, h => by
    have hN : cfg0.N = 8 := N_0
    have e : (outsAt0 m c (n + 1) h).2 = _ :=
      congrArg (fun x => x.2) (outsAt0_B m c ⟨n + 1, h⟩ (by show ¬(n + 1) % 8 = 0; omega) (by show 1 ≤ n + 1; omega))
    rw [e]
    dsimp only
    rw [out_B_7]
    refine (next_pay _ _ _ _ _ _ z j).trans ?_
    rw [show 512 * (n + 1) + 512 = (512 * n + 512) + 512 by ring, Finset.sum_range_add]
    exact congrArg₂ (· + ·) (outs7 c z j n (Nat.lt_of_succ_lt h)) (blockSum m c ⟨n + 1, h⟩ z j)

/-! ## The whole arrays -/

theorem flushed6 (c : Dev nD) (t : Fin cfg0.N) (_hf : (cfg0.win 6).flush t = true) :
    (dats m 0 c).flushed 6 t = ((cfg0.win 6).blk t).view.read (Elt Ideal) (dx (DK m c) (DV m c) (WK m c) (WV m c) (KVA m c) (NW m c)) := by
  have hi := index6 t
  have ht : t.val < 8 := lt_of_lt_of_eq t.isLt N_0
  rw [Value.flushed6, outs6]
  funext x
  rw [View.read_apply]
  obtain ⟨a, b, rfl⟩ : ∃ (a : Fin 512) (b : Fin 256), x = ix2 a b := ⟨x 0, x 1, eq_ix2 x⟩
  have hlt : 512 * t.val + a.val < 4096 := by have := a.isLt; omega
  refine (dx_at m c t a b ⟨_, hlt⟩ rfl).trans (congrArg (dx (DK m c) (DV m c) (WK m c) (WV m c) (KVA m c) (NW m c)) ?_)
  exact ext2 (by show 512 * t.val + a.val = win0_6.index t 0 * 512 + 1 * a.val; rw [hi.1]; omega) (by show b.val = win0_6.index t 1 * 256 + 1 * b.val; rw [hi.2]; omega)

theorem final6 (c : Dev nD) : (dats m 0 c).arrAt 6 cfg0.N = dx (DK m c) (DV m c) (WK m c) (WV m c) (KVA m c) (NW m c) :=
  (dats m 0 c).arrAt_eq_of_cover 6 (dx (DK m c) (DV m c) (WK m c) (WV m c) (KVA m c) (NW m c)) (flushed6 m c) fun i => by
    have h0 : (i 0 : Nat) < 4096 := (i 0).isLt
    have h1 : (i 1 : Nat) < 256 := (i 1).isLt
    have hlt : (i 0).val / 512 < cfg0.N := by rw [show cfg0.N = 8 from N_0]; omega
    have hi := index6 ⟨(i 0).val / 512, hlt⟩
    refine ⟨⟨(i 0).val / 512, hlt⟩, flush0_6 _, ?_⟩
    show i ∈ ((View.whole main_v0_0).slice (win0_6.rect ⟨(i 0).val / 512, hlt⟩)).set
    rw [View.set_slice_whole, Rect.mem_set_unit]
    dsimp only at hi
    intro a
    match a with
    | ⟨0, _⟩ =>
      show win0_6.index ⟨(i 0).val / 512, hlt⟩ 0 * 512 ≤ (i 0 : Nat)
        ∧ (i 0 : Nat) < win0_6.index ⟨(i 0).val / 512, hlt⟩ 0 * 512 + 512
      rw [hi.1]; omega
    | ⟨1, _⟩ =>
      show win0_6.index ⟨(i 0).val / 512, hlt⟩ 1 * 256 ≤ (i 1 : Nat)
        ∧ (i 1 : Nat) < win0_6.index ⟨(i 0).val / 512, hlt⟩ 1 * 256 + 256
      rw [hi.2]; omega

theorem flushed7 (c : Dev nD) (t : Fin cfg0.N) (hf : (cfg0.win 7).flush t = true) :
    (dats m 0 c).flushed 7 t = ((cfg0.win 7).blk t).view.read (Elt Ideal) (dw (DK m c) (DV m c) (WK m c) (WV m c) (KVA m c)) := by
  have hi := index7 t
  have ht : t.val < 8 := lt_of_lt_of_eq t.isLt N_0
  have h7 : t.val = 7 := by have := (flush0_7 t).mp hf; omega
  rw [Value.flushed7]
  funext x
  rw [View.read_apply]
  obtain ⟨z, j, rfl⟩ : ∃ (z : Fin 1) (j : Fin 256), x = ix2 z j := ⟨x 0, x 1, eq_ix2 x⟩
  have hs : ∑ r ∈ Finset.range (512 * t.val + 512), term m c j r = dw (DK m c) (DV m c) (WK m c) (WV m c) (KVA m c) (ix2 z j) := by
    rw [h7]
    unfold dw
    rw [← Fin.sum_univ_eq_sum_range (term m c j) 4096]
    refine Finset.sum_congr rfl fun r _ => ?_
    unfold term
    rw [dif_pos r.isLt]
    rfl
  refine ((outs7 m c z j t.val t.isLt).trans hs).trans (congrArg (dw (DK m c) (DV m c) (WK m c) (WV m c) (KVA m c)) ?_)
  exact ext2 (by show z.val = win0_7.index t 0 * 1 + 1 * z.val; rw [hi.1]; omega) (by show j.val = win0_7.index t 1 * 256 + 1 * j.val; rw [hi.2]; omega)

theorem final7 (c : Dev nD) : (dats m 0 c).arrAt 7 cfg0.N = dw (DK m c) (DV m c) (WK m c) (WV m c) (KVA m c) :=
  (dats m 0 c).arrAt_eq_of_cover 7 (dw (DK m c) (DV m c) (WK m c) (WV m c) (KVA m c)) (flushed7 m c) fun i => by
    have h0 : (i 0 : Nat) < 1 := (i 0).isLt
    have h1 : (i 1 : Nat) < 256 := (i 1).isLt
    have hlt : 7 < cfg0.N := by rw [show cfg0.N = 8 from N_0]; omega
    have hi := index7 ⟨7, hlt⟩
    refine ⟨⟨7, hlt⟩, (flush0_7 _).mpr rfl, ?_⟩
    show i ∈ ((View.whole main_v0_1).slice (win0_7.rect ⟨7, hlt⟩)).set
    rw [View.set_slice_whole, Rect.mem_set_unit]
    intro a
    match a with
    | ⟨0, _⟩ =>
      show win0_7.index ⟨7, hlt⟩ 0 * 1 ≤ (i 0 : Nat) ∧ (i 0 : Nat) < win0_7.index ⟨7, hlt⟩ 0 * 1 + 1
      rw [hi.1]; omega
    | ⟨1, _⟩ =>
      show win0_7.index ⟨7, hlt⟩ 1 * 256 ≤ (i 1 : Nat) ∧ (i 1 : Nat) < win0_7.index ⟨7, hlt⟩ 1 * 256 + 256
      rw [hi.2]; omega

/-- The kernel's run: its two results, and its arguments unchanged. -/
theorem run : θ_run defs (onTc (τ := τ) (main (F := Ideal))) ⟨m, fun _ => 0, ρ⟩ fun r => ∀ c : Dev nD,
      r.2.mem ((c.tc : Thread nD τ).loc main_v0_0) = dx (DK m c) (DV m c) (WK m c) (WV m c) (KVA m c) (NW m c)
      ∧ r.2.mem ((c.tc : Thread nD τ).loc main_v0_1) = dw (DK m c) (DV m c) (WK m c) (WV m c) (KVA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans (final6 m c), (h c).2.1.trans (final7 m c), (h c).2.2⟩)
    (Value.run_blocks m ρ)

/-! ## The reference -/

open Cert.Reference16Ideal.Read

section
variable (dk : FVec Ideal S4096x1024 .bf16) (dv : FVec Ideal S4096x1024 .bf16) (wk : FVec Ideal S1024x256 .bf16) (wv : FVec Ideal S1024x256 .bf16) (q : FVec Ideal S4096x256 .bf16)
  (w : FVec Ideal S1x256 .f32)

theorem ref_dy (i : S4096x256.Idx) : val_main_v26 (F := Ideal) dk dv wk wv i = dy dk dv wk wv i := by
  rw [val_main_v26_apply, val_main_v24_apply, val_main_v25_apply]
  refine (add_comm (_ : EReal) _).trans ?_
  unfold dy
  refine congrArg₂ (· + ·) (Finset.sum_congr rfl fun k _ => ?_) (Finset.sum_congr rfl fun k _ => ?_)
  · rw [val_main_v22_apply, val_main_v17_apply, val_main_v16_apply]
    have e0 : lidx_main_v25 i k = ix2 (i 0) k := ext2 rfl rfl
    have e1 : idx_main_v17 (ridx_main_v25 i k) = ix2 k (i 1) := ext2 rfl rfl
    rw [e0, e1]
    rfl
  · rw [val_main_v23_apply, val_main_v20_apply, val_main_v19_apply]
    have e0 : lidx_main_v24 i k = ix2 (i 0) k := ext2 rfl rfl
    have e1 : idx_main_v20 (ridx_main_v24 i k) = ix2 k (i 1) := ext2 rfl rfl
    rw [e0, e1]
    rfl

theorem ref_meanSq (r : Fin 4096) (z : Fin 1) : val_main_v7 (F := Ideal) q (ix2 r z) = meanSq width fun k => q (ix2 r k) := by
  rw [val_main_v7_apply, val_main_v5_apply, val_main_v3_apply, val_main_v2_apply, val_main_v4_apply, val_main_v6_apply,
    val_main_cst_apply, val_main_cst_0_apply, val_main_cst_1_apply]
  have hs : ∀ k : Fin 256, val_main_v1 (F := Ideal) q (idx_main_v2 (idx_main_v3 (ix2 r z)) k) = q (ix2 r k) * q (ix2 r k) := fun k => by
    rw [val_main_v1_apply, val_main_v0_apply]
    have e : idx_main_v2 (idx_main_v3 (ix2 r z)) k = ix2 r k := ext2 rfl rfl
    rw [e]
    rfl
  simp only [hs]
  show Ideal.div (Ideal.ofBits .f32 0x00000000#32 + ∑ k : Fin 256, q (ix2 r k) * q (ix2 r k)) width + eps = _
  rw [Ideal.ofBits_zero_f32, zero_add]
  rfl

theorem ref_rinv (r : Fin 4096) (z : Fin 1) : val_main_v8 (F := Ideal) q (ix2 r z) = rinv width fun k => q (ix2 r k) := by
  rw [val_main_v8_apply, ref_meanSq]
  rfl

theorem ref11 (r : Fin 4096) (z : Fin 1) : val_main_v11 (F := Ideal) q (ix2 r z)
    = mhalf * Ideal.div (rinv width fun k => q (ix2 r k)) (meanSq width fun k => q (ix2 r k)) := by
  rw [val_main_v11_apply, val_main_v10_apply, val_main_cst_2_apply, val_main_v9_apply, ref_meanSq, ref_rinv]
  rfl

theorem ref_p (r : Fin 4096) (j : Fin 256) : val_main_v31 (F := Ideal) dk dv wk wv w (ix2 r j)
    = dy dk dv wk wv (ix2 r j) * w (ix2 (0 : Fin 1) j) := by
  rw [val_main_v31_apply, ref_dy, val_main_v30_apply]
  have e : idx_main_v30 (ix2 r j) = ix2 (0 : Fin 1) j := ext2 rfl rfl
  rw [e]
  rfl

theorem ref_sum (r : Fin 4096) (z : Fin 1) : val_main_v34 (F := Ideal) dk dv wk wv q w (ix2 r z)
    = ∑ k : Fin 256, q (ix2 r k) * (dy dk dv wk wv (ix2 r k) * w (ix2 (0 : Fin 1) k)) := by
  rw [val_main_v34_apply, val_main_v33_apply, val_main_cst_4_apply]
  have hs : ∀ k : Fin 256, val_main_v32 (F := Ideal) dk dv wk wv q w (idx_main_v33 (idx_main_v34 (ix2 r z)) k)
      = q (ix2 r k) * (dy dk dv wk wv (ix2 r k) * w (ix2 (0 : Fin 1) k)) := fun k => by
    have e : idx_main_v33 (idx_main_v34 (ix2 r z)) k = ix2 r k := funext fun x => Fin.ext (by
      match x with
      | ⟨0, _⟩ => show r.val * 1 + z.val = r.val; have := z.isLt; omega
      | ⟨1, _⟩ => rfl)
    rw [e, val_main_v32_apply, ref_p, val_main_v0_apply]
    rfl
  simp only [hs]
  show Ideal.ofBits .f32 0x00000000#32 + _ = _
  rw [Ideal.ofBits_zero_f32, zero_add]

theorem ref_coef (r : Fin 4096) (j : Fin 256) : val_main_v41 (F := Ideal) dk dv wk wv q w (ix2 r j)
    = rcoef width (fun k => dy dk dv wk wv (ix2 r k) * w (ix2 (0 : Fin 1) k)) (fun k => q (ix2 r k)) := by
  rw [val_main_v41_apply, val_main_v40_apply, val_main_cst_6_apply, Fin.sum_univ_one]
  have e : idx_main_v40 (idx_main_v41 (ix2 r j)) 0 = ix2 r (0 : Fin 1) := ext2 rfl rfl
  rw [e, val_main_v39_apply, val_main_v37_apply, val_main_v38_apply, val_main_cst_5_apply, ref_sum, ref11]
  show Ideal.ofBits .f32 0x00000000#32 + _ = _
  rw [Ideal.ofBits_zero_f32, zero_add]
  rfl

/-- The reference's first result, -/
theorem ref_dx : val_main_v46 (F := Ideal) dk dv wk wv q w = dx dk dv wk wv q w := by
  funext i
  obtain ⟨r, j, rfl⟩ : ∃ (r : Fin 4096) (j : Fin 256), i = ix2 r j := ⟨i 0, i 1, eq_ix2 i⟩
  refine Eq.trans ?_ (dx_eq width 256 width_eq (by norm_num) (fun k => dy dk dv wk wv (ix2 r k) * w (ix2 (0 : Fin 1) k)) (fun k => q (ix2 r k)) j)
  rw [val_main_v46_apply, val_main_v45_apply, val_main_v43_apply, val_main_v36_apply, val_main_v35_apply, val_main_v42_apply, val_main_v44_apply,
    ref_coef, ref_p, val_main_v0_apply]
  have e : idx_main_v35 (ix2 r j) = ix2 r (0 : Fin 1) := ext2 rfl rfl
  rw [e, ref_rinv]
  rfl

/-- and its second. -/
theorem ref_dw : val_main_v29 (F := Ideal) dk dv wk wv q = dw dk dv wk wv q := by
  funext i
  obtain ⟨z, j, rfl⟩ : ∃ (z : Fin 1) (j : Fin 256), i = ix2 z j := ⟨i 0, i 1, eq_ix2 i⟩
  rw [val_main_v29_apply, val_main_v28_apply, val_main_cst_3_apply]
  show Ideal.ofBits .f32 0x00000000#32 + _ = _
  rw [Ideal.ofBits_zero_f32, zero_add]
  unfold dw
  refine Finset.sum_congr rfl fun r _ => ?_
  have e : idx_main_v28 (idx_main_v29 (ix2 z j)) r = ix2 r j := funext fun x => Fin.ext (by
    match x with
    | ⟨0, _⟩ => rfl
    | ⟨1, _⟩ => show z.val * 256 + j.val = j.val; have : z.val < 1 := z.isLt; omega)
  rw [e, val_main_v27_apply, ref_dy, val_main_v13_apply, val_main_v12_apply, val_main_v0_apply]
  have e' : idx_main_v12 (ix2 r j) = ix2 r (0 : Fin 1) := ext2 rfl rfl
  rw [e', ref_rinv]
  unfold dwTerm
  exact mul_comm (_ : EReal) _

end

end Cert.Kernel16Ideal.LatKVGrad

end
-- ==== Proof.MProj.lean ====
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Ix
public import Idealize.ShloMosaic.Lib.Pointwise
public import Idealize.ShloMosaic.Lib.Tactic
public import Idealize.ShloMosaic.Lib.WordCmp
public import Idealize.ShloMosaic.Lib.IdealHost
public import Idealize.ShloMosaic.Lib.Pipeline.Value
public import Idealize.ShloMosaic.Lib.Claim

/-! The input projections of the mLSTM mixer, the queries' columns scaled, over the extended reals. -/

@[expose] public section

set_option maxRecDepth 16384

noncomputable section

namespace Cert.Kernel17Ideal.MProj

open Idealize.ShloMosaic Idealize.ShloMosaic.TcCoe Idealize.ShloMosaic.Tactic
open Idealize.SL.Sem
open Cert.Ix (ext2 blk row)
open Idealize.ShloMosaic.Pipeline (Dat Cfg Window)
open Cert.Kernel17Ideal Cert.Kernel17Ideal.Gen

/-- What column `j` is multiplied with: the queries are the first 512 columns. -/
def factor (j : ℕ) : EReal := if j < 512 then Ideal.ofBits .f32 0x3DB504F3#32 else 1

/-- The rows of `u` times the first 2048 rows of the transposed weights, unscaled, -/
def rows (u : FVec Ideal S4096x1024 .bf16) (w : FVec Ideal S2728x1024 .bf16) (i : S4096x2048.Idx) : EReal :=
  ∑ k : Fin 1024, u (ix2 (i 0) k) * w (ix2 (⟨(i 1).val, lt_trans (i 1).isLt (by decide)⟩ : Fin 2728) k)

/-- and scaled. -/
def proj (u : FVec Ideal S4096x1024 .bf16) (w : FVec Ideal S2728x1024 .bf16) (i : S4096x2048.Idx) : EReal :=
  rows u w i * factor (i 1).val

/-! ## One block -/

theorem mask_eq (n : ℕ) (hn : n < 2) (b : Fin 1024) (x y : EReal) :
    Scalar.select (IntOp.cmpi .slt (IntOp.addi (Scalar.muli (BitVec.ofNat 32 n) 1024#32) (BitVec.ofNat 32 b.val)) 512#32) x y
      = if 1024 * n + b.val < 512 then x else y := by
  have h1 := b.isLt
  have e : Scalar.muli (BitVec.ofNat 32 n) 1024#32 = BitVec.ofNat 32 (n * 1024) := WordCmp.muli_ofNat n 1024
  rw [e, WordCmp.addi_ofNat, Nat.mul_comm 1024 n]
  word_cmp

theorem pay1_at (i : grid0.Coords) (x y : FVec Ideal S1024x1024 .bf16) (a b : Fin 1024) :
    k0_pay1 (F := Ideal) i x y (ix2 a b)
      = (∑ k : Fin 1024, x (ix2 a k) * y (ix2 b k)) * factor (1024 * (i 1).val + b.val) := by
  unfold factor
  rw [← mask_eq (i 1).val (i 1).isLt b, ← Ideal.ofBits_one_f32]
  pointwise [k0_pay1]

theorem hz : (![0, 0] : Fin 2 → Nat) = fun _ => 0 := funext fun a => by fin_cases a <;> rfl

theorem out_A_2 {F : FTy → Type} [FloatOps F] (c : Dev nD) (i : grid0.Coords) (arg2 : Memref sig .tc .vmem S1024x1024 .bf16) (harg2 : arg2.IsWhole)
    (arg3 : Memref sig .tc .vmem S1024x1024 .bf16) (harg3 : arg3.IsWhole) (arg4 : Memref sig .tc .vmem S1024x1024 .bf16)
    (harg4 : arg4.IsWhole) (x0 x1 : Vec F S1024x1024 .bf16) :
    out0_A_2 c i arg2 harg2 arg3 harg3 arg4 harg4 x0 x1 = k0_pay1 i x0 x1 := by
  unfold out0_A_2
  rw [View.read_writes_eq_canon _ _ _ (cover0_A_2 c i arg2 harg2 arg3 harg3 arg4 harg4 x0 x1)]
  unfold kernelRun0_A
  dsimp only
  sl_unfold_words
  rw [View.canon_unit_zero hz]
  simp only [View.readAt_eq_ld, harg2.read_unread, harg3.read_unread, View.ld_unit_zero (S := S1024x1024) hz]

/-! ## The grid's blocks -/

variable (m : (ℓ : Loc nD τ sig) → Buf (Elt Ideal) ℓ) (ρ : Dev nD → PrngReg)

/-- The normed residual stream -/
def U (c : Dev nD) : FVec Ideal S4096x1024 .bf16 := m ((c.tc : Thread nD τ).loc main_arg0)
/-- and the transposed weights. -/
def W (c : Dev nD) : FVec Ideal S2728x1024 .bf16 := m ((c.tc : Thread nD τ).loc main_arg1)

theorem index0 : ∀ t : Fin grid0.N, win0_0.index t 0 = t.val / 2 ∧ win0_0.index t 1 = 0 := by decide +kernel
theorem index1 : ∀ t : Fin grid0.N, win0_1.index t 0 = t.val % 2 ∧ win0_1.index t 1 = 0 := by decide +kernel
theorem index2 : ∀ t : Fin grid0.N, win0_2.index t 0 = t.val / 2 ∧ win0_2.index t 1 = t.val % 2 := by decide +kernel
theorem coord1 : ∀ t : Fin grid0.N, (grid0.coords t 1).val = t.val % 2 := by decide +kernel

theorem iblk0_apply (c : Dev nD) (t : Fin cfg0.N) (a : Fin 1024) (b : Fin 1024) (r : Fin 4096) (hr : r.val = 1024 * (t.val / 2) + a.val) :
    (iblk m c 0 t : FVec Ideal S1024x1024 .bf16) (ix2 a b) = U m c (ix2 r b) :=
  congrArg (V m c main_arg0) (ext2 (blk (index0 t).1 (row hr)) (blk (index0 t).2 (by simp only [ix2]; omega)))

theorem block1_apply (c : Dev nD) (t : Fin cfg0.N) (a : Fin 1024) (b : Fin 1024) (r : Fin 2728) (hr : r.val = 1024 * (t.val % 2) + a.val) :
    (X0_1 m c t : FVec Ideal S1024x1024 .bf16) (ix2 a b) = W m c (ix2 r b) := by
  have hi := index1 t
  unfold X0_1 Window.fill
  rw [dif_pos (moved0_1 t (ix2 a b))]
  unfold iblk
  rw [View.read_apply]
  show V m c main_arg1 _ = V m c main_arg1 _
  congr 1
  exact ext2 (by show win0_1.index t 0 * 1024 + 1 * a.val = r.val; rw [hi.1]; omega) (by show win0_1.index t 1 * 1024 + 1 * b.val = b.val; rw [hi.2]; omega)

theorem proj_at (c : Dev nD) (t : Fin cfg0.N) (a b : Fin 1024) (i : S4096x2048.Idx)
    (h0 : (i 0).val = 1024 * (t.val / 2) + a.val) (h1 : (i 1).val = 1024 * (t.val % 2) + b.val) :
    k0_pay1 (F := Ideal) (grid0.coords t) (iblk m c 0 t) (X0_1 m c t) (ix2 a b) = proj (U m c) (W m c) i := by
  refine (pay1_at _ _ _ a b).trans ?_
  unfold proj rows
  rw [coord1 t, ← h1]
  exact congrArg (· * factor (i 1).val) (Finset.sum_congr rfl fun k _ =>
    congrArg₂ (· * ·) (iblk0_apply m c t a k (i 0) h0) (block1_apply m c t b k _ h1))

theorem flushed2 (c : Dev nD) (t : Fin cfg0.N) (_hf : (cfg0.win 2).flush t = true) :
    (dats m 0 c).flushed 2 t = ((cfg0.win 2).blk t).view.read (Elt Ideal) (proj (U m c) (W m c)) := by
  have hi := index2 t
  rw [Value.flushed2_A, out_A_2]
  funext x
  rw [View.read_apply]
  obtain ⟨a, b, rfl⟩ : ∃ (a b : Fin 1024), x = ix2 a b := ⟨x 0, x 1, eq_ix2 x⟩
  refine proj_at m c t a b _ ?_ ?_
  · show win0_2.index t 0 * 1024 + 1 * a.val = _
    rw [hi.1]; omega
  · show win0_2.index t 1 * 1024 + 1 * b.val = _
    rw [hi.2]; omega

theorem final2 (c : Dev nD) : (dats m 0 c).arrAt 2 cfg0.N = proj (U m c) (W m c) :=
  (dats m 0 c).arrAt_eq_of_cover 2 (proj (U m c) (W m c)) (flushed2 m c) fun i => by
    have h0 : (i 0 : Nat) < 4096 := (i 0).isLt
    have h1 : (i 1 : Nat) < 2048 := (i 1).isLt
    have hlt : 2 * ((i 0).val / 1024) + (i 1).val / 1024 < cfg0.N := by rw [show cfg0.N = 8 from N_0]; omega
    have hi := index2 ⟨2 * ((i 0).val / 1024) + (i 1).val / 1024, hlt⟩
    refine ⟨⟨2 * ((i 0).val / 1024) + (i 1).val / 1024, hlt⟩, flush0_2 _, ?_⟩
    show i ∈ ((View.whole main_v0).slice (win0_2.rect ⟨2 * ((i 0).val / 1024) + (i 1).val / 1024, hlt⟩)).set
    rw [View.set_slice_whole, Rect.mem_set_unit]
    dsimp only at hi
    intro a
    match a with
    | ⟨0, _⟩ =>
      show win0_2.index ⟨2 * ((i 0).val / 1024) + (i 1).val / 1024, hlt⟩ 0 * 1024 ≤ (i 0 : Nat)
        ∧ (i 0 : Nat) < win0_2.index ⟨2 * ((i 0).val / 1024) + (i 1).val / 1024, hlt⟩ 0 * 1024 + 1024
      rw [hi.1]; omega
    | ⟨1, _⟩ =>
      show win0_2.index ⟨2 * ((i 0).val / 1024) + (i 1).val / 1024, hlt⟩ 1 * 1024 ≤ (i 1 : Nat)
        ∧ (i 1 : Nat) < win0_2.index ⟨2 * ((i 0).val / 1024) + (i 1).val / 1024, hlt⟩ 1 * 1024 + 1024
      rw [hi.2]; omega

/-- The kernel's run: its result, and its arguments unchanged. -/
theorem run : θ_run defs (onTc (τ := τ) (main (F := Ideal))) ⟨m, fun _ => 0, ρ⟩ fun r => ∀ c : Dev nD,
      r.2.mem ((c.tc : Thread nD τ).loc main_v0) = proj (U m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩) (Value.run_blocks m ρ)

/-! ## The reference -/

open Cert.Reference17Ideal.Read

section
variable (u : FVec Ideal S4096x1024 .bf16) (w : FVec Ideal S2728x1024 .bf16)

theorem ref4 (i : S4096x2048.Idx) : val_main_v4 (F := Ideal) u w i = rows u w i := by
  rw [val_main_v4_apply]
  unfold rows
  refine Finset.sum_congr rfl fun k _ => ?_
  rw [val_main_v0_apply, val_main_v3_apply, val_main_v2_apply, val_main_v1_apply]
  have e0 : lidx_main_v4 i k = ix2 (i 0) k := ext2 rfl rfl
  have e1 : idx_main_v1 (idx_main_v3 (ridx_main_v4 i k))
      = ix2 (⟨(i 1).val, lt_trans (i 1).isLt (by decide)⟩ : Fin 2728) k := funext fun x => Fin.ext (by
    match x with
    | ⟨0, _⟩ => rfl
    | ⟨1, _⟩ => rfl)
  rw [e0, e1]
  rfl

theorem ref9_left (r : Fin 4096) (j : Fin 2048) (hj : j.val < 512) :
    val_main_v9 (F := Ideal) u w (ix2 r j) = val_main_v7 (F := Ideal) u w (ix2 r (⟨j.val, hj⟩ : Fin 512)) := by
  unfold val_main_v9
  generalize val_main_v7 (F := Ideal) u w = x
  generalize val_main_v8 (F := Ideal) u w = y
  exact concatenate_pair_apply_left 1 x y _ (ix2 r j) rfl (ix2 r (⟨j.val, hj⟩ : Fin 512)) fun b => by
    match b with
    | ⟨0, _⟩ => rfl
    | ⟨1, _⟩ => rfl

theorem ref9_right (r : Fin 4096) (j : Fin 2048) (hj : 512 ≤ j.val) :
    val_main_v9 (F := Ideal) u w (ix2 r j)
      = val_main_v8 (F := Ideal) u w (ix2 r (⟨j.val - 512, by omega⟩ : Fin 1536)) := by
  unfold val_main_v9
  generalize val_main_v7 (F := Ideal) u w = x
  generalize val_main_v8 (F := Ideal) u w = y
  exact concatenate_pair_apply_right 1 x y _ (ix2 r j) rfl rfl (ix2 r (⟨j.val - 512, by omega⟩ : Fin 1536))
    (fun b hb => by
      match b, hb with
      | ⟨0, _⟩, _ => rfl
      | ⟨1, _⟩, hb => exact absurd rfl hb)
    (by show j.val - 512 + 512 = j.val; omega)

theorem ref10 : val_main_v10 (F := Ideal) u w = proj u w := by
  funext i
  obtain ⟨r, j, rfl⟩ : ∃ (r : Fin 4096) (j : Fin 2048), i = ix2 r j := ⟨i 0, i 1, eq_ix2 i⟩
  rw [val_main_v10_apply]
  unfold proj factor
  by_cases hj : j.val < 512
  · rw [ref9_left u w r j hj, val_main_v7_apply, val_main_v5_apply, val_main_v6_apply, val_main_cst_apply, ref4]
    have e : idx_main_v5 (ix2 r (⟨j.val, hj⟩ : Fin 512)) = ix2 r j := funext fun x => Fin.ext (by
      match x with
      | ⟨0, _⟩ => rfl
      | ⟨1, _⟩ => rfl)
    rw [e, if_pos (show ((ix2 r j : S4096x2048.Idx) 1).val < 512 from hj)]
    rfl
  · rw [ref9_right u w r j (Nat.le_of_not_lt hj), val_main_v8_apply, ref4]
    have e : idx_main_v8 (ix2 r (⟨j.val - 512, by omega⟩ : Fin 1536)) = ix2 r j := funext fun x => Fin.ext (by
      match x with
      | ⟨0, _⟩ => rfl
      | ⟨1, _⟩ => show 512 + (j.val - 512) = j.val; omega)
    rw [e, if_neg (show ¬ ((ix2 r j : S4096x2048.Idx) 1).val < 512 from hj), mul_one]
    rfl

end

end Cert.Kernel17Ideal.MProj

end
-- ==== Proof.OutProj.lean ====
module

public import proofs.«01_k».proof.Proof.Gen.Kernel18Ideal.Value
public import proofs.«01_k».proof.Proof.Gen.Reference18Ideal.Run
public import proofs.«01_k».proof.Proof.Gen.Reference18Ideal.Read
public import proofs.«01_k».proof.Proof.Ix
public import Idealize.ShloMosaic.Lib.Pointwise
public import Idealize.ShloMosaic.Lib.Tactic
public import Idealize.ShloMosaic.Lib.IdealHost
public import Idealize.ShloMosaic.Lib.Pipeline.Value
public import Idealize.ShloMosaic.Lib.Claim
public import proofs.«01_k».proof.Proof.NormRow

/-! The output projections of the two mixers, added to the residual stream, and the norm of the sum, over the extended reals. -/

@[expose] public section

set_option maxRecDepth 16384

noncomputable section

namespace Cert.Kernel18Ideal.OutProj

open Idealize.ShloMosaic Idealize.ShloMosaic.TcCoe Idealize.ShloMosaic.Tactic
open Idealize.SL.Sem
open Cert.Ix (ext2 blk row)
open Idealize.ShloMosaic.Pipeline (Dat Cfg Window)
open Cert.Kernel18Ideal Cert.Kernel18Ideal.Gen
open Cert.NormRow (rinv meanSq width eps)

/-- The residual stream after the mixers, -/
def stream (hm : FVec Ideal S4096x512 .bf16) (ha : FVec Ideal S4096x1024 .bf16) (wm : FVec Ideal S512x1024 .bf16)
    (wa : FVec Ideal S1024x1024 .bf16) (x : FVec Ideal S4096x1024 .f32) (i : S4096x1024.Idx) : EReal :=
  (∑ k : Fin 512, hm (ix2 (i 0) k) * wm (ix2 k (i 1))) + (∑ k : Fin 1024, ha (ix2 (i 0) k) * wa (ix2 k (i 1))) + x i

/-- and its norm. -/
def normed (hm : FVec Ideal S4096x512 .bf16) (ha : FVec Ideal S4096x1024 .bf16) (wm : FVec Ideal S512x1024 .bf16)
    (wa : FVec Ideal S1024x1024 .bf16) (x : FVec Ideal S4096x1024 .f32) (w : FVec Ideal S1x1024 .f32) (i : S4096x1024.Idx) : EReal :=
  (stream hm ha wm wa x i * rinv fun k => stream hm ha wm wa x (ix2 (i 0) k)) * w (ix2 (0 : Fin 1) (i 1))

/-! ## One block -/

theorem pay1_at (v0 : FVec Ideal S512x512 .bf16) (v1 : FVec Ideal S512x1024 .bf16) (v3 : FVec Ideal S512x1024 .bf16)
    (v4 : FVec Ideal S1024x1024 .bf16) (v7 : FVec Ideal S512x1024 .f32) (a : Fin 512) (b : Fin 1024) :
    k0_pay1 (F := Ideal) v0 v1 v3 v4 v7 (ix2 a b)
      = (∑ k : Fin 512, v0 (ix2 a k) * v1 (ix2 k b)) + (∑ k : Fin 1024, v3 (ix2 a k) * v4 (ix2 k b)) + v7 (ix2 a b) := by
  pointwise [k0_pay1]

theorem pay2_at (v0 : FVec Ideal S512x512 .bf16) (v1 : FVec Ideal S512x1024 .bf16) (v3 : FVec Ideal S512x1024 .bf16)
    (v4 : FVec Ideal S1024x1024 .bf16) (v7 : FVec Ideal S512x1024 .f32) (w : FVec Ideal S1x1024 .f32) (a : Fin 512) (b : Fin 1024) :
    k0_pay2 (F := Ideal) v0 v1 v3 v4 v7 w (ix2 a b)
      = (k0_pay1 (F := Ideal) v0 v1 v3 v4 v7 (ix2 a b) * rinv fun k => k0_pay1 (F := Ideal) v0 v1 v3 v4 v7 (ix2 a k))
        * w (ix2 (0 : Fin 1) b) := by
  unfold rinv meanSq width eps k0_pay2
  generalize k0_pay1 (F := Ideal) v0 v1 v3 v4 v7 = y
  pointwise []

theorem hz : (![0, 0] : Fin 2 → Nat) = fun _ => 0 := funext fun a => by fin_cases a <;> rfl

theorem out6_eq (x0 : FVec Ideal S512x512 .bf16) (x1 : FVec Ideal S512x1024 .bf16) (x2 : FVec Ideal S512x1024 .bf16) (x3 : FVec Ideal S1024x1024 .bf16) (x4 : FVec Ideal S512x1024 .f32) (x5 : FVec Ideal S1x1024 .f32) :
    out0_6 (F := Ideal) x0 x1 x2 x3 x4 x5 = k0_pay1 (F := Ideal) x0 x2 x1 x3 x4 := by
  unfold out0_6
  rw [View.canon_unit_zero hz]
  simp only [View.ld_unit_zero (S := S512x512) hz, View.ld_unit_zero (S := S512x1024) hz, View.ld_unit_zero (S := S1024x1024) hz]

theorem out7_eq (x0 : FVec Ideal S512x512 .bf16) (x1 : FVec Ideal S512x1024 .bf16) (x2 : FVec Ideal S512x1024 .bf16) (x3 : FVec Ideal S1024x1024 .bf16) (x4 : FVec Ideal S512x1024 .f32) (x5 : FVec Ideal S1x1024 .f32) :
    out0_7 (F := Ideal) x0 x1 x2 x3 x4 x5 = k0_pay2 (F := Ideal) x0 x2 x1 x3 x4 x5 := by
  unfold out0_7
  rw [View.canon_unit_zero hz]
  simp only [View.ld_unit_zero (S := S512x512) hz, View.ld_unit_zero (S := S512x1024) hz, View.ld_unit_zero (S := S1024x1024) hz, View.ld_unit_zero (S := S1x1024) hz]

/-! ## The grid's blocks -/

variable (m : (ℓ : Loc nD τ sig) → Buf (Elt Ideal) ℓ) (ρ : Dev nD → PrngReg)

/-- The hidden states of the mLSTM heads, -/
def HM (c : Dev nD) : FVec Ideal S4096x512 .bf16 := m ((c.tc : Thread nD τ).loc main_arg0)
/-- and of the attention heads, -/
def HA (c : Dev nD) : FVec Ideal S4096x1024 .bf16 := m ((c.tc : Thread nD τ).loc main_arg1)
/-- the output weights of the first, -/
def WM (c : Dev nD) : FVec Ideal S512x1024 .bf16 := m ((c.tc : Thread nD τ).loc main_arg2)
/-- and of the second, -/
def WA (c : Dev nD) : FVec Ideal S1024x1024 .bf16 := m ((c.tc : Thread nD τ).loc main_arg3)
/-- the residual stream, -/
def X0 (c : Dev nD) : FVec Ideal S4096x1024 .f32 := m ((c.tc : Thread nD τ).loc main_arg4)
/-- and the norm's weight. -/
def NW (c : Dev nD) : FVec Ideal S1x1024 .f32 := m ((c.tc : Thread nD τ).loc main_arg5)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

theorem iblk0_apply (c : Dev nD) (t : Fin cfg0.N) (a : Fin 512) (b : Fin 512) (r : Fin 4096) (hr : r.val = 512 * t.val + a.val) :
    (iblk m c 0 t : FVec Ideal S512x512 .bf16) (ix2 a b) = HM m c (ix2 r b) :=
  congrArg (V m c main_arg0) (ext2 (blk (index0 t).1 (row hr)) (blk (index0 t).2 (by simp only [ix2]; omega)))

theorem iblk1_apply (c : Dev nD) (t : Fin cfg0.N) (a : Fin 512) (b : Fin 1024) (r : Fin 4096) (hr : r.val = 512 * t.val + a.val) :
    (iblk m c 1 t : FVec Ideal S512x1024 .bf16) (ix2 a b) = HA m c (ix2 r b) :=
  congrArg (V m c main_arg1) (ext2 (blk (index1 t).1 (row hr)) (blk (index1 t).2 (by simp only [ix2]; omega)))

theorem iblk2_apply (c : Dev nD) (t : Fin cfg0.N) (a : Fin 512) (b : Fin 1024) :
    (iblk m c 2 t : FVec Ideal S512x1024 .bf16) (ix2 a b) = WM m c (ix2 a b) :=
  congrArg (V m c main_arg2) (ext2 (blk (index2 t).1 (by simp only [ix2]; omega)) (blk (index2 t).2 (by simp only [ix2]; omega)))

theorem iblk3_apply (c : Dev nD) (t : Fin cfg0.N) (a : Fin 1024) (b : Fin 1024) :
    (iblk m c 3 t : FVec Ideal S1024x1024 .bf16) (ix2 a b) = WA m c (ix2 a b) :=
  congrArg (V m c main_arg3) (ext2 (blk (index3 t).1 (by simp only [ix2]; omega)) (blk (index3 t).2 (by simp only [ix2]; omega)))

theorem iblk4_apply (c : Dev nD) (t : Fin cfg0.N) (a : Fin 512) (b : Fin 1024) (r : Fin 4096) (hr : r.val = 512 * t.val + a.val) :
    (iblk m c 4 t : FVec Ideal S512x1024 .f32) (ix2 a b) = X0 m c (ix2 r b) :=
  congrArg (V m c main_arg4) (ext2 (blk (index4 t).1 (row hr)) (blk (index4 t).2 (by simp only [ix2]; omega)))

theorem iblk5_apply (c : Dev nD) (t : Fin cfg0.N) (a : Fin 1) (b : Fin 1024) :
    (iblk m c 5 t : FVec Ideal S1x1024 .f32) (ix2 a b) = NW m c (ix2 a b) :=
  congrArg (V m c main_arg5) (ext2 (blk (index5 t).1 (by simp only [ix2]; omega)) (blk (index5 t).2 (by simp only [ix2]; omega)))

theorem stream_at (c : Dev nD) (t : Fin cfg0.N) (a : Fin 512) (b : Fin 1024) (r : Fin 4096) (hr : r.val = 512 * t.val + a.val) :
    k0_pay1 (F := Ideal) (iblk m c 0 t) (iblk m c 2 t) (iblk m c 1 t) (iblk m c 3 t) (iblk m c 4 t) (ix2 a b)
      = stream (HM m c) (HA m c) (WM m c) (WA m c) (X0 m c) (ix2 r b) := by
  refine (pay1_at _ _ _ _ _ a b).trans ?_
  unfold stream
  refine congrArg₂ (· + ·) (congrArg₂ (· + ·) (Finset.sum_congr rfl fun k _ => ?_) (Finset.sum_congr rfl fun k _ => ?_)) ?_
  · exact congrArg₂ (· * ·) (iblk0_apply m c t a k r hr) (iblk2_apply m c t k b)
  · exact congrArg₂ (· * ·) (iblk1_apply m c t a k r hr) (iblk3_apply m c t k b)
  · exact iblk4_apply m c t a b r hr

theorem normed_at (c : Dev nD) (t : Fin cfg0.N) (a : Fin 512) (b : Fin 1024) (r : Fin 4096) (hr : r.val = 512 * t.val + a.val) :
    k0_pay2 (F := Ideal) (iblk m c 0 t) (iblk m c 2 t) (iblk m c 1 t) (iblk m c 3 t) (iblk m c 4 t) (iblk m c 5 t) (ix2 a b)
      = normed (HM m c) (HA m c) (WM m c) (WA m c) (X0 m c) (NW m c) (ix2 r b) := by
  refine (pay2_at _ _ _ _ _ _ a b).trans ?_
  unfold normed
  have hh : (fun k => k0_pay1 (F := Ideal) (iblk m c 0 t) (iblk m c 2 t) (iblk m c 1 t) (iblk m c 3 t) (iblk m c 4 t) (ix2 a k))
      = fun k : Fin 1024 => stream (HM m c) (HA m c) (WM m c) (WA m c) (X0 m c) (ix2 r k) :=
    funext fun k => stream_at m c t a k r hr
  exact congrArg₂ (· * ·) (congrArg₂ (· * ·) (stream_at m c t a b r hr) (congrArg rinv hh)) (iblk5_apply m c t 0 b)

theorem flushed6 (c : Dev nD) (t : Fin cfg0.N) (_hf : (cfg0.win 6).flush t = true) :
    (dats m 0 c).flushed 6 t = ((cfg0.win 6).blk t).view.read (Elt Ideal) (stream (HM m c) (HA m c) (WM m c) (WA m c) (X0 m c)) := by
  have hi := index6 t
  have ht : t.val < 8 := lt_of_lt_of_eq t.isLt N_0
  rw [Value.flushed6, out6_eq]
  funext x
  rw [View.read_apply]
  obtain ⟨a, b, rfl⟩ : ∃ (a : Fin 512) (b : Fin 1024), x = ix2 a b := ⟨x 0, x 1, eq_ix2 x⟩
  have hlt : 512 * t.val + a.val < 4096 := by have := a.isLt; omega
  refine (stream_at m c t a b ⟨_, hlt⟩ rfl).trans (congrArg (stream (HM m c) (HA m c) (WM m c) (WA m c) (X0 m c)) ?_)
  exact ext2 (by show 512 * t.val + a.val = win0_6.index t 0 * 512 + 1 * a.val; rw [hi.1]; omega) (by show b.val = win0_6.index t 1 * 1024 + 1 * b.val; rw [hi.2]; omega)

theorem final6 (c : Dev nD) : (dats m 0 c).arrAt 6 cfg0.N = stream (HM m c) (HA m c) (WM m c) (WA m c) (X0 m c) :=
  (dats m 0 c).arrAt_eq_of_cover 6 (stream (HM m c) (HA m c) (WM m c) (WA m c) (X0 m c)) (flushed6 m c) fun i => by
    have h0 : (i 0 : Nat) < 4096 := (i 0).isLt
    have h1 : (i 1 : Nat) < 1024 := (i 1).isLt
    have hlt : (i 0).val / 512 < cfg0.N := by rw [show cfg0.N = 8 from N_0]; omega
    have hi := index6 ⟨(i 0).val / 512, hlt⟩
    refine ⟨⟨(i 0).val / 512, hlt⟩, flush0_6 _, ?_⟩
    show i ∈ ((View.whole main_v0_0).slice (win0_6.rect ⟨(i 0).val / 512, hlt⟩)).set
    rw [View.set_slice_whole, Rect.mem_set_unit]
    dsimp only at hi
    intro a
    match a with
    | ⟨0, _⟩ =>
      show win0_6.index ⟨(i 0).val / 512, hlt⟩ 0 * 512 ≤ (i 0 : Nat)
        ∧ (i 0 : Nat) < win0_6.index ⟨(i 0).val / 512, hlt⟩ 0 * 512 + 512
      rw [hi.1]; omega
    | ⟨1, _⟩ =>
      show win0_6.index ⟨(i 0).val / 512, hlt⟩ 1 * 1024 ≤ (i 1 : Nat)
        ∧ (i 1 : Nat) < win0_6.index ⟨(i 0).val / 512, hlt⟩ 1 * 1024 + 1024
      rw [hi.2]; omega

theorem flushed7 (c : Dev nD) (t : Fin cfg0.N) (_hf : (cfg0.win 7).flush t = true) :
    (dats m 0 c).flushed 7 t = ((cfg0.win 7).blk t).view.read (Elt Ideal) (normed (HM m c) (HA m c) (WM m c) (WA m c) (X0 m c) (NW m c)) := by
  have hi := index7 t
  have ht : t.val < 8 := lt_of_lt_of_eq t.isLt N_0
  rw [Value.flushed7, out7_eq]
  funext x
  rw [View.read_apply]
  obtain ⟨a, b, rfl⟩ : ∃ (a : Fin 512) (b : Fin 1024), x = ix2 a b := ⟨x 0, x 1, eq_ix2 x⟩
  have hlt : 512 * t.val + a.val < 4096 := by have := a.isLt; omega
  refine (normed_at m c t a b ⟨_, hlt⟩ rfl).trans (congrArg (normed (HM m c) (HA m c) (WM m c) (WA m c) (X0 m c) (NW m c)) ?_)
  exact ext2 (by show 512 * t.val + a.val = win0_7.index t 0 * 512 + 1 * a.val; rw [hi.1]; omega) (by show b.val = win0_7.index t 1 * 1024 + 1 * b.val; rw [hi.2]; omega)

theorem final7 (c : Dev nD) : (dats m 0 c).arrAt 7 cfg0.N = normed (HM m c) (HA m c) (WM m c) (WA m c) (X0 m c) (NW m c) :=
  (dats m 0 c).arrAt_eq_of_cover 7 (normed (HM m c) (HA m c) (WM m c) (WA m c) (X0 m c) (NW m c)) (flushed7 m c) fun i => by
    have h0 : (i 0 : Nat) < 4096 := (i 0).isLt
    have h1 : (i 1 : Nat) < 1024 := (i 1).isLt
    have hlt : (i 0).val / 512 < cfg0.N := by rw [show cfg0.N = 8 from N_0]; omega
    have hi := index7 ⟨(i 0).val / 512, hlt⟩
    refine ⟨⟨(i 0).val / 512, hlt⟩, flush0_7 _, ?_⟩
    show i ∈ ((View.whole main_v0_1).slice (win0_7.rect ⟨(i 0).val / 512, hlt⟩)).set
    rw [View.set_slice_whole, Rect.mem_set_unit]
    dsimp only at hi
    intro a
    match a with
    | ⟨0, _⟩ =>
      show win0_7.index ⟨(i 0).val / 512, hlt⟩ 0 * 512 ≤ (i 0 : Nat)
        ∧ (i 0 : Nat) < win0_7.index ⟨(i 0).val / 512, hlt⟩ 0 * 512 + 512
      rw [hi.1]; omega
    | ⟨1, _⟩ =>
      show win0_7.index ⟨(i 0).val / 512, hlt⟩ 1 * 1024 ≤ (i 1 : Nat)
        ∧ (i 1 : Nat) < win0_7.index ⟨(i 0).val / 512, hlt⟩ 1 * 1024 + 1024
      rw [hi.2]; omega

/-- The kernel's run: its two results, and its arguments unchanged. -/
theorem run : θ_run defs (onTc (τ := τ) (main (F := Ideal))) ⟨m, fun _ => 0, ρ⟩ fun r => ∀ c : Dev nD,
      r.2.mem ((c.tc : Thread nD τ).loc main_v0_0) = stream (HM m c) (HA m c) (WM m c) (WA m c) (X0 m c)
      ∧ r.2.mem ((c.tc : Thread nD τ).loc main_v0_1) = normed (HM m c) (HA m c) (WM m c) (WA m c) (X0 m c) (NW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans (final6 m c), (h c).2.1.trans (final7 m c), (h c).2.2⟩)
    (Value.run_blocks m ρ)

/-! ## The reference -/

open Cert.Reference18Ideal.Read

section
variable (hm : FVec Ideal S4096x512 .bf16) (ha : FVec Ideal S4096x1024 .bf16) (wm : FVec Ideal S512x1024 .bf16)
  (wa : FVec Ideal S1024x1024 .bf16) (x : FVec Ideal S4096x1024 .f32) (w : FVec Ideal S1x1024 .f32)

theorem ref2 (i : S4096x1024.Idx) : val_main_v2 (F := Ideal) hm wm i = ∑ k : Fin 512, hm (ix2 (i 0) k) * wm (ix2 k (i 1)) := by
  rw [val_main_v2_apply]
  refine Finset.sum_congr rfl fun k _ => ?_
  rw [val_main_v0_apply, val_main_v1_apply]
  have e0 : lidx_main_v2 i k = ix2 (i 0) k := ext2 rfl rfl
  have e1 : ridx_main_v2 i k = ix2 k (i 1) := ext2 rfl rfl
  rw [e0, e1]
  rfl

theorem ref5 (i : S4096x1024.Idx) : val_main_v5 (F := Ideal) ha wa i = ∑ k : Fin 1024, ha (ix2 (i 0) k) * wa (ix2 k (i 1)) := by
  rw [val_main_v5_apply]
  refine Finset.sum_congr rfl fun k _ => ?_
  rw [val_main_v3_apply, val_main_v4_apply]
  have e0 : lidx_main_v5 i k = ix2 (i 0) k := ext2 rfl rfl
  have e1 : ridx_main_v5 i k = ix2 k (i 1) := ext2 rfl rfl
  rw [e0, e1]
  rfl

theorem ref7 : val_main_v7 (F := Ideal) hm ha wm wa x = stream hm ha wm wa x := by
  funext i
  rw [val_main_v7_apply, val_main_v6_apply, ref2, ref5]
  exact add_comm (_ : EReal) _

theorem ref15 (r : Fin 4096) (z : Fin 1) : val_main_v15 (F := Ideal) hm ha wm wa x (ix2 r z)
    = rinv fun k => stream hm ha wm wa x (ix2 r k) := by
  rw [val_main_v15_apply, val_main_v14_apply, val_main_v12_apply, val_main_v10_apply, val_main_v9_apply, val_main_v11_apply,
    val_main_v13_apply, val_main_cst_apply, val_main_cst_0_apply, val_main_cst_1_apply]
  have hs : ∀ k : Fin 1024, val_main_v8 (F := Ideal) hm ha wm wa x (idx_main_v9 (idx_main_v10 (ix2 r z)) k)
      = stream hm ha wm wa x (ix2 r k) * stream hm ha wm wa x (ix2 r k) := fun k => by
    have e : idx_main_v9 (idx_main_v10 (ix2 r z)) k = ix2 r k := ext2 rfl rfl
    rw [e, val_main_v8_apply, ref7]
    rfl
  simp only [hs]
  generalize stream hm ha wm wa x = y
  show Ideal.rsqrt (Ideal.div (Ideal.ofBits .f32 0x00000000#32 + ∑ k : Fin 1024, y (ix2 r k) * y (ix2 r k)) width + eps) = _
  rw [Ideal.ofBits_zero_f32, zero_add]
  rfl

theorem ref20 : val_main_v20 (F := Ideal) hm ha wm wa x w = normed hm ha wm wa x w := by
  funext i
  obtain ⟨r, j, rfl⟩ : ∃ (r : Fin 4096) (j : Fin 1024), i = ix2 r j := ⟨i 0, i 1, eq_ix2 i⟩
  rw [val_main_v20_apply, val_main_v19_apply, val_main_v17_apply, val_main_v16_apply, val_main_v18_apply, ref7]
  have e : idx_main_v16 (ix2 r j) = ix2 r (0 : Fin 1) := ext2 rfl rfl
  have e' : idx_main_v18 (ix2 r j) = ix2 (0 : Fin 1) j := ext2 rfl rfl
  rw [e, e', ref15]
  unfold normed
  generalize stream hm ha wm wa x = y
  rfl

end

end Cert.Kernel18Ideal.OutProj

end
-- ==== Proof.Latents.lean ====
module

public import proofs.«01_k».proof.Proof.Gen.Kernel19Ideal.Value
public import proofs.«01_k».proof.Proof.Gen.Reference19Ideal.Run
public import proofs.«01_k».proof.Proof.Gen.Reference19Ideal.Read
public import proofs.«01_k».proof.Proof.Ix
public import Idealize.ShloMosaic.Lib.Pointwise
public import Idealize.ShloMosaic.Lib.Tactic
public import Idealize.ShloMosaic.Lib.IdealHost
public import Idealize.ShloMosaic.Lib.Pipeline.Value
public import Idealize.ShloMosaic.Lib.Claim
public import proofs.«01_k».proof.Proof.NormLat

/-! The norm of a layer's input, its projections to the two latents and to the gates, and the latents' norms, over the extended reals. -/

@[expose] public section

set_option maxRecDepth 16384

noncomputable section

namespace Cert.Kernel19Ideal.Latents

open Idealize.ShloMosaic Idealize.ShloMosaic.TcCoe Idealize.ShloMosaic.Tactic
open Idealize.SL.Sem
open Cert.Ix (ext2 blk row)
open Idealize.ShloMosaic.Pipeline (Dat Cfg Window)
open Cert.Kernel19Ideal Cert.Kernel19Ideal.Gen
open Cert.NormLat (rinv meanSq)
open Cert.NormRow (eps)

/-- The widths 1024, 384 and 256. -/
def W0 : EReal := Ideal.ofBits .f32 0x44800000#32
def W1 : EReal := Ideal.ofBits .f32 0x43C00000#32
def W2 : EReal := Ideal.ofBits .f32 0x43800000#32

/-- Column `k` of the query's latent among the columns of both, and of the other latent. -/
abbrev cq (k : Fin 384) : Fin 640 := ⟨k.val, by omega⟩
abbrev ck (k : Fin 256) : Fin 640 := ⟨384 + k.val, by omega⟩

section
variable (x : FVec Ideal S4096x1024 .f32) (w : FVec Ideal S1x1024 .f32) (a : FVec Ideal S640x1024 .bf16)
  (g : FVec Ideal S128x1024 .bf16) (q : FVec Ideal S1x384 .f32) (p : FVec Ideal S1x256 .f32)

/-- The normed input, -/
def unit (i : S4096x1024.Idx) : EReal := x i * rinv W0 (fun k : Fin 1024 => x (ix2 (i 0) k)) * w (ix2 (0 : Fin 1) (i 1))
/-- the latents, -/
def lat (i : S4096x640.Idx) : EReal := ∑ k : Fin 1024, unit x w (ix2 (i 0) k) * a (ix2 (i 1) k)
/-- the gates, -/
def gates (i : S4096x128.Idx) : EReal := ∑ k : Fin 1024, unit x w (ix2 (i 0) k) * g (ix2 (i 1) k)
/-- the query's normed latent, -/
def qn (i : S4096x384.Idx) : EReal :=
  lat x w a (ix2 (i 0) (cq (i 1))) * rinv W1 (fun k => lat x w a (ix2 (i 0) (cq k))) * q (ix2 (0 : Fin 1) (i 1))
/-- and the other. -/
def kn (i : S4096x256.Idx) : EReal :=
  lat x w a (ix2 (i 0) (ck (i 1))) * rinv W2 (fun k => lat x w a (ix2 (i 0) (ck k))) * p (ix2 (0 : Fin 1) (i 1))

end

/-! ## One block -/

theorem pay3_at (x : FVec Ideal S512x1024 .f32) (w : FVec Ideal S1x1024 .f32) (r : Fin 512) (j : Fin 1024) :
    k0_pay3 (F := Ideal) x w (ix2 r j) = x (ix2 r j) * rinv W0 (fun k => x (ix2 r k)) * w (ix2 (0 : Fin 1) j) := by
  unfold rinv meanSq W0 eps
  pointwise [k0_pay3]

theorem pay4_at (x : FVec Ideal S512x1024 .f32) (w : FVec Ideal S1x1024 .f32) (a : FVec Ideal S640x1024 .bf16) (r : Fin 512)
    (j : Fin 640) : k0_pay4 (F := Ideal) x w a (ix2 r j) = ∑ k : Fin 1024, k0_pay3 (F := Ideal) x w (ix2 r k) * a (ix2 j k) := by
  unfold k0_pay4
  generalize k0_pay3 (F := Ideal) x w = y
  pointwise []

theorem pay5_at (x : FVec Ideal S512x1024 .f32) (w : FVec Ideal S1x1024 .f32) (a : FVec Ideal S640x1024 .bf16)
    (q : FVec Ideal S1x384 .f32) (r : Fin 512) (j : Fin 384) : k0_pay5 (F := Ideal) x w a q (ix2 r j)
      = k0_pay4 (F := Ideal) x w a (ix2 r (cq j)) * rinv W1 (fun k => k0_pay4 (F := Ideal) x w a (ix2 r (cq k)))
        * q (ix2 (0 : Fin 1) j) := by
  unfold rinv meanSq W1 eps k0_pay5
  generalize k0_pay4 (F := Ideal) x w a = y
  pointwise []

theorem pay1_at (y : FVec Ideal S512x640 .bf16) (p : FVec Ideal S1x256 .f32) (r : Fin 512) (j : Fin 256) :
    k0_pay1 (F := Ideal) y p (ix2 r j)
      = y (ix2 r (ck j)) * rinv W2 (fun k => y (ix2 r (ck k))) * p (ix2 (0 : Fin 1) j) := by
  unfold rinv meanSq W2 eps
  pointwise [k0_pay1]

theorem pay2_at (y : FVec Ideal S512x1024 .bf16) (g : FVec Ideal S128x1024 .bf16) (r : Fin 512) (j : Fin 128) :
    k0_pay2 (F := Ideal) y g (ix2 r j) = ∑ k : Fin 1024, y (ix2 r k) * g (ix2 j k) := by
  pointwise [k0_pay2]

theorem hz : (![0, 0] : Fin 2 → Nat) = fun _ => 0 := funext fun a => by fin_cases a <;> rfl

section
variable (x0 : FVec Ideal S512x1024 .f32) (x1 : FVec Ideal S1x1024 .f32) (x2 : FVec Ideal S640x1024 .bf16) (x3 : FVec Ideal S128x1024 .bf16) (x4 : FVec Ideal S1x384 .f32) (x5 : FVec Ideal S1x256 .f32)

theorem out6_eq : out0_6 (F := Ideal) x0 x1 x2 x3 x4 x5 = k0_pay3 (F := Ideal) x0 x1 := by
  unfold out0_6
  rw [View.canon_unit_zero hz]
  simp only [View.ld_unit_zero (S := S512x1024) hz, View.ld_unit_zero (S := S1x1024) hz]

theorem out7_eq : out0_7 (F := Ideal) x0 x1 x2 x3 x4 x5 = k0_pay4 (F := Ideal) x0 x1 x2 := by
  unfold out0_7
  rw [View.canon_unit_zero hz]
  simp only [View.ld_unit_zero (S := S512x1024) hz, View.ld_unit_zero (S := S1x1024) hz, View.ld_unit_zero (S := S640x1024) hz]

theorem out8_eq : out0_8 (F := Ideal) x0 x1 x2 x3 x4 x5 = k0_pay5 (F := Ideal) x0 x1 x2 x4 := by
  unfold out0_8
  rw [View.canon_unit_zero hz]
  simp only [View.ld_unit_zero (S := S512x1024) hz, View.ld_unit_zero (S := S1x1024) hz, View.ld_unit_zero (S := S640x1024) hz, View.ld_unit_zero (S := S1x384) hz]

theorem out9_eq : out0_9 (F := Ideal) x0 x1 x2 x3 x4 x5 = k0_pay1 (F := Ideal) (k0_pay4 (F := Ideal) x0 x1 x2) x5 := by
  unfold out0_9
  rw [View.canon_unit_zero hz]
  simp only [View.ld_unit_zero (S := S512x1024) hz, View.ld_unit_zero (S := S1x1024) hz, View.ld_unit_zero (S := S640x1024) hz, View.ld_unit_zero (S := S1x256) hz]

theorem out10_eq : out0_10 (F := Ideal) x0 x1 x2 x3 x4 x5 = k0_pay2 (F := Ideal) (k0_pay3 (F := Ideal) x0 x1) x3 := by
  unfold out0_10
  rw [View.canon_unit_zero hz]
  simp only [View.ld_unit_zero (S := S512x1024) hz, View.ld_unit_zero (S := S1x1024) hz, View.ld_unit_zero (S := S128x1024) hz]

end

/-! ## The grid's blocks -/

variable (m : (ℓ : Loc nD τ sig) → Buf (Elt Ideal) ℓ) (ρ : Dev nD → PrngReg)

/-- The layer's input, -/
def X (c : Dev nD) : FVec Ideal S4096x1024 .f32 := m ((c.tc : Thread nD τ).loc main_arg0)
/-- the norm's weight, -/
def NW (c : Dev nD) : FVec Ideal S1x1024 .f32 := m ((c.tc : Thread nD τ).loc main_arg1)
/-- the transposed weights of the two latents, -/
def WA (c : Dev nD) : FVec Ideal S640x1024 .bf16 := m ((c.tc : Thread nD τ).loc main_arg2)
/-- and of the gates and the rotary key, -/
def WG (c : Dev nD) : FVec Ideal S128x1024 .bf16 := m ((c.tc : Thread nD τ).loc main_arg3)
/-- the weight of the query latent's norm, -/
def QN (c : Dev nD) : FVec Ideal S1x384 .f32 := m ((c.tc : Thread nD τ).loc main_arg4)
/-- and of the other latent's. -/
def KN (c : Dev nD) : FVec Ideal S1x256 .f32 := m ((c.tc : Thread nD τ).loc main_arg5)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = t.val ∧ win0_10.index t 1 = 0 := by decide +kernel

variable (c : Dev nD) (t : Fin cfg0.N)

theorem iblk0_apply (a : Fin 512) (b : Fin 1024) (r : Fin 4096) (hr : r.val = 512 * t.val + a.val) :
    (iblk m c 0 t : FVec Ideal S512x1024 .f32) (ix2 a b) = X m c (ix2 r b) :=
  congrArg (V m c main_arg0) (ext2 (blk (index0 t).1 (row hr)) (blk (index0 t).2 (by simp only [ix2]; omega)))

theorem iblk1_eq : iblk m c 1 t = NW m c := by
  funext x
  obtain ⟨a, b, rfl⟩ : ∃ (a : Fin 1) (b : Fin 1024), x = ix2 a b := ⟨x 0, x 1, eq_ix2 x⟩
  have hi := index1 t
  unfold iblk
  rw [View.read_apply]
  show V m c main_arg1 _ = V m c main_arg1 _
  congr 1
  exact ext2 (by show win0_1.index t 0 * 1 + 1 * a.val = a.val; rw [hi.1]; omega) (by show win0_1.index t 1 * 1024 + 1 * b.val = b.val; rw [hi.2]; omega)

theorem iblk2_eq : iblk m c 2 t = WA m c := by
  funext x
  obtain ⟨a, b, rfl⟩ : ∃ (a : Fin 640) (b : Fin 1024), x = ix2 a b := ⟨x 0, x 1, eq_ix2 x⟩
  have hi := index2 t
  unfold iblk
  rw [View.read_apply]
  show V m c main_arg2 _ = V m c main_arg2 _
  congr 1
  exact ext2 (by show win0_2.index t 0 * 640 + 1 * a.val = a.val; rw [hi.1]; omega) (by show win0_2.index t 1 * 1024 + 1 * b.val = b.val; rw [hi.2]; omega)

theorem iblk3_eq : iblk m c 3 t = WG m c := by
  funext x
  obtain ⟨a, b, rfl⟩ : ∃ (a : Fin 128) (b : Fin 1024), x = ix2 a b := ⟨x 0, x 1, eq_ix2 x⟩
  have hi := index3 t
  unfold iblk
  rw [View.read_apply]
  show V m c main_arg3 _ = V m c main_arg3 _
  congr 1
  exact ext2 (by show win0_3.index t 0 * 128 + 1 * a.val = a.val; rw [hi.1]; omega) (by show win0_3.index t 1 * 1024 + 1 * b.val = b.val; rw [hi.2]; omega)

theorem iblk4_eq : iblk m c 4 t = QN m c := by
  funext x
  obtain ⟨a, b, rfl⟩ : ∃ (a : Fin 1) (b : Fin 384), x = ix2 a b := ⟨x 0, x 1, eq_ix2 x⟩
  have hi := index4 t
  unfold iblk
  rw [View.read_apply]
  show V m c main_arg4 _ = V m c main_arg4 _
  congr 1
  exact ext2 (by show win0_4.index t 0 * 1 + 1 * a.val = a.val; rw [hi.1]; omega) (by show win0_4.index t 1 * 384 + 1 * b.val = b.val; rw [hi.2]; omega)

theorem iblk5_eq : iblk m c 5 t = KN m c := by
  funext x
  obtain ⟨a, b, rfl⟩ : ∃ (a : Fin 1) (b : Fin 256), x = ix2 a b := ⟨x 0, x 1, eq_ix2 x⟩
  have hi := index5 t
  unfold iblk
  rw [View.read_apply]
  show V m c main_arg5 _ = V m c main_arg5 _
  congr 1
  exact ext2 (by show win0_5.index t 0 * 1 + 1 * a.val = a.val; rw [hi.1]; omega) (by show win0_5.index t 1 * 256 + 1 * b.val = b.val; rw [hi.2]; omega)

variable (a : Fin 512) (r : Fin 4096) (hr : r.val = 512 * t.val + a.val)

include hr

theorem unit_at (b : Fin 1024) : k0_pay3 (F := Ideal) (iblk m c 0 t) (NW m c) (ix2 a b) = unit (X m c) (NW m c) (ix2 r b) := by
  refine (pay3_at _ _ a b).trans ?_
  have h : (fun k : Fin 1024 => (iblk m c 0 t : FVec Ideal S512x1024 .f32) (ix2 a k)) = fun k => X m c (ix2 r k) :=
    funext fun k => iblk0_apply m c t a k r hr
  rw [h, iblk0_apply m c t a b r hr]
  rfl

theorem lat_at (b : Fin 640) : k0_pay4 (F := Ideal) (iblk m c 0 t) (NW m c) (WA m c) (ix2 a b) = lat (X m c) (NW m c) (WA m c) (ix2 r b) := by
  refine (pay4_at _ _ _ a b).trans (Finset.sum_congr rfl fun k _ => ?_)
  rw [unit_at m c t a r hr k]
  rfl

theorem qn_at (b : Fin 384) : k0_pay5 (F := Ideal) (iblk m c 0 t) (NW m c) (WA m c) (QN m c) (ix2 a b) = qn (X m c) (NW m c) (WA m c) (QN m c) (ix2 r b) := by
  refine (pay5_at _ _ _ _ a b).trans ?_
  simp only [lat_at m c t a r hr]
  rfl

theorem kn_at (b : Fin 256) : k0_pay1 (F := Ideal) (k0_pay4 (F := Ideal) (iblk m c 0 t) (NW m c) (WA m c)) (KN m c) (ix2 a b) = kn (X m c) (NW m c) (WA m c) (KN m c) (ix2 r b) := by
  refine (pay1_at _ _ a b).trans ?_
  simp only [lat_at m c t a r hr]
  rfl

theorem gates_at (b : Fin 128) : k0_pay2 (F := Ideal) (k0_pay3 (F := Ideal) (iblk m c 0 t) (NW m c)) (WG m c) (ix2 a b) = gates (X m c) (NW m c) (WG m c) (ix2 r b) := by
  refine (pay2_at _ _ a b).trans (Finset.sum_congr rfl fun k _ => ?_)
  rw [unit_at m c t a r hr k]
  rfl

omit hr

theorem final6 : (dats m 0 c).arrAt 6 cfg0.N = unit (X m c) (NW m c) :=
  (dats m 0 c).arrAt_eq_of_cover 6 (unit (X m c) (NW m c)) (fun t _ => by
    have hi := index6 t
    have ht : t.val < 8 := lt_of_lt_of_eq t.isLt N_0
    rw [Value.flushed6, out6_eq, iblk1_eq]
    funext x
    rw [View.read_apply]
    obtain ⟨a, b, rfl⟩ : ∃ (a : Fin 512) (b : Fin 1024), x = ix2 a b := ⟨x 0, x 1, eq_ix2 x⟩
    have hlt : 512 * t.val + a.val < 4096 := by have := a.isLt; omega
    refine (unit_at m c t a ⟨_, hlt⟩ rfl b).trans (congrArg (unit (X m c) (NW m c)) ?_)
    exact ext2 (by show 512 * t.val + a.val = win0_6.index t 0 * 512 + 1 * a.val; rw [hi.1]; omega) (by show b.val = win0_6.index t 1 * 1024 + 1 * b.val; rw [hi.2]; omega)) fun i => by
    have h0 : (i 0 : Nat) < 4096 := (i 0).isLt
    have h1 : (i 1 : Nat) < 1024 := (i 1).isLt
    obtain ⟨t, ht⟩ : ∃ t : Fin cfg0.N, t.val = (i 0 : Nat) / 512 := ⟨⟨_, by rw [show cfg0.N = 8 from N_0]; omega⟩, rfl⟩
    have hi := index6 t
    refine ⟨t, flush0_6 _, ?_⟩
    show i ∈ ((View.whole main_v0_0).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [hi.1]; omega
    | ⟨1, _⟩ =>
      show win0_6.index t 1 * 1024 ≤ (i 1 : Nat) ∧ (i 1 : Nat) < win0_6.index t 1 * 1024 + 1024
      rw [hi.2]; omega

theorem final7 : (dats m 0 c).arrAt 7 cfg0.N = lat (X m c) (NW m c) (WA m c) :=
  (dats m 0 c).arrAt_eq_of_cover 7 (lat (X m c) (NW m c) (WA m c)) (fun t _ => by
    have hi := index7 t
    have ht : t.val < 8 := lt_of_lt_of_eq t.isLt N_0
    rw [Value.flushed7, out7_eq, iblk1_eq, iblk2_eq]
    funext x
    rw [View.read_apply]
    obtain ⟨a, b, rfl⟩ : ∃ (a : Fin 512) (b : Fin 640), x = ix2 a b := ⟨x 0, x 1, eq_ix2 x⟩
    have hlt : 512 * t.val + a.val < 4096 := by have := a.isLt; omega
    refine (lat_at m c t a ⟨_, hlt⟩ rfl b).trans (congrArg (lat (X m c) (NW m c) (WA m c)) ?_)
    exact ext2 (by show 512 * t.val + a.val = win0_7.index t 0 * 512 + 1 * a.val; rw [hi.1]; omega) (by show b.val = win0_7.index t 1 * 640 + 1 * b.val; rw [hi.2]; omega)) fun i => by
    have h0 : (i 0 : Nat) < 4096 := (i 0).isLt
    have h1 : (i 1 : Nat) < 640 := (i 1).isLt
    obtain ⟨t, ht⟩ : ∃ t : Fin cfg0.N, t.val = (i 0 : Nat) / 512 := ⟨⟨_, by rw [show cfg0.N = 8 from N_0]; omega⟩, rfl⟩
    have hi := index7 t
    refine ⟨t, flush0_7 _, ?_⟩
    show i ∈ ((View.whole main_v0_1).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [hi.1]; omega
    | ⟨1, _⟩ =>
      show win0_7.index t 1 * 640 ≤ (i 1 : Nat) ∧ (i 1 : Nat) < win0_7.index t 1 * 640 + 640
      rw [hi.2]; omega

theorem final8 : (dats m 0 c).arrAt 8 cfg0.N = qn (X m c) (NW m c) (WA m c) (QN m c) :=
  (dats m 0 c).arrAt_eq_of_cover 8 (qn (X m c) (NW m c) (WA m c) (QN m c)) (fun t _ => by
    have hi := index8 t
    have ht : t.val < 8 := lt_of_lt_of_eq t.isLt N_0
    rw [Value.flushed8, out8_eq, iblk1_eq, iblk2_eq, iblk4_eq]
    funext x
    rw [View.read_apply]
    obtain ⟨a, b, rfl⟩ : ∃ (a : Fin 512) (b : Fin 384), x = ix2 a b := ⟨x 0, x 1, eq_ix2 x⟩
    have hlt : 512 * t.val + a.val < 4096 := by have := a.isLt; omega
    refine (qn_at m c t a ⟨_, hlt⟩ rfl b).trans (congrArg (qn (X m c) (NW m c) (WA m c) (QN m c)) ?_)
    exact ext2 (by show 512 * t.val + a.val = win0_8.index t 0 * 512 + 1 * a.val; rw [hi.1]; omega) (by show b.val = win0_8.index t 1 * 384 + 1 * b.val; rw [hi.2]; omega)) fun i => by
    have h0 : (i 0 : Nat) < 4096 := (i 0).isLt
    have h1 : (i 1 : Nat) < 384 := (i 1).isLt
    obtain ⟨t, ht⟩ : ∃ t : Fin cfg0.N, t.val = (i 0 : Nat) / 512 := ⟨⟨_, by rw [show cfg0.N = 8 from N_0]; omega⟩, rfl⟩
    have hi := index8 t
    refine ⟨t, flush0_8 _, ?_⟩
    show i ∈ ((View.whole main_v0_2).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [hi.1]; omega
    | ⟨1, _⟩ =>
      show win0_8.index t 1 * 384 ≤ (i 1 : Nat) ∧ (i 1 : Nat) < win0_8.index t 1 * 384 + 384
      rw [hi.2]; omega

theorem final9 : (dats m 0 c).arrAt 9 cfg0.N = kn (X m c) (NW m c) (WA m c) (KN m c) :=
  (dats m 0 c).arrAt_eq_of_cover 9 (kn (X m c) (NW m c) (WA m c) (KN m c)) (fun t _ => by
    have hi := index9 t
    have ht : t.val < 8 := lt_of_lt_of_eq t.isLt N_0
    rw [Value.flushed9, out9_eq, iblk1_eq, iblk2_eq, iblk5_eq]
    funext x
    rw [View.read_apply]
    obtain ⟨a, b, rfl⟩ : ∃ (a : Fin 512) (b : Fin 256), x = ix2 a b := ⟨x 0, x 1, eq_ix2 x⟩
    have hlt : 512 * t.val + a.val < 4096 := by have := a.isLt; omega
    refine (kn_at m c t a ⟨_, hlt⟩ rfl b).trans (congrArg (kn (X m c) (NW m c) (WA m c) (KN m c)) ?_)
    exact ext2 (by show 512 * t.val + a.val = win0_9.index t 0 * 512 + 1 * a.val; rw [hi.1]; omega) (by show b.val = win0_9.index t 1 * 256 + 1 * b.val; rw [hi.2]; omega)) fun i => by
    have h0 : (i 0 : Nat) < 4096 := (i 0).isLt
    have h1 : (i 1 : Nat) < 256 := (i 1).isLt
    obtain ⟨t, ht⟩ : ∃ t : Fin cfg0.N, t.val = (i 0 : Nat) / 512 := ⟨⟨_, by rw [show cfg0.N = 8 from N_0]; omega⟩, rfl⟩
    have hi := index9 t
    refine ⟨t, flush0_9 _, ?_⟩
    show i ∈ ((View.whole main_v0_3).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [hi.1]; omega
    | ⟨1, _⟩ =>
      show win0_9.index t 1 * 256 ≤ (i 1 : Nat) ∧ (i 1 : Nat) < win0_9.index t 1 * 256 + 256
      rw [hi.2]; omega

theorem final10 : (dats m 0 c).arrAt 10 cfg0.N = gates (X m c) (NW m c) (WG m c) :=
  (dats m 0 c).arrAt_eq_of_cover 10 (gates (X m c) (NW m c) (WG m c)) (fun t _ => by
    have hi := index10 t
    have ht : t.val < 8 := lt_of_lt_of_eq t.isLt N_0
    rw [Value.flushed10, out10_eq, iblk1_eq, iblk3_eq]
    funext x
    rw [View.read_apply]
    obtain ⟨a, b, rfl⟩ : ∃ (a : Fin 512) (b : Fin 128), x = ix2 a b := ⟨x 0, x 1, eq_ix2 x⟩
    have hlt : 512 * t.val + a.val < 4096 := by have := a.isLt; omega
    refine (gates_at m c t a ⟨_, hlt⟩ rfl b).trans (congrArg (gates (X m c) (NW m c) (WG m c)) ?_)
    exact ext2 (by show 512 * t.val + a.val = win0_10.index t 0 * 512 + 1 * a.val; rw [hi.1]; omega) (by show b.val = win0_10.index t 1 * 128 + 1 * b.val; rw [hi.2]; omega)) fun i => by
    have h0 : (i 0 : Nat) < 4096 := (i 0).isLt
    have h1 : (i 1 : Nat) < 128 := (i 1).isLt
    obtain ⟨t, ht⟩ : ∃ t : Fin cfg0.N, t.val = (i 0 : Nat) / 512 := ⟨⟨_, by rw [show cfg0.N = 8 from N_0]; omega⟩, rfl⟩
    have hi := index10 t
    refine ⟨t, flush0_10 _, ?_⟩
    show i ∈ ((View.whole main_v0_4).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [hi.1]; omega
    | ⟨1, _⟩ =>
      show win0_10.index t 1 * 128 ≤ (i 1 : Nat) ∧ (i 1 : Nat) < win0_10.index t 1 * 128 + 128
      rw [hi.2]; omega

/-- The kernel's run: its five results, and its arguments unchanged. -/
theorem run : θ_run defs (onTc (τ := τ) (main (F := Ideal))) ⟨m, fun _ => 0, ρ⟩ fun r => ∀ c : Dev nD,
      r.2.mem ((c.tc : Thread nD τ).loc main_v0_0) = unit (X m c) (NW m c)
      ∧ r.2.mem ((c.tc : Thread nD τ).loc main_v0_1) = lat (X m c) (NW m c) (WA m c)
      ∧ r.2.mem ((c.tc : Thread nD τ).loc main_v0_2) = qn (X m c) (NW m c) (WA m c) (QN m c)
      ∧ r.2.mem ((c.tc : Thread nD τ).loc main_v0_3) = kn (X m c) (NW m c) (WA m c) (KN m c)
      ∧ r.2.mem ((c.tc : Thread nD τ).loc main_v0_4) = gates (X m c) (NW m c) (WG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => by
      obtain ⟨h0, h1, h2, h3, h4, hr⟩ := h c
      exact ⟨h0.trans (final6 m c), h1.trans (final7 m c), h2.trans (final8 m c), h3.trans (final9 m c), h4.trans (final10 m c), hr⟩)
    (Value.run_blocks m ρ)

/-! ## The reference -/

open Cert.Reference19Ideal.Read

section
variable (x : FVec Ideal S4096x1024 .f32) (w : FVec Ideal S1x1024 .f32) (a : FVec Ideal S640x1024 .bf16)
  (g : FVec Ideal S128x1024 .bf16) (q : FVec Ideal S1x384 .f32) (p : FVec Ideal S1x256 .f32)

theorem ref7 (r : Fin 4096) (z : Fin 1) : val_main_v7 (F := Ideal) x (ix2 r z)
    = rinv W0 fun k : Fin 1024 => x (ix2 r k) := by
  rw [val_main_v7_apply, val_main_v6_apply, val_main_v4_apply, val_main_v2_apply, val_main_v1_apply, val_main_v3_apply,
    val_main_v5_apply, val_main_cst_apply, val_main_cst_0_apply, val_main_cst_1_apply]
  have hs : ∀ k : Fin 1024, val_main_v0 (F := Ideal) x (idx_main_v1 (idx_main_v2 (ix2 r z)) k)
      = x (ix2 r k) * x (ix2 r k) := fun k => by
    have e : idx_main_v1 (idx_main_v2 (ix2 r z)) k = ix2 r k := ext2 rfl rfl
    rw [e, val_main_v0_apply]
    rfl
  simp only [hs]
  generalize x = y
  show Ideal.rsqrt (Ideal.div (Ideal.ofBits .f32 0x00000000#32 + ∑ k : Fin 1024, y (ix2 r k) * y (ix2 r k)) W0 + eps) = _
  rw [Ideal.ofBits_zero_f32, zero_add]
  rfl

theorem ref11 (r : Fin 4096) (j : Fin 1024) : val_main_v11 (F := Ideal) x w (ix2 r j) = unit x w (ix2 r j) := by
  have e : idx_main_v8 (ix2 r j) = ix2 r (0 : Fin 1) := ext2 rfl rfl
  have e' : idx_main_v10 (ix2 r j) = ix2 (0 : Fin 1) j := ext2 rfl rfl
  rw [val_main_v11_apply, val_main_v9_apply, val_main_v8_apply, val_main_v10_apply, e, e', ref7]
  rfl

theorem ref15 : val_main_v15 (F := Ideal) x w = unit x w := by
  funext i
  obtain ⟨r, j, rfl⟩ : ∃ (r : Fin 4096) (j : Fin 1024), i = ix2 r j := ⟨i 0, i 1, eq_ix2 i⟩
  rw [val_main_v15_apply, ref11]
  rfl

theorem ref14 (r : Fin 4096) (j : Fin 640) : val_main_v14 (F := Ideal) x w a (ix2 r j) = lat x w a (ix2 r j) := by
  rw [val_main_v14_apply]
  refine Finset.sum_congr rfl fun k _ => ?_
  have e0 : lidx_main_v14 (ix2 r j) k = ix2 r k := ext2 rfl rfl
  have e1 : idx_main_v13 (ridx_main_v14 (ix2 r j) k) = ix2 j k := ext2 rfl rfl
  rw [val_main_v13_apply, val_main_v12_apply, e0, e1, ref11]
  rfl

theorem ref16 : val_main_v16 (F := Ideal) x w a = lat x w a := by
  funext i
  obtain ⟨r, j, rfl⟩ : ∃ (r : Fin 4096) (j : Fin 640), i = ix2 r j := ⟨i 0, i 1, eq_ix2 i⟩
  rw [val_main_v16_apply, ref14]
  rfl

theorem ref17 (r : Fin 4096) (j : Fin 384) : val_main_v17 (F := Ideal) x w a (ix2 r j) = lat x w a (ix2 r (cq j)) := by
  have e : idx_main_v17 (ix2 r j) = ix2 r (cq j) := ext2 rfl rfl
  rw [val_main_v17_apply, e, ref14]

theorem ref31 (r : Fin 4096) (j : Fin 256) : val_main_v31 (F := Ideal) x w a (ix2 r j) = lat x w a (ix2 r (ck j)) := by
  have e : idx_main_v31 (ix2 r j) = ix2 r (ck j) := ext2 rfl rfl
  rw [val_main_v31_apply, e, ref14]

theorem ref25 (r : Fin 4096) (z : Fin 1) : val_main_v25 (F := Ideal) x w a (ix2 r z)
    = rinv W1 fun k : Fin 384 => lat x w a (ix2 r (cq k)) := by
  rw [val_main_v25_apply, val_main_v24_apply, val_main_v22_apply, val_main_v20_apply, val_main_v19_apply, val_main_v21_apply,
    val_main_v23_apply, val_main_cst_2_apply, val_main_cst_3_apply, val_main_cst_4_apply]
  have hs : ∀ k : Fin 384, val_main_v18 (F := Ideal) x w a (idx_main_v19 (idx_main_v20 (ix2 r z)) k)
      = lat x w a (ix2 r (cq k)) * lat x w a (ix2 r (cq k)) := fun k => by
    have e : idx_main_v19 (idx_main_v20 (ix2 r z)) k = ix2 r k := ext2 rfl rfl
    rw [e, val_main_v18_apply, ref17]
    rfl
  simp only [hs]
  generalize lat x w a = y
  show Ideal.rsqrt (Ideal.div (Ideal.ofBits .f32 0x00000000#32 + ∑ k : Fin 384, y (ix2 r (cq k)) * y (ix2 r (cq k))) W1 + eps) = _
  rw [Ideal.ofBits_zero_f32, zero_add]
  rfl

theorem ref30 : val_main_v30 (F := Ideal) x w a q = qn x w a q := by
  funext i
  obtain ⟨r, j, rfl⟩ : ∃ (r : Fin 4096) (j : Fin 384), i = ix2 r j := ⟨i 0, i 1, eq_ix2 i⟩
  have e : idx_main_v26 (ix2 r j) = ix2 r (0 : Fin 1) := ext2 rfl rfl
  have e' : idx_main_v28 (ix2 r j) = ix2 (0 : Fin 1) j := ext2 rfl rfl
  rw [val_main_v30_apply, val_main_v29_apply, val_main_v27_apply, val_main_v26_apply, val_main_v28_apply, e, e', ref17, ref25]
  rfl

theorem ref39 (r : Fin 4096) (z : Fin 1) : val_main_v39 (F := Ideal) x w a (ix2 r z)
    = rinv W2 fun k : Fin 256 => lat x w a (ix2 r (ck k)) := by
  rw [val_main_v39_apply, val_main_v38_apply, val_main_v36_apply, val_main_v34_apply, val_main_v33_apply, val_main_v35_apply,
    val_main_v37_apply, val_main_cst_5_apply, val_main_cst_6_apply, val_main_cst_7_apply]
  have hs : ∀ k : Fin 256, val_main_v32 (F := Ideal) x w a (idx_main_v33 (idx_main_v34 (ix2 r z)) k)
      = lat x w a (ix2 r (ck k)) * lat x w a (ix2 r (ck k)) := fun k => by
    have e : idx_main_v33 (idx_main_v34 (ix2 r z)) k = ix2 r k := ext2 rfl rfl
    rw [e, val_main_v32_apply, ref31]
    rfl
  simp only [hs]
  generalize lat x w a = y
  show Ideal.rsqrt (Ideal.div (Ideal.ofBits .f32 0x00000000#32 + ∑ k : Fin 256, y (ix2 r (ck k)) * y (ix2 r (ck k))) W2 + eps) = _
  rw [Ideal.ofBits_zero_f32, zero_add]
  rfl

theorem ref44 : val_main_v44 (F := Ideal) x w a p = kn x w a p := by
  funext i
  obtain ⟨r, j, rfl⟩ : ∃ (r : Fin 4096) (j : Fin 256), i = ix2 r j := ⟨i 0, i 1, eq_ix2 i⟩
  have e : idx_main_v40 (ix2 r j) = ix2 r (0 : Fin 1) := ext2 rfl rfl
  have e' : idx_main_v42 (ix2 r j) = ix2 (0 : Fin 1) j := ext2 rfl rfl
  rw [val_main_v44_apply, val_main_v43_apply, val_main_v41_apply, val_main_v40_apply, val_main_v42_apply, e, e', ref31, ref39]
  rfl

theorem ref47_at (r : Fin 4096) (j : Fin 128) : val_main_v47 (F := Ideal) x w g (ix2 r j) = gates x w g (ix2 r j) := by
  rw [val_main_v47_apply]
  refine Finset.sum_congr rfl fun k _ => ?_
  have e0 : lidx_main_v47 (ix2 r j) k = ix2 r k := ext2 rfl rfl
  have e1 : idx_main_v46 (ridx_main_v47 (ix2 r j) k) = ix2 j k := ext2 rfl rfl
  rw [val_main_v46_apply, val_main_v45_apply, e0, e1, ref11]
  rfl

theorem ref47 : val_main_v47 (F := Ideal) x w g = gates x w g := by
  funext i
  obtain ⟨r, j, rfl⟩ : ∃ (r : Fin 4096) (j : Fin 128), i = ix2 r j := ⟨i 0, i 1, eq_ix2 i⟩
  exact ref47_at x w g r j

end

end Cert.Kernel19Ideal.Latents

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.FrameK
public import proofs.«01_k».proof.Proof.Match
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gate
public import proofs.«01_k».proof.Proof.WGrad
public import proofs.«01_k».proof.Proof.NormGrad
public import proofs.«01_k».proof.Proof.GateUp
public import proofs.«01_k».proof.Proof.WGradM
public import proofs.«01_k».proof.Proof.InGrad
public import proofs.«01_k».proof.Proof.WGradA
public import proofs.«01_k».proof.Proof.LossGrad
public import proofs.«01_k».proof.Proof.WGradQ
public import proofs.«01_k».proof.Proof.WGradK
public import proofs.«01_k».proof.Proof.WGradOM
public import proofs.«01_k».proof.Proof.WGradOA
public import proofs.«01_k».proof.Proof.WGradG
public import proofs.«01_k».proof.Proof.LatQGrad
public import proofs.«01_k».proof.Proof.LatKVGrad
public import proofs.«01_k».proof.Proof.MProj
public import proofs.«01_k».proof.Proof.OutProj
public import proofs.«01_k».proof.Proof.Latents
public import Idealize.ShloMosaic.Adequacy
public import Idealize.ShloMosaic.Init

@[expose] public section

noncomputable section

namespace Cert.Proof

open Idealize.ShloMosaic Idealize.ShloMosaic.TcCoe Idealize.SL.Sem

/-- The preconditions' side conditions. -/
theorem pre_facts : Cert.Pre_finite.Facts :=
  ⟨by decide, by decide⟩

theorem pre_facts2 : Cert.Pre_finite2.Facts :=
  ⟨by decide, by decide, by decide, by decide⟩

open Cert.KernelIdeal Cert.KernelIdeal.Gen in
/-- The kernel's run: its three results, and its arguments unchanged. -/
theorem run_k (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v72) = Run.endOf m c main_v72
      ∧ r.2.mem ((c.tc : Thread nD τ).loc main_v75) = Run.endOf m c main_v75
      ∧ r.2.mem ((c.tc : Thread nD τ).loc main_v78) = Run.endOf m c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h.1.1 c).2 main_v72 (Pipeline.mem_restRefs_of main_v72 (by decide) (by decide)),
        (h.1.1 c).2 main_v75 (Pipeline.mem_restRefs_of main_v75 (by decide) (by decide)),
        (h.1.1 c).2 main_v78 (Pipeline.mem_restRefs_of main_v78 (by decide) (by decide)), h.2.1 c⟩)
    (θ_run_and (Run.run_main m g) (Run.frame m g))

set_option maxHeartbeats 2000000 in
/-- The frames, and the equality of the two programs' results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  pre_facts, pre_facts2,
  fun m g _ => Cert.Kernel.Frames.frame m g,
  fun m g _ => Cert.KernelIdeal.Run.frame m g,
  fun m g _ => Cert.KernelIdeal.Run.frame m g,
  fun m g _ => (θ_run Cert.ReferenceIdeal.defs _ _).mono
    (fun r h => ⟨fun c => (h c).2.2.2, sem_eq_zero_of_no_sems (by decide) r.2⟩) (Cert.ReferenceIdeal.Value.run (F := Ideal) m g),
  fun m g _ => (θ_run Cert.ReferenceIdeal.defs _ _).mono
    (fun r h => ⟨fun c => (h c).2.2.2, sem_eq_zero_of_no_sems (by decide) r.2⟩) (Cert.ReferenceIdeal.Value.run (F := Ideal) m g),
  fun m g _ => Cert.Kernel2.Gen.frame m g,
  fun m g _ => Cert.Kernel2Ideal.Gen.frame m g,
  fun m g _ => Cert.Kernel2Ideal.Gen.frame m g,
  fun m g _ => (θ_run Cert.Reference2Ideal.defs _ _).mono
    (fun r h => ⟨fun c => (h c).2.2, sem_eq_zero_of_no_sems (by decide) r.2⟩) (Cert.Reference2Ideal.Value.run (F := Ideal) m g),
  fun m g _ => (θ_run Cert.Reference2Ideal.defs _ _).mono
    (fun r h => ⟨fun c => (h c).2.2, sem_eq_zero_of_no_sems (by decide) r.2⟩) (Cert.Reference2Ideal.Value.run (F := Ideal) m g),
  fun m g _ => Cert.Kernel3.Gen.frame m g,
  fun m g _ => Cert.Kernel3Ideal.Gen.frame m g,
  fun m g _ => (θ_run Cert.Reference3Ideal.defs _ _).mono
    (fun r h => ⟨fun c => (h c).2.2, sem_eq_zero_of_no_sems (by decide) r.2⟩) (Cert.Reference3Ideal.Value.run (F := Ideal) m g),
  fun m g _ => Cert.Kernel4.Gen.frame m g,
  fun m g _ => Cert.Kernel4Ideal.Gen.frame m g,
  fun m g _ => (θ_run Cert.Reference4Ideal.defs _ _).mono
    (fun r h => ⟨fun c => (h c).2.2.2, sem_eq_zero_of_no_sems (by decide) r.2⟩) (Cert.Reference4Ideal.Value.run (F := Ideal) m g),
  fun m g _ => Cert.Kernel5.Gen.frame m g,
  fun m g _ => Cert.Kernel5Ideal.Gen.frame m g,
  fun m g _ => (θ_run Cert.Reference5Ideal.defs _ _).mono
    (fun r h => ⟨fun c => (h c).2.2.2, sem_eq_zero_of_no_sems (by decide) r.2⟩) (Cert.Reference5Ideal.Value.run (F := Ideal) m g),
  fun m g _ => Cert.Kernel6.Gen.frame m g,
  fun m g _ => Cert.Kernel6Ideal.Gen.frame m g,
  fun m g _ => (θ_run Cert.Reference6Ideal.defs _ _).mono
    (fun r h => ⟨fun c => (h c).2, sem_eq_zero_of_no_sems (by decide) r.2⟩) (Cert.Reference6Ideal.Value.run (F := Ideal) m g),
  fun m g _ => Cert.Kernel7.Gen.frame m g,
  fun m g _ => Cert.Kernel7Ideal.Gen.frame m g,
  fun m g _ => (θ_run Cert.Reference7Ideal.defs _ _).mono
    (fun r h => ⟨fun c => (h c).2.2, sem_eq_zero_of_no_sems (by decide) r.2⟩) (Cert.Reference7Ideal.Value.run (F := Ideal) m g),
  fun m g _ => Cert.Kernel8.Gen.frame m g,
  fun m g _ => Cert.Kernel8Ideal.Gen.frame m g,
  fun m g _ => (θ_run Cert.Reference8Ideal.defs _ _).mono
    (fun r h => ⟨fun c => (h c).2, sem_eq_zero_of_no_sems (by decide) r.2⟩) (Cert.Reference8Ideal.Value.run (F := Ideal) m g),
  fun m g _ => Cert.Kernel9.Gen.frame m g,
  fun m g _ => Cert.Kernel9Ideal.Gen.frame m g,
  fun m g _ => (θ_run Cert.Reference9Ideal.defs _ _).mono
    (fun r h => ⟨fun c => (h c).2.2.2.2, sem_eq_zero_of_no_sems (by decide) r.2⟩) (Cert.Reference9Ideal.Value.run (F := Ideal) m g),
  fun m g _ => Cert.Kernel10.Gen.frame m g,
  fun m g _ => Cert.Kernel10Ideal.Gen.frame m g,
  fun m g _ => (θ_run Cert.Reference10Ideal.defs _ _).mono
    (fun r h => ⟨fun c => (h c).2, sem_eq_zero_of_no_sems (by decide) r.2⟩) (Cert.Reference10Ideal.Value.run (F := Ideal) m g),
  fun m g _ => Cert.Kernel11.Gen.frame m g,
  fun m g _ => Cert.Kernel11Ideal.Gen.frame m g,
  fun m g _ => (θ_run Cert.Reference11Ideal.defs _ _).mono
    (fun r h => ⟨fun c => (h c).2, sem_eq_zero_of_no_sems (by decide) r.2⟩) (Cert.Reference11Ideal.Value.run (F := Ideal) m g),
  fun m g _ => Cert.Kernel12.Gen.frame m g,
  fun m g _ => Cert.Kernel12Ideal.Gen.frame m g,
  fun m g _ => (θ_run Cert.Reference12Ideal.defs _ _).mono
    (fun r h => ⟨fun c => (h c).2, sem_eq_zero_of_no_sems (by decide) r.2⟩) (Cert.Reference12Ideal.Value.run (F := Ideal) m g),
  fun m g _ => Cert.Kernel13.Gen.frame m g,
  fun m g _ => Cert.Kernel13Ideal.Gen.frame m g,
  fun m g _ => (θ_run Cert.Reference13Ideal.defs _ _).mono
    (fun r h => ⟨fun c => (h c).2, sem_eq_zero_of_no_sems (by decide) r.2⟩) (Cert.Reference13Ideal.Value.run (F := Ideal) m g),
  fun m g _ => Cert.Kernel14.Gen.frame m g,
  fun m g _ => Cert.Kernel14Ideal.Gen.frame m g,
  fun m g _ => (θ_run Cert.Reference14Ideal.defs _ _).mono
    (fun r h => ⟨fun c => (h c).2, sem_eq_zero_of_no_sems (by decide) r.2⟩) (Cert.Reference14Ideal.Value.run (F := Ideal) m g),
  fun m g _ => Cert.Kernel15.Gen.frame m g,
  fun m g _ => Cert.Kernel15Ideal.Gen.frame m g,
  fun m g _ => (θ_run Cert.Reference15Ideal.defs _ _).mono
    (fun r h => ⟨fun c => (h c).2.2, sem_eq_zero_of_no_sems (by decide) r.2⟩) (Cert.Reference15Ideal.Value.run (F := Ideal) m g),
  fun m g _ => Cert.Kernel16.Gen.frame m g,
  fun m g _ => Cert.Kernel16Ideal.Gen.frame m g,
  fun m g _ => (θ_run Cert.Reference16Ideal.defs _ _).mono
    (fun r h => ⟨fun c => (h c).2.2, sem_eq_zero_of_no_sems (by decide) r.2⟩) (Cert.Reference16Ideal.Value.run (F := Ideal) m g),
  fun m g _ => Cert.Kernel17.Gen.frame m g,
  fun m g _ => Cert.Kernel17Ideal.Gen.frame m g,
  fun m g _ => (θ_run Cert.Reference17Ideal.defs _ _).mono
    (fun r h => ⟨fun c => (h c).2, sem_eq_zero_of_no_sems (by decide) r.2⟩) (Cert.Reference17Ideal.Value.run (F := Ideal) m g),
  fun m g _ => Cert.Kernel18.Gen.frame m g,
  fun m g _ => Cert.Kernel18Ideal.Gen.frame m g,
  fun m g _ => (θ_run Cert.Reference18Ideal.defs _ _).mono
    (fun r h => ⟨fun c => (h c).2.2, sem_eq_zero_of_no_sems (by decide) r.2⟩) (Cert.Reference18Ideal.Value.run (F := Ideal) m g),
  fun m g _ => Cert.Kernel19.Gen.frame m g,
  fun m g _ => Cert.Kernel19Ideal.Gen.frame m g,
  fun m g _ => (θ_run Cert.Reference19Ideal.defs _ _).mono
    (fun r h => ⟨fun c => (h c).2.2.2.2.2, sem_eq_zero_of_no_sems (by decide) r.2⟩) (Cert.Reference19Ideal.Value.run (F := Ideal) m g),
  trivial,
  fun m g m' g' hpre hag => by
    have hq := fun c => Cert.KernelIdeal.Match.finite_at _ pre_facts.bcast_S_S4096x8x96 (hpre c).1
    have hk := fun c => Cert.KernelIdeal.Match.finite_at _ pre_facts.bcast_S_S4096x8x96 (hpre c).2.1
    have hv := fun c => Cert.KernelIdeal.Match.finite_at _ pre_facts.bcast_S_S4096x8x64 (hpre c).2.2.1
    have hd := fun c => Cert.KernelIdeal.Match.finite_at _ pre_facts.bcast_S_S4096x8x64 (hpre c).2.2.2
    refine ⟨fun c => Cert.KernelIdeal.Run.endOf m c Cert.KernelIdeal.main_v72,
      fun c => Cert.KernelIdeal.Run.endOf m c Cert.KernelIdeal.main_v75,
      fun c => Cert.KernelIdeal.Run.endOf m c Cert.KernelIdeal.main_v78, run_k m g,
      (θ_run Cert.ReferenceIdeal.defs _ _).mono (fun r h c => ?_) (Cert.ReferenceIdeal.Value.run (F := Ideal) m' g')⟩
    obtain ⟨h0, h1, h2, h3⟩ := h c
    obtain ⟨a0, a1, a2, a3⟩ := hag c
    rw [Cert.ReferenceIdeal.Read.val_main_v62_eq, a0, a1, a2, a3] at h0
    rw [Cert.ReferenceIdeal.Read.val_main_v60_eq, a0, a1, a2, a3] at h1
    rw [Cert.ReferenceIdeal.Read.val_main_v43_eq, a0, a1, a3] at h2
    exact ⟨h0.trans (Cert.KernelIdeal.Match.same_q m c (hq c) (hk c) (hv c) (hd c)),
      h1.trans (Cert.KernelIdeal.Match.same_k m c (hq c) (hk c) (hv c) (hd c)),
      h2.trans (Cert.KernelIdeal.Match.same_v m c (hq c) (hk c) (hv c) (hd c)), h3⟩,
  trivial,
  fun m g m' g' hpre hag => by
    have hx := fun c => Cert.KernelIdeal.Match.finite_at (extf .f32 (Cert.Kernel2Ideal.Gate.A0 m c) pre_facts2.bitsLt_bf16_f32)
      pre_facts2.bcast_S_S4096x1024 (hpre c).1
    have hw := fun c => Cert.KernelIdeal.Match.finite_at (extf .f32 (Cert.Kernel2Ideal.Gate.W0 m c) pre_facts2.bitsLt_bf16_f32)
      pre_facts2.bcast_S_S2816x1024 (hpre c).2.1
    have hu := fun c => Cert.KernelIdeal.Match.finite_at (extf .f32 (Cert.Kernel2Ideal.Gate.U0 m c) pre_facts2.bitsLt_bf16_f32)
      pre_facts2.bcast_S_S4096x2816 (hpre c).2.2
    refine ⟨fun c => Cert.Kernel2Ideal.Gate.dgate (Cert.Kernel2Ideal.Gate.A0 m c) (Cert.Kernel2Ideal.Gate.W0 m c)
        (Cert.Kernel2Ideal.Gate.G0 m c) (Cert.Kernel2Ideal.Gate.U0 m c),
      fun c => Cert.Kernel2Ideal.Gate.dup (Cert.Kernel2Ideal.Gate.A0 m c) (Cert.Kernel2Ideal.Gate.W0 m c)
        (Cert.Kernel2Ideal.Gate.G0 m c), Cert.Kernel2Ideal.Gate.run m g,
      (θ_run Cert.Reference2Ideal.defs _ _).mono (fun r h c => ?_) (Cert.Reference2Ideal.Value.run (F := Ideal) m' g')⟩
    obtain ⟨h0, h1, h2⟩ := h c
    obtain ⟨a0, a1, a2, a3⟩ := hag c
    rw [Cert.Reference2Ideal.Read.val_main_v11_eq, a0, a1, a2, a3] at h0
    rw [Cert.Reference2Ideal.Read.val_main_v12_eq, a0, a1, a2] at h1
    exact ⟨h0.trans (Cert.Kernel2Ideal.Gate.ref11 _ _ _ _ (hx c) (hw c) (hu c)),
      h1.trans (Cert.Kernel2Ideal.Gate.ref12 _ _ _), h2⟩,
  trivial,
  fun m g m' g' _ hag => by
    refine ⟨fun c => Cert.Kernel3Ideal.WGrad.grad (Cert.Kernel3Ideal.WGrad.A0 m c) (Cert.Kernel3Ideal.WGrad.C0 m c),
      fun c => Cert.Kernel3Ideal.WGrad.grad (Cert.Kernel3Ideal.WGrad.A0 m c) (Cert.Kernel3Ideal.WGrad.C0 m c),
      Cert.Kernel3Ideal.WGrad.run m g,
      (θ_run Cert.Reference3Ideal.defs _ _).mono (fun r h c => ?_) (Cert.Reference3Ideal.Value.run (F := Ideal) m' g')⟩
    obtain ⟨h0, h1, h2⟩ := h c
    obtain ⟨a0, a1⟩ := hag c
    rw [Cert.Reference3Ideal.Read.val_main_v5_eq, a0, a1] at h0
    rw [Cert.Reference3Ideal.Read.val_main_v6_eq, a0, a1] at h1
    exact ⟨h0.trans (Cert.Kernel3Ideal.WGrad.ref5 _ _), h1.trans (Cert.Kernel3Ideal.WGrad.ref6 _ _), h2⟩,
  trivial,
  fun m g m' g' _ hag => by
    open Cert.Kernel4Ideal.NormGrad in
    refine ⟨fun c => dx (DG m c) (DU m c) (WG m c) (WU m c) (HX m c) (NW m c) (DH m c),
      fun c => dx (DG m c) (DU m c) (WG m c) (WU m c) (HX m c) (NW m c) (DH m c),
      fun c => dw (DG m c) (DU m c) (WG m c) (WU m c) (HX m c), Cert.Kernel4Ideal.NormGrad.run m g,
      (θ_run Cert.Reference4Ideal.defs _ _).mono (fun r h c => ?_) (Cert.Reference4Ideal.Value.run (F := Ideal) m' g')⟩
    obtain ⟨h0, h1, h2, h3⟩ := h c
    obtain ⟨a0, a1, a2, a3, a4, a5, a6⟩ := hag c
    rw [Cert.Reference4Ideal.Read.val_main_v45_eq, a0, a1, a2, a3, a4, a5, a6] at h0
    rw [Cert.Reference4Ideal.Read.val_main_v46_eq, a0, a1, a2, a3, a4, a5, a6] at h1
    rw [Cert.Reference4Ideal.Read.val_main_v28_eq, a0, a1, a2, a3, a4] at h2
    exact ⟨h0.trans (Cert.Kernel4Ideal.NormGrad.ref45 _ _ _ _ _ _ _), h1.trans (Cert.Kernel4Ideal.NormGrad.ref46 _ _ _ _ _ _ _),
      h2.trans (Cert.Kernel4Ideal.NormGrad.ref28 _ _ _ _ _), h3⟩,
  trivial,
  fun m g m' g' _ hag => by
    open Cert.Kernel5Ideal.GateUp in
    refine ⟨fun c => proj (X0 m c) (WG m c),
      fun c => proj (X0 m c) (WU m c),
      fun c => act (X0 m c) (WG m c) (WU m c), Cert.Kernel5Ideal.GateUp.run m g,
      (θ_run Cert.Reference5Ideal.defs _ _).mono (fun r h c => ?_) (Cert.Reference5Ideal.Value.run (F := Ideal) m' g')⟩
    obtain ⟨h0, h1, h2, h3⟩ := h c
    obtain ⟨a0, a1, a2⟩ := hag c
    rw [Cert.Reference5Ideal.Read.val_main_v7_eq, a0, a1] at h0
    rw [Cert.Reference5Ideal.Read.val_main_v8_eq, a0, a2] at h1
    rw [Cert.Reference5Ideal.Read.val_main_v11_eq, a0, a1, a2] at h2
    exact ⟨h0.trans (Cert.Kernel5Ideal.GateUp.ref7 _ _), h1.trans (Cert.Kernel5Ideal.GateUp.ref8 _ _), h2.trans (Cert.Kernel5Ideal.GateUp.ref11 _ _ _), h3⟩,
  trivial,
  fun m g m' g' _ hag => by
    open Cert.Kernel6Ideal.WGradM in
    refine ⟨fun c => grad (A0 m c) (C0 m c), Cert.Kernel6Ideal.WGradM.run m g,
      (θ_run Cert.Reference6Ideal.defs _ _).mono (fun r h c => ?_) (Cert.Reference6Ideal.Value.run (F := Ideal) m' g')⟩
    obtain ⟨h0, h1⟩ := h c
    obtain ⟨a0, a1⟩ := hag c
    rw [Cert.Reference6Ideal.Read.val_main_v6_eq, a0, a1] at h0
    exact ⟨h0.trans (Cert.Kernel6Ideal.WGradM.ref6 _ _), h1⟩,
  trivial,
  fun m g m' g' _ hag => by
    open Cert.Kernel7Ideal.InGrad in
    refine ⟨fun c => dx (DM m c) (DA m c) (DG m c) (WI m c) (WA m c) (WG m c) (HX m c) (NW m c) (DH m c),
      fun c => dw (DM m c) (DA m c) (DG m c) (WI m c) (WA m c) (WG m c) (HX m c), Cert.Kernel7Ideal.InGrad.run m g,
      (θ_run Cert.Reference7Ideal.defs _ _).mono (fun r h c => ?_) (Cert.Reference7Ideal.Value.run (F := Ideal) m' g')⟩
    obtain ⟨h0, h1, h2⟩ := h c
    obtain ⟨a0, a1, a2, a3, a4, a5, a6, a7, a8⟩ := hag c
    rw [Cert.Reference7Ideal.Read.val_main_v52_eq, a0, a1, a2, a3, a4, a5, a6, a7, a8] at h0
    rw [Cert.Reference7Ideal.Read.val_main_v35_eq, a0, a1, a2, a3, a4, a5, a6] at h1
    exact ⟨h0.trans (Cert.Kernel7Ideal.InGrad.ref52 _ _ _ _ _ _ _ _ _), h1.trans (Cert.Kernel7Ideal.InGrad.ref35 _ _ _ _ _ _ _), h2⟩,
  trivial,
  fun m g m' g' _ hag => by
    open Cert.Kernel8Ideal.WGradA in
    refine ⟨fun c => grad (A0 m c) (C0 m c), Cert.Kernel8Ideal.WGradA.run m g,
      (θ_run Cert.Reference8Ideal.defs _ _).mono (fun r h c => ?_) (Cert.Reference8Ideal.Value.run (F := Ideal) m' g')⟩
    obtain ⟨h0, h1⟩ := h c
    obtain ⟨a0, a1⟩ := hag c
    rw [Cert.Reference8Ideal.Read.val_main_v6_eq, a0, a1] at h0
    exact ⟨h0.trans (Cert.Kernel8Ideal.WGradA.ref6 _ _), h1⟩,
  trivial,
  fun m g m' g' _ hag => by
    open Cert.Kernel9Ideal.LossGrad in
    refine ⟨fun c => grad (AC m c) (WD m c) (H1 m c) (TG m c) (NW m c),
      fun c => grad (AC m c) (WD m c) (H1 m c) (TG m c) (NW m c),
      fun c => total (AC m c) (WD m c) (H1 m c) (TG m c) (NW m c),
      fun c => dw (AC m c) (WD m c) (H1 m c) (TG m c) (NW m c), Cert.Kernel9Ideal.LossGrad.run m g,
      (θ_run Cert.Reference9Ideal.defs _ _).mono (fun r h c => ?_) (Cert.Reference9Ideal.Value.run (F := Ideal) m' g')⟩
    obtain ⟨h0, h1, h2, h3, h4⟩ := h c
    obtain ⟨a0, a1, a2, a3, a4⟩ := hag c
    rw [Cert.Reference9Ideal.Read.val_main_v52_eq, a0, a1, a2, a3, a4] at h0
    rw [Cert.Reference9Ideal.Read.val_main_v53_eq, a0, a1, a2, a3, a4] at h1
    rw [Cert.Reference9Ideal.Read.val_main_v54_eq, a0, a1, a2, a3, a4] at h2
    rw [Cert.Reference9Ideal.Read.val_main_v36_eq, a0, a1, a2, a3, a4] at h3
    exact ⟨h0.trans (Cert.Kernel9Ideal.LossGrad.ref52 _ _ _ _ _), h1.trans (Cert.Kernel9Ideal.LossGrad.ref53 _ _ _ _ _), h2.trans (Cert.Kernel9Ideal.LossGrad.ref54 _ _ _ _ _), h3.trans (Cert.Kernel9Ideal.LossGrad.ref36 _ _ _ _ _), h4⟩,
  trivial,
  fun m g m' g' _ hag => by
    open Cert.Kernel10Ideal.WGradQ in
    refine ⟨fun c => grad (A0 m c) (C0 m c), Cert.Kernel10Ideal.WGradQ.run m g,
      (θ_run Cert.Reference10Ideal.defs _ _).mono (fun r h c => ?_) (Cert.Reference10Ideal.Value.run (F := Ideal) m' g')⟩
    obtain ⟨h0, h1⟩ := h c
    obtain ⟨a0, a1⟩ := hag c
    rw [Cert.Reference10Ideal.Read.val_main_v6_eq, a0, a1] at h0
    exact ⟨h0.trans (Cert.Kernel10Ideal.WGradQ.ref6 _ _), h1⟩,
  trivial,
  fun m g m' g' _ hag => by
    open Cert.Kernel11Ideal.WGradK in
    refine ⟨fun c => grad (A0 m c) (C0 m c), Cert.Kernel11Ideal.WGradK.run m g,
      (θ_run Cert.Reference11Ideal.defs _ _).mono (fun r h c => ?_) (Cert.Reference11Ideal.Value.run (F := Ideal) m' g')⟩
    obtain ⟨h0, h1⟩ := h c
    obtain ⟨a0, a1⟩ := hag c
    rw [Cert.Reference11Ideal.Read.val_main_v6_eq, a0, a1] at h0
    exact ⟨h0.trans (Cert.Kernel11Ideal.WGradK.ref6 _ _), h1⟩,
  trivial,
  fun m g m' g' _ hag => by
    open Cert.Kernel12Ideal.WGradOM in
    refine ⟨fun c => grad (A0 m c) (C0 m c), Cert.Kernel12Ideal.WGradOM.run m g,
      (θ_run Cert.Reference12Ideal.defs _ _).mono (fun r h c => ?_) (Cert.Reference12Ideal.Value.run (F := Ideal) m' g')⟩
    obtain ⟨h0, h1⟩ := h c
    obtain ⟨a0, a1⟩ := hag c
    rw [Cert.Reference12Ideal.Read.val_main_v5_eq, a0, a1] at h0
    exact ⟨h0.trans (Cert.Kernel12Ideal.WGradOM.ref5 _ _), h1⟩,
  trivial,
  fun m g m' g' _ hag => by
    open Cert.Kernel13Ideal.WGradOA in
    refine ⟨fun c => grad (A0 m c) (C0 m c), Cert.Kernel13Ideal.WGradOA.run m g,
      (θ_run Cert.Reference13Ideal.defs _ _).mono (fun r h c => ?_) (Cert.Reference13Ideal.Value.run (F := Ideal) m' g')⟩
    obtain ⟨h0, h1⟩ := h c
    obtain ⟨a0, a1⟩ := hag c
    rw [Cert.Reference13Ideal.Read.val_main_v5_eq, a0, a1] at h0
    exact ⟨h0.trans (Cert.Kernel13Ideal.WGradOA.ref5 _ _), h1⟩,
  trivial,
  fun m g m' g' _ hag => by
    open Cert.Kernel14Ideal.WGradG in
    refine ⟨fun c => grad (A0 m c) (C0 m c), Cert.Kernel14Ideal.WGradG.run m g,
      (θ_run Cert.Reference14Ideal.defs _ _).mono (fun r h c => ?_) (Cert.Reference14Ideal.Value.run (F := Ideal) m' g')⟩
    obtain ⟨h0, h1⟩ := h c
    obtain ⟨a0, a1⟩ := hag c
    rw [Cert.Reference14Ideal.Read.val_main_v6_eq, a0, a1] at h0
    exact ⟨h0.trans (Cert.Kernel14Ideal.WGradG.ref6 _ _), h1⟩,
  trivial,
  fun m g m' g' _ hag => by
    open Cert.Kernel15Ideal.LatQGrad in
    refine ⟨fun c => dx (DQ m c) (WQ m c) (QA m c) (NW m c),
      fun c => dw (DQ m c) (WQ m c) (QA m c), Cert.Kernel15Ideal.LatQGrad.run m g,
      (θ_run Cert.Reference15Ideal.defs _ _).mono (fun r h c => ?_) (Cert.Reference15Ideal.Value.run (F := Ideal) m' g')⟩
    obtain ⟨h0, h1, h2⟩ := h c
    obtain ⟨a0, a1, a2, a3⟩ := hag c
    rw [Cert.Reference15Ideal.Read.val_main_v40_eq, a0, a1, a2, a3] at h0
    rw [Cert.Reference15Ideal.Read.val_main_v23_eq, a0, a1, a2] at h1
    exact ⟨h0.trans (Cert.Kernel15Ideal.LatQGrad.ref_dx _ _ _ _), h1.trans (Cert.Kernel15Ideal.LatQGrad.ref_dw _ _ _), h2⟩,
  trivial,
  fun m g m' g' _ hag => by
    open Cert.Kernel16Ideal.LatKVGrad in
    refine ⟨fun c => dx (DK m c) (DV m c) (WK m c) (WV m c) (KVA m c) (NW m c),
      fun c => dw (DK m c) (DV m c) (WK m c) (WV m c) (KVA m c), Cert.Kernel16Ideal.LatKVGrad.run m g,
      (θ_run Cert.Reference16Ideal.defs _ _).mono (fun r h c => ?_) (Cert.Reference16Ideal.Value.run (F := Ideal) m' g')⟩
    obtain ⟨h0, h1, h2⟩ := h c
    obtain ⟨a0, a1, a2, a3, a4, a5⟩ := hag c
    rw [Cert.Reference16Ideal.Read.val_main_v46_eq, a0, a1, a2, a3, a4, a5] at h0
    rw [Cert.Reference16Ideal.Read.val_main_v29_eq, a0, a1, a2, a3, a4] at h1
    exact ⟨h0.trans (Cert.Kernel16Ideal.LatKVGrad.ref_dx _ _ _ _ _ _), h1.trans (Cert.Kernel16Ideal.LatKVGrad.ref_dw _ _ _ _ _), h2⟩,
  trivial,
  fun m g m' g' _ hag => by
    open Cert.Kernel17Ideal.MProj in
    refine ⟨fun c => proj (U m c) (W m c), Cert.Kernel17Ideal.MProj.run m g,
      (θ_run Cert.Reference17Ideal.defs _ _).mono (fun r h c => ?_) (Cert.Reference17Ideal.Value.run (F := Ideal) m' g')⟩
    obtain ⟨h0, h1⟩ := h c
    obtain ⟨a0, a1⟩ := hag c
    rw [Cert.Reference17Ideal.Read.val_main_v10_eq, a0, a1] at h0
    exact ⟨h0.trans (Cert.Kernel17Ideal.MProj.ref10 _ _), h1⟩,
  trivial,
  fun m g m' g' _ hag => by
    open Cert.Kernel18Ideal.OutProj in
    refine ⟨fun c => stream (HM m c) (HA m c) (WM m c) (WA m c) (X0 m c),
      fun c => normed (HM m c) (HA m c) (WM m c) (WA m c) (X0 m c) (NW m c), Cert.Kernel18Ideal.OutProj.run m g,
      (θ_run Cert.Reference18Ideal.defs _ _).mono (fun r h c => ?_) (Cert.Reference18Ideal.Value.run (F := Ideal) m' g')⟩
    obtain ⟨h0, h1, h2⟩ := h c
    obtain ⟨a0, a1, a2, a3, a4, a5⟩ := hag c
    rw [Cert.Reference18Ideal.Read.val_main_v7_eq, a0, a1, a2, a3, a4] at h0
    rw [Cert.Reference18Ideal.Read.val_main_v20_eq, a0, a1, a2, a3, a4, a5] at h1
    exact ⟨h0.trans (Cert.Kernel18Ideal.OutProj.ref7 _ _ _ _ _), h1.trans (Cert.Kernel18Ideal.OutProj.ref20 _ _ _ _ _ _), h2⟩,
  trivial,
  fun m g m' g' _ hag => by
    open Cert.Kernel19Ideal.Latents in
    refine ⟨fun c => unit (X m c) (NW m c),
      fun c => lat (X m c) (NW m c) (WA m c),
      fun c => qn (X m c) (NW m c) (WA m c) (QN m c),
      fun c => kn (X m c) (NW m c) (WA m c) (KN m c),
      fun c => gates (X m c) (NW m c) (WG m c), Cert.Kernel19Ideal.Latents.run m g,
      (θ_run Cert.Reference19Ideal.defs _ _).mono (fun r h c => ?_) (Cert.Reference19Ideal.Value.run (F := Ideal) m' g')⟩
    obtain ⟨h0, h1, h2, h3, h4, h5⟩ := h c
    obtain ⟨a0, a1, a2, a3, a4, a5⟩ := hag c
    rw [Cert.Reference19Ideal.Read.val_main_v15_eq, a0, a1] at h0
    rw [Cert.Reference19Ideal.Read.val_main_v16_eq, a0, a1, a2] at h1
    rw [Cert.Reference19Ideal.Read.val_main_v30_eq, a0, a1, a2, a4] at h2
    rw [Cert.Reference19Ideal.Read.val_main_v44_eq, a0, a1, a2, a5] at h3
    rw [Cert.Reference19Ideal.Read.val_main_v47_eq, a0, a1, a3] at h4
    exact ⟨h0.trans (Cert.Kernel19Ideal.Latents.ref15 _ _), h1.trans (Cert.Kernel19Ideal.Latents.ref16 _ _ _), h2.trans (Cert.Kernel19Ideal.Latents.ref30 _ _ _ _), h3.trans (Cert.Kernel19Ideal.Latents.ref44 _ _ _ _), h4.trans (Cert.Kernel19Ideal.Latents.ref47 _ _ _), h5⟩⟩

end Cert.Proof

end
